-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_Mod (m : (ℓ : Loc Cert.Mod.nD Cert.Mod.τ Cert.Mod.sig) → Buf (Elt Bits) ℓ) : Prop :=
  True

def Pre_ModIdeal (m : (ℓ : Loc Cert.ModIdeal.nD Cert.ModIdeal.τ Cert.ModIdeal.sig) → Buf (Elt Ideal) ℓ) : Prop :=
  True

def Pre_ModReferenceIdeal (m : (ℓ : Loc Cert.ModReferenceIdeal.nD Cert.ModReferenceIdeal.τ Cert.ModReferenceIdeal.sig) → Buf (Elt Ideal) ℓ) : Prop :=
  True

def Pre_Ctx (m : (ℓ : Loc Cert.Ctx.nD Cert.Ctx.τ Cert.Ctx.sig) → Buf (Elt Bits) ℓ) : Prop :=
  True

def Pre_CtxIdeal (m : (ℓ : Loc Cert.CtxIdeal.nD Cert.CtxIdeal.τ Cert.CtxIdeal.sig) → Buf (Elt Ideal) ℓ) : Prop :=
  True

def Pre_CtxReferenceIdeal (m : (ℓ : Loc Cert.CtxReferenceIdeal.nD Cert.CtxReferenceIdeal.τ Cert.CtxReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4)
      ∧ r.2.mem ((c.tc : Thread Cert.Out.nD Cert.Out.τ).loc Cert.Out.main_arg5) = m ((c.tc : Thread Cert.Out.nD Cert.Out.τ).loc Cert.Out.main_arg5)
      ∧ r.2.mem ((c.tc : Thread Cert.Out.nD Cert.Out.τ).loc Cert.Out.main_arg6) = m ((c.tc : Thread Cert.Out.nD Cert.Out.τ).loc Cert.Out.main_arg6)
      ∧ r.2.mem ((c.tc : Thread Cert.Out.nD Cert.Out.τ).loc Cert.Out.main_arg7) = m ((c.tc : Thread Cert.Out.nD Cert.Out.τ).loc Cert.Out.main_arg7)
      ∧ r.2.mem ((c.tc : Thread Cert.Out.nD Cert.Out.τ).loc Cert.Out.main_arg8) = m ((c.tc : Thread Cert.Out.nD Cert.Out.τ).loc Cert.Out.main_arg8)
      ∧ r.2.mem ((c.tc : Thread Cert.Out.nD Cert.Out.τ).loc Cert.Out.main_arg9) = m ((c.tc : Thread Cert.Out.nD Cert.Out.τ).loc Cert.Out.main_arg9)
      ∧ r.2.mem ((c.tc : Thread Cert.Out.nD Cert.Out.τ).loc Cert.Out.main_arg10) = m ((c.tc : Thread Cert.Out.nD Cert.Out.τ).loc Cert.Out.main_arg10))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
      ∧ r.2.mem ((c.tc : Thread Cert.OutIdeal.nD Cert.OutIdeal.τ).loc Cert.OutIdeal.main_arg6) = m ((c.tc : Thread Cert.OutIdeal.nD Cert.OutIdeal.τ).loc Cert.OutIdeal.main_arg6)
      ∧ r.2.mem ((c.tc : Thread Cert.OutIdeal.nD Cert.OutIdeal.τ).loc Cert.OutIdeal.main_arg7) = m ((c.tc : Thread Cert.OutIdeal.nD Cert.OutIdeal.τ).loc Cert.OutIdeal.main_arg7)
      ∧ r.2.mem ((c.tc : Thread Cert.OutIdeal.nD Cert.OutIdeal.τ).loc Cert.OutIdeal.main_arg8) = m ((c.tc : Thread Cert.OutIdeal.nD Cert.OutIdeal.τ).loc Cert.OutIdeal.main_arg8)
      ∧ r.2.mem ((c.tc : Thread Cert.OutIdeal.nD Cert.OutIdeal.τ).loc Cert.OutIdeal.main_arg9) = m ((c.tc : Thread Cert.OutIdeal.nD Cert.OutIdeal.τ).loc Cert.OutIdeal.main_arg9)
      ∧ r.2.mem ((c.tc : Thread Cert.OutIdeal.nD Cert.OutIdeal.τ).loc Cert.OutIdeal.main_arg10) = m ((c.tc : Thread Cert.OutIdeal.nD Cert.OutIdeal.τ).loc Cert.OutIdeal.main_arg10))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3)
      ∧ r.2.mem ((c.tc : Thread Cert.OutReferenceIdeal.nD Cert.OutReferenceIdeal.τ).loc Cert.OutReferenceIdeal.main_arg4) = m ((c.tc : Thread Cert.OutReferenceIdeal.nD Cert.OutReferenceIdeal.τ).loc Cert.OutReferenceIdeal.main_arg4)
      ∧ r.2.mem ((c.tc : Thread Cert.OutReferenceIdeal.nD Cert.OutReferenceIdeal.τ).loc Cert.OutReferenceIdeal.main_arg5) = m ((c.tc : Thread Cert.OutReferenceIdeal.nD Cert.OutReferenceIdeal.τ).loc Cert.OutReferenceIdeal.main_arg5)
      ∧ r.2.mem ((c.tc : Thread Cert.OutReferenceIdeal.nD Cert.OutReferenceIdeal.τ).loc Cert.OutReferenceIdeal.main_arg6) = m ((c.tc : Thread Cert.OutReferenceIdeal.nD Cert.OutReferenceIdeal.τ).loc Cert.OutReferenceIdeal.main_arg6)
      ∧ r.2.mem ((c.tc : Thread Cert.OutReferenceIdeal.nD Cert.OutReferenceIdeal.τ).loc Cert.OutReferenceIdeal.main_arg7) = m ((c.tc : Thread Cert.OutReferenceIdeal.nD Cert.OutReferenceIdeal.τ).loc Cert.OutReferenceIdeal.main_arg7)
      ∧ r.2.mem ((c.tc : Thread Cert.OutReferenceIdeal.nD Cert.OutReferenceIdeal.τ).loc Cert.OutReferenceIdeal.main_arg8) = m ((c.tc : Thread Cert.OutReferenceIdeal.nD Cert.OutReferenceIdeal.τ).loc Cert.OutReferenceIdeal.main_arg8)
      ∧ r.2.mem ((c.tc : Thread Cert.OutReferenceIdeal.nD Cert.OutReferenceIdeal.τ).loc Cert.OutReferenceIdeal.main_arg9) = m ((c.tc : Thread Cert.OutReferenceIdeal.nD Cert.OutReferenceIdeal.τ).loc Cert.OutReferenceIdeal.main_arg9)
      ∧ r.2.mem ((c.tc : Thread Cert.OutReferenceIdeal.nD Cert.OutReferenceIdeal.τ).loc Cert.OutReferenceIdeal.main_arg10) = m ((c.tc : Thread Cert.OutReferenceIdeal.nD Cert.OutReferenceIdeal.τ).loc Cert.OutReferenceIdeal.main_arg10))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5)
      ∧ r.2.mem ((c.tc : Thread Cert.Proj.nD Cert.Proj.τ).loc Cert.Proj.main_arg6) = m ((c.tc : Thread Cert.Proj.nD Cert.Proj.τ).loc Cert.Proj.main_arg6))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2)
      ∧ r.2.mem ((c.tc : Thread Cert.ProjReferenceIdeal.nD Cert.ProjReferenceIdeal.τ).loc Cert.ProjReferenceIdeal.main_arg3) = m ((c.tc : Thread Cert.ProjReferenceIdeal.nD Cert.ProjReferenceIdeal.τ).loc Cert.ProjReferenceIdeal.main_arg3)
      ∧ r.2.mem ((c.tc : Thread Cert.ProjReferenceIdeal.nD Cert.ProjReferenceIdeal.τ).loc Cert.ProjReferenceIdeal.main_arg4) = m ((c.tc : Thread Cert.ProjReferenceIdeal.nD Cert.ProjReferenceIdeal.τ).loc Cert.ProjReferenceIdeal.main_arg4)
      ∧ r.2.mem ((c.tc : Thread Cert.ProjReferenceIdeal.nD Cert.ProjReferenceIdeal.τ).loc Cert.ProjReferenceIdeal.main_arg5) = m ((c.tc : Thread Cert.ProjReferenceIdeal.nD Cert.ProjReferenceIdeal.τ).loc Cert.ProjReferenceIdeal.main_arg5)
      ∧ r.2.mem ((c.tc : Thread Cert.ProjReferenceIdeal.nD Cert.ProjReferenceIdeal.τ).loc Cert.ProjReferenceIdeal.main_arg6) = m ((c.tc : Thread Cert.ProjReferenceIdeal.nD Cert.ProjReferenceIdeal.τ).loc Cert.ProjReferenceIdeal.main_arg6))
      ∧ r.2.sem = fun _ => 0)

def quiescent_Mod [hMod : Cert.Mod.Facts] : Prop :=
  ∀ (m : (ℓ : Loc Cert.Mod.nD Cert.Mod.τ Cert.Mod.sig) → Buf (Elt Bits) ℓ) (g : Dev Cert.Mod.nD → PrngReg), Pre_Mod m →
    θ_run (Cert.Mod.defs (F := Bits)) (onTc (τ := Cert.Mod.τ) (Cert.Mod.main (F := Bits))) ⟨m, fun _ => 0, g⟩ (fun r => (∀ c : Dev Cert.Mod.nD,
      r.2.mem ((c.tc : Thread Cert.Mod.nD Cert.Mod.τ).loc Cert.Mod.main_arg0) = m ((c.tc : Thread Cert.Mod.nD Cert.Mod.τ).loc Cert.Mod.main_arg0)
      ∧ r.2.mem ((c.tc : Thread Cert.Mod.nD Cert.Mod.τ).loc Cert.Mod.main_arg1) = m ((c.tc : Thread Cert.Mod.nD Cert.Mod.τ).loc Cert.Mod.main_arg1)
      ∧ r.2.mem ((c.tc : Thread Cert.Mod.nD Cert.Mod.τ).loc Cert.Mod.main_arg2) = m ((c.tc : Thread Cert.Mod.nD Cert.Mod.τ).loc Cert.Mod.main_arg2)
      ∧ r.2.mem ((c.tc : Thread Cert.Mod.nD Cert.Mod.τ).loc Cert.Mod.main_arg3) = m ((c.tc : Thread Cert.Mod.nD Cert.Mod.τ).loc Cert.Mod.main_arg3))
      ∧ r.2.sem = fun _ => 0)

def quiescent_ModIdeal [hModIdeal : Cert.ModIdeal.Facts] : Prop :=
  ∀ (m : (ℓ : Loc Cert.ModIdeal.nD Cert.ModIdeal.τ Cert.ModIdeal.sig) → Buf (Elt Ideal) ℓ) (g : Dev Cert.ModIdeal.nD → PrngReg), Pre_ModIdeal m →
    θ_run (Cert.ModIdeal.defs (F := Ideal)) (onTc (τ := Cert.ModIdeal.τ) (Cert.ModIdeal.main (F := Ideal))) ⟨m, fun _ => 0, g⟩ (fun r => (∀ c : Dev Cert.ModIdeal.nD,
      r.2.mem ((c.tc : Thread Cert.ModIdeal.nD Cert.ModIdeal.τ).loc Cert.ModIdeal.main_arg0) = m ((c.tc : Thread Cert.ModIdeal.nD Cert.ModIdeal.τ).loc Cert.ModIdeal.main_arg0)
      ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
      ∧ r.2.mem ((c.tc : Thread Cert.ModIdeal.nD Cert.ModIdeal.τ).loc Cert.ModIdeal.main_arg2) = m ((c.tc : Thread Cert.ModIdeal.nD Cert.ModIdeal.τ).loc Cert.ModIdeal.main_arg2)
      ∧ r.2.mem ((c.tc : Thread Cert.ModIdeal.nD Cert.ModIdeal.τ).loc Cert.ModIdeal.main_arg3) = m ((c.tc : Thread Cert.ModIdeal.nD Cert.ModIdeal.τ).loc Cert.ModIdeal.main_arg3))
      ∧ r.2.sem = fun _ => 0)

def quiescent_ModReferenceIdeal [hModReferenceIdeal : Cert.ModReferenceIdeal.Facts] : Prop :=
  ∀ (m : (ℓ : Loc Cert.ModReferenceIdeal.nD Cert.ModReferenceIdeal.τ Cert.ModReferenceIdeal.sig) → Buf (Elt Ideal) ℓ) (g : Dev Cert.ModReferenceIdeal.nD → PrngReg), Pre_ModReferenceIdeal m →
    θ_run (Cert.ModReferenceIdeal.defs (F := Ideal)) (onTc (τ := Cert.ModReferenceIdeal.τ) (Cert.ModReferenceIdeal.main (F := Ideal))) ⟨m, fun _ => 0, g⟩ (fun r => (∀ c : Dev Cert.ModReferenceIdeal.nD,
      r.2.mem ((c.tc : Thread Cert.ModReferenceIdeal.nD Cert.ModReferenceIdeal.τ).loc Cert.ModReferenceIdeal.main_arg0) = m ((c.tc : Thread Cert.ModReferenceIdeal.nD Cert.ModReferenceIdeal.τ).loc Cert.ModReferenceIdeal.main_arg0)
      ∧ r.2.mem ((c.tc : Thread Cert.ModReferenceIdeal.nD Cert.ModReferenceIdeal.τ).loc Cert.ModReferenceIdeal.main_arg1) = m ((c.tc : Thread Cert.ModReferenceIdeal.nD Cert.ModReferenceIdeal.τ).loc Cert.ModReferenceIdeal.main_arg1)
      ∧ r.2.mem ((c.tc : Thread Cert.ModReferenceIdeal.nD Cert.ModReferenceIdeal.τ).loc Cert.ModReferenceIdeal.main_arg2) = m ((c.tc : Thread Cert.ModReferenceIdeal.nD Cert.ModReferenceIdeal.τ).loc Cert.ModReferenceIdeal.main_arg2)
      ∧ r.2.mem ((c.tc : Thread Cert.ModReferenceIdeal.nD Cert.ModReferenceIdeal.τ).loc Cert.ModReferenceIdeal.main_arg3) = m ((c.tc : Thread Cert.ModReferenceIdeal.nD Cert.ModReferenceIdeal.τ).loc Cert.ModReferenceIdeal.main_arg3))
      ∧ r.2.sem = fun _ => 0)

def quiescent_Ctx [hCtx : Cert.Ctx.Facts] : Prop :=
  ∀ (m : (ℓ : Loc Cert.Ctx.nD Cert.Ctx.τ Cert.Ctx.sig) → Buf (Elt Bits) ℓ) (g : Dev Cert.Ctx.nD → PrngReg), Pre_Ctx m →
    θ_run (Cert.Ctx.defs (F := Bits)) (onTc (τ := Cert.Ctx.τ) (Cert.Ctx.main (F := Bits))) ⟨m, fun _ => 0, g⟩ (fun r => (∀ c : Dev Cert.Ctx.nD,
      r.2.mem ((c.tc : Thread Cert.Ctx.nD Cert.Ctx.τ).loc Cert.Ctx.main_arg0) = m ((c.tc : Thread Cert.Ctx.nD Cert.Ctx.τ).loc Cert.Ctx.main_arg0)
      ∧ r.2.mem ((c.tc : Thread Cert.Ctx.nD Cert.Ctx.τ).loc Cert.Ctx.main_arg1) = m ((c.tc : Thread Cert.Ctx.nD Cert.Ctx.τ).loc Cert.Ctx.main_arg1)
      ∧ r.2.mem ((c.tc : Thread Cert.Ctx.nD Cert.Ctx.τ).loc Cert.Ctx.main_arg2) = m ((c.tc : Thread Cert.Ctx.nD Cert.Ctx.τ).loc Cert.Ctx.main_arg2)
      ∧ r.2.mem ((c.tc : Thread Cert.Ctx.nD Cert.Ctx.τ).loc Cert.Ctx.main_arg3) = m ((c.tc : Thread Cert.Ctx.nD Cert.Ctx.τ).loc Cert.Ctx.main_arg3)
      ∧ r.2.mem ((c.tc : Thread Cert.Ctx.nD Cert.Ctx.τ).loc Cert.Ctx.main_arg4) = m ((c.tc : Thread Cert.Ctx.nD Cert.Ctx.τ).loc Cert.Ctx.main_arg4)
      ∧ r.2.mem ((c.tc : Thread Cert.Ctx.nD Cert.Ctx.τ).loc Cert.Ctx.main_arg5) = m ((c.tc : Thread Cert.Ctx.nD Cert.Ctx.τ).loc Cert.Ctx.main_arg5)
      ∧ r.2.mem ((c.tc : Thread Cert.Ctx.nD Cert.Ctx.τ).loc Cert.Ctx.main_arg6) = m ((c.tc : Thread Cert.Ctx.nD Cert.Ctx.τ).loc Cert.Ctx.main_arg6))
      ∧ r.2.sem = fun _ => 0)

def quiescent_CtxIdeal [hCtxIdeal : Cert.CtxIdeal.Facts] : Prop :=
  ∀ (m : (ℓ : Loc Cert.CtxIdeal.nD Cert.CtxIdeal.τ Cert.CtxIdeal.sig) → Buf (Elt Ideal) ℓ) (g : Dev Cert.CtxIdeal.nD → PrngReg), Pre_CtxIdeal m →
    θ_run (Cert.CtxIdeal.defs (F := Ideal)) (onTc (τ := Cert.CtxIdeal.τ) (Cert.CtxIdeal.main (F := Ideal))) ⟨m, fun _ => 0, g⟩ (fun r => (∀ c : Dev Cert.CtxIdeal.nD,
      r.2.mem ((c.tc : Thread Cert.CtxIdeal.nD Cert.CtxIdeal.τ).loc Cert.CtxIdeal.main_arg0) = m ((c.tc : Thread Cert.CtxIdeal.nD Cert.CtxIdeal.τ).loc Cert.CtxIdeal.main_arg0)
      ∧ r.2.mem ((c.tc : Thread Cert.CtxIdeal.nD Cert.CtxIdeal.τ).loc Cert.CtxIdeal.main_arg1) = m ((c.tc : Thread Cert.CtxIdeal.nD Cert.CtxIdeal.τ).loc Cert.CtxIdeal.main_arg1)
      ∧ r.2.mem ((c.tc : Thread Cert.CtxIdeal.nD Cert.CtxIdeal.τ).loc Cert.CtxIdeal.main_arg2) = m ((c.tc : Thread Cert.CtxIdeal.nD Cert.CtxIdeal.τ).loc Cert.CtxIdeal.main_arg2)
      ∧ r.2.mem ((c.tc : Thread Cert.CtxIdeal.nD Cert.CtxIdeal.τ).loc Cert.CtxIdeal.main_arg3) = m ((c.tc : Thread Cert.CtxIdeal.nD Cert.CtxIdeal.τ).loc Cert.CtxIdeal.main_arg3)
      ∧ r.2.mem ((c.tc : Thread Cert.CtxIdeal.nD Cert.CtxIdeal.τ).loc Cert.CtxIdeal.main_arg4) = m ((c.tc : Thread Cert.CtxIdeal.nD Cert.CtxIdeal.τ).loc Cert.CtxIdeal.main_arg4)
      ∧ r.2.mem ((c.tc : Thread Cert.CtxIdeal.nD Cert.CtxIdeal.τ).loc Cert.CtxIdeal.main_arg5) = m ((c.tc : Thread Cert.CtxIdeal.nD Cert.CtxIdeal.τ).loc Cert.CtxIdeal.main_arg5)
      ∧ r.2.mem ((c.tc : Thread Cert.CtxIdeal.nD Cert.CtxIdeal.τ).loc Cert.CtxIdeal.main_arg6) = m ((c.tc : Thread Cert.CtxIdeal.nD Cert.CtxIdeal.τ).loc Cert.CtxIdeal.main_arg6))
      ∧ r.2.sem = fun _ => 0)

def quiescent_CtxReferenceIdeal [hCtxReferenceIdeal : Cert.CtxReferenceIdeal.Facts] : Prop :=
  ∀ (m : (ℓ : Loc Cert.CtxReferenceIdeal.nD Cert.CtxReferenceIdeal.τ Cert.CtxReferenceIdeal.sig) → Buf (Elt Ideal) ℓ) (g : Dev Cert.CtxReferenceIdeal.nD → PrngReg), Pre_CtxReferenceIdeal m →
    θ_run (Cert.CtxReferenceIdeal.defs (F := Ideal)) (onTc (τ := Cert.CtxReferenceIdeal.τ) (Cert.CtxReferenceIdeal.main (F := Ideal))) ⟨m, fun _ => 0, g⟩ (fun r => (∀ c : Dev Cert.CtxReferenceIdeal.nD,
      r.2.mem ((c.tc : Thread Cert.CtxReferenceIdeal.nD Cert.CtxReferenceIdeal.τ).loc Cert.CtxReferenceIdeal.main_arg0) = m ((c.tc : Thread Cert.CtxReferenceIdeal.nD Cert.CtxReferenceIdeal.τ).loc Cert.CtxReferenceIdeal.main_arg0)
      ∧ r.2.mem ((c.tc : Thread Cert.CtxReferenceIdeal.nD Cert.CtxReferenceIdeal.τ).loc Cert.CtxReferenceIdeal.main_arg1) = m ((c.tc : Thread Cert.CtxReferenceIdeal.nD Cert.CtxReferenceIdeal.τ).loc Cert.CtxReferenceIdeal.main_arg1)
      ∧ r.2.mem ((c.tc : Thread Cert.CtxReferenceIdeal.nD Cert.CtxReferenceIdeal.τ).loc Cert.CtxReferenceIdeal.main_arg2) = m ((c.tc : Thread Cert.CtxReferenceIdeal.nD Cert.CtxReferenceIdeal.τ).loc Cert.CtxReferenceIdeal.main_arg2)
      ∧ r.2.mem ((c.tc : Thread Cert.CtxReferenceIdeal.nD Cert.CtxReferenceIdeal.τ).loc Cert.CtxReferenceIdeal.main_arg3) = m ((c.tc : Thread Cert.CtxReferenceIdeal.nD Cert.CtxReferenceIdeal.τ).loc Cert.CtxReferenceIdeal.main_arg3)
      ∧ r.2.mem ((c.tc : Thread Cert.CtxReferenceIdeal.nD Cert.CtxReferenceIdeal.τ).loc Cert.CtxReferenceIdeal.main_arg4) = m ((c.tc : Thread Cert.CtxReferenceIdeal.nD Cert.CtxReferenceIdeal.τ).loc Cert.CtxReferenceIdeal.main_arg4)
      ∧ r.2.mem ((c.tc : Thread Cert.CtxReferenceIdeal.nD Cert.CtxReferenceIdeal.τ).loc Cert.CtxReferenceIdeal.main_arg5) = m ((c.tc : Thread Cert.CtxReferenceIdeal.nD Cert.CtxReferenceIdeal.τ).loc Cert.CtxReferenceIdeal.main_arg5)
      ∧ r.2.mem ((c.tc : Thread Cert.CtxReferenceIdeal.nD Cert.CtxReferenceIdeal.τ).loc Cert.CtxReferenceIdeal.main_arg6) = m ((c.tc : Thread Cert.CtxReferenceIdeal.nD Cert.CtxReferenceIdeal.τ).loc Cert.CtxReferenceIdeal.main_arg6))
      ∧ r.2.sem = fun _ => 0)

def preserves_Kernel_KernelIdeal : Prop :=
  True

def preserves_Out_OutIdeal : Prop :=
  True

def algebraic_OutIdeal_OutReferenceIdeal [hOutIdeal : Cert.OutIdeal.Facts] [hOutReferenceIdeal : Cert.OutReferenceIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutIdeal m →
    (∀ c : Dev Cert.OutIdeal.nD,
      m' ((c.tc : Thread Cert.OutReferenceIdeal.nD Cert.OutReferenceIdeal.τ).loc Cert.OutReferenceIdeal.main_arg0) = m ((c.tc : Thread Cert.OutIdeal.nD Cert.OutIdeal.τ).loc Cert.OutIdeal.main_arg0)
      ∧ m' ((c.tc : Thread Cert.OutReferenceIdeal.nD Cert.OutReferenceIdeal.τ).loc Cert.OutReferenceIdeal.main_arg1) = m ((c.tc : Thread Cert.OutIdeal.nD Cert.OutIdeal.τ).loc Cert.OutIdeal.main_arg1)
      ∧ m' ((c.tc : Thread Cert.OutReferenceIdeal.nD Cert.OutReferenceIdeal.τ).loc Cert.OutReferenceIdeal.main_arg2) = m ((c.tc : Thread Cert.OutIdeal.nD Cert.OutIdeal.τ).loc Cert.OutIdeal.main_arg2)
      ∧ m' ((c.tc : Thread Cert.OutReferenceIdeal.nD Cert.OutReferenceIdeal.τ).loc Cert.OutReferenceIdeal.main_arg3) = m ((c.tc : Thread Cert.OutIdeal.nD Cert.OutIdeal.τ).loc Cert.OutIdeal.main_arg3)
      ∧ m' ((c.tc : Thread Cert.OutReferenceIdeal.nD Cert.OutReferenceIdeal.τ).loc Cert.OutReferenceIdeal.main_arg4) = m ((c.tc : Thread Cert.OutIdeal.nD Cert.OutIdeal.τ).loc Cert.OutIdeal.main_arg4)
      ∧ m' ((c.tc : Thread Cert.OutReferenceIdeal.nD Cert.OutReferenceIdeal.τ).loc Cert.OutReferenceIdeal.main_arg5) = m ((c.tc : Thread Cert.OutIdeal.nD Cert.OutIdeal.τ).loc Cert.OutIdeal.main_arg5)
      ∧ m' ((c.tc : Thread Cert.OutReferenceIdeal.nD Cert.OutReferenceIdeal.τ).loc Cert.OutReferenceIdeal.main_arg6) = m ((c.tc : Thread Cert.OutIdeal.nD Cert.OutIdeal.τ).loc Cert.OutIdeal.main_arg6)
      ∧ m' ((c.tc : Thread Cert.OutReferenceIdeal.nD Cert.OutReferenceIdeal.τ).loc Cert.OutReferenceIdeal.main_arg7) = m ((c.tc : Thread Cert.OutIdeal.nD Cert.OutIdeal.τ).loc Cert.OutIdeal.main_arg7)
      ∧ m' ((c.tc : Thread Cert.OutReferenceIdeal.nD Cert.OutReferenceIdeal.τ).loc Cert.OutReferenceIdeal.main_arg8) = m ((c.tc : Thread Cert.OutIdeal.nD Cert.OutIdeal.τ).loc Cert.OutIdeal.main_arg8)
      ∧ m' ((c.tc : Thread Cert.OutReferenceIdeal.nD Cert.OutReferenceIdeal.τ).loc Cert.OutReferenceIdeal.main_arg9) = m ((c.tc : Thread Cert.OutIdeal.nD Cert.OutIdeal.τ).loc Cert.OutIdeal.main_arg9)
      ∧ m' ((c.tc : Thread Cert.OutReferenceIdeal.nD Cert.OutReferenceIdeal.τ).loc Cert.OutReferenceIdeal.main_arg10) = m ((c.tc : Thread Cert.OutIdeal.nD Cert.OutIdeal.τ).loc Cert.OutIdeal.main_arg10)) →
    ∃ (v0 : (c : Dev Cert.OutIdeal.nD) → Buf (Elt Ideal) ((c.tc : Thread Cert.OutIdeal.nD Cert.OutIdeal.τ).loc Cert.OutIdeal.main_v6)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v6) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
          ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
          ∧ r.2.mem ((c.tc : Thread Cert.OutIdeal.nD Cert.OutIdeal.τ).loc Cert.OutIdeal.main_arg6) = m ((c.tc : Thread Cert.OutIdeal.nD Cert.OutIdeal.τ).loc Cert.OutIdeal.main_arg6)
          ∧ r.2.mem ((c.tc : Thread Cert.OutIdeal.nD Cert.OutIdeal.τ).loc Cert.OutIdeal.main_arg7) = m ((c.tc : Thread Cert.OutIdeal.nD Cert.OutIdeal.τ).loc Cert.OutIdeal.main_arg7)
          ∧ r.2.mem ((c.tc : Thread Cert.OutIdeal.nD Cert.OutIdeal.τ).loc Cert.OutIdeal.main_arg8) = m ((c.tc : Thread Cert.OutIdeal.nD Cert.OutIdeal.τ).loc Cert.OutIdeal.main_arg8)
          ∧ r.2.mem ((c.tc : Thread Cert.OutIdeal.nD Cert.OutIdeal.τ).loc Cert.OutIdeal.main_arg9) = m ((c.tc : Thread Cert.OutIdeal.nD Cert.OutIdeal.τ).loc Cert.OutIdeal.main_arg9)
          ∧ r.2.mem ((c.tc : Thread Cert.OutIdeal.nD Cert.OutIdeal.τ).loc Cert.OutIdeal.main_arg10) = m ((c.tc : Thread Cert.OutIdeal.nD Cert.OutIdeal.τ).loc Cert.OutIdeal.main_arg10))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v90) = v0 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2)
          ∧ r.2.mem ((c.tc : Thread Cert.OutReferenceIdeal.nD Cert.OutReferenceIdeal.τ).loc Cert.OutReferenceIdeal.main_arg3) = m' ((c.tc : Thread Cert.OutReferenceIdeal.nD Cert.OutReferenceIdeal.τ).loc Cert.OutReferenceIdeal.main_arg3)
          ∧ r.2.mem ((c.tc : Thread Cert.OutReferenceIdeal.nD Cert.OutReferenceIdeal.τ).loc Cert.OutReferenceIdeal.main_arg4) = m' ((c.tc : Thread Cert.OutReferenceIdeal.nD Cert.OutReferenceIdeal.τ).loc Cert.OutReferenceIdeal.main_arg4)
          ∧ r.2.mem ((c.tc : Thread Cert.OutReferenceIdeal.nD Cert.OutReferenceIdeal.τ).loc Cert.OutReferenceIdeal.main_arg5) = m' ((c.tc : Thread Cert.OutReferenceIdeal.nD Cert.OutReferenceIdeal.τ).loc Cert.OutReferenceIdeal.main_arg5)
          ∧ r.2.mem ((c.tc : Thread Cert.OutReferenceIdeal.nD Cert.OutReferenceIdeal.τ).loc Cert.OutReferenceIdeal.main_arg6) = m' ((c.tc : Thread Cert.OutReferenceIdeal.nD Cert.OutReferenceIdeal.τ).loc Cert.OutReferenceIdeal.main_arg6)
          ∧ r.2.mem ((c.tc : Thread Cert.OutReferenceIdeal.nD Cert.OutReferenceIdeal.τ).loc Cert.OutReferenceIdeal.main_arg7) = m' ((c.tc : Thread Cert.OutReferenceIdeal.nD Cert.OutReferenceIdeal.τ).loc Cert.OutReferenceIdeal.main_arg7)
          ∧ r.2.mem ((c.tc : Thread Cert.OutReferenceIdeal.nD Cert.OutReferenceIdeal.τ).loc Cert.OutReferenceIdeal.main_arg8) = m' ((c.tc : Thread Cert.OutReferenceIdeal.nD Cert.OutReferenceIdeal.τ).loc Cert.OutReferenceIdeal.main_arg8)
          ∧ r.2.mem ((c.tc : Thread Cert.OutReferenceIdeal.nD Cert.OutReferenceIdeal.τ).loc Cert.OutReferenceIdeal.main_arg9) = m' ((c.tc : Thread Cert.OutReferenceIdeal.nD Cert.OutReferenceIdeal.τ).loc Cert.OutReferenceIdeal.main_arg9)
          ∧ r.2.mem ((c.tc : Thread Cert.OutReferenceIdeal.nD Cert.OutReferenceIdeal.τ).loc Cert.OutReferenceIdeal.main_arg10) = m' ((c.tc : Thread Cert.OutReferenceIdeal.nD Cert.OutReferenceIdeal.τ).loc Cert.OutReferenceIdeal.main_arg10))

def preserves_Proj_ProjIdeal : Prop :=
  True

def algebraic_ProjIdeal_ProjReferenceIdeal [hProjIdeal : Cert.ProjIdeal.Facts] [hProjReferenceIdeal : Cert.ProjReferenceIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)
      ∧ m' ((c.tc : Thread Cert.ProjReferenceIdeal.nD Cert.ProjReferenceIdeal.τ).loc Cert.ProjReferenceIdeal.main_arg2) = m ((c.tc : Thread Cert.ProjIdeal.nD Cert.ProjIdeal.τ).loc Cert.ProjIdeal.main_arg2)
      ∧ m' ((c.tc : Thread Cert.ProjReferenceIdeal.nD Cert.ProjReferenceIdeal.τ).loc Cert.ProjReferenceIdeal.main_arg3) = m ((c.tc : Thread Cert.ProjIdeal.nD Cert.ProjIdeal.τ).loc Cert.ProjIdeal.main_arg3)
      ∧ m' ((c.tc : Thread Cert.ProjReferenceIdeal.nD Cert.ProjReferenceIdeal.τ).loc Cert.ProjReferenceIdeal.main_arg4) = m ((c.tc : Thread Cert.ProjIdeal.nD Cert.ProjIdeal.τ).loc Cert.ProjIdeal.main_arg4)
      ∧ m' ((c.tc : Thread Cert.ProjReferenceIdeal.nD Cert.ProjReferenceIdeal.τ).loc Cert.ProjReferenceIdeal.main_arg5) = m ((c.tc : Thread Cert.ProjIdeal.nD Cert.ProjIdeal.τ).loc Cert.ProjIdeal.main_arg5)
      ∧ m' ((c.tc : Thread Cert.ProjReferenceIdeal.nD Cert.ProjReferenceIdeal.τ).loc Cert.ProjReferenceIdeal.main_arg6) = m ((c.tc : Thread Cert.ProjIdeal.nD Cert.ProjIdeal.τ).loc Cert.ProjIdeal.main_arg6)) →
    ∃ (v0 : (c : Dev Cert.ProjIdeal.nD) → Buf (Elt Ideal) ((c.tc : Thread Cert.ProjIdeal.nD Cert.ProjIdeal.τ).loc Cert.ProjIdeal.main_v9_0)) (v1 : (c : Dev Cert.ProjIdeal.nD) → Buf (Elt Ideal) ((c.tc : Thread Cert.ProjIdeal.nD Cert.ProjIdeal.τ).loc Cert.ProjIdeal.main_v9_1)) (v2 : (c : Dev Cert.ProjIdeal.nD) → Buf (Elt Ideal) ((c.tc : Thread Cert.ProjIdeal.nD Cert.ProjIdeal.τ).loc Cert.ProjIdeal.main_v9_2)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v9_0) = v0 c
          ∧ r.2.mem ((c.tc : Thread Cert.ProjIdeal.nD Cert.ProjIdeal.τ).loc Cert.ProjIdeal.main_v9_1) = v1 c
          ∧ r.2.mem ((c.tc : Thread Cert.ProjIdeal.nD Cert.ProjIdeal.τ).loc Cert.ProjIdeal.main_v9_2) = v2 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
          ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v66) = v0 c
          ∧ r.2.mem ((c.tc : Thread Cert.ProjReferenceIdeal.nD Cert.ProjReferenceIdeal.τ).loc Cert.ProjReferenceIdeal.main_v70) = v1 c
          ∧ r.2.mem ((c.tc : Thread Cert.ProjReferenceIdeal.nD Cert.ProjReferenceIdeal.τ).loc Cert.ProjReferenceIdeal.main_v97) = v2 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2)
          ∧ r.2.mem ((c.tc : Thread Cert.ProjReferenceIdeal.nD Cert.ProjReferenceIdeal.τ).loc Cert.ProjReferenceIdeal.main_arg3) = m' ((c.tc : Thread Cert.ProjReferenceIdeal.nD Cert.ProjReferenceIdeal.τ).loc Cert.ProjReferenceIdeal.main_arg3)
          ∧ r.2.mem ((c.tc : Thread Cert.ProjReferenceIdeal.nD Cert.ProjReferenceIdeal.τ).loc Cert.ProjReferenceIdeal.main_arg4) = m' ((c.tc : Thread Cert.ProjReferenceIdeal.nD Cert.ProjReferenceIdeal.τ).loc Cert.ProjReferenceIdeal.main_arg4)
          ∧ r.2.mem ((c.tc : Thread Cert.ProjReferenceIdeal.nD Cert.ProjReferenceIdeal.τ).loc Cert.ProjReferenceIdeal.main_arg5) = m' ((c.tc : Thread Cert.ProjReferenceIdeal.nD Cert.ProjReferenceIdeal.τ).loc Cert.ProjReferenceIdeal.main_arg5)
          ∧ r.2.mem ((c.tc : Thread Cert.ProjReferenceIdeal.nD Cert.ProjReferenceIdeal.τ).loc Cert.ProjReferenceIdeal.main_arg6) = m' ((c.tc : Thread Cert.ProjReferenceIdeal.nD Cert.ProjReferenceIdeal.τ).loc Cert.ProjReferenceIdeal.main_arg6))

def preserves_Mod_ModIdeal : Prop :=
  True

def algebraic_ModIdeal_ModReferenceIdeal [hModIdeal : Cert.ModIdeal.Facts] [hModReferenceIdeal : Cert.ModReferenceIdeal.Facts] : Prop :=
  ∀ (m : (ℓ : Loc Cert.ModIdeal.nD Cert.ModIdeal.τ Cert.ModIdeal.sig) → Buf (Elt Ideal) ℓ) (g : Dev Cert.ModIdeal.nD → PrngReg)
    (m' : (ℓ : Loc Cert.ModReferenceIdeal.nD Cert.ModReferenceIdeal.τ Cert.ModReferenceIdeal.sig) → Buf (Elt Ideal) ℓ) (g' : Dev Cert.ModReferenceIdeal.nD → PrngReg), Pre_ModIdeal m →
    (∀ c : Dev Cert.ModIdeal.nD,
      m' ((c.tc : Thread Cert.ModReferenceIdeal.nD Cert.ModReferenceIdeal.τ).loc Cert.ModReferenceIdeal.main_arg0) = m ((c.tc : Thread Cert.ModIdeal.nD Cert.ModIdeal.τ).loc Cert.ModIdeal.main_arg0)
      ∧ m' ((c.tc : Thread Cert.ModReferenceIdeal.nD Cert.ModReferenceIdeal.τ).loc Cert.ModReferenceIdeal.main_arg1) = m ((c.tc : Thread Cert.ModIdeal.nD Cert.ModIdeal.τ).loc Cert.ModIdeal.main_arg1)
      ∧ m' ((c.tc : Thread Cert.ModReferenceIdeal.nD Cert.ModReferenceIdeal.τ).loc Cert.ModReferenceIdeal.main_arg2) = m ((c.tc : Thread Cert.ModIdeal.nD Cert.ModIdeal.τ).loc Cert.ModIdeal.main_arg2)
      ∧ m' ((c.tc : Thread Cert.ModReferenceIdeal.nD Cert.ModReferenceIdeal.τ).loc Cert.ModReferenceIdeal.main_arg3) = m ((c.tc : Thread Cert.ModIdeal.nD Cert.ModIdeal.τ).loc Cert.ModIdeal.main_arg3)) →
    ∃ (v0 : (c : Dev Cert.ModIdeal.nD) → Buf (Elt Ideal) ((c.tc : Thread Cert.ModIdeal.nD Cert.ModIdeal.τ).loc Cert.ModIdeal.main_v4)),
      θ_run (Cert.ModIdeal.defs (F := Ideal)) (onTc (τ := Cert.ModIdeal.τ) (Cert.ModIdeal.main (F := Ideal))) ⟨m, fun _ => 0, g⟩ (fun r => ∀ c : Dev Cert.ModIdeal.nD,
          r.2.mem ((c.tc : Thread Cert.ModIdeal.nD Cert.ModIdeal.τ).loc Cert.ModIdeal.main_v4) = v0 c
          ∧ r.2.mem ((c.tc : Thread Cert.ModIdeal.nD Cert.ModIdeal.τ).loc Cert.ModIdeal.main_arg0) = m ((c.tc : Thread Cert.ModIdeal.nD Cert.ModIdeal.τ).loc Cert.ModIdeal.main_arg0)
          ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
          ∧ r.2.mem ((c.tc : Thread Cert.ModIdeal.nD Cert.ModIdeal.τ).loc Cert.ModIdeal.main_arg2) = m ((c.tc : Thread Cert.ModIdeal.nD Cert.ModIdeal.τ).loc Cert.ModIdeal.main_arg2)
          ∧ r.2.mem ((c.tc : Thread Cert.ModIdeal.nD Cert.ModIdeal.τ).loc Cert.ModIdeal.main_arg3) = m ((c.tc : Thread Cert.ModIdeal.nD Cert.ModIdeal.τ).loc Cert.ModIdeal.main_arg3))
      ∧ θ_run (Cert.ModReferenceIdeal.defs (F := Ideal)) (onTc (τ := Cert.ModReferenceIdeal.τ) (Cert.ModReferenceIdeal.main (F := Ideal))) ⟨m', fun _ => 0, g'⟩ (fun r => ∀ c : Dev Cert.ModReferenceIdeal.nD,
          r.2.mem ((c.tc : Thread Cert.ModReferenceIdeal.nD Cert.ModReferenceIdeal.τ).loc Cert.ModReferenceIdeal.main_v7) = v0 c
          ∧ r.2.mem ((c.tc : Thread Cert.ModReferenceIdeal.nD Cert.ModReferenceIdeal.τ).loc Cert.ModReferenceIdeal.main_arg0) = m' ((c.tc : Thread Cert.ModReferenceIdeal.nD Cert.ModReferenceIdeal.τ).loc Cert.ModReferenceIdeal.main_arg0)
          ∧ r.2.mem ((c.tc : Thread Cert.ModReferenceIdeal.nD Cert.ModReferenceIdeal.τ).loc Cert.ModReferenceIdeal.main_arg1) = m' ((c.tc : Thread Cert.ModReferenceIdeal.nD Cert.ModReferenceIdeal.τ).loc Cert.ModReferenceIdeal.main_arg1)
          ∧ r.2.mem ((c.tc : Thread Cert.ModReferenceIdeal.nD Cert.ModReferenceIdeal.τ).loc Cert.ModReferenceIdeal.main_arg2) = m' ((c.tc : Thread Cert.ModReferenceIdeal.nD Cert.ModReferenceIdeal.τ).loc Cert.ModReferenceIdeal.main_arg2)
          ∧ r.2.mem ((c.tc : Thread Cert.ModReferenceIdeal.nD Cert.ModReferenceIdeal.τ).loc Cert.ModReferenceIdeal.main_arg3) = m' ((c.tc : Thread Cert.ModReferenceIdeal.nD Cert.ModReferenceIdeal.τ).loc Cert.ModReferenceIdeal.main_arg3))

def preserves_Ctx_CtxIdeal : Prop :=
  True

def algebraic_CtxIdeal_CtxReferenceIdeal [hCtxIdeal : Cert.CtxIdeal.Facts] [hCtxReferenceIdeal : Cert.CtxReferenceIdeal.Facts] : Prop :=
  ∀ (m : (ℓ : Loc Cert.CtxIdeal.nD Cert.CtxIdeal.τ Cert.CtxIdeal.sig) → Buf (Elt Ideal) ℓ) (g : Dev Cert.CtxIdeal.nD → PrngReg)
    (m' : (ℓ : Loc Cert.CtxReferenceIdeal.nD Cert.CtxReferenceIdeal.τ Cert.CtxReferenceIdeal.sig) → Buf (Elt Ideal) ℓ) (g' : Dev Cert.CtxReferenceIdeal.nD → PrngReg), Pre_CtxIdeal m →
    (∀ c : Dev Cert.CtxIdeal.nD,
      m' ((c.tc : Thread Cert.CtxReferenceIdeal.nD Cert.CtxReferenceIdeal.τ).loc Cert.CtxReferenceIdeal.main_arg0) = m ((c.tc : Thread Cert.CtxIdeal.nD Cert.CtxIdeal.τ).loc Cert.CtxIdeal.main_arg0)
      ∧ m' ((c.tc : Thread Cert.CtxReferenceIdeal.nD Cert.CtxReferenceIdeal.τ).loc Cert.CtxReferenceIdeal.main_arg1) = m ((c.tc : Thread Cert.CtxIdeal.nD Cert.CtxIdeal.τ).loc Cert.CtxIdeal.main_arg1)
      ∧ m' ((c.tc : Thread Cert.CtxReferenceIdeal.nD Cert.CtxReferenceIdeal.τ).loc Cert.CtxReferenceIdeal.main_arg2) = m ((c.tc : Thread Cert.CtxIdeal.nD Cert.CtxIdeal.τ).loc Cert.CtxIdeal.main_arg2)
      ∧ m' ((c.tc : Thread Cert.CtxReferenceIdeal.nD Cert.CtxReferenceIdeal.τ).loc Cert.CtxReferenceIdeal.main_arg3) = m ((c.tc : Thread Cert.CtxIdeal.nD Cert.CtxIdeal.τ).loc Cert.CtxIdeal.main_arg3)
      ∧ m' ((c.tc : Thread Cert.CtxReferenceIdeal.nD Cert.CtxReferenceIdeal.τ).loc Cert.CtxReferenceIdeal.main_arg4) = m ((c.tc : Thread Cert.CtxIdeal.nD Cert.CtxIdeal.τ).loc Cert.CtxIdeal.main_arg4)
      ∧ m' ((c.tc : Thread Cert.CtxReferenceIdeal.nD Cert.CtxReferenceIdeal.τ).loc Cert.CtxReferenceIdeal.main_arg5) = m ((c.tc : Thread Cert.CtxIdeal.nD Cert.CtxIdeal.τ).loc Cert.CtxIdeal.main_arg5)
      ∧ m' ((c.tc : Thread Cert.CtxReferenceIdeal.nD Cert.CtxReferenceIdeal.τ).loc Cert.CtxReferenceIdeal.main_arg6) = m ((c.tc : Thread Cert.CtxIdeal.nD Cert.CtxIdeal.τ).loc Cert.CtxIdeal.main_arg6)) →
    ∃ (v0 : (c : Dev Cert.CtxIdeal.nD) → Buf (Elt Ideal) ((c.tc : Thread Cert.CtxIdeal.nD Cert.CtxIdeal.τ).loc Cert.CtxIdeal.main_v9_0)) (v1 : (c : Dev Cert.CtxIdeal.nD) → Buf (Elt Ideal) ((c.tc : Thread Cert.CtxIdeal.nD Cert.CtxIdeal.τ).loc Cert.CtxIdeal.main_v9_1)) (v2 : (c : Dev Cert.CtxIdeal.nD) → Buf (Elt Ideal) ((c.tc : Thread Cert.CtxIdeal.nD Cert.CtxIdeal.τ).loc Cert.CtxIdeal.main_v9_2)),
      θ_run (Cert.CtxIdeal.defs (F := Ideal)) (onTc (τ := Cert.CtxIdeal.τ) (Cert.CtxIdeal.main (F := Ideal))) ⟨m, fun _ => 0, g⟩ (fun r => ∀ c : Dev Cert.CtxIdeal.nD,
          r.2.mem ((c.tc : Thread Cert.CtxIdeal.nD Cert.CtxIdeal.τ).loc Cert.CtxIdeal.main_v9_0) = v0 c
          ∧ r.2.mem ((c.tc : Thread Cert.CtxIdeal.nD Cert.CtxIdeal.τ).loc Cert.CtxIdeal.main_v9_1) = v1 c
          ∧ r.2.mem ((c.tc : Thread Cert.CtxIdeal.nD Cert.CtxIdeal.τ).loc Cert.CtxIdeal.main_v9_2) = v2 c
          ∧ r.2.mem ((c.tc : Thread Cert.CtxIdeal.nD Cert.CtxIdeal.τ).loc Cert.CtxIdeal.main_arg0) = m ((c.tc : Thread Cert.CtxIdeal.nD Cert.CtxIdeal.τ).loc Cert.CtxIdeal.main_arg0)
          ∧ r.2.mem ((c.tc : Thread Cert.CtxIdeal.nD Cert.CtxIdeal.τ).loc Cert.CtxIdeal.main_arg1) = m ((c.tc : Thread Cert.CtxIdeal.nD Cert.CtxIdeal.τ).loc Cert.CtxIdeal.main_arg1)
          ∧ r.2.mem ((c.tc : Thread Cert.CtxIdeal.nD Cert.CtxIdeal.τ).loc Cert.CtxIdeal.main_arg2) = m ((c.tc : Thread Cert.CtxIdeal.nD Cert.CtxIdeal.τ).loc Cert.CtxIdeal.main_arg2)
          ∧ r.2.mem ((c.tc : Thread Cert.CtxIdeal.nD Cert.CtxIdeal.τ).loc Cert.CtxIdeal.main_arg3) = m ((c.tc : Thread Cert.CtxIdeal.nD Cert.CtxIdeal.τ).loc Cert.CtxIdeal.main_arg3)
          ∧ r.2.mem ((c.tc : Thread Cert.CtxIdeal.nD Cert.CtxIdeal.τ).loc Cert.CtxIdeal.main_arg4) = m ((c.tc : Thread Cert.CtxIdeal.nD Cert.CtxIdeal.τ).loc Cert.CtxIdeal.main_arg4)
          ∧ r.2.mem ((c.tc : Thread Cert.CtxIdeal.nD Cert.CtxIdeal.τ).loc Cert.CtxIdeal.main_arg5) = m ((c.tc : Thread Cert.CtxIdeal.nD Cert.CtxIdeal.τ).loc Cert.CtxIdeal.main_arg5)
          ∧ r.2.mem ((c.tc : Thread Cert.CtxIdeal.nD Cert.CtxIdeal.τ).loc Cert.CtxIdeal.main_arg6) = m ((c.tc : Thread Cert.CtxIdeal.nD Cert.CtxIdeal.τ).loc Cert.CtxIdeal.main_arg6))
      ∧ θ_run (Cert.CtxReferenceIdeal.defs (F := Ideal)) (onTc (τ := Cert.CtxReferenceIdeal.τ) (Cert.CtxReferenceIdeal.main (F := Ideal))) ⟨m', fun _ => 0, g'⟩ (fun r => ∀ c : Dev Cert.CtxReferenceIdeal.nD,
          r.2.mem ((c.tc : Thread Cert.CtxReferenceIdeal.nD Cert.CtxReferenceIdeal.τ).loc Cert.CtxReferenceIdeal.main_v66) = v0 c
          ∧ r.2.mem ((c.tc : Thread Cert.CtxReferenceIdeal.nD Cert.CtxReferenceIdeal.τ).loc Cert.CtxReferenceIdeal.main_v70) = v1 c
          ∧ r.2.mem ((c.tc : Thread Cert.CtxReferenceIdeal.nD Cert.CtxReferenceIdeal.τ).loc Cert.CtxReferenceIdeal.main_v71) = v2 c
          ∧ r.2.mem ((c.tc : Thread Cert.CtxReferenceIdeal.nD Cert.CtxReferenceIdeal.τ).loc Cert.CtxReferenceIdeal.main_arg0) = m' ((c.tc : Thread Cert.CtxReferenceIdeal.nD Cert.CtxReferenceIdeal.τ).loc Cert.CtxReferenceIdeal.main_arg0)
          ∧ r.2.mem ((c.tc : Thread Cert.CtxReferenceIdeal.nD Cert.CtxReferenceIdeal.τ).loc Cert.CtxReferenceIdeal.main_arg1) = m' ((c.tc : Thread Cert.CtxReferenceIdeal.nD Cert.CtxReferenceIdeal.τ).loc Cert.CtxReferenceIdeal.main_arg1)
          ∧ r.2.mem ((c.tc : Thread Cert.CtxReferenceIdeal.nD Cert.CtxReferenceIdeal.τ).loc Cert.CtxReferenceIdeal.main_arg2) = m' ((c.tc : Thread Cert.CtxReferenceIdeal.nD Cert.CtxReferenceIdeal.τ).loc Cert.CtxReferenceIdeal.main_arg2)
          ∧ r.2.mem ((c.tc : Thread Cert.CtxReferenceIdeal.nD Cert.CtxReferenceIdeal.τ).loc Cert.CtxReferenceIdeal.main_arg3) = m' ((c.tc : Thread Cert.CtxReferenceIdeal.nD Cert.CtxReferenceIdeal.τ).loc Cert.CtxReferenceIdeal.main_arg3)
          ∧ r.2.mem ((c.tc : Thread Cert.CtxReferenceIdeal.nD Cert.CtxReferenceIdeal.τ).loc Cert.CtxReferenceIdeal.main_arg4) = m' ((c.tc : Thread Cert.CtxReferenceIdeal.nD Cert.CtxReferenceIdeal.τ).loc Cert.CtxReferenceIdeal.main_arg4)
          ∧ r.2.mem ((c.tc : Thread Cert.CtxReferenceIdeal.nD Cert.CtxReferenceIdeal.τ).loc Cert.CtxReferenceIdeal.main_arg5) = m' ((c.tc : Thread Cert.CtxReferenceIdeal.nD Cert.CtxReferenceIdeal.τ).loc Cert.CtxReferenceIdeal.main_arg5)
          ∧ r.2.mem ((c.tc : Thread Cert.CtxReferenceIdeal.nD Cert.CtxReferenceIdeal.τ).loc Cert.CtxReferenceIdeal.main_arg6) = m' ((c.tc : Thread Cert.CtxReferenceIdeal.nD Cert.CtxReferenceIdeal.τ).loc Cert.CtxReferenceIdeal.main_arg6))

def Claim : Prop :=
  ∃ (hKernel : Cert.Kernel.Facts) (hKernelIdeal : Cert.KernelIdeal.Facts) (hOut : Cert.Out.Facts) (hOutIdeal : Cert.OutIdeal.Facts) (hOutReferenceIdeal : Cert.OutReferenceIdeal.Facts) (hProj : Cert.Proj.Facts) (hProjIdeal : Cert.ProjIdeal.Facts) (hProjReferenceIdeal : Cert.ProjReferenceIdeal.Facts) (hMod : Cert.Mod.Facts) (hModIdeal : Cert.ModIdeal.Facts) (hModReferenceIdeal : Cert.ModReferenceIdeal.Facts) (hCtx : Cert.Ctx.Facts) (hCtxIdeal : Cert.CtxIdeal.Facts) (hCtxReferenceIdeal : Cert.CtxReferenceIdeal.Facts),
    quiescent_Kernel (hKernel := hKernel)
    ∧ quiescent_KernelIdeal (hKernelIdeal := hKernelIdeal)
    ∧ quiescent_Out (hOut := hOut)
    ∧ quiescent_OutIdeal (hOutIdeal := hOutIdeal)
    ∧ quiescent_OutReferenceIdeal (hOutReferenceIdeal := hOutReferenceIdeal)
    ∧ quiescent_Proj (hProj := hProj)
    ∧ quiescent_ProjIdeal (hProjIdeal := hProjIdeal)
    ∧ quiescent_ProjReferenceIdeal (hProjReferenceIdeal := hProjReferenceIdeal)
    ∧ quiescent_Mod (hMod := hMod)
    ∧ quiescent_ModIdeal (hModIdeal := hModIdeal)
    ∧ quiescent_ModReferenceIdeal (hModReferenceIdeal := hModReferenceIdeal)
    ∧ quiescent_Ctx (hCtx := hCtx)
    ∧ quiescent_CtxIdeal (hCtxIdeal := hCtxIdeal)
    ∧ quiescent_CtxReferenceIdeal (hCtxReferenceIdeal := hCtxReferenceIdeal)
    ∧ preserves_Kernel_KernelIdeal
    ∧ preserves_Out_OutIdeal
    ∧ algebraic_OutIdeal_OutReferenceIdeal (hOutIdeal := hOutIdeal) (hOutReferenceIdeal := hOutReferenceIdeal)
    ∧ preserves_Proj_ProjIdeal
    ∧ algebraic_ProjIdeal_ProjReferenceIdeal (hProjIdeal := hProjIdeal) (hProjReferenceIdeal := hProjReferenceIdeal)
    ∧ preserves_Mod_ModIdeal
    ∧ algebraic_ModIdeal_ModReferenceIdeal (hModIdeal := hModIdeal) (hModReferenceIdeal := hModReferenceIdeal)
    ∧ preserves_Ctx_CtxIdeal
    ∧ algebraic_CtxIdeal_CtxReferenceIdeal (hCtxIdeal := hCtxIdeal) (hCtxReferenceIdeal := hCtxReferenceIdeal)
-- ==== Kernel.lean ====
abbrev S16384x6144 : Shape := ⟨2, ![16384, 6144]⟩
abbrev S2048x2048 : Shape := ⟨2, ![2048, 2048]⟩
abbrev S16x15x31 : Shape := ⟨3, ![16, 15, 31]⟩
abbrev S31x64x64 : Shape := ⟨3, ![31, 64, 64]⟩
abbrev S64x64 : Shape := ⟨2, ![64, 64]⟩
abbrev S16x15x64x64 : Shape := ⟨4, ![16, 15, 64, 64]⟩
abbrev S1x1x64x64 : Shape := ⟨4, ![1, 1, 64, 64]⟩
abbrev S_ : Shape := ⟨0, ![]⟩
abbrev S16x1x64x64 : Shape := ⟨4, ![16, 1, 64, 64]⟩
abbrev S16x64x64 : Shape := ⟨3, ![16, 64, 64]⟩
abbrev S16x64x256 : Shape := ⟨3, ![16, 64, 256]⟩
abbrev S16x768x256 : Shape := ⟨3, ![16, 768, 256]⟩
abbrev S16384x1024 : Shape := ⟨2, ![16384, 1024]⟩
abbrev S256x1024 : Shape := ⟨2, ![256, 1024]⟩
abbrev S2x2x1024x256 : Shape := ⟨4, ![2, 2, 1024, 256]⟩
abbrev S1x128 : Shape := ⟨2, ![1, 128]⟩
abbrev S256x128 : Shape := ⟨2, ![256, 128]⟩
abbrev S768x128 : Shape := ⟨2, ![768, 128]⟩
abbrev S768x256 : Shape := ⟨2, ![768, 256]⟩
abbrev S1x1x768x256 : Shape := ⟨4, ![1, 1, 768, 256]⟩
abbrev S1x1x64x128 : Shape := ⟨4, ![1, 1, 64, 128]⟩
abbrev S64x128 : Shape := ⟨2, ![64, 128]⟩
abbrev S1x64x128 : Shape := ⟨3, ![1, 64, 128]⟩
abbrev S512x128 : Shape := ⟨2, ![512, 128]⟩
abbrev S1x1x256x128 : Shape := ⟨4, ![1, 1, 256, 128]⟩
abbrev S128 : Shape := ⟨1, ![128]⟩
abbrev S128x256 : Shape := ⟨2, ![128, 256]⟩
abbrev S1x256 : Shape := ⟨2, ![1, 256]⟩
abbrev S64x256 : Shape := ⟨2, ![64, 256]⟩
abbrev S192x128 : Shape := ⟨2, ![192, 128]⟩
abbrev S960x128 : Shape := ⟨2, ![960, 128]⟩
abbrev S960x256 : Shape := ⟨2, ![960, 256]⟩
abbrev S1x1x960x256 : Shape := ⟨4, ![1, 1, 960, 256]⟩
abbrev S576x128 : Shape := ⟨2, ![576, 128]⟩
abbrev S128x128 : Shape := ⟨2, ![128, 128]⟩

abbrev nBuf : Space → Nat
  | .hbm => 125
  | .vmem => 22
  | .smem => 0
  | _ => 0

abbrev bufTy : (tb : Table) → Fin (tcTables nBuf tb) → BufTy
  | .hbm, ⟨0, _⟩ => ⟨S16384x6144, .bf16⟩
  | .hbm, ⟨1, _⟩ => ⟨S2048x2048, .bf16⟩
  | .hbm, ⟨2, _⟩ => ⟨S16x15x31, .f32⟩
  | .hbm, ⟨3, _⟩ => ⟨S31x64x64, .f32⟩
  | .hbm, ⟨4, _⟩ => ⟨S64x64, .i1⟩
  | .hbm, ⟨5, _⟩ => ⟨S16x15x64x64, .f32⟩
  | .hbm, ⟨6, _⟩ => ⟨S1x1x64x64, .i1⟩
  | .hbm, ⟨7, _⟩ => ⟨S_, .f32⟩
  | .hbm, ⟨8, _⟩ => ⟨S16x15x64x64, .f32⟩
  | .hbm, ⟨9, _⟩ => ⟨S16x15x64x64, .f32⟩
  | .hbm, ⟨10, _⟩ => ⟨S_, .f32⟩
  | .hbm, ⟨11, _⟩ => ⟨S_, .f32⟩
  | .hbm, ⟨12, _⟩ => ⟨S16x15x64x64, .i1⟩
  | .hbm, ⟨13, _⟩ => ⟨S16x15x64x64, .f32⟩
  | .hbm, ⟨14, _⟩ => ⟨S16x15x64x64, .f32⟩
  | .hbm, ⟨15, _⟩ => ⟨S16x1x64x64, .f32⟩
  | .hbm, ⟨16, _⟩ => ⟨S16x64x64, .f32⟩
  | .hbm, ⟨17, _⟩ => ⟨S16x1x64x64, .f32⟩
  | .hbm, ⟨18, _⟩ => ⟨S16x64x64, .f32⟩
  | .hbm, ⟨19, _⟩ => ⟨S16x1x64x64, .f32⟩
  | .hbm, ⟨20, _⟩ => ⟨S16x64x64, .f32⟩
  | .hbm, ⟨21, _⟩ => ⟨S16x1x64x64, .f32⟩
  | .hbm, ⟨22, _⟩ => ⟨S16x64x64, .f32⟩
  | .hbm, ⟨23, _⟩ => ⟨S16x64x256, .f32⟩
  | .hbm, ⟨24, _⟩ => ⟨S16x1x64x64, .f32⟩
  | .hbm, ⟨25, _⟩ => ⟨S16x64x64, .f32⟩
  | .hbm, ⟨26, _⟩ => ⟨S16x1x64x64, .f32⟩
  | .hbm, ⟨27, _⟩ => ⟨S16x64x64, .f32⟩
  | .hbm, ⟨28, _⟩ => ⟨S16x1x64x64, .f32⟩
  | .hbm, ⟨29, _⟩ => ⟨S16x64x64, .f32⟩
  | .hbm, ⟨30, _⟩ => ⟨S16x1x64x64, .f32⟩
  | .hbm, ⟨31, _⟩ => ⟨S16x64x64, .f32⟩
  | .hbm, ⟨32, _⟩ => ⟨S16x64x256, .f32⟩
  | .hbm, ⟨33, _⟩ => ⟨S16x1x64x64, .f32⟩
  | .hbm, ⟨34, _⟩ => ⟨S16x64x64, .f32⟩
  | .hbm, ⟨35, _⟩ => ⟨S16x1x64x64, .f32⟩
  | .hbm, ⟨36, _⟩ => ⟨S16x64x64, .f32⟩
  | .hbm, ⟨37, _⟩ => ⟨S16x1x64x64, .f32⟩
  | .hbm, ⟨38, _⟩ => ⟨S16x64x64, .f32⟩
  | .hbm, ⟨39, _⟩ => ⟨S16x1x64x64, .f32⟩
  | .hbm, ⟨40, _⟩ => ⟨S16x64x64, .f32⟩
  | .hbm, ⟨41, _⟩ => ⟨S16x64x256, .f32⟩
  | .hbm, ⟨42, _⟩ => ⟨S16x1x64x64, .f32⟩
  | .hbm, ⟨43, _⟩ => ⟨S16x64x64, .f32⟩
  | .hbm, ⟨44, _⟩ => ⟨S16x1x64x64, .f32⟩
  | .hbm, ⟨45, _⟩ => ⟨S16x64x64, .f32⟩
  | .hbm, ⟨46, _⟩ => ⟨S16x1x64x64, .f32⟩
  | .hbm, ⟨47, _⟩ => ⟨S16x64x64, .f32⟩
  | .hbm, ⟨48, _⟩ => ⟨S16x1x64x64, .f32⟩
  | .hbm, ⟨49, _⟩ => ⟨S16x64x64, .f32⟩
  | .hbm, ⟨50, _⟩ => ⟨S16x64x256, .f32⟩
  | .hbm, ⟨51, _⟩ => ⟨S16x1x64x64, .f32⟩
  | .hbm, ⟨52, _⟩ => ⟨S16x64x64, .f32⟩
  | .hbm, ⟨53, _⟩ => ⟨S16x1x64x64, .f32⟩
  | .hbm, ⟨54, _⟩ => ⟨S16x64x64, .f32⟩
  | .hbm, ⟨55, _⟩ => ⟨S16x1x64x64, .f32⟩
  | .hbm, ⟨56, _⟩ => ⟨S16x64x64, .f32⟩
  | .hbm, ⟨57, _⟩ => ⟨S16x1x64x64, .f32⟩
  | .hbm, ⟨58, _⟩ => ⟨S16x64x64, .f32⟩
  | .hbm, ⟨59, _⟩ => ⟨S16x64x256, .f32⟩
  | .hbm, ⟨60, _⟩ => ⟨S16x1x64x64, .f32⟩
  | .hbm, ⟨61, _⟩ => ⟨S16x64x64, .f32⟩
  | .hbm, ⟨62, _⟩ => ⟨S16x1x64x64, .f32⟩
  | .hbm, ⟨63, _⟩ => ⟨S16x64x64, .f32⟩
  | .hbm, ⟨64, _⟩ => ⟨S16x1x64x64, .f32⟩
  | .hbm, ⟨65, _⟩ => ⟨S16x64x64, .f32⟩
  | .hbm, ⟨66, _⟩ => ⟨S16x1x64x64, .f32⟩
  | .hbm, ⟨67, _⟩ => ⟨S16x64x64, .f32⟩
  | .hbm, ⟨68, _⟩ => ⟨S16x64x256, .f32⟩
  | .hbm, ⟨69, _⟩ => ⟨S16x1x64x64, .f32⟩
  | .hbm, ⟨70, _⟩ => ⟨S16x64x64, .f32⟩
  | .hbm, ⟨71, _⟩ => ⟨S16x1x64x64, .f32⟩
  | .hbm, ⟨72, _⟩ => ⟨S16x64x64, .f32⟩
  | .hbm, ⟨73, _⟩ => ⟨S16x1x64x64, .f32⟩
  | .hbm, ⟨74, _⟩ => ⟨S16x64x64, .f32⟩
  | .hbm, ⟨75, _⟩ => ⟨S16x1x64x64, .f32⟩
  | .hbm, ⟨76, _⟩ => ⟨S16x64x64, .f32⟩
  | .hbm, ⟨77, _⟩ => ⟨S16x64x256, .f32⟩
  | .hbm, ⟨78, _⟩ => ⟨S16x1x64x64, .f32⟩
  | .hbm, ⟨79, _⟩ => ⟨S16x64x64, .f32⟩
  | .hbm, ⟨80, _⟩ => ⟨S16x1x64x64, .f32⟩
  | .hbm, ⟨81, _⟩ => ⟨S16x64x64, .f32⟩
  | .hbm, ⟨82, _⟩ => ⟨S16x1x64x64, .f32⟩
  | .hbm, ⟨83, _⟩ => ⟨S16x64x64, .f32⟩
  | .hbm, ⟨84, _⟩ => ⟨S16x1x64x64, .f32⟩
  | .hbm, ⟨85, _⟩ => ⟨S16x64x64, .f32⟩
  | .hbm, ⟨86, _⟩ => ⟨S16x64x256, .f32⟩
  | .hbm, ⟨87, _⟩ => ⟨S16x1x64x64, .f32⟩
  | .hbm, ⟨88, _⟩ => ⟨S16x64x64, .f32⟩
  | .hbm, ⟨89, _⟩ => ⟨S16x1x64x64, .f32⟩
  | .hbm, ⟨90, _⟩ => ⟨S16x64x64, .f32⟩
  | .hbm, ⟨91, _⟩ => ⟨S16x1x64x64, .f32⟩
  | .hbm, ⟨92, _⟩ => ⟨S16x64x64, .f32⟩
  | .hbm, ⟨93, _⟩ => ⟨S16x1x64x64, .f32⟩
  | .hbm, ⟨94, _⟩ => ⟨S16x64x64, .f32⟩
  | .hbm, ⟨95, _⟩ => ⟨S16x64x256, .f32⟩
  | .hbm, ⟨96, _⟩ => ⟨S16x1x64x64, .f32⟩
  | .hbm, ⟨97, _⟩ => ⟨S16x64x64, .f32⟩
  | .hbm, ⟨98, _⟩ => ⟨S16x1x64x64, .f32⟩
  | .hbm, ⟨99, _⟩ => ⟨S16x64x64, .f32⟩
  | .hbm, ⟨100, _⟩ => ⟨S16x1x64x64, .f32⟩
  | .hbm, ⟨101, _⟩ => ⟨S16x64x64, .f32⟩
  | .hbm, ⟨102, _⟩ => ⟨S16x1x64x64, .f32⟩
  | .hbm, ⟨103, _⟩ => ⟨S16x64x64, .f32⟩
  | .hbm, ⟨104, _⟩ => ⟨S16x64x256, .f32⟩
  | .hbm, ⟨105, _⟩ => ⟨S16x1x64x64, .f32⟩
  | .hbm, ⟨106, _⟩ => ⟨S16x64x64, .f32⟩
  | .hbm, ⟨107, _⟩ => ⟨S16x1x64x64, .f32⟩
  | .hbm, ⟨108, _⟩ => ⟨S16x64x64, .f32⟩
  | .hbm, ⟨109, _⟩ => ⟨S16x1x64x64, .f32⟩
  | .hbm, ⟨110, _⟩ => ⟨S16x64x64, .f32⟩
  | .hbm, ⟨111, _⟩ => ⟨S16x1x64x64, .f32⟩
  | .hbm, ⟨112, _⟩ => ⟨S16x64x64, .f32⟩
  | .hbm, ⟨113, _⟩ => ⟨S16x64x256, .f32⟩
  | .hbm, ⟨114, _⟩ => ⟨S16x1x64x64, .f32⟩
  | .hbm, ⟨115, _⟩ => ⟨S16x64x64, .f32⟩
  | .hbm, ⟨116, _⟩ => ⟨S16x1x64x64, .f32⟩
  | .hbm, ⟨117, _⟩ => ⟨S16x64x64, .f32⟩
  | .hbm, ⟨118, _⟩ => ⟨S16x1x64x64, .f32⟩
  | .hbm, ⟨119, _⟩ => ⟨S16x64x64, .f32⟩
  | .hbm, ⟨120, _⟩ => ⟨S16x1x64x64, .f32⟩
  | .hbm, ⟨121, _⟩ => ⟨S16x64x64, .f32⟩
  | .hbm, ⟨122, _⟩ => ⟨S16x64x256, .f32⟩
  | .hbm, ⟨123, _⟩ => ⟨S16x768x256, .f32⟩
  | .hbm, ⟨124, _⟩ => ⟨S16384x1024, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | .local _ .vmem, ⟨18, _⟩ => ⟨S16x768x256, .f32⟩
  | .local _ .vmem, ⟨19, _⟩ => ⟨S256x1024, .bf16⟩
  | .local _ .vmem, ⟨20, _⟩ => ⟨S256x1024, .bf16⟩
  | .local _ .vmem, ⟨21, _⟩ => ⟨S2x2x1024x256, .f32⟩
  | _, _ => ⟨S16384x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩
abbrev main_v108 : Ref sig .tc := ⟨.hbm, 118, rfl⟩
abbrev main_v109 : Ref sig .tc := ⟨.hbm, 119, rfl⟩
abbrev main_v110 : Ref sig .tc := ⟨.hbm, 120, rfl⟩
abbrev main_v111 : Ref sig .tc := ⟨.hbm, 121, rfl⟩
abbrev main_v112 : Ref sig .tc := ⟨.hbm, 122, rfl⟩
abbrev main_v113 : Ref sig .tc := ⟨.hbm, 123, rfl⟩
abbrev main_v114 : Ref sig .tc := ⟨.hbm, 124, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg10_1 : Ref sig .tc := ⟨.vmem, 20, rfl⟩
abbrev cc0_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨2, ![8, 8], ![false, false]⟩

def k0_cond1 (i : grid0.Coords) : BitVec 1 :=
  let arg0 : BitVec 32 := BitVec.ofNat 32 (i 0).val
  let c0_i32 : BitVec 32 := 0#32
  let v0 : BitVec 1 := Scalar.cmpi .sgt arg0 c0_i32
  let v1 : BitVec 32 := Scalar.extui v0
  let c7_i32 : BitVec 32 := 7#32
  let v2 : BitVec 1 := Scalar.cmpi .eq arg0 c7_i32
  let v3 : BitVec 32 := Scalar.extui v2
  let v4 : BitVec 32 := Scalar.addi v1 v3
  let c0_i32_0 : BitVec 32 := 0#32
  let v5 : BitVec 1 := Scalar.cmpi .eq v4 c0_i32_0
  let v6 : BitVec 32 := Scalar.extui v5
  let c0_i32_1 : BitVec 32 := 0#32
  let v7 : BitVec 1 := Scalar.cmpi .ne v6 c0_i32_1
  v7

def k0_cond2 (i : grid0.Coords) : BitVec 1 :=
  let arg0 : BitVec 32 := BitVec.ofNat 32 (i 0).val
  let c0_i32 : BitVec 32 := 0#32
  let v0 : BitVec 1 := Scalar.cmpi .sgt arg0 c0_i32
  let v1 : BitVec 32 := Scalar.extui v0
  let c7_i32 : BitVec 32 := 7#32
  let v2 : BitVec 1 := Scalar.cmpi .eq arg0 c7_i32
  let v3 : BitVec 32 := Scalar.extui v2
  let v4 : BitVec 32 := Scalar.addi v1 v3
  let c1_i32 : BitVec 32 := 1#32
  let v8 : BitVec 1 := Scalar.cmpi .eq v4 c1_i32
  let v9 : BitVec 32 := Scalar.extui v8
  let c0_i32_2 : BitVec 32 := 0#32
  let v10 : BitVec 1 := Scalar.cmpi .ne v9 c0_i32_2
  v10

def k0_cond3 (i : grid0.Coords) : BitVec 1 :=
  let arg0 : BitVec 32 := BitVec.ofNat 32 (i 0).val
  let c0_i32 : BitVec 32 := 0#32
  let v0 : BitVec 1 := Scalar.cmpi .sgt arg0 c0_i32
  let v1 : BitVec 32 := Scalar.extui v0
  let c7_i32 : BitVec 32 := 7#32
  let v2 : BitVec 1 := Scalar.cmpi .eq arg0 c7_i32
  let v3 : BitVec 32 := Scalar.extui v2
  let v4 : BitVec 32 := Scalar.addi v1 v3
  let c2_i32 : BitVec 32 := 2#32
  let v11 : BitVec 1 := Scalar.cmpi .eq v4 c2_i32
  let v12 : BitVec 32 := Scalar.extui v11
  let c0_i32_3 : BitVec 32 := 0#32
  let v13 : BitVec 1 := Scalar.cmpi .ne v12 c0_i32_3
  v13

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let v1 : BitVec 32 := Scalar.addi v0 arg0
  let c1_i32 : BitVec 32 := 1#32
  let c0_i32 : BitVec 32 := 0#32
  ![v1.toNat, c1_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.subi arg0 c1_i32
  let c0_i32 : BitVec 32 := 0#32
  let v2 : BitVec 32 := Scalar.maxsi v1 c0_i32
  let v3 : BitVec 32 := Scalar.addi v0 v2
  let c2_i32 : BitVec 32 := 2#32
  let c0_i32_0 : BitVec 32 := 0#32
  ![v3.toNat, c2_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let v1 : BitVec 32 := Scalar.addi v0 arg0
  let c2_i32 : BitVec 32 := 2#32
  let c0_i32 : BitVec 32 := 0#32
  ![v1.toNat, c2_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.addi arg0 c1_i32
  let c7_i32 : BitVec 32 := 7#32
  let v2 : BitVec 32 := Scalar.minsi v1 c7_i32
  let v3 : BitVec 32 := Scalar.addi v0 v2
  let c2_i32 : BitVec 32 := 2#32
  let c0_i32 : BitVec 32 := 0#32
  ![v3.toNat, c2_i32.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.subi arg0 c1_i32
  let c0_i32 : BitVec 32 := 0#32
  let v2 : BitVec 32 := Scalar.maxsi v1 c0_i32
  let v3 : BitVec 32 := Scalar.addi v0 v2
  let c3_i32 : BitVec 32 := 3#32
  let c0_i32_0 : BitVec 32 := 0#32
  ![v3.toNat, c3_i32.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let v1 : BitVec 32 := Scalar.addi v0 arg0
  let c3_i32 : BitVec 32 := 3#32
  let c0_i32 : BitVec 32 := 0#32
  ![v1.toNat, c3_i32.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.addi arg0 c1_i32
  let c7_i32 : BitVec 32 := 7#32
  let v2 : BitVec 32 := Scalar.minsi v1 c7_i32
  let v3 : BitVec 32 := Scalar.addi v0 v2
  let c3_i32 : BitVec 32 := 3#32
  let c0_i32 : BitVec 32 := 0#32
  ![v3.toNat, c3_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg1.toNat, c1_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let v1 : BitVec 32 := Scalar.addi v0 arg0
  let c0_i32 : BitVec 32 := 0#32
  let c0_i32_0 : BitVec 32 := 0#32
  ![v1.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 1 → Memref sig .tc .vmem S16x768x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Out.lean ====
abbrev S2x8x16384x128 : Shape := ⟨4, ![2, 8, 16384, 128]⟩
abbrev S8x2048x6144 : Shape := ⟨3, ![8, 2048, 6144]⟩
abbrev S8x2048x1024 : Shape := ⟨3, ![8, 2048, 1024]⟩
abbrev S16x6144 : Shape := ⟨2, ![16, 6144]⟩
abbrev S4x1024 : Shape := ⟨2, ![4, 1024]⟩
abbrev S1024x1024 : Shape := ⟨2, ![1024, 1024]⟩
abbrev S1024x4096 : Shape := ⟨2, ![1024, 4096]⟩
abbrev S4096x1024 : Shape := ⟨2, ![4096, 1024]⟩
abbrev S16x1x6144 : Shape := ⟨3, ![16, 1, 6144]⟩
abbrev S1x8x512x128 : Shape := ⟨4, ![1, 8, 512, 128]⟩
abbrev S8x64x1024 : Shape := ⟨3, ![8, 64, 1024]⟩
abbrev S8x1x1024 : Shape := ⟨3, ![8, 1, 1024]⟩
abbrev S4x64x1024 : Shape := ⟨3, ![4, 64, 1024]⟩
abbrev S256x1024 : Shape := ⟨2, ![256, 1024]⟩
abbrev S1x1x64x128 : Shape := ⟨4, ![1, 1, 64, 128]⟩
abbrev S64x128 : Shape := ⟨2, ![64, 128]⟩
abbrev S64x1024 : Shape := ⟨2, ![64, 1024]⟩
abbrev S1x64x1024 : Shape := ⟨3, ![1, 64, 1024]⟩
abbrev S4x1x1024 : Shape := ⟨3, ![4, 1, 1024]⟩
abbrev S1x1024 : Shape := ⟨2, ![1, 1024]⟩
abbrev S4x64 : Shape := ⟨2, ![4, 64]⟩
abbrev S4x64x1 : Shape := ⟨3, ![4, 64, 1]⟩
abbrev S1x1x1024 : Shape := ⟨3, ![1, 1, 1024]⟩

abbrev nBuf : Space → Nat
  | .hbm => 18
  | .vmem => 26
  | .smem => 0
  | _ => 0

abbrev bufTy : (tb : Table) → Fin (tcTables nBuf tb) → BufTy
  | .hbm, ⟨0, _⟩ => ⟨S2x8x16384x128, .f32⟩
  | .hbm, ⟨1, _⟩ => ⟨S8x2048x6144, .bf16⟩
  | .hbm, ⟨2, _⟩ => ⟨S8x2048x1024, .bf16⟩
  | .hbm, ⟨3, _⟩ => ⟨S8x2048x1024, .f32⟩
  | .hbm, ⟨4, _⟩ => ⟨S16x6144, .f32⟩
  | .hbm, ⟨5, _⟩ => ⟨S4x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x4096, .f32⟩
  | .hbm, ⟨10, _⟩ => ⟨S4096x1024, .f32⟩
  | .hbm, ⟨11, _⟩ => ⟨S16x1x6144, .f32⟩
  | .hbm, ⟨12, _⟩ => ⟨S1024x1024, .bf16⟩
  | .hbm, ⟨13, _⟩ => ⟨S1024x1024, .bf16⟩
  | .hbm, ⟨14, _⟩ => ⟨S1024x1024, .bf16⟩
  | .hbm, ⟨15, _⟩ => ⟨S1024x4096, .bf16⟩
  | .hbm, ⟨16, _⟩ => ⟨S4096x1024, .bf16⟩
  | .hbm, ⟨17, _⟩ => ⟨S8x2048x1024, .f32⟩
  | .local _ .vmem, ⟨0, _⟩ => ⟨S1x8x512x128, .f32⟩
  | .local _ .vmem, ⟨1, _⟩ => ⟨S1x8x512x128, .f32⟩
  | .local _ .vmem, ⟨2, _⟩ => ⟨S1x8x512x128, .f32⟩
  | .local _ .vmem, ⟨3, _⟩ => ⟨S1x8x512x128, .f32⟩
  | .local _ .vmem, ⟨4, _⟩ => ⟨S8x64x1024, .bf16⟩
  | .local _ .vmem, ⟨5, _⟩ => ⟨S8x64x1024, .bf16⟩
  | .local _ .vmem, ⟨6, _⟩ => ⟨S8x64x1024, .bf16⟩
  | .local _ .vmem, ⟨7, _⟩ => ⟨S8x64x1024, .bf16⟩
  | .local _ .vmem, ⟨8, _⟩ => ⟨S8x64x1024, .bf16⟩
  | .local _ .vmem, ⟨9, _⟩ => ⟨S8x64x1024, .bf16⟩
  | .local _ .vmem, ⟨10, _⟩ => ⟨S8x64x1024, .bf16⟩
  | .local _ .vmem, ⟨11, _⟩ => ⟨S8x64x1024, .bf16⟩
  | .local _ .vmem, ⟨12, _⟩ => ⟨S8x64x1024, .f32⟩
  | .local _ .vmem, ⟨13, _⟩ => ⟨S8x64x1024, .f32⟩
  | .local _ .vmem, ⟨14, _⟩ => ⟨S8x1x1024, .f32⟩
  | .local _ .vmem, ⟨15, _⟩ => ⟨S8x1x1024, .f32⟩
  | .local _ .vmem, ⟨16, _⟩ => ⟨S8x1x1024, .f32⟩
  | .local _ .vmem, ⟨17, _⟩ => ⟨S8x1x1024, .f32⟩
  | .local _ .vmem, ⟨18, _⟩ => ⟨S4x1024, .f32⟩
  | .local _ .vmem, ⟨19, _⟩ => ⟨S1024x1024, .bf16⟩
  | .local _ .vmem, ⟨20, _⟩ => ⟨S1024x1024, .bf16⟩
  | .local _ .vmem, ⟨21, _⟩ => ⟨S1024x1024, .bf16⟩
  | .local _ .vmem, ⟨22, _⟩ => ⟨S1024x4096, .bf16⟩
  | .local _ .vmem, ⟨23, _⟩ => ⟨S4096x1024, .bf16⟩
  | .local _ .vmem, ⟨24, _⟩ => ⟨S8x64x1024, .f32⟩
  | .local _ .vmem, ⟨25, _⟩ => ⟨S8x64x1024, .f32⟩
  | _, _ => ⟨S2x8x16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg16_0 : Ref sig .tc := ⟨.vmem, 23, rfl⟩
abbrev cc0_stg17_0 : Ref sig .tc := ⟨.vmem, 24, rfl⟩
abbrev cc0_stg17_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem15_0 : DmaSem sig := 22
abbrev cc0_sem16_0 : DmaSem sig := 23
abbrev cc0_sem17_0 : DmaSem sig := 24
abbrev cc0_sem17_1 : DmaSem sig := 25

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_1 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c4_i32 : BitVec 32 := 4#32
  let c0_i32_0 : BitVec 32 := 0#32
  ![c0_i32.toNat, arg0.toNat, c4_i32.toNat]

def cc0_transform_4 (i : grid0.Coords) : Fin 3 → Nat :=
  let arg0 : BitVec 32 := BitVec.ofNat 32 (i 0).val
  let c0_i32 : BitVec 32 := 0#32
  let c5_i32 : BitVec 32 := 5#32
  let c0_i32_0 : BitVec 32 := 0#32
  ![c0_i32.toNat, arg0.toNat, c5_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c2_i32 : BitVec 32 := 2#32
  let c0_i32_1 : BitVec 32 := 0#32
  ![c0_i32.toNat, c0_i32_0.toNat, c2_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c3_i32 : BitVec 32 := 3#32
  let c0_i32_1 : BitVec 32 := 0#32
  ![c0_i32.toNat, c0_i32_0.toNat, c3_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c4_i32 : BitVec 32 := 4#32
  let c0_i32_1 : BitVec 32 := 0#32
  ![c0_i32.toNat, c0_i32_0.toNat, c4_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c5_i32 : BitVec 32 := 5#32
  let c0_i32_1 : BitVec 32 := 0#32
  ![c0_i32.toNat, c0_i32_0.toNat, c5_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x8x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x64x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x64x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x64x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x64x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1024x4096 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S4096x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S8x64x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== OutReferenceIdeal.lean ====
abbrev S2x8x16384x128 : Shape := ⟨4, ![2, 8, 16384, 128]⟩
abbrev S8x2048x6144 : Shape := ⟨3, ![8, 2048, 6144]⟩
abbrev S8x2048x1024 : Shape := ⟨3, ![8, 2048, 1024]⟩
abbrev S16x6144 : Shape := ⟨2, ![16, 6144]⟩
abbrev S4x1024 : Shape := ⟨2, ![4, 1024]⟩
abbrev S1024x1024 : Shape := ⟨2, ![1024, 1024]⟩
abbrev S1024x4096 : Shape := ⟨2, ![1024, 4096]⟩
abbrev S4096x1024 : Shape := ⟨2, ![4096, 1024]⟩
abbrev S2x8x2048x8x128 : Shape := ⟨5, ![2, 8, 2048, 8, 128]⟩
abbrev S2x8x2048x1024 : Shape := ⟨4, ![2, 8, 2048, 1024]⟩
abbrev S1x8x2048x1024 : Shape := ⟨4, ![1, 8, 2048, 1024]⟩
abbrev S8x1024 : Shape := ⟨2, ![8, 1024]⟩
abbrev S8x1x1024 : Shape := ⟨3, ![8, 1, 1024]⟩
abbrev S1x1024 : Shape := ⟨2, ![1, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x4096 : Shape := ⟨3, ![8, 2048, 4096]⟩

abbrev nBuf : Space → Nat
  | .hbm => 114
  | .vmem => 0
  | .smem => 0
  | _ => 0

abbrev bufTy : (tb : Table) → Fin (tcTables nBuf tb) → BufTy
  | .hbm, ⟨0, _⟩ => ⟨S2x8x16384x128, .f32⟩
  | .hbm, ⟨1, _⟩ => ⟨S8x2048x6144, .bf16⟩
  | .hbm, ⟨2, _⟩ => ⟨S8x2048x1024, .bf16⟩
  | .hbm, ⟨3, _⟩ => ⟨S8x2048x1024, .f32⟩
  | .hbm, ⟨4, _⟩ => ⟨S16x6144, .f32⟩
  | .hbm, ⟨5, _⟩ => ⟨S4x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x4096, .f32⟩
  | .hbm, ⟨10, _⟩ => ⟨S4096x1024, .f32⟩
  | .hbm, ⟨11, _⟩ => ⟨S2x8x2048x8x128, .f32⟩
  | .hbm, ⟨12, _⟩ => ⟨S2x8x2048x8x128, .f32⟩
  | .hbm, ⟨13, _⟩ => ⟨S2x8x2048x1024, .f32⟩
  | .hbm, ⟨14, _⟩ => ⟨S1x8x2048x1024, .f32⟩
  | .hbm, ⟨15, _⟩ => ⟨S8x2048x1024, .f32⟩
  | .hbm, ⟨16, _⟩ => ⟨S1x8x2048x1024, .f32⟩
  | .hbm, ⟨17, _⟩ => ⟨S8x2048x1024, .f32⟩
  | .hbm, ⟨18, _⟩ => ⟨S8x2048x1024, .f32⟩
  | .hbm, ⟨19, _⟩ => ⟨S8x2048x1024, .bf16⟩
  | .hbm, ⟨20, _⟩ => ⟨S8x2048x1024, .f32⟩
  | .hbm, ⟨21, _⟩ => ⟨S8x2048x1024, .bf16⟩
  | .hbm, ⟨22, _⟩ => ⟨S8x2048x1024, .f32⟩
  | .hbm, ⟨23, _⟩ => ⟨S8x2048x1024, .bf16⟩
  | .hbm, ⟨24, _⟩ => ⟨S8x2048x1024, .f32⟩
  | .hbm, ⟨25, _⟩ => ⟨S8x1024, .f32⟩
  | .hbm, ⟨26, _⟩ => ⟨S8x1x1024, .f32⟩
  | .hbm, ⟨27, _⟩ => ⟨S8x1024, .f32⟩
  | .hbm, ⟨28, _⟩ => ⟨S8x1x1024, .f32⟩
  | .hbm, ⟨29, _⟩ => ⟨S8x1024, .f32⟩
  | .hbm, ⟨30, _⟩ => ⟨S8x1x1024, .f32⟩
  | .hbm, ⟨31, _⟩ => ⟨S8x1024, .f32⟩
  | .hbm, ⟨32, _⟩ => ⟨S8x1x1024, .f32⟩
  | .hbm, ⟨33, _⟩ => ⟨S8x2048x1024, .f32⟩
  | .hbm, ⟨34, _⟩ => ⟨S8x2048x1024, .f32⟩
  | .hbm, ⟨35, _⟩ => ⟨S8x2048x1024, .f32⟩
  | .hbm, ⟨36, _⟩ => ⟨S8x2048x1024, .f32⟩
  | .hbm, ⟨37, _⟩ => ⟨S8x2048x1024, .f32⟩
  | .hbm, ⟨38, _⟩ => ⟨S8x2048x1024, .f32⟩
  | .hbm, ⟨39, _⟩ => ⟨S8x2048x1024, .f32⟩
  | .hbm, ⟨40, _⟩ => ⟨S8x2048x1024, .f32⟩
  | .hbm, ⟨41, _⟩ => ⟨S1x1024, .f32⟩
  | .hbm, ⟨42, _⟩ => ⟨S1024, .f32⟩
  | .hbm, ⟨43, _⟩ => ⟨S8x2048x1024, .f32⟩
  | .hbm, ⟨44, _⟩ => ⟨S_, .f32⟩
  | .hbm, ⟨45, _⟩ => ⟨S8x2048, .f32⟩
  | .hbm, ⟨46, _⟩ => ⟨S8x2048x1, .f32⟩
  | .hbm, ⟨47, _⟩ => ⟨S_, .f32⟩
  | .hbm, ⟨48, _⟩ => ⟨S8x2048x1, .f32⟩
  | .hbm, ⟨49, _⟩ => ⟨S8x2048x1, .f32⟩
  | .hbm, ⟨50, _⟩ => ⟨S_, .f32⟩
  | .hbm, ⟨51, _⟩ => ⟨S8x2048x1, .f32⟩
  | .hbm, ⟨52, _⟩ => ⟨S8x2048x1, .f32⟩
  | .hbm, ⟨53, _⟩ => ⟨S8x2048x1, .f32⟩
  | .hbm, ⟨54, _⟩ => ⟨S8x2048x1024, .f32⟩
  | .hbm, ⟨55, _⟩ => ⟨S8x2048x1024, .f32⟩
  | .hbm, ⟨56, _⟩ => ⟨S1x1x1024, .f32⟩
  | .hbm, ⟨57, _⟩ => ⟨S8x2048x1024, .f32⟩
  | .hbm, ⟨58, _⟩ => ⟨S8x2048x1024, .f32⟩
  | .hbm, ⟨59, _⟩ => ⟨S8x2048x1024, .f32⟩
  | .hbm, ⟨60, _⟩ => ⟨S8x2048x1024, .f32⟩
  | .hbm, ⟨61, _⟩ => ⟨S8x2048x1024, .f32⟩
  | .hbm, ⟨62, _⟩ => ⟨S1x1024, .f32⟩
  | .hbm, ⟨63, _⟩ => ⟨S1024, .f32⟩
  | .hbm, ⟨64, _⟩ => ⟨S8x2048x1024, .f32⟩
  | .hbm, ⟨65, _⟩ => ⟨S_, .f32⟩
  | .hbm, ⟨66, _⟩ => ⟨S8x2048, .f32⟩
  | .hbm, ⟨67, _⟩ => ⟨S8x2048x1, .f32⟩
  | .hbm, ⟨68, _⟩ => ⟨S_, .f32⟩
  | .hbm, ⟨69, _⟩ => ⟨S8x2048x1, .f32⟩
  | .hbm, ⟨70, _⟩ => ⟨S8x2048x1, .f32⟩
  | .hbm, ⟨71, _⟩ => ⟨S_, .f32⟩
  | .hbm, ⟨72, _⟩ => ⟨S8x2048x1, .f32⟩
  | .hbm, ⟨73, _⟩ => ⟨S8x2048x1, .f32⟩
  | .hbm, ⟨74, _⟩ => ⟨S8x2048x1, .f32⟩
  | .hbm, ⟨75, _⟩ => ⟨S8x2048x1024, .f32⟩
  | .hbm, ⟨76, _⟩ => ⟨S8x2048x1024, .f32⟩
  | .hbm, ⟨77, _⟩ => ⟨S1x1x1024, .f32⟩
  | .hbm, ⟨78, _⟩ => ⟨S8x2048x1024, .f32⟩
  | .hbm, ⟨79, _⟩ => ⟨S8x2048x1024, .f32⟩
  | .hbm, ⟨80, _⟩ => ⟨S_, .f32⟩
  | .hbm, ⟨81, _⟩ => ⟨S8x1x1024, .f32⟩
  | .hbm, ⟨82, _⟩ => ⟨S8x1x1024, .f32⟩
  | .hbm, ⟨83, _⟩ => ⟨S8x2048x1024, .f32⟩
  | .hbm, ⟨84, _⟩ => ⟨S8x2048x1024, .f32⟩
  | .hbm, ⟨85, _⟩ => ⟨S8x2048x1024, .f32⟩
  | .hbm, ⟨86, _⟩ => ⟨S8x2048x1024, .f32⟩
  | .hbm, ⟨87, _⟩ => ⟨S8x2048x4096, .f32⟩
  | .hbm, ⟨88, _⟩ => ⟨S_, .f32⟩
  | .hbm, ⟨89, _⟩ => ⟨S8x2048x4096, .f32⟩
  | .hbm, ⟨90, _⟩ => ⟨S8x2048x4096, .f32⟩
  | .hbm, ⟨91, _⟩ => ⟨S8x2048x4096, .f32⟩
  | .hbm, ⟨92, _⟩ => ⟨S8x2048x1024, .f32⟩
  | .hbm, ⟨93, _⟩ => ⟨S1x1024, .f32⟩
  | .hbm, ⟨94, _⟩ => ⟨S1024, .f32⟩
  | .hbm, ⟨95, _⟩ => ⟨S8x2048x1024, .f32⟩
  | .hbm, ⟨96, _⟩ => ⟨S_, .f32⟩
  | .hbm, ⟨97, _⟩ => ⟨S8x2048, .f32⟩
  | .hbm, ⟨98, _⟩ => ⟨S8x2048x1, .f32⟩
  | .hbm, ⟨99, _⟩ => ⟨S_, .f32⟩
  | .hbm, ⟨100, _⟩ => ⟨S8x2048x1, .f32⟩
  | .hbm, ⟨101, _⟩ => ⟨S8x2048x1, .f32⟩
  | .hbm, ⟨102, _⟩ => ⟨S_, .f32⟩
  | .hbm, ⟨103, _⟩ => ⟨S8x2048x1, .f32⟩
  | .hbm, ⟨104, _⟩ => ⟨S8x2048x1, .f32⟩
  | .hbm, ⟨105, _⟩ => ⟨S8x2048x1, .f32⟩
  | .hbm, ⟨106, _⟩ => ⟨S8x2048x1024, .f32⟩
  | .hbm, ⟨107, _⟩ => ⟨S8x2048x1024, .f32⟩
  | .hbm, ⟨108, _⟩ => ⟨S1x1x1024, .f32⟩
  | .hbm, ⟨109, _⟩ => ⟨S8x2048x1024, .f32⟩
  | .hbm, ⟨110, _⟩ => ⟨S8x2048x1024, .f32⟩
  | .hbm, ⟨111, _⟩ => ⟨S8x2048x1024, .f32⟩
  | .hbm, ⟨112, _⟩ => ⟨S8x2048x1024, .f32⟩
  | .hbm, ⟨113, _⟩ => ⟨S8x2048x1024, .f32⟩
  | _, _ => ⟨S2x8x16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst : Ref sig .tc := ⟨.hbm, 44, rfl⟩
abbrev main_v33 : Ref sig .tc := ⟨.hbm, 45, rfl⟩
abbrev main_v34 : Ref sig .tc := ⟨.hbm, 46, rfl⟩
abbrev main_cst_0 : Ref sig .tc := ⟨.hbm, 47, rfl⟩
abbrev main_v35 : Ref sig .tc := ⟨.hbm, 48, rfl⟩
abbrev main_v36 : Ref sig .tc := ⟨.hbm, 49, rfl⟩
abbrev main_cst_1 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_cst_2 : Ref sig .tc := ⟨.hbm, 65, rfl⟩
abbrev main_v51 : Ref sig .tc := ⟨.hbm, 66, rfl⟩
abbrev main_v52 : Ref sig .tc := ⟨.hbm, 67, rfl⟩
abbrev main_cst_3 : Ref sig .tc := ⟨.hbm, 68, rfl⟩
abbrev main_v53 : Ref sig .tc := ⟨.hbm, 69, rfl⟩
abbrev main_v54 : Ref sig .tc := ⟨.hbm, 70, rfl⟩
abbrev main_cst_4 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_cst_5 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_call0_cst : Ref sig .tc := ⟨.hbm, 88, rfl⟩
abbrev main_call0_v0 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_cst_6 : Ref sig .tc := ⟨.hbm, 96, rfl⟩
abbrev main_v76 : Ref sig .tc := ⟨.hbm, 97, rfl⟩
abbrev main_v77 : Ref sig .tc := ⟨.hbm, 98, rfl⟩
abbrev main_cst_7 : Ref sig .tc := ⟨.hbm, 99, rfl⟩
abbrev main_v78 : Ref sig .tc := ⟨.hbm, 100, rfl⟩
abbrev main_v79 : Ref sig .tc := ⟨.hbm, 101, rfl⟩
abbrev main_cst_8 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩

abbrev nD : Nat := 1
abbrev τ : Topo := Topo.v7x

variable {F : FTy → Type} [FloatOps F]
-- ==== Proj.lean ====
abbrev S8x2048x1024 : Shape := ⟨3, ![8, 2048, 1024]⟩
abbrev S16x6144 : Shape := ⟨2, ![16, 6144]⟩
abbrev S1024 : Shape := ⟨1, ![1024]⟩
abbrev S1024x7168 : Shape := ⟨2, ![1024, 7168]⟩
abbrev S2048 : Shape := ⟨1, ![2048]⟩
abbrev S4x1024 : Shape := ⟨2, ![4, 1024]⟩
abbrev S16x1x6144 : Shape := ⟨3, ![16, 1, 6144]⟩
abbrev S1x1024 : Shape := ⟨2, ![1, 1024]⟩
abbrev S1x2048 : Shape := ⟨2, ![1, 2048]⟩
abbrev S_ : Shape := ⟨0, ![]⟩
abbrev S8x16384x128 : Shape := ⟨3, ![8, 16384, 128]⟩
abbrev S8x8x128 : Shape := ⟨3, ![8, 8, 128]⟩
abbrev S8x2048x6144 : Shape := ⟨3, ![8, 2048, 6144]⟩
abbrev S8x64x1024 : Shape := ⟨3, ![8, 64, 1024]⟩
abbrev S8x1x1024 : Shape := ⟨3, ![8, 1, 1024]⟩
abbrev S8x512x128 : Shape := ⟨3, ![8, 512, 128]⟩
abbrev S8x64x6144 : Shape := ⟨3, ![8, 64, 6144]⟩
abbrev S8x536x128 : Shape := ⟨3, ![8, 536, 128]⟩
abbrev S8x24x128 : Shape := ⟨3, ![8, 24, 128]⟩
abbrev S4x64x1024 : Shape := ⟨3, ![4, 64, 1024]⟩
abbrev S4x64 : Shape := ⟨2, ![4, 64]⟩
abbrev S4x64x1 : Shape := ⟨3, ![4, 64, 1]⟩
abbrev S1x1x1024 : Shape := ⟨3, ![1, 1, 1024]⟩
abbrev S4x1x1024 : Shape := ⟨3, ![4, 1, 1024]⟩
abbrev S256x1024 : Shape := ⟨2, ![256, 1024]⟩
abbrev S1024x1024 : Shape := ⟨2, ![1024, 1024]⟩
abbrev S64x128 : Shape := ⟨2, ![64, 128]⟩
abbrev S1x64x128 : Shape := ⟨3, ![1, 64, 128]⟩
abbrev S1x536x128 : Shape := ⟨3, ![1, 536, 128]⟩
abbrev S536x128 : Shape := ⟨2, ![536, 128]⟩
abbrev S1x128 : Shape := ⟨2, ![1, 128]⟩
abbrev S512x128 : Shape := ⟨2, ![512, 128]⟩
abbrev S8x128 : Shape := ⟨2, ![8, 128]⟩
abbrev S1x512x128 : Shape := ⟨3, ![1, 512, 128]⟩
abbrev S1x8x128 : Shape := ⟨3, ![1, 8, 128]⟩
abbrev S24x128 : Shape := ⟨2, ![24, 128]⟩
abbrev S1x24x128 : Shape := ⟨3, ![1, 24, 128]⟩

abbrev nBuf : Space → Nat
  | .hbm => 21
  | .vmem => 15
  | .smem => 0
  | _ => 0

abbrev bufTy : (tb : Table) → Fin (tcTables nBuf tb) → BufTy
  | .hbm, ⟨0, _⟩ => ⟨S8x2048x1024, .f32⟩
  | .hbm, ⟨1, _⟩ => ⟨S16x6144, .f32⟩
  | .hbm, ⟨2, _⟩ => ⟨S1024, .f32⟩
  | .hbm, ⟨3, _⟩ => ⟨S1024x7168, .f32⟩
  | .hbm, ⟨4, _⟩ => ⟨S2048, .f32⟩
  | .hbm, ⟨5, _⟩ => ⟨S4x1024, .f32⟩
  | .hbm, ⟨6, _⟩ => ⟨S1024, .f32⟩
  | .hbm, ⟨7, _⟩ => ⟨S16x1x6144, .f32⟩
  | .hbm, ⟨8, _⟩ => ⟨S1x1024, .f32⟩
  | .hbm, ⟨9, _⟩ => ⟨S1024x7168, .bf16⟩
  | .hbm, ⟨10, _⟩ => ⟨S1x2048, .f32⟩
  | .hbm, ⟨11, _⟩ => ⟨S_, .f32⟩
  | .hbm, ⟨12, _⟩ => ⟨S4x1024, .f32⟩
  | .hbm, ⟨13, _⟩ => ⟨S4x1024, .f32⟩
  | .hbm, ⟨14, _⟩ => ⟨S1x1024, .f32⟩
  | .hbm, ⟨15, _⟩ => ⟨S_, .f32⟩
  | .hbm, ⟨16, _⟩ => ⟨S1x1024, .f32⟩
  | .hbm, ⟨17, _⟩ => ⟨S1x1024, .f32⟩
  | .hbm, ⟨18, _⟩ => ⟨S8x16384x128, .f32⟩
  | .hbm, ⟨19, _⟩ => ⟨S8x8x128, .f32⟩
  | .hbm, ⟨20, _⟩ => ⟨S8x2048x6144, .bf16⟩
  | .local _ .vmem, ⟨0, _⟩ => ⟨S8x64x1024, .f32⟩
  | .local _ .vmem, ⟨1, _⟩ => ⟨S8x64x1024, .f32⟩
  | .local _ .vmem, ⟨2, _⟩ => ⟨S8x1x1024, .f32⟩
  | .local _ .vmem, ⟨3, _⟩ => ⟨S8x1x1024, .f32⟩
  | .local _ .vmem, ⟨4, _⟩ => ⟨S1x1024, .f32⟩
  | .local _ .vmem, ⟨5, _⟩ => ⟨S1024x7168, .bf16⟩
  | .local _ .vmem, ⟨6, _⟩ => ⟨S1x2048, .f32⟩
  | .local _ .vmem, ⟨7, _⟩ => ⟨S4x1024, .f32⟩
  | .local _ .vmem, ⟨8, _⟩ => ⟨S1x1024, .f32⟩
  | .local _ .vmem, ⟨9, _⟩ => ⟨S8x512x128, .f32⟩
  | .local _ .vmem, ⟨10, _⟩ => ⟨S8x512x128, .f32⟩
  | .local _ .vmem, ⟨11, _⟩ => ⟨S8x8x128, .f32⟩
  | .local _ .vmem, ⟨12, _⟩ => ⟨S8x64x6144, .bf16⟩
  | .local _ .vmem, ⟨13, _⟩ => ⟨S8x64x6144, .bf16⟩
  | .local _ .vmem, ⟨14, _⟩ => ⟨S8x536x128, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9_0 : Ref sig .tc := ⟨.hbm, 18, rfl⟩
abbrev main_v9_1 : Ref sig .tc := ⟨.hbm, 19, rfl⟩
abbrev main_v9_2 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c1_i32 : BitVec 32 := 1#32
  let c0_i32_1 : BitVec 32 := 0#32
  ![c0_i32.toNat, c0_i32_0.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x7168 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S8x512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x8x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S8x64x6144 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ProjReferenceIdeal.lean ====
abbrev S8x2048x1024 : Shape := ⟨3, ![8, 2048, 1024]⟩
abbrev S16x6144 : Shape := ⟨2, ![16, 6144]⟩
abbrev S1024 : Shape := ⟨1, ![1024]⟩
abbrev S1024x7168 : Shape := ⟨2, ![1024, 7168]⟩
abbrev S2048 : Shape := ⟨1, ![2048]⟩
abbrev S4x1024 : Shape := ⟨2, ![4, 1024]⟩
abbrev S8x1024 : Shape := ⟨2, ![8, 1024]⟩
abbrev S8x1x1024 : Shape := ⟨3, ![8, 1, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x7168 : Shape := ⟨3, ![8, 2048, 7168]⟩
abbrev S8x2048x2048 : Shape := ⟨3, ![8, 2048, 2048]⟩
abbrev S8x3x1024 : Shape := ⟨3, ![8, 3, 1024]⟩
abbrev S8x2052x1024 : Shape := ⟨3, ![8, 2052, 1024]⟩
abbrev S1x1024 : Shape := ⟨2, ![1, 1024]⟩
abbrev S8x2049x1024 : Shape := ⟨3, ![8, 2049, 1024]⟩
abbrev S8x2048x8x128 : Shape := ⟨4, ![8, 2048, 8, 128]⟩
abbrev S8x16384x128 : Shape := ⟨3, ![8, 16384, 128]⟩
abbrev S8x8x128 : Shape := ⟨3, ![8, 8, 128]⟩
abbrev S1x1x2048 : Shape := ⟨3, ![1, 1, 2048]⟩
abbrev S8x2048x6144 : Shape := ⟨3, ![8, 2048, 6144]⟩

abbrev nBuf : Space → Nat
  | .hbm => 119
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S16x6144, .f32⟩
  | .hbm, ⟨2, _⟩ => ⟨S1024, .f32⟩
  | .hbm, ⟨3, _⟩ => ⟨S1024x7168, .f32⟩
  | .hbm, ⟨4, _⟩ => ⟨S2048, .f32⟩
  | .hbm, ⟨5, _⟩ => ⟨S4x1024, .f32⟩
  | .hbm, ⟨6, _⟩ => ⟨S1024, .f32⟩
  | .hbm, ⟨7, _⟩ => ⟨S8x1024, .f32⟩
  | .hbm, ⟨8, _⟩ => ⟨S8x1x1024, .f32⟩
  | .hbm, ⟨9, _⟩ => ⟨S8x1024, .f32⟩
  | .hbm, ⟨10, _⟩ => ⟨S8x1x1024, .f32⟩
  | .hbm, ⟨11, _⟩ => ⟨S8x2048x1024, .f32⟩
  | .hbm, ⟨12, _⟩ => ⟨S_, .f32⟩
  | .hbm, ⟨13, _⟩ => ⟨S8x2048, .f32⟩
  | .hbm, ⟨14, _⟩ => ⟨S8x2048x1, .f32⟩
  | .hbm, ⟨15, _⟩ => ⟨S_, .f32⟩
  | .hbm, ⟨16, _⟩ => ⟨S8x2048x1, .f32⟩
  | .hbm, ⟨17, _⟩ => ⟨S8x2048x1, .f32⟩
  | .hbm, ⟨18, _⟩ => ⟨S_, .f32⟩
  | .hbm, ⟨19, _⟩ => ⟨S8x2048x1, .f32⟩
  | .hbm, ⟨20, _⟩ => ⟨S8x2048x1, .f32⟩
  | .hbm, ⟨21, _⟩ => ⟨S8x2048x1, .f32⟩
  | .hbm, ⟨22, _⟩ => ⟨S8x2048x1024, .f32⟩
  | .hbm, ⟨23, _⟩ => ⟨S8x2048x1024, .f32⟩
  | .hbm, ⟨24, _⟩ => ⟨S1x1x1024, .f32⟩
  | .hbm, ⟨25, _⟩ => ⟨S8x2048x1024, .f32⟩
  | .hbm, ⟨26, _⟩ => ⟨S8x2048x1024, .f32⟩
  | .hbm, ⟨27, _⟩ => ⟨S_, .f32⟩
  | .hbm, ⟨28, _⟩ => ⟨S8x1x1024, .f32⟩
  | .hbm, ⟨29, _⟩ => ⟨S8x1x1024, .f32⟩
  | .hbm, ⟨30, _⟩ => ⟨S8x2048x1024, .f32⟩
  | .hbm, ⟨31, _⟩ => ⟨S8x2048x1024, .f32⟩
  | .hbm, ⟨32, _⟩ => ⟨S8x2048x1024, .f32⟩
  | .hbm, ⟨33, _⟩ => ⟨S8x2048x1024, .f32⟩
  | .hbm, ⟨34, _⟩ => ⟨S8x2048x7168, .f32⟩
  | .hbm, ⟨35, _⟩ => ⟨S8x2048x1024, .f32⟩
  | .hbm, ⟨36, _⟩ => ⟨S8x2048x1024, .f32⟩
  | .hbm, ⟨37, _⟩ => ⟨S8x2048x1024, .f32⟩
  | .hbm, ⟨38, _⟩ => ⟨S8x2048x2048, .f32⟩
  | .hbm, ⟨39, _⟩ => ⟨S_, .f32⟩
  | .hbm, ⟨40, _⟩ => ⟨S8x3x1024, .f32⟩
  | .hbm, ⟨41, _⟩ => ⟨S_, .f32⟩
  | .hbm, ⟨42, _⟩ => ⟨S8x1x1024, .f32⟩
  | .hbm, ⟨43, _⟩ => ⟨S8x2052x1024, .f32⟩
  | .hbm, ⟨44, _⟩ => ⟨S1x1024, .f32⟩
  | .hbm, ⟨45, _⟩ => ⟨S1024, .f32⟩
  | .hbm, ⟨46, _⟩ => ⟨S8x2049x1024, .f32⟩
  | .hbm, ⟨47, _⟩ => ⟨S1x1x1024, .f32⟩
  | .hbm, ⟨48, _⟩ => ⟨S8x2049x1024, .f32⟩
  | .hbm, ⟨49, _⟩ => ⟨S8x2049x1024, .f32⟩
  | .hbm, ⟨50, _⟩ => ⟨S1x1x1024, .f32⟩
  | .hbm, ⟨51, _⟩ => ⟨S8x2049x1024, .f32⟩
  | .hbm, ⟨52, _⟩ => ⟨S8x2049x1024, .f32⟩
  | .hbm, ⟨53, _⟩ => ⟨S1x1024, .f32⟩
  | .hbm, ⟨54, _⟩ => ⟨S1024, .f32⟩
  | .hbm, ⟨55, _⟩ => ⟨S8x2049x1024, .f32⟩
  | .hbm, ⟨56, _⟩ => ⟨S1x1x1024, .f32⟩
  | .hbm, ⟨57, _⟩ => ⟨S8x2049x1024, .f32⟩
  | .hbm, ⟨58, _⟩ => ⟨S8x2049x1024, .f32⟩
  | .hbm, ⟨59, _⟩ => ⟨S8x2049x1024, .f32⟩
  | .hbm, ⟨60, _⟩ => ⟨S1x1024, .f32⟩
  | .hbm, ⟨61, _⟩ => ⟨S1024, .f32⟩
  | .hbm, ⟨62, _⟩ => ⟨S8x2049x1024, .f32⟩
  | .hbm, ⟨63, _⟩ => ⟨S1x1x1024, .f32⟩
  | .hbm, ⟨64, _⟩ => ⟨S8x2049x1024, .f32⟩
  | .hbm, ⟨65, _⟩ => ⟨S8x2049x1024, .f32⟩
  | .hbm, ⟨66, _⟩ => ⟨S8x2049x1024, .f32⟩
  | .hbm, ⟨67, _⟩ => ⟨S1x1024, .f32⟩
  | .hbm, ⟨68, _⟩ => ⟨S1024, .f32⟩
  | .hbm, ⟨69, _⟩ => ⟨S8x2049x1024, .f32⟩
  | .hbm, ⟨70, _⟩ => ⟨S1x1x1024, .f32⟩
  | .hbm, ⟨71, _⟩ => ⟨S8x2049x1024, .f32⟩
  | .hbm, ⟨72, _⟩ => ⟨S8x2049x1024, .f32⟩
  | .hbm, ⟨73, _⟩ => ⟨S8x2049x1024, .f32⟩
  | .hbm, ⟨74, _⟩ => ⟨S_, .f32⟩
  | .hbm, ⟨75, _⟩ => ⟨S8x2049x1024, .f32⟩
  | .hbm, ⟨76, _⟩ => ⟨S8x2049x1024, .f32⟩
  | .hbm, ⟨77, _⟩ => ⟨S8x2048x1024, .f32⟩
  | .hbm, ⟨78, _⟩ => ⟨S8x2048x8x128, .f32⟩
  | .hbm, ⟨79, _⟩ => ⟨S8x2048x8x128, .f32⟩
  | .hbm, ⟨80, _⟩ => ⟨S8x16384x128, .f32⟩
  | .hbm, ⟨81, _⟩ => ⟨S8x1x1024, .f32⟩
  | .hbm, ⟨82, _⟩ => ⟨S8x1024, .f32⟩
  | .hbm, ⟨83, _⟩ => ⟨S8x8x128, .f32⟩
  | .hbm, ⟨84, _⟩ => ⟨S8x8x128, .f32⟩
  | .hbm, ⟨85, _⟩ => ⟨S8x2048x1024, .f32⟩
  | .hbm, ⟨86, _⟩ => ⟨S8x2048x1024, .f32⟩
  | .hbm, ⟨87, _⟩ => ⟨S_, .f32⟩
  | .hbm, ⟨88, _⟩ => ⟨S8x2048x1024, .f32⟩
  | .hbm, ⟨89, _⟩ => ⟨S8x2048x1024, .f32⟩
  | .hbm, ⟨90, _⟩ => ⟨S8x2048x1024, .f32⟩
  | .hbm, ⟨91, _⟩ => ⟨S_, .f32⟩
  | .hbm, ⟨92, _⟩ => ⟨S8x2048x1024, .f32⟩
  | .hbm, ⟨93, _⟩ => ⟨S8x2048x1024, .f32⟩
  | .hbm, ⟨94, _⟩ => ⟨S8x2048x1024, .f32⟩
  | .hbm, ⟨95, _⟩ => ⟨S_, .f32⟩
  | .hbm, ⟨96, _⟩ => ⟨S8x2048x1024, .f32⟩
  | .hbm, ⟨97, _⟩ => ⟨S8x2048x1024, .f32⟩
  | .hbm, ⟨98, _⟩ => ⟨S_, .f32⟩
  | .hbm, ⟨99, _⟩ => ⟨S8x2048x1024, .f32⟩
  | .hbm, ⟨100, _⟩ => ⟨S8x2048x1024, .f32⟩
  | .hbm, ⟨101, _⟩ => ⟨S8x2048x1024, .f32⟩
  | .hbm, ⟨102, _⟩ => ⟨S_, .f32⟩
  | .hbm, ⟨103, _⟩ => ⟨S8x2048x1024, .f32⟩
  | .hbm, ⟨104, _⟩ => ⟨S8x2048x1024, .f32⟩
  | .hbm, ⟨105, _⟩ => ⟨S8x2048x2048, .f32⟩
  | .hbm, ⟨106, _⟩ => ⟨S1x1x2048, .f32⟩
  | .hbm, ⟨107, _⟩ => ⟨S8x2048x2048, .f32⟩
  | .hbm, ⟨108, _⟩ => ⟨S8x2048x2048, .f32⟩
  | .hbm, ⟨109, _⟩ => ⟨S8x2048x2048, .f32⟩
  | .hbm, ⟨110, _⟩ => ⟨S8x2048x2048, .f32⟩
  | .hbm, ⟨111, _⟩ => ⟨S_, .f32⟩
  | .hbm, ⟨112, _⟩ => ⟨S8x2048x2048, .f32⟩
  | .hbm, ⟨113, _⟩ => ⟨S8x2048x2048, .f32⟩
  | .hbm, ⟨114, _⟩ => ⟨S_, .f32⟩
  | .hbm, ⟨115, _⟩ => ⟨S8x2048x2048, .f32⟩
  | .hbm, ⟨116, _⟩ => ⟨S8x2048x2048, .f32⟩
  | .hbm, ⟨117, _⟩ => ⟨S8x2048x6144, .f32⟩
  | .hbm, ⟨118, _⟩ => ⟨S8x2048x6144, .bf16⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_3 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_cst_5 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_cst_6 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_cst_7 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_cst_8 : Ref sig .tc := ⟨.hbm, 95, rfl⟩
abbrev main_v79 : Ref sig .tc := ⟨.hbm, 96, rfl⟩
abbrev main_v80 : Ref sig .tc := ⟨.hbm, 97, rfl⟩
abbrev main_cst_9 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_cst_10 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_cst_11 : Ref sig .tc := ⟨.hbm, 111, rfl⟩
abbrev main_v92 : Ref sig .tc := ⟨.hbm, 112, rfl⟩
abbrev main_v93 : Ref sig .tc := ⟨.hbm, 113, rfl⟩
abbrev main_cst_12 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩

abbrev nD : Nat := 1
abbrev τ : Topo := Topo.v7x

variable {F : FTy → Type} [FloatOps F]
-- ==== Mod.lean ====
abbrev S8x1024 : Shape := ⟨2, ![8, 1024]⟩
abbrev S1024 : Shape := ⟨1, ![1024]⟩
abbrev S1024x6144 : Shape := ⟨2, ![1024, 6144]⟩
abbrev S6144 : Shape := ⟨1, ![6144]⟩
abbrev S1x1024 : Shape := ⟨2, ![1, 1024]⟩
abbrev S_ : Shape := ⟨0, ![]⟩
abbrev S7x1024 : Shape := ⟨2, ![7, 1024]⟩
abbrev S16x1024 : Shape := ⟨2, ![16, 1024]⟩
abbrev S1x6144 : Shape := ⟨2, ![1, 6144]⟩
abbrev S16x6144 : Shape := ⟨2, ![16, 6144]⟩
abbrev S1024x1024 : Shape := ⟨2, ![1024, 1024]⟩

abbrev nBuf : Space → Nat
  | .hbm => 10
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S1024, .f32⟩
  | .hbm, ⟨2, _⟩ => ⟨S1024x6144, .f32⟩
  | .hbm, ⟨3, _⟩ => ⟨S6144, .f32⟩
  | .hbm, ⟨4, _⟩ => ⟨S1x1024, .f32⟩
  | .hbm, ⟨5, _⟩ => ⟨S_, .f32⟩
  | .hbm, ⟨6, _⟩ => ⟨S7x1024, .f32⟩
  | .hbm, ⟨7, _⟩ => ⟨S16x1024, .f32⟩
  | .hbm, ⟨8, _⟩ => ⟨S1x6144, .f32⟩
  | .hbm, ⟨9, _⟩ => ⟨S16x6144, .f32⟩
  | .local _ .vmem, ⟨0, _⟩ => ⟨S16x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024, .f32⟩
  | .local _ .vmem, ⟨4, _⟩ => ⟨S1x1024, .f32⟩
  | .local _ .vmem, ⟨5, _⟩ => ⟨S16x1024, .f32⟩
  | .local _ .vmem, ⟨6, _⟩ => ⟨S16x1024, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ModReferenceIdeal.lean ====
abbrev S8x1024 : Shape := ⟨2, ![8, 1024]⟩
abbrev S1024 : Shape := ⟨1, ![1024]⟩
abbrev S1024x6144 : Shape := ⟨2, ![1024, 6144]⟩
abbrev S6144 : Shape := ⟨1, ![6144]⟩
abbrev S1x1024 : Shape := ⟨2, ![1, 1024]⟩
abbrev S_ : Shape := ⟨0, ![]⟩
abbrev S7x1024 : Shape := ⟨2, ![7, 1024]⟩
abbrev S16x1024 : Shape := ⟨2, ![16, 1024]⟩
abbrev S16x6144 : Shape := ⟨2, ![16, 6144]⟩
abbrev S1x6144 : Shape := ⟨2, ![1, 6144]⟩

abbrev nBuf : Space → Nat
  | .hbm => 21
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1024, .f32⟩
  | .hbm, ⟨2, _⟩ => ⟨S1024x6144, .f32⟩
  | .hbm, ⟨3, _⟩ => ⟨S6144, .f32⟩
  | .hbm, ⟨4, _⟩ => ⟨S1x1024, .f32⟩
  | .hbm, ⟨5, _⟩ => ⟨S_, .f32⟩
  | .hbm, ⟨6, _⟩ => ⟨S7x1024, .f32⟩
  | .hbm, ⟨7, _⟩ => ⟨S16x1024, .f32⟩
  | .hbm, ⟨8, _⟩ => ⟨S16x1024, .f32⟩
  | .hbm, ⟨9, _⟩ => ⟨S16x1024, .f32⟩
  | .hbm, ⟨10, _⟩ => ⟨S_, .f32⟩
  | .hbm, ⟨11, _⟩ => ⟨S16x1024, .f32⟩
  | .hbm, ⟨12, _⟩ => ⟨S16x1024, .f32⟩
  | .hbm, ⟨13, _⟩ => ⟨S_, .f32⟩
  | .hbm, ⟨14, _⟩ => ⟨S16x1024, .f32⟩
  | .hbm, ⟨15, _⟩ => ⟨S16x1024, .f32⟩
  | .hbm, ⟨16, _⟩ => ⟨S16x1024, .f32⟩
  | .hbm, ⟨17, _⟩ => ⟨S16x6144, .f32⟩
  | .hbm, ⟨18, _⟩ => ⟨S1x6144, .f32⟩
  | .hbm, ⟨19, _⟩ => ⟨S16x6144, .f32⟩
  | .hbm, ⟨20, _⟩ => ⟨S16x6144, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩

abbrev nD : Nat := 1
abbrev τ : Topo := Topo.v7x

variable {F : FTy → Type} [FloatOps F]
-- ==== Ctx.lean ====
abbrev S8x256x1024 : Shape := ⟨3, ![8, 256, 1024]⟩
abbrev S16x6144 : Shape := ⟨2, ![16, 6144]⟩
abbrev S1024 : Shape := ⟨1, ![1024]⟩
abbrev S1024x7168 : Shape := ⟨2, ![1024, 7168]⟩
abbrev S2048 : Shape := ⟨1, ![2048]⟩
abbrev S4x1024 : Shape := ⟨2, ![4, 1024]⟩
abbrev S16x1x6144 : Shape := ⟨3, ![16, 1, 6144]⟩
abbrev S1x1024 : Shape := ⟨2, ![1, 1024]⟩
abbrev S1x2048 : Shape := ⟨2, ![1, 2048]⟩
abbrev S_ : Shape := ⟨0, ![]⟩
abbrev S8x2048x128 : Shape := ⟨3, ![8, 2048, 128]⟩
abbrev S8x8x128 : Shape := ⟨3, ![8, 8, 128]⟩
abbrev S8x256x2048 : Shape := ⟨3, ![8, 256, 2048]⟩
abbrev S8x64x1024 : Shape := ⟨3, ![8, 64, 1024]⟩
abbrev S1x1x1024 : Shape := ⟨3, ![1, 1, 1024]⟩
abbrev S8x512x128 : Shape := ⟨3, ![8, 512, 128]⟩
abbrev S8x64x2048 : Shape := ⟨3, ![8, 64, 2048]⟩
abbrev S8x536x128 : Shape := ⟨3, ![8, 536, 128]⟩
abbrev S8x24x128 : Shape := ⟨3, ![8, 24, 128]⟩
abbrev S4x64x1024 : Shape := ⟨3, ![4, 64, 1024]⟩
abbrev S4x64 : Shape := ⟨2, ![4, 64]⟩
abbrev S4x64x1 : Shape := ⟨3, ![4, 64, 1]⟩
abbrev S256x1024 : Shape := ⟨2, ![256, 1024]⟩
abbrev S1024x1024 : Shape := ⟨2, ![1024, 1024]⟩
abbrev S64x128 : Shape := ⟨2, ![64, 128]⟩
abbrev S1x64x128 : Shape := ⟨3, ![1, 64, 128]⟩
abbrev S1x536x128 : Shape := ⟨3, ![1, 536, 128]⟩
abbrev S536x128 : Shape := ⟨2, ![536, 128]⟩
abbrev S1x128 : Shape := ⟨2, ![1, 128]⟩
abbrev S512x128 : Shape := ⟨2, ![512, 128]⟩
abbrev S8x128 : Shape := ⟨2, ![8, 128]⟩
abbrev S1x512x128 : Shape := ⟨3, ![1, 512, 128]⟩
abbrev S1x8x128 : Shape := ⟨3, ![1, 8, 128]⟩
abbrev S24x128 : Shape := ⟨2, ![24, 128]⟩
abbrev S1x24x128 : Shape := ⟨3, ![1, 24, 128]⟩

abbrev nBuf : Space → Nat
  | .hbm => 21
  | .vmem => 15
  | .smem => 0
  | _ => 0

abbrev bufTy : (tb : Table) → Fin (tcTables nBuf tb) → BufTy
  | .hbm, ⟨0, _⟩ => ⟨S8x256x1024, .f32⟩
  | .hbm, ⟨1, _⟩ => ⟨S16x6144, .f32⟩
  | .hbm, ⟨2, _⟩ => ⟨S1024, .f32⟩
  | .hbm, ⟨3, _⟩ => ⟨S1024x7168, .f32⟩
  | .hbm, ⟨4, _⟩ => ⟨S2048, .f32⟩
  | .hbm, ⟨5, _⟩ => ⟨S4x1024, .f32⟩
  | .hbm, ⟨6, _⟩ => ⟨S1024, .f32⟩
  | .hbm, ⟨7, _⟩ => ⟨S16x1x6144, .f32⟩
  | .hbm, ⟨8, _⟩ => ⟨S1x1024, .f32⟩
  | .hbm, ⟨9, _⟩ => ⟨S1024x7168, .bf16⟩
  | .hbm, ⟨10, _⟩ => ⟨S1x2048, .f32⟩
  | .hbm, ⟨11, _⟩ => ⟨S_, .f32⟩
  | .hbm, ⟨12, _⟩ => ⟨S4x1024, .f32⟩
  | .hbm, ⟨13, _⟩ => ⟨S4x1024, .f32⟩
  | .hbm, ⟨14, _⟩ => ⟨S1x1024, .f32⟩
  | .hbm, ⟨15, _⟩ => ⟨S_, .f32⟩
  | .hbm, ⟨16, _⟩ => ⟨S1x1024, .f32⟩
  | .hbm, ⟨17, _⟩ => ⟨S1x1024, .f32⟩
  | .hbm, ⟨18, _⟩ => ⟨S8x2048x128, .f32⟩
  | .hbm, ⟨19, _⟩ => ⟨S8x8x128, .f32⟩
  | .hbm, ⟨20, _⟩ => ⟨S8x256x2048, .bf16⟩
  | .local _ .vmem, ⟨0, _⟩ => ⟨S8x64x1024, .f32⟩
  | .local _ .vmem, ⟨1, _⟩ => ⟨S8x64x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1024, .f32⟩
  | .local _ .vmem, ⟨5, _⟩ => ⟨S1024x7168, .bf16⟩
  | .local _ .vmem, ⟨6, _⟩ => ⟨S1x2048, .f32⟩
  | .local _ .vmem, ⟨7, _⟩ => ⟨S4x1024, .f32⟩
  | .local _ .vmem, ⟨8, _⟩ => ⟨S1x1024, .f32⟩
  | .local _ .vmem, ⟨9, _⟩ => ⟨S8x512x128, .f32⟩
  | .local _ .vmem, ⟨10, _⟩ => ⟨S8x512x128, .f32⟩
  | .local _ .vmem, ⟨11, _⟩ => ⟨S8x8x128, .f32⟩
  | .local _ .vmem, ⟨12, _⟩ => ⟨S8x64x2048, .bf16⟩
  | .local _ .vmem, ⟨13, _⟩ => ⟨S8x64x2048, .bf16⟩
  | .local _ .vmem, ⟨14, _⟩ => ⟨S8x536x128, .f32⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9_0 : Ref sig .tc := ⟨.hbm, 18, rfl⟩
abbrev main_v9_1 : Ref sig .tc := ⟨.hbm, 19, rfl⟩
abbrev main_v9_2 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c8_i32 : BitVec 32 := 8#32
  let c0_i32 : BitVec 32 := 0#32
  let c0_i32_0 : BitVec 32 := 0#32
  let c0_i32_1 : BitVec 32 := 0#32
  ![c8_i32.toNat, c0_i32.toNat, c0_i32_0.toNat]

def cc0_transform_2 (i : grid0.Coords) : Fin 3 → Nat :=
  let arg0 : BitVec 32 := BitVec.ofNat 32 (i 0).val
  let c8_i32 : BitVec 32 := 8#32
  let c0_i32 : BitVec 32 := 0#32
  let c1_i32 : BitVec 32 := 1#32
  let c0_i32_0 : BitVec 32 := 0#32
  ![c8_i32.toNat, c0_i32.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x7168 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S8x512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x8x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S8x64x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== CtxReferenceIdeal.lean ====
abbrev S8x256x1024 : Shape := ⟨3, ![8, 256, 1024]⟩
abbrev S16x6144 : Shape := ⟨2, ![16, 6144]⟩
abbrev S1024 : Shape := ⟨1, ![1024]⟩
abbrev S1024x7168 : Shape := ⟨2, ![1024, 7168]⟩
abbrev S2048 : Shape := ⟨1, ![2048]⟩
abbrev S4x1024 : Shape := ⟨2, ![4, 1024]⟩
abbrev S1x1024 : Shape := ⟨2, ![1, 1024]⟩
abbrev S_ : Shape := ⟨0, ![]⟩
abbrev S8x256 : Shape := ⟨2, ![8, 256]⟩
abbrev S8x256x1 : Shape := ⟨3, ![8, 256, 1]⟩
abbrev S1x1x1024 : Shape := ⟨3, ![1, 1, 1024]⟩
abbrev S8x256x7168 : Shape := ⟨3, ![8, 256, 7168]⟩
abbrev S8x256x2048 : Shape := ⟨3, ![8, 256, 2048]⟩
abbrev S8x3x1024 : Shape := ⟨3, ![8, 3, 1024]⟩
abbrev S8x1x1024 : Shape := ⟨3, ![8, 1, 1024]⟩
abbrev S8x260x1024 : Shape := ⟨3, ![8, 260, 1024]⟩
abbrev S8x257x1024 : Shape := ⟨3, ![8, 257, 1024]⟩
abbrev S8x256x8x128 : Shape := ⟨4, ![8, 256, 8, 128]⟩
abbrev S8x2048x128 : Shape := ⟨3, ![8, 2048, 128]⟩
abbrev S8x1024 : Shape := ⟨2, ![8, 1024]⟩
abbrev S8x8x128 : Shape := ⟨3, ![8, 8, 128]⟩

abbrev nBuf : Space → Nat
  | .hbm => 86
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S16x6144, .f32⟩
  | .hbm, ⟨2, _⟩ => ⟨S1024, .f32⟩
  | .hbm, ⟨3, _⟩ => ⟨S1024x7168, .f32⟩
  | .hbm, ⟨4, _⟩ => ⟨S2048, .f32⟩
  | .hbm, ⟨5, _⟩ => ⟨S4x1024, .f32⟩
  | .hbm, ⟨6, _⟩ => ⟨S1024, .f32⟩
  | .hbm, ⟨7, _⟩ => ⟨S1x1024, .f32⟩
  | .hbm, ⟨8, _⟩ => ⟨S1024, .f32⟩
  | .hbm, ⟨9, _⟩ => ⟨S1x1024, .f32⟩
  | .hbm, ⟨10, _⟩ => ⟨S1024, .f32⟩
  | .hbm, ⟨11, _⟩ => ⟨S8x256x1024, .f32⟩
  | .hbm, ⟨12, _⟩ => ⟨S_, .f32⟩
  | .hbm, ⟨13, _⟩ => ⟨S8x256, .f32⟩
  | .hbm, ⟨14, _⟩ => ⟨S8x256x1, .f32⟩
  | .hbm, ⟨15, _⟩ => ⟨S_, .f32⟩
  | .hbm, ⟨16, _⟩ => ⟨S8x256x1, .f32⟩
  | .hbm, ⟨17, _⟩ => ⟨S8x256x1, .f32⟩
  | .hbm, ⟨18, _⟩ => ⟨S_, .f32⟩
  | .hbm, ⟨19, _⟩ => ⟨S8x256x1, .f32⟩
  | .hbm, ⟨20, _⟩ => ⟨S8x256x1, .f32⟩
  | .hbm, ⟨21, _⟩ => ⟨S8x256x1, .f32⟩
  | .hbm, ⟨22, _⟩ => ⟨S8x256x1024, .f32⟩
  | .hbm, ⟨23, _⟩ => ⟨S8x256x1024, .f32⟩
  | .hbm, ⟨24, _⟩ => ⟨S1x1x1024, .f32⟩
  | .hbm, ⟨25, _⟩ => ⟨S8x256x1024, .f32⟩
  | .hbm, ⟨26, _⟩ => ⟨S8x256x1024, .f32⟩
  | .hbm, ⟨27, _⟩ => ⟨S_, .f32⟩
  | .hbm, ⟨28, _⟩ => ⟨S1024, .f32⟩
  | .hbm, ⟨29, _⟩ => ⟨S1024, .f32⟩
  | .hbm, ⟨30, _⟩ => ⟨S1x1x1024, .f32⟩
  | .hbm, ⟨31, _⟩ => ⟨S8x256x1024, .f32⟩
  | .hbm, ⟨32, _⟩ => ⟨S8x256x1024, .f32⟩
  | .hbm, ⟨33, _⟩ => ⟨S1x1x1024, .f32⟩
  | .hbm, ⟨34, _⟩ => ⟨S8x256x1024, .f32⟩
  | .hbm, ⟨35, _⟩ => ⟨S8x256x1024, .f32⟩
  | .hbm, ⟨36, _⟩ => ⟨S8x256x7168, .f32⟩
  | .hbm, ⟨37, _⟩ => ⟨S8x256x1024, .f32⟩
  | .hbm, ⟨38, _⟩ => ⟨S8x256x2048, .f32⟩
  | .hbm, ⟨39, _⟩ => ⟨S_, .f32⟩
  | .hbm, ⟨40, _⟩ => ⟨S8x3x1024, .f32⟩
  | .hbm, ⟨41, _⟩ => ⟨S_, .f32⟩
  | .hbm, ⟨42, _⟩ => ⟨S8x1x1024, .f32⟩
  | .hbm, ⟨43, _⟩ => ⟨S8x260x1024, .f32⟩
  | .hbm, ⟨44, _⟩ => ⟨S1x1024, .f32⟩
  | .hbm, ⟨45, _⟩ => ⟨S1024, .f32⟩
  | .hbm, ⟨46, _⟩ => ⟨S8x257x1024, .f32⟩
  | .hbm, ⟨47, _⟩ => ⟨S1x1x1024, .f32⟩
  | .hbm, ⟨48, _⟩ => ⟨S8x257x1024, .f32⟩
  | .hbm, ⟨49, _⟩ => ⟨S8x257x1024, .f32⟩
  | .hbm, ⟨50, _⟩ => ⟨S1x1x1024, .f32⟩
  | .hbm, ⟨51, _⟩ => ⟨S8x257x1024, .f32⟩
  | .hbm, ⟨52, _⟩ => ⟨S8x257x1024, .f32⟩
  | .hbm, ⟨53, _⟩ => ⟨S1x1024, .f32⟩
  | .hbm, ⟨54, _⟩ => ⟨S1024, .f32⟩
  | .hbm, ⟨55, _⟩ => ⟨S8x257x1024, .f32⟩
  | .hbm, ⟨56, _⟩ => ⟨S1x1x1024, .f32⟩
  | .hbm, ⟨57, _⟩ => ⟨S8x257x1024, .f32⟩
  | .hbm, ⟨58, _⟩ => ⟨S8x257x1024, .f32⟩
  | .hbm, ⟨59, _⟩ => ⟨S8x257x1024, .f32⟩
  | .hbm, ⟨60, _⟩ => ⟨S1x1024, .f32⟩
  | .hbm, ⟨61, _⟩ => ⟨S1024, .f32⟩
  | .hbm, ⟨62, _⟩ => ⟨S8x257x1024, .f32⟩
  | .hbm, ⟨63, _⟩ => ⟨S1x1x1024, .f32⟩
  | .hbm, ⟨64, _⟩ => ⟨S8x257x1024, .f32⟩
  | .hbm, ⟨65, _⟩ => ⟨S8x257x1024, .f32⟩
  | .hbm, ⟨66, _⟩ => ⟨S8x257x1024, .f32⟩
  | .hbm, ⟨67, _⟩ => ⟨S1x1024, .f32⟩
  | .hbm, ⟨68, _⟩ => ⟨S1024, .f32⟩
  | .hbm, ⟨69, _⟩ => ⟨S8x257x1024, .f32⟩
  | .hbm, ⟨70, _⟩ => ⟨S1x1x1024, .f32⟩
  | .hbm, ⟨71, _⟩ => ⟨S8x257x1024, .f32⟩
  | .hbm, ⟨72, _⟩ => ⟨S8x257x1024, .f32⟩
  | .hbm, ⟨73, _⟩ => ⟨S8x257x1024, .f32⟩
  | .hbm, ⟨74, _⟩ => ⟨S_, .f32⟩
  | .hbm, ⟨75, _⟩ => ⟨S8x257x1024, .f32⟩
  | .hbm, ⟨76, _⟩ => ⟨S8x257x1024, .f32⟩
  | .hbm, ⟨77, _⟩ => ⟨S8x256x1024, .f32⟩
  | .hbm, ⟨78, _⟩ => ⟨S8x256x8x128, .f32⟩
  | .hbm, ⟨79, _⟩ => ⟨S8x256x8x128, .f32⟩
  | .hbm, ⟨80, _⟩ => ⟨S8x2048x128, .f32⟩
  | .hbm, ⟨81, _⟩ => ⟨S8x1x1024, .f32⟩
  | .hbm, ⟨82, _⟩ => ⟨S8x1024, .f32⟩
  | .hbm, ⟨83, _⟩ => ⟨S8x8x128, .f32⟩
  | .hbm, ⟨84, _⟩ => ⟨S8x8x128, .f32⟩
  | .hbm, ⟨85, _⟩ => ⟨S8x256x2048, .bf16⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_3 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_cst_5 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩

abbrev nD : Nat := 1
abbrev τ : Topo := Topo.v7x

variable {F : FTy → Type} [FloatOps F]
-- ==== Proof.OutGroup.lean ====
/- What one grid point of the layer's last call computes for four of the eight batch entries, as one function of the
   blocks it loads (`group`), and that function read at an index on the extended reals (`group_apply`): every row of the
   result is `outRow` of the row's own inputs. -/
module

public import proofs.«01_k».proof.Proof.Gen.OutIdeal.Skeleton
public import Idealize.ShloMosaic.Lib.Pointwise
public import Idealize.ShloMosaic.Lib.Pipeline.Value

@[expose] public section

set_option maxRecDepth 16384

noncomputable section

namespace Cert.OutGroup

open Cert.OutIdeal Cert.OutIdeal.Gen Idealize.ShloMosaic

/-! ## The mathematics of one row -/

/-- A row of 1024 channels. -/
abbrev Row := Fin 1024 → EReal

/-- `y · rsqrt(mean(y²) + 1e-6) · g`, at channel `j`; the two literals are 1024 and 1e-6. -/
def rms (y g : Row) (j : Fin 1024) : EReal :=
  y j * Ideal.rsqrt (Ideal.div (∑ k, y k * y k) (Ideal.ofBits .f32 0x44800000#32) + Ideal.ofBits .f32 0x358637BD#32) * g j

/-- A row times a square matrix. -/
def rowMul (a : Row) (w : Fin 1024 → Fin 1024 → EReal) (j : Fin 1024) : EReal := ∑ k, a k * w k j

/-- The mixed branches: the gated recurrence and the gated attention, each projected, weighted and added, projected. -/
def mixRow (hl gl gna att : Row) (wl wn wo : Fin 1024 → Fin 1024 → EReal) : Row :=
  rowMul (fun k => gl k * rowMul hl wl k + gna k * rowMul att wn k) wo

/-- The first residual: `x + gt · rms(y)`. -/
def resRow (x gt y g : Row) (j : Fin 1024) : EReal := x j + gt j * rms y g j

/-- The modulated row that the MLP reads: `rms(x) · (1 + sc) + sh`. -/
def modRow (x g sc sh : Row) (j : Fin 1024) : EReal := rms x g j * (1 + sc j) + sh j

/-- The squared-ReLU MLP of a row, with 4096 hidden channels. -/
def mlpRow (u : Row) (w1 : Fin 1024 → Fin 4096 → EReal) (w2 : Fin 4096 → Fin 1024 → EReal) (j : Fin 1024) : EReal :=
  ∑ k : Fin 4096, (max (∑ i, u i * w1 i k) 0 * max (∑ i, u i * w1 i k) 0) * w2 k j

/-- One row of the layer's result, from the row's recurrence state times its gate (`hl`), its other inputs and the weights. -/
def outRow (hl gl gna att x gt1 sh2 sc2 gt2 g1 g2 g3 : Row) (wl wn wo : Fin 1024 → Fin 1024 → EReal)
    (w1 : Fin 1024 → Fin 4096 → EReal) (w2 : Fin 4096 → Fin 1024 → EReal) : Row :=
  let x1 : Row := resRow x gt1 (mixRow hl gl gna att wl wn wo) g1
  resRow x1 gt2 (mlpRow (modRow x1 g2 sc2 sh2) w1 w2) g3

/-! ## The same, on the blocks of one grid point -/

variable {F : FTy → Type} [FloatOps F]

def norm (y : FVec F S4x64x1024 .f32) (g : Vec F S1x1024 .f32) : FVec F S4x64x1024 .f32 :=
  mulf (mulf y (broadcastTo S4x64x1024 (rsqrt (addf (divf (shapeCast S4x64x1
      (multiReduction .add [2] S4x64 (mulf y y) 0x00000000#32 reduces_S4x64x1024_S4x64 (.inl rfl) rfl) shapeCasts_S4x64_S4x64x1)
      (broadcast S4x64x1 (Scalar.ofBits .f32 0x44800000#32))) (broadcast S4x64x1 (Scalar.ofBits .f32 0x358637BD#32))))
      broadcasts_S4x64x1_S4x64x1024))
    (broadcastTo S4x64x1024 (shapeCast S1x1x1024 g shapeCasts_S1x1024_S1x1x1024) broadcasts_S1x1x1024_S4x64x1024)

def prod (a : FVec F S256x1024 .bf16) (w : Vec F S1024x1024 .bf16) : FVec F S256x1024 .f32 :=
  matmul dot_S256x1024_S1024x1024_S256x1024_1_0_0_1_n_n none a (shapeCast S1024x1024 w shapeCasts_S1024x1024_S1024x1024)
    (constant S256x1024 .f32 0x00000000#32)

def state (h : Fin 4 → Fin 8 → FVec F S64x128 .f32) (b : Fin 4) : FVec F S64x1024 .f32 :=
  concatenate S64x1024 1 [⟨S64x128, h b 0⟩, ⟨S64x128, h b 1⟩, ⟨S64x128, h b 2⟩, ⟨S64x128, h b 3⟩, ⟨S64x128, h b 4⟩,
    ⟨S64x128, h b 5⟩, ⟨S64x128, h b 6⟩, ⟨S64x128, h b 7⟩]
    concatenates_S64x128_S64x128_S64x128_S64x128_S64x128_S64x128_S64x128_S64x128_S64x1024_d1

def stateProd (h : Fin 4 → Fin 8 → FVec F S64x128 .f32) (gg : Vec F S4x64x1024 .bf16) : FVec F S256x1024 .bf16 :=
  truncf .bf16 (shapeCast S256x1024 (mulf (concatenate S4x64x1024 0
    [⟨S1x64x1024, shapeCast S1x64x1024 (state h 0) shapeCasts_S64x1024_S1x64x1024⟩,
     ⟨S1x64x1024, shapeCast S1x64x1024 (state h 1) shapeCasts_S64x1024_S1x64x1024⟩,
     ⟨S1x64x1024, shapeCast S1x64x1024 (state h 2) shapeCasts_S64x1024_S1x64x1024⟩,
     ⟨S1x64x1024, shapeCast S1x64x1024 (state h 3) shapeCasts_S64x1024_S1x64x1024⟩]
    concatenates_S1x64x1024_S1x64x1024_S1x64x1024_S1x64x1024_S4x64x1024_d0)
    (extf .f32 gg bitsLt_bf16_f32)) shapeCasts_S4x64x1024_S256x1024) bitsLt_bf16_f32

def mix (gl gna : Vec F S4x64x1024 .bf16) (yl ya : FVec F S256x1024 .f32) (wo : Vec F S1024x1024 .bf16) : FVec F S4x64x1024 .f32 :=
  shapeCast S4x64x1024 (prod (truncf .bf16 (addf
      (mulf (shapeCast S256x1024 (extf .f32 gl bitsLt_bf16_f32) shapeCasts_S4x64x1024_S256x1024) yl)
      (mulf (shapeCast S256x1024 (extf .f32 gna bitsLt_bf16_f32) shapeCasts_S4x64x1024_S256x1024) ya)) bitsLt_bf16_f32) wo)
    shapeCasts_S256x1024_S4x64x1024

def per (v : Vec F S4x1x1024 .f32) : FVec F S4x64x1024 .f32 :=
  broadcastTo S4x64x1024 v broadcasts_S4x1x1024_S4x64x1024

def res (x : Vec F S4x64x1024 .f32) (gt : Vec F S4x1x1024 .f32) (y : FVec F S4x64x1024 .f32) (g : Vec F S1x1024 .f32) :
    FVec F S4x64x1024 .f32 :=
  addf x (mulf (per (shapeCast S4x1x1024 gt shapeCasts_S4x1x1024_S4x1x1024)) (norm y g))

def modu (x : FVec F S4x64x1024 .f32) (g : Vec F S1x1024 .f32) (sc sh : Vec F S4x1x1024 .f32) : FVec F S256x1024 .bf16 :=
  truncf .bf16 (shapeCast S256x1024 (addf (mulf (norm x g)
      (per (addf (broadcast S4x1x1024 (Scalar.ofBits .f32 0x3F800000#32)) (shapeCast S4x1x1024 sc shapeCasts_S4x1x1024_S4x1x1024))))
      (per (shapeCast S4x1x1024 sh shapeCasts_S4x1x1024_S4x1x1024))) shapeCasts_S4x64x1024_S256x1024) bitsLt_bf16_f32

def relu (z : FVec F S256x1024 .f32) : FVec F S256x1024 .f32 :=
  maximumf z (broadcast S256x1024 (Scalar.ofBits .f32 0x00000000#32))

def hidden (u : FVec F S256x1024 .bf16) (w1 w2 : Vec F S1024x1024 .bf16) : FVec F S256x1024 .f32 :=
  prod (truncf .bf16 (mulf (relu (prod u w1)) (relu (prod u w1))) bitsLt_bf16_f32) w2

def mlp (u : FVec F S256x1024 .bf16) (w1 w2 : Fin 4 → Vec F S1024x1024 .bf16) : FVec F S4x64x1024 .f32 :=
  shapeCast S4x64x1024 (addf (addf (addf (hidden u (w1 0) (w2 0)) (hidden u (w1 1) (w2 1))) (hidden u (w1 2) (w2 2)))
    (hidden u (w1 3) (w2 3))) shapeCasts_S256x1024_S4x64x1024

/-- What a grid point stores for four batch entries. -/
def group (h : Fin 4 → Fin 8 → FVec F S64x128 .f32) (gg gl gna att : Vec F S4x64x1024 .bf16) (x : Vec F S4x64x1024 .f32)
    (gt1 sh2 sc2 gt2 : Vec F S4x1x1024 .f32) (g1 g2 g3 : Vec F S1x1024 .f32) (wl wn wo : Vec F S1024x1024 .bf16)
    (w1 w2 : Fin 4 → Vec F S1024x1024 .bf16) : FVec F S4x64x1024 .f32 :=
  res (res x gt1 (mix gl gna (prod (stateProd h gg) wl)
        (prod (shapeCast S256x1024 att shapeCasts_S4x64x1024_S256x1024) wn) wo) g1) gt2
    (mlp (modu (res x gt1 (mix gl gna (prod (stateProd h gg) wl)
        (prod (shapeCast S256x1024 att shapeCasts_S4x64x1024_S256x1024) wn) wo) g1) g2 sc2 sh2) w1 w2) g3

/-! ## Read at an index -/

/-- The row of the flattened (256, 1024) block that holds batch entry `b`, time `t`. -/
abbrev fl (b : Fin 4) (t : Fin 64) : Fin 256 := ⟨b.val * 64 + t.val, by omega⟩

theorem norm_apply (y : FVec Ideal S4x64x1024 .f32) (g : Vec Ideal S1x1024 .f32) (b : Fin 4) (t : Fin 64) (j : Fin 1024) :
    norm y g (ix3 b t j) = rms (fun k => y (ix3 b t k)) (fun k => g (ix2 0 k)) j := by
  pointwise [norm, rms]

theorem prod_apply (a : FVec Ideal S256x1024 .bf16) (w : Vec Ideal S1024x1024 .bf16) (r : Fin 256) (j : Fin 1024) :
    prod a w (ix2 r j) = rowMul (fun k => a (ix2 r k)) (fun k j => w (ix2 k j)) j := by
  pointwise [prod, rowMul]

theorem mix_apply (gl gna : Vec Ideal S4x64x1024 .bf16) (yl ya : FVec Ideal S256x1024 .f32) (wo : Vec Ideal S1024x1024 .bf16)
    (b : Fin 4) (t : Fin 64) (j : Fin 1024) :
    mix gl gna yl ya wo (ix3 b t j)
      = rowMul (fun k => gl (ix3 b t k) * yl (ix2 (fl b t) k) + gna (ix3 b t k) * ya (ix2 (fl b t) k)) (fun k j => wo (ix2 k j)) j := by
  pointwise [mix, prod_apply]

theorem per_apply (v : Vec Ideal S4x1x1024 .f32) (b : Fin 4) (t : Fin 64) (j : Fin 1024) :
    per v (ix3 b t j) = v (ix3 b 0 j) := by
  pointwise [per]

theorem res_apply (x : Vec Ideal S4x64x1024 .f32) (gt : Vec Ideal S4x1x1024 .f32) (y : FVec Ideal S4x64x1024 .f32)
    (g : Vec Ideal S1x1024 .f32) (b : Fin 4) (t : Fin 64) (j : Fin 1024) :
    res x gt y g (ix3 b t j)
      = resRow (fun k => x (ix3 b t k)) (fun k => gt (ix3 b 0 k)) (fun k => y (ix3 b t k)) (fun k => g (ix2 0 k)) j := by
  pointwise [res, resRow, norm_apply, per_apply]

theorem modu_apply (x : FVec Ideal S4x64x1024 .f32) (g : Vec Ideal S1x1024 .f32) (sc sh : Vec Ideal S4x1x1024 .f32)
    (b : Fin 4) (t : Fin 64) (j : Fin 1024) :
    modu x g sc sh (ix2 (fl b t) j)
      = modRow (fun k => x (ix3 b t k)) (fun k => g (ix2 0 k)) (fun k => sc (ix3 b 0 k)) (fun k => sh (ix3 b 0 k)) j := by
  have hb : (⟨(b.val * 64 + t.val) / 64, by omega⟩ : Fin 4) = b := Fin.ext (by show (b.val * 64 + t.val) / 64 = b.val; omega)
  have ht : (⟨(b.val * 64 + t.val) % 64, by omega⟩ : Fin 64) = t := Fin.ext (by show (b.val * 64 + t.val) % 64 = t.val; omega)
  pointwise [modu, modRow, norm_apply, per_apply]
  simp only [hb, ht]

theorem hidden_apply (u : FVec Ideal S256x1024 .bf16) (w1 w2 : Vec Ideal S1024x1024 .bf16) (r : Fin 256) (j : Fin 1024) :
    hidden u w1 w2 (ix2 r j)
      = ∑ k : Fin 1024, (max (∑ i : Fin 1024, u (ix2 r i) * w1 (ix2 i k)) 0 * max (∑ i : Fin 1024, u (ix2 r i) * w1 (ix2 i k)) 0) * w2 (ix2 k j) := by
  pointwise [hidden, relu, prod_apply, rowMul]

/-- Channel `k` of the recurrence's state, from the eight lane chunks of 128 channels. -/
abbrev stateRow (h : Fin 4 → Fin 8 → FVec F S64x128 .f32) (b : Fin 4) (t : Fin 64) (k : Fin 1024) : F .f32 :=
  h b ⟨k.val / 128, by omega⟩ (ix2 t ⟨k.val % 128, by omega⟩)

theorem state_apply (h : Fin 4 → Fin 8 → FVec F S64x128 .f32) (b : Fin 4) (t : Fin 64) (k : Fin 1024) :
    state h b (ix2 t k) = stateRow h b t k := by
  have hc : Shape.Concatenates ((List.ofFn fun n : Fin 8 => (⟨S64x128, h b n⟩ : (s : Shape) × (s.Idx → F .f32))).map (·.1)) S64x1024 1 :=
    concatenates_S64x128_S64x128_S64x128_S64x128_S64x128_S64x128_S64x128_S64x128_S64x1024_d1
  exact concatenate_ofFn_apply (t := S64x1024) (s₁ := S64x128) 1 (h b) hc rfl 128 rfl (ix2 t k)
    ⟨k.val / 128, by omega⟩ rfl (ix2 t ⟨k.val % 128, by omega⟩) rfl (fun a ha => match a with
      | ⟨0, _⟩ => rfl
      | ⟨1, _⟩ => absurd rfl ha)

theorem stateProd_apply (h : Fin 4 → Fin 8 → FVec Ideal S64x128 .f32) (gg : Vec Ideal S4x64x1024 .bf16)
    (b : Fin 4) (t : Fin 64) (k : Fin 1024) :
    stateProd h gg (ix2 (fl b t) k) = stateRow h b t k * gg (ix3 b t k) := by
  have hb : (⟨(b.val * 64 + t.val) / 64, by omega⟩ : Fin 4) = b := Fin.ext (by show (b.val * 64 + t.val) / 64 = b.val; omega)
  have ht : (⟨(b.val * 64 + t.val) % 64, by omega⟩ : Fin 64) = t := Fin.ext (by show (b.val * 64 + t.val) % 64 = t.val; omega)
  pointwise [stateProd]
  have hv : (b.val * 64 + t.val) / 64 = b.val := by omega
  simp only [hb, ht, hv, state_apply]
  have h4 : b = 0 ∨ b = 1 ∨ b = 2 ∨ b = 3 := by omega
  rcases h4 with h0 | h0 | h0 | h0 <;> subst h0 <;> rfl

/-- A sum over 4096 entries, four blocks of 1024 at a time. -/
theorem sum_four {M : Type*} [AddCommMonoid M] (f : Fin 4096 → M) :
    ∑ k, f k = (((∑ k : Fin 1024, f ⟨k.val, by omega⟩) + ∑ k : Fin 1024, f ⟨1024 + k.val, by omega⟩)
      + ∑ k : Fin 1024, f ⟨2048 + k.val, by omega⟩) + ∑ k : Fin 1024, f ⟨3072 + k.val, by omega⟩ := by
  have e := Fin.sum_univ_add (a := 1024 + 1024 + 1024) (b := 1024) (M := M) f
  rw [Fin.sum_univ_add (a := 1024 + 1024) (b := 1024), Fin.sum_univ_add (a := 1024) (b := 1024)] at e
  exact e

/-- The MLP's four chunks of hidden channels: the weights' columns and rows `1024 c …`. -/
theorem mlp_apply (u : FVec Ideal S256x1024 .bf16) (w1 w2 : Fin 4 → Vec Ideal S1024x1024 .bf16)
    (W1 : Fin 1024 → Fin 4096 → EReal) (W2 : Fin 4096 → Fin 1024 → EReal)
    (h1 : ∀ (c : Fin 4) (i k : Fin 1024), w1 c (ix2 i k) = W1 i ⟨1024 * c.val + k.val, by omega⟩)
    (h2 : ∀ (c : Fin 4) (k j : Fin 1024), w2 c (ix2 k j) = W2 ⟨1024 * c.val + k.val, by omega⟩ j)
    (b : Fin 4) (t : Fin 64) (j : Fin 1024) :
    mlp u w1 w2 (ix3 b t j) = mlpRow (fun k => u (ix2 (fl b t) k)) W1 W2 j := by
  pointwise [mlp, hidden_apply, mlpRow]
  rw [sum_four]
  simp only [h1, h2, Fin.val_zero, Fin.val_one, Fin.val_two, Nat.mul_zero, Nat.zero_add, Nat.mul_one]
  rfl

/-- EVERY ROW OF WHAT A GRID POINT STORES is `outRow` of the row's inputs. -/
theorem group_apply (h : Fin 4 → Fin 8 → FVec Ideal S64x128 .f32) (gg gl gna att : Vec Ideal S4x64x1024 .bf16)
    (x : Vec Ideal S4x64x1024 .f32) (gt1 sh2 sc2 gt2 : Vec Ideal S4x1x1024 .f32) (g1 g2 g3 : Vec Ideal S1x1024 .f32)
    (wl wn wo : Vec Ideal S1024x1024 .bf16) (w1 w2 : Fin 4 → Vec Ideal S1024x1024 .bf16)
    (W1 : Fin 1024 → Fin 4096 → EReal) (W2 : Fin 4096 → Fin 1024 → EReal)
    (h1 : ∀ (c : Fin 4) (i k : Fin 1024), w1 c (ix2 i k) = W1 i ⟨1024 * c.val + k.val, by omega⟩)
    (h2 : ∀ (c : Fin 4) (k j : Fin 1024), w2 c (ix2 k j) = W2 ⟨1024 * c.val + k.val, by omega⟩ j)
    (b : Fin 4) (t : Fin 64) (j : Fin 1024) :
    group h gg gl gna att x gt1 sh2 sc2 gt2 g1 g2 g3 wl wn wo w1 w2 (ix3 b t j)
      = outRow (fun k => stateRow h b t k * gg (ix3 b t k)) (fun k => gl (ix3 b t k)) (fun k => gna (ix3 b t k))
          (fun k => att (ix3 b t k)) (fun k => x (ix3 b t k)) (fun k => gt1 (ix3 b 0 k)) (fun k => sh2 (ix3 b 0 k))
          (fun k => sc2 (ix3 b 0 k)) (fun k => gt2 (ix3 b 0 k)) (fun k => g1 (ix2 0 k)) (fun k => g2 (ix2 0 k))
          (fun k => g3 (ix2 0 k)) (fun k j => wl (ix2 k j)) (fun k j => wn (ix2 k j)) (fun k j => wo (ix2 k j)) W1 W2 j := by
  have hb : (⟨(b.val * 64 + t.val) / 64, by omega⟩ : Fin 4) = b := Fin.ext (by show (b.val * 64 + t.val) / 64 = b.val; omega)
  have ht : (⟨(b.val * 64 + t.val) % 64, by omega⟩ : Fin 64) = t := Fin.ext (by show (b.val * 64 + t.val) % 64 = t.val; omega)
  have ha (k : Fin 1024) : shapeCast S256x1024 att shapeCasts_S4x64x1024_S256x1024 (ix2 (fl b t) k) = att (ix3 b t k) := by
    pointwise []
    rw [hb, ht]
  unfold group outRow
  simp only [res_apply, mlp_apply _ w1 w2 W1 W2 h1 h2, modu_apply, mix_apply, prod_apply, stateProd_apply, ha]
  rfl

end Cert.OutGroup

end
-- ==== Proof.OutBlock.lean ====
/- What a grid point of the layer's last call leaves in its output block, as the two four-entry groups of `OutGroup`, and
   that block read at an index. -/
module

public import proofs.«01_k».proof.Proof.Gen.OutIdeal.Value
public import proofs.«01_k».proof.Proof.OutGroup
public import Idealize.ShloMosaic.Lib.WritesUnit

@[expose] public section

set_option maxRecDepth 16384

noncomputable section

namespace Cert.OutBlock

open Cert.OutIdeal Cert.OutIdeal.Gen Cert.OutGroup Idealize.ShloMosaic

variable {F : FTy → Type} [FloatOps F]

/-- A load of a rectangle of a staged block. -/
abbrev ld {s : Shape} {e : EltTy} (arg : Memref sig .tc .vmem s e) (harg : arg.IsWhole) (x : Vec F s e)
    (off size : Fin s.rank → Nat) (inb : ∀ a, off a + size a ≤ s.size a) : Vec F ⟨s.rank, size⟩ e :=
  arg.view.readAt (Elt F) (Rect.unit off size inb).toLoadRect (harg.unread x)

/-- Every eighth row of one lane chunk is in range. -/
theorem inb_rows (k b : Fin 8) : ∀ a, S1x1x64x128.size a = 0 ∨
    (![0, k.val, b.val, 0] : Fin 4 → Nat) a + (![1, 1, 8, 1] : Fin 4 → Nat) a * (S1x1x64x128.size a - 1) < S1x8x512x128.size a := by
  intro a
  match a with
  | ⟨0, _⟩ => exact Or.inr (by show 0 + 1 * (1 - 1) < 1; omega)
  | ⟨1, _⟩ => exact Or.inr (by show k.val + 1 * (1 - 1) < 8; omega)
  | ⟨2, _⟩ => exact Or.inr (by show b.val + 8 * (64 - 1) < 512; omega)
  | ⟨3, _⟩ => exact Or.inr (by show 0 + 1 * (128 - 1) < 128; omega)

/-- The 64 time steps of batch entry `b` in lane chunk `k` of a staged block of states: every eighth row from row `b`. -/
abbrev ldRows (arg : Memref sig .tc .vmem S1x8x512x128 .f32) (harg : arg.IsWhole) (x : Vec F S1x8x512x128 .f32) (k b : Fin 8) :
    Vec F S1x1x64x128 .f32 :=
  arg.view.readAt (Elt F) { off := ![0, k.val, b.val, 0], size := S1x1x64x128.size, stride := ![1, 1, 8, 1], inb := inb_rows k b }
    (harg.unread x)

/-- The two directions' states added, for lane chunk `k` and batch entry `b`. -/
def states (arg1 : Memref sig .tc .vmem S1x8x512x128 .f32) (harg1 : arg1.IsWhole) (arg2 : Memref sig .tc .vmem S1x8x512x128 .f32)
    (harg2 : arg2.IsWhole) (x0 x1 : Vec F S1x8x512x128 .f32) (k b : Fin 8) : FVec F S64x128 .f32 :=
  addf (shapeCast S64x128 (ldRows arg1 harg1 x0 k b) shapeCasts_S1x1x64x128_S64x128)
    (shapeCast S64x128 (ldRows arg2 harg2 x1 k b) shapeCasts_S1x1x64x128_S64x128)

/-- The point's two stores: batch entries 4 to 7, and before them 0 to 3. -/
theorem out_eq (c : Dev nD) (i : grid0.Coords) (arg1 : Memref sig .tc .vmem S1x8x512x128 .f32) (harg1 : arg1.IsWhole) (arg2 : Memref sig .tc .vmem S1x8x512x128 .f32) (harg2 : arg2.IsWhole) (arg3 : Memref sig .tc .vmem S8x64x1024 .bf16) (harg3 : arg3.IsWhole) (arg4 : Memref sig .tc .vmem S8x64x1024 .bf16) (harg4 : arg4.IsWhole) (arg5 : Memref sig .tc .vmem S8x64x1024 .bf16) (harg5 : arg5.IsWhole) (arg6 : Memref sig .tc .vmem S8x64x1024 .bf16) (harg6 : arg6.IsWhole) (arg7 : Memref sig .tc .vmem S8x64x1024 .f32) (harg7 : arg7.IsWhole) (arg8 : Memref sig .tc .vmem S8x1x1024 .f32) (harg8 : arg8.IsWhole) (arg9 : Memref sig .tc .vmem S8x1x1024 .f32) (harg9 : arg9.IsWhole) (arg10 : Memref sig .tc .vmem S8x1x1024 .f32) (harg10 : arg10.IsWhole) (arg11 : Memref sig .tc .vmem S8x1x1024 .f32) (harg11 : arg11.IsWhole) (arg12 : Memref sig .tc .vmem S4x1024 .f32) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S1024x1024 .bf16) (harg15 : arg15.IsWhole) (arg16 : Memref sig .tc .vmem S1024x4096 .bf16) (harg16 : arg16.IsWhole) (arg17 : Memref sig .tc .vmem S4096x1024 .bf16) (harg17 : arg17.IsWhole) (arg18 : Memref sig .tc .vmem S8x64x1024 .f32) (harg18 : arg18.IsWhole)
    (x0 : Vec F S1x8x512x128 .f32) (x1 : Vec F S1x8x512x128 .f32) (x2 : Vec F S8x64x1024 .bf16) (x3 : Vec F S8x64x1024 .bf16) (x4 : Vec F S8x64x1024 .bf16) (x5 : Vec F S8x64x1024 .bf16) (x6 : Vec F S8x64x1024 .f32) (x7 : Vec F S8x1x1024 .f32) (x8 : Vec F S8x1x1024 .f32) (x9 : Vec F S8x1x1024 .f32) (x10 : Vec F S8x1x1024 .f32) (x11 : Vec F S4x1024 .f32) (x12 : Vec F S1024x1024 .bf16) (x13 : Vec F S1024x1024 .bf16) (x14 : Vec F S1024x1024 .bf16) (x15 : Vec F S1024x4096 .bf16) (x16 : Vec F S4096x1024 .bf16) :
    out0_A_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16
      = VO0_17.read (Elt F) (VO0_17.writes (Elt F) VO0_17.junk
        [⟨Rect.unit ![4, 0, 0] ![4, 64, 1024] inb_S8x64x1024_S4x64x1024_4_0_0, group (fun b k => states arg1 harg1 arg2 harg2 x0 x1 k ⟨4 + b.val, by omega⟩)
        (ld arg3 harg3 x2 ![4, 0, 0] S4x64x1024.size inb_S8x64x1024_S4x64x1024_4_0_0) (ld arg4 harg4 x3 ![4, 0, 0] S4x64x1024.size inb_S8x64x1024_S4x64x1024_4_0_0)
        (ld arg5 harg5 x4 ![4, 0, 0] S4x64x1024.size inb_S8x64x1024_S4x64x1024_4_0_0) (ld arg6 harg6 x5 ![4, 0, 0] S4x64x1024.size inb_S8x64x1024_S4x64x1024_4_0_0)
        (ld arg7 harg7 x6 ![4, 0, 0] S4x64x1024.size inb_S8x64x1024_S4x64x1024_4_0_0)
        (ld arg8 harg8 x7 ![4, 0, 0] S4x1x1024.size inb_S8x1x1024_S4x1x1024_4_0_0) (ld arg9 harg9 x8 ![4, 0, 0] S4x1x1024.size inb_S8x1x1024_S4x1x1024_4_0_0)
        (ld arg10 harg10 x9 ![4, 0, 0] S4x1x1024.size inb_S8x1x1024_S4x1x1024_4_0_0) (ld arg11 harg11 x10 ![4, 0, 0] S4x1x1024.size inb_S8x1x1024_S4x1x1024_4_0_0)
        (ld arg12 harg12 x11 ![1, 0] S1x1024.size inb_S4x1024_S1x1024_1_0) (ld arg12 harg12 x11 ![2, 0] S1x1024.size inb_S4x1024_S1x1024_2_0) (ld arg12 harg12 x11 ![3, 0] S1x1024.size inb_S4x1024_S1x1024_3_0)
        (ld arg13 harg13 x12 ![0, 0] S1024x1024.size inb_S1024x1024_S1024x1024_0_0) (ld arg14 harg14 x13 ![0, 0] S1024x1024.size inb_S1024x1024_S1024x1024_0_0)
        (ld arg15 harg15 x14 ![0, 0] S1024x1024.size inb_S1024x1024_S1024x1024_0_0)
        ![(ld arg16 harg16 x15 ![0, 0] S1024x1024.size inb_S1024x4096_S1024x1024_0_0), (ld arg16 harg16 x15 ![0, 1024] S1024x1024.size inb_S1024x4096_S1024x1024_0_1024), (ld arg16 harg16 x15 ![0, 2048] S1024x1024.size inb_S1024x4096_S1024x1024_0_2048), (ld arg16 harg16 x15 ![0, 3072] S1024x1024.size inb_S1024x4096_S1024x1024_0_3072)]
        ![(ld arg17 harg17 x16 ![0, 0] S1024x1024.size inb_S4096x1024_S1024x1024_0_0), (ld arg17 harg17 x16 ![1024, 0] S1024x1024.size inb_S4096x1024_S1024x1024_1024_0), (ld arg17 harg17 x16 ![2048, 0] S1024x1024.size inb_S4096x1024_S1024x1024_2048_0), (ld arg17 harg17 x16 ![3072, 0] S1024x1024.size inb_S4096x1024_S1024x1024_3072_0)]⟩,
         ⟨Rect.unit ![0, 0, 0] ![4, 64, 1024] inb_S8x64x1024_S4x64x1024_0_0_0, group (fun b k => states arg1 harg1 arg2 harg2 x0 x1 k ⟨0 + b.val, by omega⟩)
        (ld arg3 harg3 x2 ![0, 0, 0] S4x64x1024.size inb_S8x64x1024_S4x64x1024_0_0_0) (ld arg4 harg4 x3 ![0, 0, 0] S4x64x1024.size inb_S8x64x1024_S4x64x1024_0_0_0)
        (ld arg5 harg5 x4 ![0, 0, 0] S4x64x1024.size inb_S8x64x1024_S4x64x1024_0_0_0) (ld arg6 harg6 x5 ![0, 0, 0] S4x64x1024.size inb_S8x64x1024_S4x64x1024_0_0_0)
        (ld arg7 harg7 x6 ![0, 0, 0] S4x64x1024.size inb_S8x64x1024_S4x64x1024_0_0_0)
        (ld arg8 harg8 x7 ![0, 0, 0] S4x1x1024.size inb_S8x1x1024_S4x1x1024_0_0_0) (ld arg9 harg9 x8 ![0, 0, 0] S4x1x1024.size inb_S8x1x1024_S4x1x1024_0_0_0)
        (ld arg10 harg10 x9 ![0, 0, 0] S4x1x1024.size inb_S8x1x1024_S4x1x1024_0_0_0) (ld arg11 harg11 x10 ![0, 0, 0] S4x1x1024.size inb_S8x1x1024_S4x1x1024_0_0_0)
        (ld arg12 harg12 x11 ![1, 0] S1x1024.size inb_S4x1024_S1x1024_1_0) (ld arg12 harg12 x11 ![2, 0] S1x1024.size inb_S4x1024_S1x1024_2_0) (ld arg12 harg12 x11 ![3, 0] S1x1024.size inb_S4x1024_S1x1024_3_0)
        (ld arg13 harg13 x12 ![0, 0] S1024x1024.size inb_S1024x1024_S1024x1024_0_0) (ld arg14 harg14 x13 ![0, 0] S1024x1024.size inb_S1024x1024_S1024x1024_0_0)
        (ld arg15 harg15 x14 ![0, 0] S1024x1024.size inb_S1024x1024_S1024x1024_0_0)
        ![(ld arg16 harg16 x15 ![0, 0] S1024x1024.size inb_S1024x4096_S1024x1024_0_0), (ld arg16 harg16 x15 ![0, 1024] S1024x1024.size inb_S1024x4096_S1024x1024_0_1024), (ld arg16 harg16 x15 ![0, 2048] S1024x1024.size inb_S1024x4096_S1024x1024_0_2048), (ld arg16 harg16 x15 ![0, 3072] S1024x1024.size inb_S1024x4096_S1024x1024_0_3072)]
        ![(ld arg17 harg17 x16 ![0, 0] S1024x1024.size inb_S4096x1024_S1024x1024_0_0), (ld arg17 harg17 x16 ![1024, 0] S1024x1024.size inb_S4096x1024_S1024x1024_1024_0), (ld arg17 harg17 x16 ![2048, 0] S1024x1024.size inb_S4096x1024_S1024x1024_2048_0), (ld arg17 harg17 x16 ![3072, 0] S1024x1024.size inb_S4096x1024_S1024x1024_3072_0)]⟩]) := by
  unfold out0_A_17 kernelRun0_A
  rfl

/-! ## The loads, read at an index -/

theorem ld_apply {s : Shape} {e : EltTy} (arg : Memref sig .tc .vmem s e) (harg : arg.IsWhole) (x : Vec F s e)
    (off size : Fin s.rank → Nat) (inb : ∀ a, off a + size a ≤ s.size a) (y : (⟨s.rank, size⟩ : Shape).Idx) (z : s.Idx)
    (h : ∀ a, (z a).val = off a + (y a).val) : ld arg harg x off size inb y = x z := by
  refine (congrFun (harg.read_unread x) _).trans (congrArg x (funext fun a => Fin.ext ?_))
  show off a + 1 * (y a).val = (z a).val
  rw [h a, Nat.one_mul]

theorem ld_rows {e : EltTy} (arg : Memref sig .tc .vmem S8x64x1024 e) (harg : arg.IsWhole) (x : Vec F S8x64x1024 e) (o : Nat)
    (inb : ∀ a, (![o, 0, 0] : Fin 3 → Nat) a + S4x64x1024.size a ≤ S8x64x1024.size a) (ho : o + 4 ≤ 8) (b : Fin 4) (t : Fin 64) (k : Fin 1024) :
    ld arg harg x ![o, 0, 0] S4x64x1024.size inb (ix3 b t k : S4x64x1024.Idx) = x (ix3 ⟨o + b.val, by omega⟩ t k) :=
  ld_apply arg harg x _ _ inb _ _ (fun (a : Fin 3) => match a with
    | ⟨0, _⟩ => rfl
    | ⟨1, _⟩ => (Nat.zero_add t.val).symm
    | ⟨2, _⟩ => (Nat.zero_add k.val).symm)

theorem ld_per {e : EltTy} (arg : Memref sig .tc .vmem S8x1x1024 e) (harg : arg.IsWhole) (x : Vec F S8x1x1024 e) (o : Nat)
    (inb : ∀ a, (![o, 0, 0] : Fin 3 → Nat) a + S4x1x1024.size a ≤ S8x1x1024.size a) (ho : o + 4 ≤ 8) (b : Fin 4) (k : Fin 1024) :
    ld arg harg x ![o, 0, 0] S4x1x1024.size inb (ix3 b 0 k : S4x1x1024.Idx) = x (ix3 ⟨o + b.val, by omega⟩ 0 k) :=
  ld_apply arg harg x _ _ inb _ _ (fun (a : Fin 3) => match a with
    | ⟨0, _⟩ => rfl
    | ⟨1, _⟩ => rfl
    | ⟨2, _⟩ => (Nat.zero_add k.val).symm)

theorem ld_gain {e : EltTy} (arg : Memref sig .tc .vmem S4x1024 e) (harg : arg.IsWhole) (x : Vec F S4x1024 e) (r : Fin 4)
    (inb : ∀ a, (![r.val, 0] : Fin 2 → Nat) a + S1x1024.size a ≤ S4x1024.size a) (k : Fin 1024) :
    ld arg harg x ![r.val, 0] S1x1024.size inb (ix2 0 k : S1x1024.Idx) = x (ix2 r k) :=
  ld_apply arg harg x _ _ inb _ _ (fun (a : Fin 2) => match a with
    | ⟨0, _⟩ => rfl
    | ⟨1, _⟩ => (Nat.zero_add k.val).symm)

theorem ld_square {e : EltTy} {n0 n1 : Nat} (arg : Memref sig .tc .vmem ⟨2, ![n0, n1]⟩ e) (harg : arg.IsWhole) (x : Vec F ⟨2, ![n0, n1]⟩ e)
    (o0 o1 : Nat) (inb : ∀ a : Fin 2, (![o0, o1] : Fin 2 → Nat) a + S1024x1024.size a ≤ (⟨2, ![n0, n1]⟩ : Shape).size a)
    (i k : Fin 1024) (i' : Fin n0) (k' : Fin n1) (h0 : i'.val = o0 + i.val) (h1 : k'.val = o1 + k.val) :
    ld arg harg x ![o0, o1] S1024x1024.size inb (ix2 i k : S1024x1024.Idx) = x (ix2 i' k') :=
  ld_apply arg harg x _ _ inb _ _ (fun (a : Fin 2) => match a with
    | ⟨0, _⟩ => h0
    | ⟨1, _⟩ => h1)

theorem ldRows_apply (arg : Memref sig .tc .vmem S1x8x512x128 .f32) (harg : arg.IsWhole) (x : Vec F S1x8x512x128 .f32) (k b : Fin 8)
    (t : Fin 64) (l : Fin 128) :
    ldRows arg harg x k b (ix4 0 0 t l : S1x1x64x128.Idx) = x (ix4 0 k ⟨8 * t.val + b.val, by omega⟩ l) := by
  refine (congrFun (harg.read_unread x) _).trans (congrArg x (funext fun (a : Fin 4) => Fin.ext ?_))
  match a with
  | ⟨0, _⟩ => rfl
  | ⟨1, _⟩ => rfl
  | ⟨2, _⟩ => show b.val + 8 * t.val = 8 * t.val + b.val; omega
  | ⟨3, _⟩ => show 0 + 1 * l.val = l.val; omega

theorem states_apply (arg1 : Memref sig .tc .vmem S1x8x512x128 .f32) (harg1 : arg1.IsWhole) (arg2 : Memref sig .tc .vmem S1x8x512x128 .f32)
    (harg2 : arg2.IsWhole) (x0 x1 : Vec Ideal S1x8x512x128 .f32) (k b : Fin 8) (t : Fin 64) (l : Fin 128) :
    states arg1 harg1 arg2 harg2 x0 x1 k b (ix2 t l)
      = x0 (ix4 0 k ⟨8 * t.val + b.val, by omega⟩ l) + x1 (ix4 0 k ⟨8 * t.val + b.val, by omega⟩ l) := by
  rw [← ldRows_apply arg1 harg1 x0, ← ldRows_apply arg2 harg2 x1]
  unfold states
  generalize ldRows arg1 harg1 x0 k b = u
  generalize ldRows arg2 harg2 x1 k b = v
  pointwise []

/-- One group's store, read at an index: entry `o + b` of the block. -/
theorem group_block (c : Dev nD) (i : grid0.Coords) (arg1 : Memref sig .tc .vmem S1x8x512x128 .f32) (harg1 : arg1.IsWhole) (arg2 : Memref sig .tc .vmem S1x8x512x128 .f32) (harg2 : arg2.IsWhole) (arg3 : Memref sig .tc .vmem S8x64x1024 .bf16) (harg3 : arg3.IsWhole) (arg4 : Memref sig .tc .vmem S8x64x1024 .bf16) (harg4 : arg4.IsWhole) (arg5 : Memref sig .tc .vmem S8x64x1024 .bf16) (harg5 : arg5.IsWhole) (arg6 : Memref sig .tc .vmem S8x64x1024 .bf16) (harg6 : arg6.IsWhole) (arg7 : Memref sig .tc .vmem S8x64x1024 .f32) (harg7 : arg7.IsWhole) (arg8 : Memref sig .tc .vmem S8x1x1024 .f32) (harg8 : arg8.IsWhole) (arg9 : Memref sig .tc .vmem S8x1x1024 .f32) (harg9 : arg9.IsWhole) (arg10 : Memref sig .tc .vmem S8x1x1024 .f32) (harg10 : arg10.IsWhole) (arg11 : Memref sig .tc .vmem S8x1x1024 .f32) (harg11 : arg11.IsWhole) (arg12 : Memref sig .tc .vmem S4x1024 .f32) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S1024x1024 .bf16) (harg15 : arg15.IsWhole) (arg16 : Memref sig .tc .vmem S1024x4096 .bf16) (harg16 : arg16.IsWhole) (arg17 : Memref sig .tc .vmem S4096x1024 .bf16) (harg17 : arg17.IsWhole) (arg18 : Memref sig .tc .vmem S8x64x1024 .f32) (harg18 : arg18.IsWhole)
    (x0 : Vec Ideal S1x8x512x128 .f32) (x1 : Vec Ideal S1x8x512x128 .f32) (x2 : Vec Ideal S8x64x1024 .bf16) (x3 : Vec Ideal S8x64x1024 .bf16) (x4 : Vec Ideal S8x64x1024 .bf16) (x5 : Vec Ideal S8x64x1024 .bf16) (x6 : Vec Ideal S8x64x1024 .f32) (x7 : Vec Ideal S8x1x1024 .f32) (x8 : Vec Ideal S8x1x1024 .f32) (x9 : Vec Ideal S8x1x1024 .f32) (x10 : Vec Ideal S8x1x1024 .f32) (x11 : Vec Ideal S4x1024 .f32) (x12 : Vec Ideal S1024x1024 .bf16) (x13 : Vec Ideal S1024x1024 .bf16) (x14 : Vec Ideal S1024x1024 .bf16) (x15 : Vec Ideal S1024x4096 .bf16) (x16 : Vec Ideal S4096x1024 .bf16) (o : Nat) (ho : o + 4 ≤ 8)
    (ib : ∀ a, (![o, 0, 0] : Fin 3 → Nat) a + S4x64x1024.size a ≤ S8x64x1024.size a)
    (ip : ∀ a, (![o, 0, 0] : Fin 3 → Nat) a + S4x1x1024.size a ≤ S8x1x1024.size a) (b : Fin 4) (t : Fin 64) (j : Fin 1024) :
    group (fun b k => states arg1 harg1 arg2 harg2 x0 x1 k ⟨o + b.val, by omega⟩)
        (ld arg3 harg3 x2 ![o, 0, 0] S4x64x1024.size ib) (ld arg4 harg4 x3 ![o, 0, 0] S4x64x1024.size ib)
        (ld arg5 harg5 x4 ![o, 0, 0] S4x64x1024.size ib) (ld arg6 harg6 x5 ![o, 0, 0] S4x64x1024.size ib)
        (ld arg7 harg7 x6 ![o, 0, 0] S4x64x1024.size ib)
        (ld arg8 harg8 x7 ![o, 0, 0] S4x1x1024.size ip) (ld arg9 harg9 x8 ![o, 0, 0] S4x1x1024.size ip)
        (ld arg10 harg10 x9 ![o, 0, 0] S4x1x1024.size ip) (ld arg11 harg11 x10 ![o, 0, 0] S4x1x1024.size ip)
        (ld arg12 harg12 x11 ![1, 0] S1x1024.size inb_S4x1024_S1x1024_1_0) (ld arg12 harg12 x11 ![2, 0] S1x1024.size inb_S4x1024_S1x1024_2_0) (ld arg12 harg12 x11 ![3, 0] S1x1024.size inb_S4x1024_S1x1024_3_0)
        (ld arg13 harg13 x12 ![0, 0] S1024x1024.size inb_S1024x1024_S1024x1024_0_0) (ld arg14 harg14 x13 ![0, 0] S1024x1024.size inb_S1024x1024_S1024x1024_0_0)
        (ld arg15 harg15 x14 ![0, 0] S1024x1024.size inb_S1024x1024_S1024x1024_0_0)
        ![(ld arg16 harg16 x15 ![0, 0] S1024x1024.size inb_S1024x4096_S1024x1024_0_0), (ld arg16 harg16 x15 ![0, 1024] S1024x1024.size inb_S1024x4096_S1024x1024_0_1024), (ld arg16 harg16 x15 ![0, 2048] S1024x1024.size inb_S1024x4096_S1024x1024_0_2048), (ld arg16 harg16 x15 ![0, 3072] S1024x1024.size inb_S1024x4096_S1024x1024_0_3072)]
        ![(ld arg17 harg17 x16 ![0, 0] S1024x1024.size inb_S4096x1024_S1024x1024_0_0), (ld arg17 harg17 x16 ![1024, 0] S1024x1024.size inb_S4096x1024_S1024x1024_1024_0), (ld arg17 harg17 x16 ![2048, 0] S1024x1024.size inb_S4096x1024_S1024x1024_2048_0), (ld arg17 harg17 x16 ![3072, 0] S1024x1024.size inb_S4096x1024_S1024x1024_3072_0)] (ix3 b t j)
      = outRow (fun k => (x0 (ix4 0 ⟨k.val / 128, by omega⟩ ⟨8 * t.val + (⟨o + b.val, by omega⟩ : Fin 8).val, by omega⟩ ⟨k.val % 128, by omega⟩)
            + x1 (ix4 0 ⟨k.val / 128, by omega⟩ ⟨8 * t.val + (⟨o + b.val, by omega⟩ : Fin 8).val, by omega⟩ ⟨k.val % 128, by omega⟩)) * x2 (ix3 (⟨o + b.val, by omega⟩ : Fin 8) t k))
          (fun k => x3 (ix3 (⟨o + b.val, by omega⟩ : Fin 8) t k)) (fun k => x4 (ix3 (⟨o + b.val, by omega⟩ : Fin 8) t k)) (fun k => x5 (ix3 (⟨o + b.val, by omega⟩ : Fin 8) t k)) (fun k => x6 (ix3 (⟨o + b.val, by omega⟩ : Fin 8) t k))
          (fun k => x7 (ix3 (⟨o + b.val, by omega⟩ : Fin 8) 0 k)) (fun k => x8 (ix3 (⟨o + b.val, by omega⟩ : Fin 8) 0 k)) (fun k => x9 (ix3 (⟨o + b.val, by omega⟩ : Fin 8) 0 k)) (fun k => x10 (ix3 (⟨o + b.val, by omega⟩ : Fin 8) 0 k)) (fun k => x11 (ix2 1 k)) (fun k => x11 (ix2 2 k)) (fun k => x11 (ix2 3 k))
          (fun k j => x12 (ix2 k j)) (fun k j => x13 (ix2 k j)) (fun k j => x14 (ix2 k j)) (fun k j => x15 (ix2 k j)) (fun k j => x16 (ix2 k j)) j := by
  rw [group_apply _ _ _ _ _ _ _ _ _ _ _ _ _ _ _ _ _ _ (fun i k => x15 (ix2 i k)) (fun k j => x16 (ix2 k j))
    (fun c i k => by
      match c with
      | 0 => exact ld_square arg16 harg16 x15 _ _ inb_S1024x4096_S1024x1024_0_0 _ _ _ _ (Nat.zero_add _).symm rfl
      | 1 => exact ld_square arg16 harg16 x15 _ _ inb_S1024x4096_S1024x1024_0_1024 _ _ _ _ (Nat.zero_add _).symm rfl
      | 2 => exact ld_square arg16 harg16 x15 _ _ inb_S1024x4096_S1024x1024_0_2048 _ _ _ _ (Nat.zero_add _).symm rfl
      | 3 => exact ld_square arg16 harg16 x15 _ _ inb_S1024x4096_S1024x1024_0_3072 _ _ _ _ (Nat.zero_add _).symm rfl)
    (fun c i k => by
      match c with
      | 0 => exact ld_square arg17 harg17 x16 _ _ inb_S4096x1024_S1024x1024_0_0 _ _ _ _ rfl (Nat.zero_add _).symm
      | 1 => exact ld_square arg17 harg17 x16 _ _ inb_S4096x1024_S1024x1024_1024_0 _ _ _ _ rfl (Nat.zero_add _).symm
      | 2 => exact ld_square arg17 harg17 x16 _ _ inb_S4096x1024_S1024x1024_2048_0 _ _ _ _ rfl (Nat.zero_add _).symm
      | 3 => exact ld_square arg17 harg17 x16 _ _ inb_S4096x1024_S1024x1024_3072_0 _ _ _ _ rfl (Nat.zero_add _).symm)]
  have hw {e : EltTy} (arg : Memref sig .tc .vmem S1024x1024 e) (harg : arg.IsWhole) (x : Vec Ideal S1024x1024 e) (k j : Fin 1024) :
      ld arg harg x ![0, 0] S1024x1024.size inb_S1024x1024_S1024x1024_0_0 (ix2 k j : S1024x1024.Idx) = x (ix2 k j) :=
    ld_square arg harg x 0 0 _ k j k j (Nat.zero_add _).symm (Nat.zero_add _).symm
  have hg1 (k : Fin 1024) := ld_gain arg12 harg12 x11 1 inb_S4x1024_S1x1024_1_0 k
  have hg2 (k : Fin 1024) := ld_gain arg12 harg12 x11 2 inb_S4x1024_S1x1024_2_0 k
  have hg3 (k : Fin 1024) := ld_gain arg12 harg12 x11 3 inb_S4x1024_S1x1024_3_0 k
  simp only [stateRow, states_apply]
  congr 1
  · funext k; exact congrArg _ (ld_rows arg3 harg3 x2 o ib ho b t k)
  · funext k; exact ld_rows arg4 harg4 x3 o ib ho b t k
  · funext k; exact ld_rows arg5 harg5 x4 o ib ho b t k
  · funext k; exact ld_rows arg6 harg6 x5 o ib ho b t k
  · funext k; exact ld_rows arg7 harg7 x6 o ib ho b t k
  · funext k; exact ld_per arg8 harg8 x7 o ip ho b k
  · funext k; exact ld_per arg9 harg9 x8 o ip ho b k
  · funext k; exact ld_per arg10 harg10 x9 o ip ho b k
  · funext k; exact ld_per arg11 harg11 x10 o ip ho b k
  · funext k; exact hg1 k
  · funext k; exact hg2 k
  · funext k; exact hg3 k
  · funext k j; exact hw arg13 harg13 x12 k j
  · funext k j; exact hw arg14 harg14 x13 k j
  · funext k j; exact hw arg15 harg15 x14 k j

/-- WHAT A GRID POINT LEAVES in its output block, at an index: `outRow` of the row's inputs in the staged blocks. -/
theorem out_apply (c : Dev nD) (i : grid0.Coords) (arg1 : Memref sig .tc .vmem S1x8x512x128 .f32) (harg1 : arg1.IsWhole) (arg2 : Memref sig .tc .vmem S1x8x512x128 .f32) (harg2 : arg2.IsWhole) (arg3 : Memref sig .tc .vmem S8x64x1024 .bf16) (harg3 : arg3.IsWhole) (arg4 : Memref sig .tc .vmem S8x64x1024 .bf16) (harg4 : arg4.IsWhole) (arg5 : Memref sig .tc .vmem S8x64x1024 .bf16) (harg5 : arg5.IsWhole) (arg6 : Memref sig .tc .vmem S8x64x1024 .bf16) (harg6 : arg6.IsWhole) (arg7 : Memref sig .tc .vmem S8x64x1024 .f32) (harg7 : arg7.IsWhole) (arg8 : Memref sig .tc .vmem S8x1x1024 .f32) (harg8 : arg8.IsWhole) (arg9 : Memref sig .tc .vmem S8x1x1024 .f32) (harg9 : arg9.IsWhole) (arg10 : Memref sig .tc .vmem S8x1x1024 .f32) (harg10 : arg10.IsWhole) (arg11 : Memref sig .tc .vmem S8x1x1024 .f32) (harg11 : arg11.IsWhole) (arg12 : Memref sig .tc .vmem S4x1024 .f32) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S1024x1024 .bf16) (harg15 : arg15.IsWhole) (arg16 : Memref sig .tc .vmem S1024x4096 .bf16) (harg16 : arg16.IsWhole) (arg17 : Memref sig .tc .vmem S4096x1024 .bf16) (harg17 : arg17.IsWhole) (arg18 : Memref sig .tc .vmem S8x64x1024 .f32) (harg18 : arg18.IsWhole)
    (x0 : Vec Ideal S1x8x512x128 .f32) (x1 : Vec Ideal S1x8x512x128 .f32) (x2 : Vec Ideal S8x64x1024 .bf16) (x3 : Vec Ideal S8x64x1024 .bf16) (x4 : Vec Ideal S8x64x1024 .bf16) (x5 : Vec Ideal S8x64x1024 .bf16) (x6 : Vec Ideal S8x64x1024 .f32) (x7 : Vec Ideal S8x1x1024 .f32) (x8 : Vec Ideal S8x1x1024 .f32) (x9 : Vec Ideal S8x1x1024 .f32) (x10 : Vec Ideal S8x1x1024 .f32) (x11 : Vec Ideal S4x1024 .f32) (x12 : Vec Ideal S1024x1024 .bf16) (x13 : Vec Ideal S1024x1024 .bf16) (x14 : Vec Ideal S1024x1024 .bf16) (x15 : Vec Ideal S1024x4096 .bf16) (x16 : Vec Ideal S4096x1024 .bf16) (b : Fin 8) (t : Fin 64) (j : Fin 1024) :
    out0_A_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 (ix3 b t j)
      = outRow (fun k => (x0 (ix4 0 ⟨k.val / 128, by omega⟩ ⟨8 * t.val + (b).val, by omega⟩ ⟨k.val % 128, by omega⟩)
            + x1 (ix4 0 ⟨k.val / 128, by omega⟩ ⟨8 * t.val + (b).val, by omega⟩ ⟨k.val % 128, by omega⟩)) * x2 (ix3 (b) t k))
          (fun k => x3 (ix3 (b) t k)) (fun k => x4 (ix3 (b) t k)) (fun k => x5 (ix3 (b) t k)) (fun k => x6 (ix3 (b) t k))
          (fun k => x7 (ix3 (b) 0 k)) (fun k => x8 (ix3 (b) 0 k)) (fun k => x9 (ix3 (b) 0 k)) (fun k => x10 (ix3 (b) 0 k)) (fun k => x11 (ix2 1 k)) (fun k => x11 (ix2 2 k)) (fun k => x11 (ix2 3 k))
          (fun k j => x12 (ix2 k j)) (fun k j => x13 (ix2 k j)) (fun k j => x14 (ix2 k j)) (fun k j => x15 (ix2 k j)) (fun k j => x16 (ix2 k j)) j := by
  rw [out_eq]
  by_cases hb : b.val < 4
  · rw [View.read_writes_cons_unit_of_not_mem VO0_17 VO0_17.junk _ _ _ (ix3 b t j : S8x64x1024.Idx) rfl (0 : Fin 3) (Or.inl hb),
      View.read_writes_cons_unit_of_mem VO0_17 VO0_17.junk inb_S8x64x1024_S4x64x1024_0_0_0 _ _ (ix3 b t j : S8x64x1024.Idx)
        (ix3 (⟨b.val, hb⟩ : Fin 4) t j) rfl
        (fun (a : Fin 3) => match a with
          | ⟨0, _⟩ => (Nat.zero_add b.val).symm
          | ⟨1, _⟩ => (Nat.zero_add t.val).symm
          | ⟨2, _⟩ => (Nat.zero_add j.val).symm)]
    have e : 0 + b.val = b.val := Nat.zero_add _
    have h := group_block c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 0 (by omega) inb_S8x64x1024_S4x64x1024_0_0_0 inb_S8x1x1024_S4x1x1024_0_0_0 ⟨b.val, hb⟩ t j
    simp only [e] at h
    exact h
  · have hlt : b.val < 8 := b.isLt
    rw [View.read_writes_cons_unit_of_mem VO0_17 VO0_17.junk inb_S8x64x1024_S4x64x1024_4_0_0 _ _ (ix3 b t j : S8x64x1024.Idx)
        (ix3 (⟨b.val - 4, by omega⟩ : Fin 4) t j) rfl
        (fun (a : Fin 3) => match a with
          | ⟨0, _⟩ => (by show b.val = 4 + (b.val - 4); omega)
          | ⟨1, _⟩ => (Nat.zero_add t.val).symm
          | ⟨2, _⟩ => (Nat.zero_add j.val).symm)]
    have e : 4 + (b.val - 4) = b.val := by omega
    have h := group_block c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 4 (by omega) inb_S8x64x1024_S4x64x1024_4_0_0 inb_S8x1x1024_S4x1x1024_4_0_0 ⟨b.val - 4, by omega⟩ t j
    simp only [e] at h
    exact h

end Cert.OutBlock

end
-- ==== Proof.OutFinal.lean ====
/- Hand-written, untrusted: WHAT THE RUN LEAVES IN THE RESULT. Grid point `t` works on the times 64 t … 64 t + 63; every
   staged block is read back as the entries of the argument it holds (`block0` …), and the result at (batch, time,
   channel) is the row function `outRow` of that row of the arguments (`final_apply`). -/
module

public import proofs.«01_k».proof.Proof.OutBlock
public import proofs.«01_k».proof.Proof.Gen.OutIdeal.Value

@[expose] public section

noncomputable section

namespace Cert.OutFinal

open Cert.OutIdeal Cert.OutIdeal.Gen Cert.OutGroup Cert.OutBlock
open Idealize.ShloMosaic Idealize.ShloMosaic.TcCoe

variable {F : FTy → Type} [FloatOps F]
variable (m : (ℓ : Loc nD τ sig) → Buf (Elt F) ℓ)

/-! ## The staged blocks -/

theorem at0 : ∀ t : Fin cfg0.N, win0_0.index t (0 : Fin 4) = 0 ∧ win0_0.index t (1 : Fin 4) = 0 ∧ win0_0.index t (2 : Fin 4) = t.val ∧ win0_0.index t (3 : Fin 4) = 0 :=
  (by decide +kernel : ∀ t : Fin grid0.N, _)

theorem block0 (c : Dev nD) (t : Fin cfg0.N) (y : S1x8x512x128.Idx) (z : S2x8x16384x128.Idx) (h0 : (z 0).val = (y 0).val) (h1 : (z 1).val = (y 1).val) (h2 : (z 2).val = t.val * 512 + (y 2).val) (h3 : (z 3).val = (y 3).val) :
    iblk m c 0 t y = V m c main_arg0 z := by
  obtain ⟨e0, e1, e2, e3⟩ := at0 t
  show V m c main_arg0 (((cfg0.win 0).blk t).view.emb y) = _
  refine congrArg _ (funext fun (a : Fin 4) => Fin.ext ?_)
  match a with
    | ⟨0, _⟩ => show win0_0.index t (0 : Fin 4) * 1 + 1 * (y 0).val = (z 0).val; omega
    | ⟨1, _⟩ => show win0_0.index t (1 : Fin 4) * 8 + 1 * (y 1).val = (z 1).val; omega
    | ⟨2, _⟩ => show win0_0.index t (2 : Fin 4) * 512 + 1 * (y 2).val = (z 2).val; omega
    | ⟨3, _⟩ => show win0_0.index t (3 : Fin 4) * 128 + 1 * (y 3).val = (z 3).val; omega

theorem at1 : ∀ t : Fin cfg0.N, win0_1.index t (0 : Fin 4) = 1 ∧ win0_1.index t (1 : Fin 4) = 0 ∧ win0_1.index t (2 : Fin 4) = t.val ∧ win0_1.index t (3 : Fin 4) = 0 :=
  (by decide +kernel : ∀ t : Fin grid0.N, _)

theorem block1 (c : Dev nD) (t : Fin cfg0.N) (y : S1x8x512x128.Idx) (z : S2x8x16384x128.Idx) (h0 : (z 0).val = 1 * 1 + (y 0).val) (h1 : (z 1).val = (y 1).val) (h2 : (z 2).val = t.val * 512 + (y 2).val) (h3 : (z 3).val = (y 3).val) :
    iblk m c 1 t y = V m c main_arg0 z := by
  obtain ⟨e0, e1, e2, e3⟩ := at1 t
  show V m c main_arg0 (((cfg0.win 1).blk t).view.emb y) = _
  refine congrArg _ (funext fun (a : Fin 4) => Fin.ext ?_)
  match a with
    | ⟨0, _⟩ => show win0_1.index t (0 : Fin 4) * 1 + 1 * (y 0).val = (z 0).val; omega
    | ⟨1, _⟩ => show win0_1.index t (1 : Fin 4) * 8 + 1 * (y 1).val = (z 1).val; omega
    | ⟨2, _⟩ => show win0_1.index t (2 : Fin 4) * 512 + 1 * (y 2).val = (z 2).val; omega
    | ⟨3, _⟩ => show win0_1.index t (3 : Fin 4) * 128 + 1 * (y 3).val = (z 3).val; omega

theorem at2 : ∀ t : Fin cfg0.N, win0_2.index t (0 : Fin 3) = 0 ∧ win0_2.index t (1 : Fin 3) = t.val ∧ win0_2.index t (2 : Fin 3) = 0 :=
  (by decide +kernel : ∀ t : Fin grid0.N, _)

theorem block2 (c : Dev nD) (t : Fin cfg0.N) (y : S8x64x1024.Idx) (z : S8x2048x6144.Idx) (h0 : (z 0).val = (y 0).val) (h1 : (z 1).val = t.val * 64 + (y 1).val) (h2 : (z 2).val = (y 2).val) :
    iblk m c 2 t y = V m c main_arg1 z := by
  obtain ⟨e0, e1, e2⟩ := at2 t
  show V m c main_arg1 (((cfg0.win 2).blk t).view.emb y) = _
  refine congrArg _ (funext fun (a : Fin 3) => Fin.ext ?_)
  match a with
    | ⟨0, _⟩ => show win0_2.index t (0 : Fin 3) * 8 + 1 * (y 0).val = (z 0).val; omega
    | ⟨1, _⟩ => show win0_2.index t (1 : Fin 3) * 64 + 1 * (y 1).val = (z 1).val; omega
    | ⟨2, _⟩ => show win0_2.index t (2 : Fin 3) * 1024 + 1 * (y 2).val = (z 2).val; omega

theorem at3 : ∀ t : Fin cfg0.N, win0_3.index t (0 : Fin 3) = 0 ∧ win0_3.index t (1 : Fin 3) = t.val ∧ win0_3.index t (2 : Fin 3) = 4 :=
  (by decide +kernel : ∀ t : Fin grid0.N, _)

theorem block3 (c : Dev nD) (t : Fin cfg0.N) (y : S8x64x1024.Idx) (z : S8x2048x6144.Idx) (h0 : (z 0).val = (y 0).val) (h1 : (z 1).val = t.val * 64 + (y 1).val) (h2 : (z 2).val = 4 * 1024 + (y 2).val) :
    iblk m c 3 t y = V m c main_arg1 z := by
  obtain ⟨e0, e1, e2⟩ := at3 t
  show V m c main_arg1 (((cfg0.win 3).blk t).view.emb y) = _
  refine congrArg _ (funext fun (a : Fin 3) => Fin.ext ?_)
  match a with
    | ⟨0, _⟩ => show win0_3.index t (0 : Fin 3) * 8 + 1 * (y 0).val = (z 0).val; omega
    | ⟨1, _⟩ => show win0_3.index t (1 : Fin 3) * 64 + 1 * (y 1).val = (z 1).val; omega
    | ⟨2, _⟩ => show win0_3.index t (2 : Fin 3) * 1024 + 1 * (y 2).val = (z 2).val; omega

theorem at4 : ∀ t : Fin cfg0.N, win0_4.index t (0 : Fin 3) = 0 ∧ win0_4.index t (1 : Fin 3) = t.val ∧ win0_4.index t (2 : Fin 3) = 5 :=
  (by decide +kernel : ∀ t : Fin grid0.N, _)

theorem block4 (c : Dev nD) (t : Fin cfg0.N) (y : S8x64x1024.Idx) (z : S8x2048x6144.Idx) (h0 : (z 0).val = (y 0).val) (h1 : (z 1).val = t.val * 64 + (y 1).val) (h2 : (z 2).val = 5 * 1024 + (y 2).val) :
    iblk m c 4 t y = V m c main_arg1 z := by
  obtain ⟨e0, e1, e2⟩ := at4 t
  show V m c main_arg1 (((cfg0.win 4).blk t).view.emb y) = _
  refine congrArg _ (funext fun (a : Fin 3) => Fin.ext ?_)
  match a with
    | ⟨0, _⟩ => show win0_4.index t (0 : Fin 3) * 8 + 1 * (y 0).val = (z 0).val; omega
    | ⟨1, _⟩ => show win0_4.index t (1 : Fin 3) * 64 + 1 * (y 1).val = (z 1).val; omega
    | ⟨2, _⟩ => show win0_4.index t (2 : Fin 3) * 1024 + 1 * (y 2).val = (z 2).val; omega

theorem at5 : ∀ t : Fin cfg0.N, win0_5.index t (0 : Fin 3) = 0 ∧ win0_5.index t (1 : Fin 3) = t.val ∧ win0_5.index t (2 : Fin 3) = 0 :=
  (by decide +kernel : ∀ t : Fin grid0.N, _)

theorem block5 (c : Dev nD) (t : Fin cfg0.N) (y : S8x64x1024.Idx) (z : S8x2048x1024.Idx) (h0 : (z 0).val = (y 0).val) (h1 : (z 1).val = t.val * 64 + (y 1).val) (h2 : (z 2).val = (y 2).val) :
    iblk m c 5 t y = V m c main_arg2 z := by
  obtain ⟨e0, e1, e2⟩ := at5 t
  show V m c main_arg2 (((cfg0.win 5).blk t).view.emb y) = _
  refine congrArg _ (funext fun (a : Fin 3) => Fin.ext ?_)
  match a with
    | ⟨0, _⟩ => show win0_5.index t (0 : Fin 3) * 8 + 1 * (y 0).val = (z 0).val; omega
    | ⟨1, _⟩ => show win0_5.index t (1 : Fin 3) * 64 + 1 * (y 1).val = (z 1).val; omega
    | ⟨2, _⟩ => show win0_5.index t (2 : Fin 3) * 1024 + 1 * (y 2).val = (z 2).val; omega

theorem at6 : ∀ t : Fin cfg0.N, win0_6.index t (0 : Fin 3) = 0 ∧ win0_6.index t (1 : Fin 3) = t.val ∧ win0_6.index t (2 : Fin 3) = 0 :=
  (by decide +kernel : ∀ t : Fin grid0.N, _)

theorem block6 (c : Dev nD) (t : Fin cfg0.N) (y : S8x64x1024.Idx) (z : S8x2048x1024.Idx) (h0 : (z 0).val = (y 0).val) (h1 : (z 1).val = t.val * 64 + (y 1).val) (h2 : (z 2).val = (y 2).val) :
    iblk m c 6 t y = V m c main_arg3 z := by
  obtain ⟨e0, e1, e2⟩ := at6 t
  show V m c main_arg3 (((cfg0.win 6).blk t).view.emb y) = _
  refine congrArg _ (funext fun (a : Fin 3) => Fin.ext ?_)
  match a with
    | ⟨0, _⟩ => show win0_6.index t (0 : Fin 3) * 8 + 1 * (y 0).val = (z 0).val; omega
    | ⟨1, _⟩ => show win0_6.index t (1 : Fin 3) * 64 + 1 * (y 1).val = (z 1).val; omega
    | ⟨2, _⟩ => show win0_6.index t (2 : Fin 3) * 1024 + 1 * (y 2).val = (z 2).val; omega

theorem at7 : ∀ t : Fin cfg0.N, win0_7.index t (0 : Fin 3) = 0 ∧ win0_7.index t (1 : Fin 3) = 0 ∧ win0_7.index t (2 : Fin 3) = 2 :=
  (by decide +kernel : ∀ t : Fin grid0.N, _)

theorem block7 (c : Dev nD) (t : Fin cfg0.N) (y : S8x1x1024.Idx) (z : S16x1x6144.Idx) (h0 : (z 0).val = (y 0).val) (h1 : (z 1).val = (y 1).val) (h2 : (z 2).val = 2 * 1024 + (y 2).val) :
    iblk m c 7 t y = V m c main_v0 z := by
  obtain ⟨e0, e1, e2⟩ := at7 t
  show V m c main_v0 (((cfg0.win 7).blk t).view.emb y) = _
  refine congrArg _ (funext fun (a : Fin 3) => Fin.ext ?_)
  match a with
    | ⟨0, _⟩ => show win0_7.index t (0 : Fin 3) * 8 + 1 * (y 0).val = (z 0).val; omega
    | ⟨1, _⟩ => show win0_7.index t (1 : Fin 3) * 1 + 1 * (y 1).val = (z 1).val; omega
    | ⟨2, _⟩ => show win0_7.index t (2 : Fin 3) * 1024 + 1 * (y 2).val = (z 2).val; omega

theorem at8 : ∀ t : Fin cfg0.N, win0_8.index t (0 : Fin 3) = 0 ∧ win0_8.index t (1 : Fin 3) = 0 ∧ win0_8.index t (2 : Fin 3) = 3 :=
  (by decide +kernel : ∀ t : Fin grid0.N, _)

theorem block8 (c : Dev nD) (t : Fin cfg0.N) (y : S8x1x1024.Idx) (z : S16x1x6144.Idx) (h0 : (z 0).val = (y 0).val) (h1 : (z 1).val = (y 1).val) (h2 : (z 2).val = 3 * 1024 + (y 2).val) :
    iblk m c 8 t y = V m c main_v0 z := by
  obtain ⟨e0, e1, e2⟩ := at8 t
  show V m c main_v0 (((cfg0.win 8).blk t).view.emb y) = _
  refine congrArg _ (funext fun (a : Fin 3) => Fin.ext ?_)
  match a with
    | ⟨0, _⟩ => show win0_8.index t (0 : Fin 3) * 8 + 1 * (y 0).val = (z 0).val; omega
    | ⟨1, _⟩ => show win0_8.index t (1 : Fin 3) * 1 + 1 * (y 1).val = (z 1).val; omega
    | ⟨2, _⟩ => show win0_8.index t (2 : Fin 3) * 1024 + 1 * (y 2).val = (z 2).val; omega

theorem at9 : ∀ t : Fin cfg0.N, win0_9.index t (0 : Fin 3) = 0 ∧ win0_9.index t (1 : Fin 3) = 0 ∧ win0_9.index t (2 : Fin 3) = 4 :=
  (by decide +kernel : ∀ t : Fin grid0.N, _)

theorem block9 (c : Dev nD) (t : Fin cfg0.N) (y : S8x1x1024.Idx) (z : S16x1x6144.Idx) (h0 : (z 0).val = (y 0).val) (h1 : (z 1).val = (y 1).val) (h2 : (z 2).val = 4 * 1024 + (y 2).val) :
    iblk m c 9 t y = V m c main_v0 z := by
  obtain ⟨e0, e1, e2⟩ := at9 t
  show V m c main_v0 (((cfg0.win 9).blk t).view.emb y) = _
  refine congrArg _ (funext fun (a : Fin 3) => Fin.ext ?_)
  match a with
    | ⟨0, _⟩ => show win0_9.index t (0 : Fin 3) * 8 + 1 * (y 0).val = (z 0).val; omega
    | ⟨1, _⟩ => show win0_9.index t (1 : Fin 3) * 1 + 1 * (y 1).val = (z 1).val; omega
    | ⟨2, _⟩ => show win0_9.index t (2 : Fin 3) * 1024 + 1 * (y 2).val = (z 2).val; omega

theorem at10 : ∀ t : Fin cfg0.N, win0_10.index t (0 : Fin 3) = 0 ∧ win0_10.index t (1 : Fin 3) = 0 ∧ win0_10.index t (2 : Fin 3) = 5 :=
  (by decide +kernel : ∀ t : Fin grid0.N, _)

theorem block10 (c : Dev nD) (t : Fin cfg0.N) (y : S8x1x1024.Idx) (z : S16x1x6144.Idx) (h0 : (z 0).val = (y 0).val) (h1 : (z 1).val = (y 1).val) (h2 : (z 2).val = 5 * 1024 + (y 2).val) :
    iblk m c 10 t y = V m c main_v0 z := by
  obtain ⟨e0, e1, e2⟩ := at10 t
  show V m c main_v0 (((cfg0.win 10).blk t).view.emb y) = _
  refine congrArg _ (funext fun (a : Fin 3) => Fin.ext ?_)
  match a with
    | ⟨0, _⟩ => show win0_10.index t (0 : Fin 3) * 8 + 1 * (y 0).val = (z 0).val; omega
    | ⟨1, _⟩ => show win0_10.index t (1 : Fin 3) * 1 + 1 * (y 1).val = (z 1).val; omega
    | ⟨2, _⟩ => show win0_10.index t (2 : Fin 3) * 1024 + 1 * (y 2).val = (z 2).val; omega

theorem at11 : ∀ t : Fin cfg0.N, win0_11.index t (0 : Fin 2) = 0 ∧ win0_11.index t (1 : Fin 2) = 0 :=
  (by decide +kernel : ∀ t : Fin grid0.N, _)

theorem block11 (c : Dev nD) (t : Fin cfg0.N) (y : S4x1024.Idx) (z : S4x1024.Idx) (h0 : (z 0).val = (y 0).val) (h1 : (z 1).val = (y 1).val) :
    iblk m c 11 t y = V m c main_arg5 z := by
  obtain ⟨e0, e1⟩ := at11 t
  show V m c main_arg5 (((cfg0.win 11).blk t).view.emb y) = _
  refine congrArg _ (funext fun (a : Fin 2) => Fin.ext ?_)
  match a with
    | ⟨0, _⟩ => show win0_11.index t (0 : Fin 2) * 4 + 1 * (y 0).val = (z 0).val; omega
    | ⟨1, _⟩ => show win0_11.index t (1 : Fin 2) * 1024 + 1 * (y 1).val = (z 1).val; omega

theorem at12 : ∀ t : Fin cfg0.N, win0_12.index t (0 : Fin 2) = 0 ∧ win0_12.index t (1 : Fin 2) = 0 :=
  (by decide +kernel : ∀ t : Fin grid0.N, _)

theorem block12 (c : Dev nD) (t : Fin cfg0.N) (y : S1024x1024.Idx) (z : S1024x1024.Idx) (h0 : (z 0).val = (y 0).val) (h1 : (z 1).val = (y 1).val) :
    iblk m c 12 t y = V m c main_v1 z := by
  obtain ⟨e0, e1⟩ := at12 t
  show V m c main_v1 (((cfg0.win 12).blk t).view.emb y) = _
  refine congrArg _ (funext fun (a : Fin 2) => Fin.ext ?_)
  match a with
    | ⟨0, _⟩ => show win0_12.index t (0 : Fin 2) * 1024 + 1 * (y 0).val = (z 0).val; omega
    | ⟨1, _⟩ => show win0_12.index t (1 : Fin 2) * 1024 + 1 * (y 1).val = (z 1).val; omega

theorem at13 : ∀ t : Fin cfg0.N, win0_13.index t (0 : Fin 2) = 0 ∧ win0_13.index t (1 : Fin 2) = 0 :=
  (by decide +kernel : ∀ t : Fin grid0.N, _)

theorem block13 (c : Dev nD) (t : Fin cfg0.N) (y : S1024x1024.Idx) (z : S1024x1024.Idx) (h0 : (z 0).val = (y 0).val) (h1 : (z 1).val = (y 1).val) :
    iblk m c 13 t y = V m c main_v2 z := by
  obtain ⟨e0, e1⟩ := at13 t
  show V m c main_v2 (((cfg0.win 13).blk t).view.emb y) = _
  refine congrArg _ (funext fun (a : Fin 2) => Fin.ext ?_)
  match a with
    | ⟨0, _⟩ => show win0_13.index t (0 : Fin 2) * 1024 + 1 * (y 0).val = (z 0).val; omega
    | ⟨1, _⟩ => show win0_13.index t (1 : Fin 2) * 1024 + 1 * (y 1).val = (z 1).val; omega

theorem at14 : ∀ t : Fin cfg0.N, win0_14.index t (0 : Fin 2) = 0 ∧ win0_14.index t (1 : Fin 2) = 0 :=
  (by decide +kernel : ∀ t : Fin grid0.N, _)

theorem block14 (c : Dev nD) (t : Fin cfg0.N) (y : S1024x1024.Idx) (z : S1024x1024.Idx) (h0 : (z 0).val = (y 0).val) (h1 : (z 1).val = (y 1).val) :
    iblk m c 14 t y = V m c main_v3 z := by
  obtain ⟨e0, e1⟩ := at14 t
  show V m c main_v3 (((cfg0.win 14).blk t).view.emb y) = _
  refine congrArg _ (funext fun (a : Fin 2) => Fin.ext ?_)
  match a with
    | ⟨0, _⟩ => show win0_14.index t (0 : Fin 2) * 1024 + 1 * (y 0).val = (z 0).val; omega
    | ⟨1, _⟩ => show win0_14.index t (1 : Fin 2) * 1024 + 1 * (y 1).val = (z 1).val; omega

theorem at15 : ∀ t : Fin cfg0.N, win0_15.index t (0 : Fin 2) = 0 ∧ win0_15.index t (1 : Fin 2) = 0 :=
  (by decide +kernel : ∀ t : Fin grid0.N, _)

theorem block15 (c : Dev nD) (t : Fin cfg0.N) (y : S1024x4096.Idx) (z : S1024x4096.Idx) (h0 : (z 0).val = (y 0).val) (h1 : (z 1).val = (y 1).val) :
    iblk m c 15 t y = V m c main_v4 z := by
  obtain ⟨e0, e1⟩ := at15 t
  show V m c main_v4 (((cfg0.win 15).blk t).view.emb y) = _
  refine congrArg _ (funext fun (a : Fin 2) => Fin.ext ?_)
  match a with
    | ⟨0, _⟩ => show win0_15.index t (0 : Fin 2) * 1024 + 1 * (y 0).val = (z 0).val; omega
    | ⟨1, _⟩ => show win0_15.index t (1 : Fin 2) * 4096 + 1 * (y 1).val = (z 1).val; omega

theorem at16 : ∀ t : Fin cfg0.N, win0_16.index t (0 : Fin 2) = 0 ∧ win0_16.index t (1 : Fin 2) = 0 :=
  (by decide +kernel : ∀ t : Fin grid0.N, _)

theorem block16 (c : Dev nD) (t : Fin cfg0.N) (y : S4096x1024.Idx) (z : S4096x1024.Idx) (h0 : (z 0).val = (y 0).val) (h1 : (z 1).val = (y 1).val) :
    iblk m c 16 t y = V m c main_v5 z := by
  obtain ⟨e0, e1⟩ := at16 t
  show V m c main_v5 (((cfg0.win 16).blk t).view.emb y) = _
  refine congrArg _ (funext fun (a : Fin 2) => Fin.ext ?_)
  match a with
    | ⟨0, _⟩ => show win0_16.index t (0 : Fin 2) * 4096 + 1 * (y 0).val = (z 0).val; omega
    | ⟨1, _⟩ => show win0_16.index t (1 : Fin 2) * 1024 + 1 * (y 1).val = (z 1).val; omega

/-! ## The arrays prepared before the region -/

section
variable (m : (ℓ : Loc nD τ sig) → Buf (Elt Ideal) ℓ)

theorem entry_mod (c : Dev nD) (b : Fin 16) (k : Fin 6144) :
    V m c main_v0 (ix3 b 0 k : S16x1x6144.Idx) = m ((c : Thread nD τ).loc main_arg4) (ix2 b k : S16x6144.Idx) := by
  have h : V m c main_v0 = broadcastInDim S16x1x6144 ![0, 2] bcast_S16x6144_S16x1x6144_0_2 (m ((c : Thread nD τ).loc main_arg4)) := by
    unfold_abbrev_sides
    after_results
  rw [h]
  generalize m ((c : Thread nD τ).loc main_arg4) = u
  pointwise []

theorem entry_v1 (c : Dev nD) : V m c main_v1 = m ((c : Thread nD τ).loc main_arg6) := by
  unfold_abbrev_sides
  after_results
  rfl

theorem entry_v2 (c : Dev nD) : V m c main_v2 = m ((c : Thread nD τ).loc main_arg7) := by
  unfold_abbrev_sides
  after_results
  rfl

theorem entry_v3 (c : Dev nD) : V m c main_v3 = m ((c : Thread nD τ).loc main_arg8) := by
  unfold_abbrev_sides
  after_results
  rfl

theorem entry_v4 (c : Dev nD) : V m c main_v4 = m ((c : Thread nD τ).loc main_arg9) := by
  unfold_abbrev_sides
  after_results
  rfl

theorem entry_v5 (c : Dev nD) : V m c main_v5 = m ((c : Thread nD τ).loc main_arg10) := by
  unfold_abbrev_sides
  after_results
  rfl

/-! ## The result -/

/-- The result at (batch b, time T, channel j), of the eleven arguments. -/
def result (h : Vec Ideal S2x8x16384x128 .f32) (proj : Vec Ideal S8x2048x6144 .bf16) (att : Vec Ideal S8x2048x1024 .bf16)
    (x : Vec Ideal S8x2048x1024 .f32) (md : Vec Ideal S16x6144 .f32) (g : Vec Ideal S4x1024 .f32)
    (wl wn wo : Vec Ideal S1024x1024 .f32) (w1 : Vec Ideal S1024x4096 .f32) (w2 : Vec Ideal S4096x1024 .f32)
    (b : Fin 8) (T : Fin 2048) (j : Fin 1024) : EReal :=
  outRow (fun k => (h (ix4 0 ⟨k.val / 128, by omega⟩ ⟨8 * T.val + b.val, by omega⟩ ⟨k.val % 128, by omega⟩)
        + h (ix4 1 ⟨k.val / 128, by omega⟩ ⟨8 * T.val + b.val, by omega⟩ ⟨k.val % 128, by omega⟩)) * proj (ix3 b T ⟨k.val, by omega⟩))
    (fun k => proj (ix3 b T ⟨4 * 1024 + k.val, by omega⟩)) (fun k => proj (ix3 b T ⟨5 * 1024 + k.val, by omega⟩))
    (fun k => att (ix3 b T k)) (fun k => x (ix3 b T k))
    (fun k => md (ix2 ⟨b.val, by omega⟩ ⟨2 * 1024 + k.val, by omega⟩)) (fun k => md (ix2 ⟨b.val, by omega⟩ ⟨3 * 1024 + k.val, by omega⟩))
    (fun k => md (ix2 ⟨b.val, by omega⟩ ⟨4 * 1024 + k.val, by omega⟩)) (fun k => md (ix2 ⟨b.val, by omega⟩ ⟨5 * 1024 + k.val, by omega⟩))
    (fun k => g (ix2 1 k)) (fun k => g (ix2 2 k)) (fun k => g (ix2 3 k))
    (fun k j => wl (ix2 k j)) (fun k j => wn (ix2 k j)) (fun k j => wo (ix2 k j)) (fun k j => w1 (ix2 k j)) (fun k j => w2 (ix2 k j)) j

theorem at17 : ∀ t : Fin cfg0.N, win0_17.index t (0 : Fin 3) = 0 ∧ win0_17.index t (1 : Fin 3) = t.val ∧ win0_17.index t (2 : Fin 3) = 0 :=
  (by decide +kernel : ∀ t : Fin grid0.N, _)

theorem place (p : Fin cfg0.N) (b : Fin 8) (t : Fin 64) (j : Fin 1024) (T : Fin 2048) (hT : T.val = p.val * 64 + t.val) :
    ((cfg0.win 17).blk p).view.emb (ix3 b t j : S8x64x1024.Idx) = (ix3 b T j : S8x2048x1024.Idx) := by
  obtain ⟨e0, e1, e2⟩ := at17 p
  refine funext fun (a : Fin 3) => Fin.ext ?_
  match a with
  | ⟨0, _⟩ => show win0_17.index p (0 : Fin 3) * 8 + 1 * b.val = b.val; omega
  | ⟨1, _⟩ => show win0_17.index p (1 : Fin 3) * 64 + 1 * t.val = T.val; omega
  | ⟨2, _⟩ => show win0_17.index p (2 : Fin 3) * 1024 + 1 * j.val = j.val; omega

/-- THE RESULT ARRAY AFTER THE RUN, at an index. -/
theorem final_apply (c : Dev nD) (b : Fin 8) (T : Fin 2048) (j : Fin 1024) :
    (dats m 0 c).arrAt 17 cfg0.N (ix3 b T j : S8x2048x1024.Idx)
      = result (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10)) b T j := by
  have hN : cfg0.N = 32 := by decide +kernel
  have hTl : T.val < 2048 := T.isLt
  have hp : T.val / 64 < cfg0.N := by omega
  have hs := congrFun (Cert.OutIdeal.Value.blocks17 m c ⟨T.val / 64, hp⟩ (flush0_17 _)) (ix3 b (⟨T.val % 64, by omega⟩ : Fin 64) j : S8x64x1024.Idx)
  rw [Cert.OutIdeal.Value.flushed17_A] at hs
  have hs' : (dats m 0 c).arrAt 17 cfg0.N (((cfg0.win 17).blk ⟨T.val / 64, hp⟩).view.emb (ix3 b (⟨T.val % 64, by omega⟩ : Fin 64) j : S8x64x1024.Idx)) = _ := hs
  rw [place ⟨T.val / 64, hp⟩ b ⟨T.val % 64, by omega⟩ j T (by show T.val = T.val / 64 * 64 + T.val % 64; omega)] at hs'
  refine hs'.trans ((out_apply _ _ _ _ _ _ _ _ _ _ _ _ _ _ _ _ _ _ _ _ _ _ _ _ _ _ _ _ _ _ _ _ _ _ _ _ _ _ _ _ _ _ _ _ _ _ _ _ _ _ _ _ _ _ _ b ⟨T.val % 64, by omega⟩ j).trans ?_)
  unfold result
  have hd : T.val / 64 * 64 + T.val % 64 = T.val := by omega
  have r2 (k : Fin 1024) := (block2 m c ⟨T.val / 64, hp⟩ (ix3 b (⟨T.val % 64, by omega⟩ : Fin 64) k : S8x64x1024.Idx) (ix3 b T ⟨k.val, by omega⟩ : S8x2048x6144.Idx)
    rfl hd.symm rfl).trans (congrFun (V_main_arg1 m c) _)
  have r3 (k : Fin 1024) := (block3 m c ⟨T.val / 64, hp⟩ (ix3 b (⟨T.val % 64, by omega⟩ : Fin 64) k : S8x64x1024.Idx) (ix3 b T ⟨4 * 1024 + k.val, by omega⟩ : S8x2048x6144.Idx)
    rfl hd.symm rfl).trans (congrFun (V_main_arg1 m c) _)
  have r4 (k : Fin 1024) := (block4 m c ⟨T.val / 64, hp⟩ (ix3 b (⟨T.val % 64, by omega⟩ : Fin 64) k : S8x64x1024.Idx) (ix3 b T ⟨5 * 1024 + k.val, by omega⟩ : S8x2048x6144.Idx)
    rfl hd.symm rfl).trans (congrFun (V_main_arg1 m c) _)
  have r5 (k : Fin 1024) := (block5 m c ⟨T.val / 64, hp⟩ (ix3 b (⟨T.val % 64, by omega⟩ : Fin 64) k : S8x64x1024.Idx) (ix3 b T k : S8x2048x1024.Idx)
    rfl hd.symm rfl).trans (congrFun (V_main_arg2 m c) _)
  have r6 (k : Fin 1024) := (block6 m c ⟨T.val / 64, hp⟩ (ix3 b (⟨T.val % 64, by omega⟩ : Fin 64) k : S8x64x1024.Idx) (ix3 b T k : S8x2048x1024.Idx)
    rfl hd.symm rfl).trans (congrFun (V_main_arg3 m c) _)
  have r7 (k : Fin 1024) := (block7 m c ⟨T.val / 64, hp⟩ (ix3 b 0 k : S8x1x1024.Idx) (ix3 ⟨b.val, by omega⟩ 0 ⟨2 * 1024 + k.val, by omega⟩ : S16x1x6144.Idx)
    rfl rfl rfl).trans (entry_mod m c _ _)
  have r8 (k : Fin 1024) := (block8 m c ⟨T.val / 64, hp⟩ (ix3 b 0 k : S8x1x1024.Idx) (ix3 ⟨b.val, by omega⟩ 0 ⟨3 * 1024 + k.val, by omega⟩ : S16x1x6144.Idx)
    rfl rfl rfl).trans (entry_mod m c _ _)
  have r9 (k : Fin 1024) := (block9 m c ⟨T.val / 64, hp⟩ (ix3 b 0 k : S8x1x1024.Idx) (ix3 ⟨b.val, by omega⟩ 0 ⟨4 * 1024 + k.val, by omega⟩ : S16x1x6144.Idx)
    rfl rfl rfl).trans (entry_mod m c _ _)
  have r10 (k : Fin 1024) := (block10 m c ⟨T.val / 64, hp⟩ (ix3 b 0 k : S8x1x1024.Idx) (ix3 ⟨b.val, by omega⟩ 0 ⟨5 * 1024 + k.val, by omega⟩ : S16x1x6144.Idx)
    rfl rfl rfl).trans (entry_mod m c _ _)
  have r11 (r : Fin 4) (k : Fin 1024) := (block11 m c ⟨T.val / 64, hp⟩ (ix2 r k : S4x1024.Idx) (ix2 r k : S4x1024.Idx) rfl rfl).trans (congrFun (V_main_arg5 m c) _)
  have r12 (k : Fin 1024) (j : Fin 1024) := (block12 m c ⟨T.val / 64, hp⟩ (ix2 k j : S1024x1024.Idx) (ix2 k j : S1024x1024.Idx) rfl rfl).trans (congrFun (entry_v1 m c) _)
  have r13 (k : Fin 1024) (j : Fin 1024) := (block13 m c ⟨T.val / 64, hp⟩ (ix2 k j : S1024x1024.Idx) (ix2 k j : S1024x1024.Idx) rfl rfl).trans (congrFun (entry_v2 m c) _)
  have r14 (k : Fin 1024) (j : Fin 1024) := (block14 m c ⟨T.val / 64, hp⟩ (ix2 k j : S1024x1024.Idx) (ix2 k j : S1024x1024.Idx) rfl rfl).trans (congrFun (entry_v3 m c) _)
  have r15 (k : Fin 1024) (j : Fin 4096) := (block15 m c ⟨T.val / 64, hp⟩ (ix2 k j : S1024x4096.Idx) (ix2 k j : S1024x4096.Idx) rfl rfl).trans (congrFun (entry_v4 m c) _)
  have r16 (k : Fin 4096) (j : Fin 1024) := (block16 m c ⟨T.val / 64, hp⟩ (ix2 k j : S4096x1024.Idx) (ix2 k j : S4096x1024.Idx) rfl rfl).trans (congrFun (entry_v5 m c) _)
  have r0 (k : Fin 1024) := (block0 m c ⟨T.val / 64, hp⟩
    (ix4 0 ⟨k.val / 128, by omega⟩ ⟨8 * (⟨T.val % 64, by omega⟩ : Fin 64).val + b.val, by show 8 * (T.val % 64) + b.val < 512; omega⟩ ⟨k.val % 128, by omega⟩ : S1x8x512x128.Idx)
    (ix4 0 ⟨k.val / 128, by omega⟩ ⟨8 * T.val + b.val, by omega⟩ ⟨k.val % 128, by omega⟩ : S2x8x16384x128.Idx)
    rfl rfl (by show 8 * T.val + b.val = T.val / 64 * 512 + (8 * (T.val % 64) + b.val); omega) rfl).trans (congrFun (V_main_arg0 m c) _)
  have r1 (k : Fin 1024) := (block1 m c ⟨T.val / 64, hp⟩
    (ix4 0 ⟨k.val / 128, by omega⟩ ⟨8 * (⟨T.val % 64, by omega⟩ : Fin 64).val + b.val, by show 8 * (T.val % 64) + b.val < 512; omega⟩ ⟨k.val % 128, by omega⟩ : S1x8x512x128.Idx)
    (ix4 1 ⟨k.val / 128, by omega⟩ ⟨8 * T.val + b.val, by omega⟩ ⟨k.val % 128, by omega⟩ : S2x8x16384x128.Idx)
    rfl rfl (by show 8 * T.val + b.val = T.val / 64 * 512 + (8 * (T.val % 64) + b.val); omega) rfl).trans (congrFun (V_main_arg0 m c) _)
  congr 1
  · funext k; exact congrArg₂ (· * ·) (congrArg₂ (· + ·) (r0 k) (r1 k)) (r2 k)
  · funext k; exact r3 k
  · funext k; exact r4 k
  · funext k; exact r5 k
  · funext k; exact r6 k
  · funext k; exact r7 k
  · funext k; exact r8 k
  · funext k; exact r9 k
  · funext k; exact r10 k
  · funext k; exact r11 1 k
  · funext k; exact r11 2 k
  · funext k; exact r11 3 k
  · funext k j; exact r12 k j
  · funext k j; exact r13 k j
  · funext k j; exact r14 k j
  · funext k j; exact r15 k j
  · funext k j; exact r16 k j

end

end Cert.OutFinal

end
-- ==== Proof.OutRef.lean ====
/- Hand-written, untrusted: THE REFERENCE, READ AT AN INDEX. Each stage of the plain computation — the gated states, the two
   projected branches, their mixture, the first residual, the modulated row, the MLP, the second residual — is the
   matching row function, so the whole is `Cert.OutFinal.result` (`reference_apply`). -/
module

public import proofs.«01_k».proof.Proof.OutFinal
public import proofs.«01_k».proof.Proof.Gen.OutReferenceIdeal.Read
public import Idealize.ShloMosaic.Lib.Pointwise

@[expose] public section

noncomputable section

namespace Cert.OutRef

open Cert.OutReferenceIdeal Cert.OutReferenceIdeal.Gen Cert.OutReferenceIdeal.Read Cert.OutGroup
open Idealize.ShloMosaic

theorem stored_apply (x0 : Vec Ideal S2x8x16384x128 .f32) (d : Fin 2) (b : Fin 8) (T : Fin 2048) (k : Fin 1024) :
    val_main_v2 (F := Ideal) x0 (ix4 d b T k) = x0 (ix4 d ⟨k.val / 128, by omega⟩ ⟨8 * T.val + b.val, by omega⟩ ⟨k.val % 128, by omega⟩) := by
  have hd : d.val < 2 := d.isLt
  have hb : b.val < 8 := b.isLt
  have hT : T.val < 2048 := T.isLt
  have hk : k.val < 1024 := k.isLt
  have e2 : idx_main_v2 (ix4 d b T k) = ix5 d b T ⟨k.val / 128, by omega⟩ ⟨k.val % 128, by omega⟩ := funext fun (a : Fin 5) => Fin.ext (by
    match a with
    | ⟨0, _⟩ => simp [idx_main_v2, ix3, ix4, ix5] <;> omega
    | ⟨1, _⟩ => simp [idx_main_v2, ix3, ix4, ix5] <;> omega
    | ⟨2, _⟩ => simp [idx_main_v2, ix3, ix4, ix5] <;> omega
    | ⟨3, _⟩ => simp [idx_main_v2, ix3, ix4, ix5] <;> omega
    | ⟨4, _⟩ => simp [idx_main_v2, ix3, ix4, ix5] <;> omega)
  have e1 : idx_main_v1 (ix5 d b T ⟨k.val / 128, by omega⟩ ⟨k.val % 128, by omega⟩) = ix5 d ⟨k.val / 128, by omega⟩ T b ⟨k.val % 128, by omega⟩ := funext fun (a : Fin 5) => Fin.ext (by
    match a with
    | ⟨0, _⟩ => simp [idx_main_v1, ix3, ix4, ix5] <;> omega
    | ⟨1, _⟩ => simp [idx_main_v1, ix3, ix4, ix5] <;> omega
    | ⟨2, _⟩ => simp [idx_main_v1, ix3, ix4, ix5] <;> omega
    | ⟨3, _⟩ => simp [idx_main_v1, ix3, ix4, ix5] <;> omega
    | ⟨4, _⟩ => simp [idx_main_v1, ix3, ix4, ix5] <;> omega)
  have e0 (q : Fin 8) (r : Fin 128) : idx_main_v0 (ix5 d q T b r) = ix4 d q ⟨8 * T.val + b.val, by omega⟩ r := by
    have hq : q.val < 8 := q.isLt
    have hr : r.val < 128 := r.isLt
    refine funext fun (a : Fin 4) => Fin.ext ?_
    match a with
    | ⟨0, _⟩ => show ((((d.val * 8 + q.val) * 2048 + T.val) * 8 + b.val) * 128 + r.val) / 16777216 = d.val; omega
    | ⟨1, _⟩ => show ((((d.val * 8 + q.val) * 2048 + T.val) * 8 + b.val) * 128 + r.val) / 2097152 % 8 = q.val; omega
    | ⟨2, _⟩ => show ((((d.val * 8 + q.val) * 2048 + T.val) * 8 + b.val) * 128 + r.val) / 128 % 16384 = 8 * T.val + b.val; omega
    | ⟨3, _⟩ => show ((((d.val * 8 + q.val) * 2048 + T.val) * 8 + b.val) * 128 + r.val) % 128 = r.val; omega
  rw [val_main_v2_apply, e2, val_main_v1_apply, e1, val_main_v0_apply, e0]

theorem state0_apply (x0 : Vec Ideal S2x8x16384x128 .f32) (b : Fin 8) (T : Fin 2048) (k : Fin 1024) :
    val_main_v4 (F := Ideal) x0 (ix3 b T k) = x0 (ix4 0 ⟨k.val / 128, by omega⟩ ⟨8 * T.val + b.val, by omega⟩ ⟨k.val % 128, by omega⟩) := by
  rw [← stored_apply x0 0 b T k]
  pointwise [val_main_v4, val_main_v3]

theorem state1_apply (x0 : Vec Ideal S2x8x16384x128 .f32) (b : Fin 8) (T : Fin 2048) (k : Fin 1024) :
    val_main_v6 (F := Ideal) x0 (ix3 b T k) = x0 (ix4 1 ⟨k.val / 128, by omega⟩ ⟨8 * T.val + b.val, by omega⟩ ⟨k.val % 128, by omega⟩) := by
  rw [← stored_apply x0 1 b T k]
  pointwise [val_main_v6, val_main_v5]

theorem gated_apply (x0 : Vec Ideal S2x8x16384x128 .f32) (x1 : Vec Ideal S8x2048x6144 .bf16) (b : Fin 8) (T : Fin 2048) (k : Fin 1024) :
    val_main_v22 (F := Ideal) x0 x1 (ix3 b T k) = (x0 (ix4 0 ⟨k.val / 128, by omega⟩ ⟨8 * T.val + b.val, by omega⟩ ⟨k.val % 128, by omega⟩) + x0 (ix4 1 ⟨k.val / 128, by omega⟩ ⟨8 * T.val + b.val, by omega⟩ ⟨k.val % 128, by omega⟩)) * x1 (ix3 b T ⟨k.val, by omega⟩) := by
  pointwise [val_main_v22, val_main_v7, val_main_v9, val_main_v8, state0_apply, state1_apply]

theorem lru_apply (x0 : Vec Ideal S2x8x16384x128 .f32) (x1 : Vec Ideal S8x2048x6144 .bf16) (x6 : Vec Ideal S1024x1024 .f32) (b : Fin 8) (T : Fin 2048) (j : Fin 1024) :
    val_main_v23 (F := Ideal) x0 x1 x6 (ix3 b T j) = rowMul (fun k => (x0 (ix4 0 ⟨k.val / 128, by omega⟩ ⟨8 * T.val + b.val, by omega⟩ ⟨k.val % 128, by omega⟩) + x0 (ix4 1 ⟨k.val / 128, by omega⟩ ⟨8 * T.val + b.val, by omega⟩ ⟨k.val % 128, by omega⟩)) * x1 (ix3 b T ⟨k.val, by omega⟩)) (fun k j => x6 (ix2 k j)) j := by
  pointwise [val_main_v23, rowMul, gated_apply]

theorem na_apply (x2 : Vec Ideal S8x2048x1024 .bf16) (x7 : Vec Ideal S1024x1024 .f32) (b : Fin 8) (T : Fin 2048) (j : Fin 1024) :
    val_main_v25 (F := Ideal) x2 x7 (ix3 b T j) = rowMul (fun k => x2 (ix3 b T k)) (fun k j => x7 (ix2 k j)) j := by
  pointwise [val_main_v25, val_main_v24, rowMul]

theorem mixed_apply (x0 : Vec Ideal S2x8x16384x128 .f32) (x1 : Vec Ideal S8x2048x6144 .bf16) (x2 : Vec Ideal S8x2048x1024 .bf16) (x6 : Vec Ideal S1024x1024 .f32) (x7 : Vec Ideal S1024x1024 .f32) (x8 : Vec Ideal S1024x1024 .f32) (b : Fin 8) (T : Fin 2048) (j : Fin 1024) :
    val_main_v29 (F := Ideal) x0 x1 x2 x6 x7 x8 (ix3 b T j) = mixRow (fun k => (x0 (ix4 0 ⟨k.val / 128, by omega⟩ ⟨8 * T.val + b.val, by omega⟩ ⟨k.val % 128, by omega⟩) + x0 (ix4 1 ⟨k.val / 128, by omega⟩ ⟨8 * T.val + b.val, by omega⟩ ⟨k.val % 128, by omega⟩)) * x1 (ix3 b T ⟨k.val, by omega⟩)) (fun k => x1 (ix3 b T ⟨4 * 1024 + k.val, by omega⟩)) (fun k => x1 (ix3 b T ⟨5 * 1024 + k.val, by omega⟩)) (fun k => x2 (ix3 b T k)) (fun k j => x6 (ix2 k j)) (fun k j => x7 (ix2 k j)) (fun k j => x8 (ix2 k j)) j := by
  pointwise [val_main_v29, val_main_v28, val_main_v27, val_main_v26, val_main_v13, val_main_v12, val_main_v11, val_main_v10, mixRow, rowMul, lru_apply, na_apply]

theorem first_apply (x0 : Vec Ideal S2x8x16384x128 .f32) (x1 : Vec Ideal S8x2048x6144 .bf16) (x2 : Vec Ideal S8x2048x1024 .bf16) (x3 : Vec Ideal S8x2048x1024 .f32) (x4 : Vec Ideal S16x6144 .f32) (x5 : Vec Ideal S4x1024 .f32) (x6 : Vec Ideal S1024x1024 .f32) (x7 : Vec Ideal S1024x1024 .f32) (x8 : Vec Ideal S1024x1024 .f32) (b : Fin 8) (T : Fin 2048) (j : Fin 1024) :
    val_main_v47 (F := Ideal) x0 x1 x2 x3 x4 x5 x6 x7 x8 (ix3 b T j) = resRow (fun k => x3 (ix3 b T k)) (fun k => x4 (ix2 ⟨b.val, by omega⟩ ⟨2 * 1024 + k.val, by omega⟩)) (fun k => val_main_v29 (F := Ideal) x0 x1 x2 x6 x7 x8 (ix3 b T k)) (fun k => x5 (ix2 1 k)) j := by
  rw [val_main_v47, val_main_v46, val_main_v44, val_main_v41, val_main_v40, val_main_v39, val_main_v38, val_main_v36, val_main_v34, val_main_v33, val_main_v32]
  generalize val_main_v29 (F := Ideal) x0 x1 x2 x6 x7 x8 = y
  pointwise [val_main_v45, val_main_v15, val_main_v14, val_main_v43, val_main_v42, val_main_v31, val_main_v30, val_main_v37, val_main_cst_1, val_main_v35, val_main_cst_0, val_main_cst, resRow, rms]

theorem modulated_apply (x0 : Vec Ideal S2x8x16384x128 .f32) (x1 : Vec Ideal S8x2048x6144 .bf16) (x2 : Vec Ideal S8x2048x1024 .bf16) (x3 : Vec Ideal S8x2048x1024 .f32) (x4 : Vec Ideal S16x6144 .f32) (x5 : Vec Ideal S4x1024 .f32) (x6 : Vec Ideal S1024x1024 .f32) (x7 : Vec Ideal S1024x1024 .f32) (x8 : Vec Ideal S1024x1024 .f32) (b : Fin 8) (T : Fin 2048) (j : Fin 1024) :
    val_main_v68 (F := Ideal) x0 x1 x2 x3 x4 x5 x6 x7 x8 (ix3 b T j) = modRow (fun k => val_main_v47 (F := Ideal) x0 x1 x2 x3 x4 x5 x6 x7 x8 (ix3 b T k)) (fun k => x5 (ix2 2 k)) (fun k => x4 (ix2 ⟨b.val, by omega⟩ ⟨4 * 1024 + k.val, by omega⟩)) (fun k => x4 (ix2 ⟨b.val, by omega⟩ ⟨3 * 1024 + k.val, by omega⟩)) j := by
  rw [val_main_v68, val_main_v66, val_main_v62, val_main_v59, val_main_v58, val_main_v57, val_main_v56, val_main_v54, val_main_v52, val_main_v51, val_main_v50]
  generalize val_main_v47 (F := Ideal) x0 x1 x2 x3 x4 x5 x6 x7 x8 = y
  pointwise [val_main_v67, val_main_v17, val_main_v16, val_main_v65, val_main_v64, val_main_v63, val_main_cst_5, val_main_v19, val_main_v18, val_main_v61, val_main_v60, val_main_v49, val_main_v48, val_main_v55, val_main_cst_4, val_main_v53, val_main_cst_3, val_main_cst_2, modRow, rms]

theorem mlp_apply (x0 : Vec Ideal S2x8x16384x128 .f32) (x1 : Vec Ideal S8x2048x6144 .bf16) (x2 : Vec Ideal S8x2048x1024 .bf16) (x3 : Vec Ideal S8x2048x1024 .f32) (x4 : Vec Ideal S16x6144 .f32) (x5 : Vec Ideal S4x1024 .f32) (x6 : Vec Ideal S1024x1024 .f32) (x7 : Vec Ideal S1024x1024 .f32) (x8 : Vec Ideal S1024x1024 .f32) (x9 : Vec Ideal S1024x4096 .f32) (x10 : Vec Ideal S4096x1024 .f32) (b : Fin 8) (T : Fin 2048) (j : Fin 1024) :
    val_main_v72 (F := Ideal) x0 x1 x2 x3 x4 x5 x6 x7 x8 x9 x10 (ix3 b T j) = mlpRow (fun k => val_main_v68 (F := Ideal) x0 x1 x2 x3 x4 x5 x6 x7 x8 (ix3 b T k)) (fun k j => x9 (ix2 k j)) (fun k j => x10 (ix2 k j)) j := by
  rw [val_main_v72, val_main_v71, val_main_v70, val_main_v69]
  generalize val_main_v68 (F := Ideal) x0 x1 x2 x3 x4 x5 x6 x7 x8 = y
  pointwise [val_main_call0_v0, val_main_call0_cst, mlpRow]

theorem second_apply (x0 : Vec Ideal S2x8x16384x128 .f32) (x1 : Vec Ideal S8x2048x6144 .bf16) (x2 : Vec Ideal S8x2048x1024 .bf16) (x3 : Vec Ideal S8x2048x1024 .f32) (x4 : Vec Ideal S16x6144 .f32) (x5 : Vec Ideal S4x1024 .f32) (x6 : Vec Ideal S1024x1024 .f32) (x7 : Vec Ideal S1024x1024 .f32) (x8 : Vec Ideal S1024x1024 .f32) (x9 : Vec Ideal S1024x4096 .f32) (x10 : Vec Ideal S4096x1024 .f32) (b : Fin 8) (T : Fin 2048) (j : Fin 1024) :
    val_main_v90 (F := Ideal) x0 x1 x2 x3 x4 x5 x6 x7 x8 x9 x10 (ix3 b T j) = resRow (fun k => val_main_v47 (F := Ideal) x0 x1 x2 x3 x4 x5 x6 x7 x8 (ix3 b T k)) (fun k => x4 (ix2 ⟨b.val, by omega⟩ ⟨5 * 1024 + k.val, by omega⟩)) (fun k => val_main_v72 (F := Ideal) x0 x1 x2 x3 x4 x5 x6 x7 x8 x9 x10 (ix3 b T k)) (fun k => x5 (ix2 3 k)) j := by
  rw [val_main_v90, val_main_v89, val_main_v87, val_main_v84, val_main_v83, val_main_v82, val_main_v81, val_main_v79, val_main_v77, val_main_v76, val_main_v75]
  generalize val_main_v47 (F := Ideal) x0 x1 x2 x3 x4 x5 x6 x7 x8 = y
  generalize val_main_v72 (F := Ideal) x0 x1 x2 x3 x4 x5 x6 x7 x8 x9 x10 = z
  pointwise [val_main_v88, val_main_v21, val_main_v20, val_main_v86, val_main_v85, val_main_v74, val_main_v73, val_main_v80, val_main_cst_8, val_main_v78, val_main_cst_7, val_main_cst_6, resRow, rms]

theorem reference_apply (x0 : Vec Ideal S2x8x16384x128 .f32) (x1 : Vec Ideal S8x2048x6144 .bf16) (x2 : Vec Ideal S8x2048x1024 .bf16) (x3 : Vec Ideal S8x2048x1024 .f32) (x4 : Vec Ideal S16x6144 .f32) (x5 : Vec Ideal S4x1024 .f32) (x6 : Vec Ideal S1024x1024 .f32) (x7 : Vec Ideal S1024x1024 .f32) (x8 : Vec Ideal S1024x1024 .f32) (x9 : Vec Ideal S1024x4096 .f32) (x10 : Vec Ideal S4096x1024 .f32) (b : Fin 8) (T : Fin 2048) (j : Fin 1024) :
    val_main_v90 (F := Ideal) x0 x1 x2 x3 x4 x5 x6 x7 x8 x9 x10 (ix3 b T j) = Cert.OutFinal.result x0 x1 x2 x3 x4 x5 x6 x7 x8 x9 x10 b T j := by
  rw [second_apply]
  simp only [mlp_apply, modulated_apply, first_apply, mixed_apply]
  rfl

end Cert.OutRef

end
-- ==== Proof.OutClaims.lean ====
/- Hand-written, untrusted: THE CLAIMS ABOUT THE LAYER'S LAST CALL. The kernel's run leaves `Cert.OutFinal.result` of the
   arguments in its result, the reference's run the same (`Cert.OutRef.reference_apply`), so the two agree. -/
module

public import proofs.«01_k».proof.Defs
public import proofs.«01_k».proof.Proof.Gen.Out.Frame
public import proofs.«01_k».proof.Proof.Gen.OutIdeal.Frame
public import proofs.«01_k».proof.Proof.OutRef
public import Idealize.ShloMosaic.Lib.Quiescent

@[expose] public section

noncomputable section

namespace Cert.OutClaims

open Idealize.ShloMosaic Idealize.ShloMosaic.TcCoe Idealize.SL.Sem

theorem frame_kernel : Cert.quiescent_Out := fun m ρ _ => Cert.Out.Gen.frame m ρ

theorem frame_ideal : Cert.quiescent_OutIdeal := fun m ρ _ => Cert.OutIdeal.Gen.frame m ρ

theorem frame_reference : Cert.quiescent_OutReferenceIdeal := fun m ρ _ =>
  (θ_run Cert.OutReferenceIdeal.defs _ _).mono (fun r h => ⟨fun c => (h c).2,
      Idealize.ShloMosaic.sem_eq_zero_of_no_sems (by decide) r.2⟩)
    (Cert.OutReferenceIdeal.Value.run (F := Ideal) m ρ)

theorem preserves : Cert.preserves_Out_OutIdeal := trivial

/-- The reference's result array is the kernel's, from arguments that agree. -/
theorem algebraic : Cert.algebraic_OutIdeal_OutReferenceIdeal := by
  intro m ρ m' ρ' _ hag
  refine ⟨fun c => (Cert.OutIdeal.Gen.dats m 0 c).arrAt 17 Cert.OutIdeal.cfg0.N, Cert.OutIdeal.Value.run_blocks (F := Ideal) m ρ, ?_⟩
  refine (θ_run Cert.OutReferenceIdeal.defs _ _).mono (fun _ h c => ⟨(h c).1.trans ?_, (h c).2⟩)
    (Cert.OutReferenceIdeal.Value.run (F := Ideal) m' ρ')
  obtain ⟨e0, e1, e2, e3, e4, e5, e6, e7, e8, e9, e10⟩ := hag c
  refine (Cert.OutReferenceIdeal.Read.val_main_v90_eq (F := Ideal) (StableHlo.launchContents m' c)).trans ?_
  refine funext fun i => ?_
  rw [ValueIdx.eq_ix3 i]
  refine Eq.trans ?_ (Cert.OutFinal.final_apply m c (i 0) (i 1) (i 2)).symm
  rw [← e0, ← e1, ← e2, ← e3, ← e4, ← e5, ← e6, ← e7, ← e8, ← e9, ← e10]
  exact Cert.OutRef.reference_apply _ _ _ _ _ _ _ _ _ _ _ (i 0) (i 1) (i 2)

end Cert.OutClaims

end
-- ==== Proof.ProjBase.lean ====
/- What both runs of the projection body name. -/
module

public import proofs.«01_k».proof.Proof.Gen.Proj.Frame
public import proofs.«01_k».proof.Proof.Gen.Proj.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.ProjRun

open Cert.Proj Cert.Proj.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The point is the first of the grid: the kept rows are cleared there. -/
abbrev cond0 (i : grid0.Coords) : Prop :=
  Scalar.cmpi .ne (Scalar.extui (Scalar.cmpi .eq (BitVec.ofNat 32 (i 0).val) 0#32) : BitVec 32) 0#32 = 1#1

end Cert.ProjRun

end
-- ==== Proof.ProjBits.lean ====
/- The frame of the projection's program as it runs: each grid point runs from its staged blocks and the kept rows at
   anything, and leaves the three output blocks and the kept rows at something. -/
module

public import proofs.«01_k».proof.Proof.ProjRunA
public import proofs.«01_k».proof.Proof.ProjRunB
public import Idealize.ShloMosaic.Lib.Pipeline.FrameBody
public import Idealize.ShloMosaic.Lib.Claim

@[expose] public section

set_option maxRecDepth 16384

noncomputable section

namespace Cert.ProjBits

open Cert Cert.ProjRun Cert.Proj Cert.Proj.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The kept rows' buffer. -/
abbrev scM : Memref sig .tc .vmem S8x536x128 .f32 := Memref.whole cc0_scratch0

abbrev ms0_0 (t : Fin cfg0.N) : Memref sig .tc .vmem S8x64x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x1x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x7168 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x2048 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S4x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1024 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S8x512x128 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S8x8x128 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S8x64x6144 .bf16 := win0_10.stage (cfg0.slots t 10)
abbrev hs0_10 (t : Fin cfg0.N) : (ms0_10 t).IsWhole := hstage0_10 ((cfg0.slots t 10).cast nbuf0_10)

/-- The three output windows, of which nothing is said. -/
def forgets (w : Fin cfg0.W) : Bool := match w with
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => true
  | ⟨9, _⟩ => true
  | ⟨10, _⟩ => true

/-- The proof data: inputs stay at their blocks, of the outputs nothing is said, between points the kept rows are at anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

theorem PhiA_open (c : Dev nD) :
    (Pipeline.ΦA spec0 c : sProp 𝕄)
      = iprop((∃ d, ∃ f, ⌜scM.view.read (Elt F) f = d⌝ ∗ (scM.view.loc (c : Thread nD τ) ↦[scM.view.set]{fullShare} f)) ∗ (∃ r, prngReg c r)) := by
  rw [PhiA_eq]
  rfl

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ X, owns (c : Thread nD τ) (ms0_8 t) fullShare X)
    ∗ (∃ X, owns (c : Thread nD τ) (ms0_9 t) fullShare X)
    ∗ (∃ X, owns (c : Thread nD τ) (ms0_10 t) fullShare X))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ (∃ X, owns (c : Thread nD τ) (ms0_8 t) fullShare X)
    ∗ (∃ X, owns (c : Thread nD τ) (ms0_9 t) fullShare X)
    ∗ (∃ X, owns (c : Thread nD τ) (ms0_10 t) fullShare X))

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl, after0_0, after0_1, after0_2, after0_3, after0_4, after0_5, after0_6, after0_7]
  rw [show (dats m 0 c).Φ t.castSucc = Pipeline.ΦA spec0 c from rfl, show (dats m 0 c).Φ t.succ = Pipeline.ΦA spec0 c from rfl]
  rw [PhiA_open]
  by_cases h0 : cond0 (grid0.coords t)
  · iintro ⟨⟨⟨%dS, %f, -, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM (Memref.isWhole_whole _) h0 (iblk m c 0 t) (iblk m c 1 t) (iblk m c 2 t) (iblk m c 3 t) (iblk m c 4 t) (iblk m c 5 t) (iblk m c 6 t) (iblk m c 7 t) f).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [HS]; · iexact HS
    iintro ⟨H0, H1, H2, H3, H4, H5, H6, H7, ⟨%e8, H8⟩, ⟨%e9, H9⟩, ⟨%e10, H10⟩, HS⟩
    isplitl [HS Hg]
    · isplitl [HS]
      · iexists _
        iexists _
        isplitr
        swap; · iexact HS
        ipureintro
        rfl
      · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · iexists _; unfold owns; iexists _; isplitr
      swap; · iexact H8
      ipureintro
      rfl
    isplitl [H9]
    · iexists _; unfold owns; iexists _; isplitr
      swap; · iexact H9
      ipureintro
      rfl
    iexists _; unfold owns; iexists _; isplitr
    swap; · iexact H10
    ipureintro
    rfl
  · iintro ⟨⟨⟨%dS, %f, -, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM (Memref.isWhole_whole _) h0 (iblk m c 0 t) (iblk m c 1 t) (iblk m c 2 t) (iblk m c 3 t) (iblk m c 4 t) (iblk m c 5 t) (iblk m c 6 t) (iblk m c 7 t) f).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [HS]; · iexact HS
    iintro ⟨H0, H1, H2, H3, H4, H5, H6, H7, ⟨%e8, H8⟩, ⟨%e9, H9⟩, ⟨%e10, H10⟩, HS⟩
    isplitl [HS Hg]
    · isplitl [HS]
      · iexists _
        iexists _
        isplitr
        swap; · iexact HS
        ipureintro
        rfl
      · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · iexists _; unfold owns; iexists _; isplitr
      swap; · iexact H8
      ipureintro
      rfl
    isplitl [H9]
    · iexists _; unfold owns; iexists _; isplitr
      swap; · iexact H9
      ipureintro
      rfl
    iexists _; unfold owns; iexists _; isplitr
    swap; · iexact H10
    ipureintro
    rfl

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats m 0 c) (defs₀ (F := F)) Variants.none () Set.univ forgets := fun t => by
  rw [bigSep_W0, bigSep_W0, defs₀_row]
  exact triple_restated (sound_body m c t) rfl .rfl fun _ => .rfl

/-! ## The run and the frame -/

set_option backward.isDefEq.respectTransparency.types false in
theorem run_main : θ_run defs (onTc (τ := τ) (main (F := F))) (s₀ m ρ)
    (fun r => RDat.FramePost cfg0 (fun c => (dats m 0 c).toRForget forgets) (V m) r ∧ r.2.sem = fun _ => 0) :=
  Pipeline.θ_run_frame_forget_shared cfgs (dats m) (0 : Fin 1) launch₀0 defs₀ Variants.none forgets m ρ main
    (hbody := fun c => (body_obligation m c).loose) (hq := fun _ _ _ => rfl)
    (howed := fun _ _ => rfl) (V := V m) (hmain := hmain m Variants.none) (hA := A_eq m) (hΦ := fun _ _ => rfl)
    (Q' := fun r => RDat.FramePost cfg0 (fun c => (dats m 0 c).toRForget forgets) (V m) r ∧ r.2.sem = fun _ => 0) (hQ' := fun _ h => h)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨(h.1.arr_in c 0 rfl).trans ((A_eq m c 0).trans (V_main_arg0 m c)),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c)⟩, h.2⟩) (run_main m ρ)

end Cert.ProjBits

end
-- ==== Proof.ProjIdealBase.lean ====
/- What both runs of the projection body name. -/
module

public import proofs.«01_k».proof.Proof.Gen.ProjIdeal.Frame
public import proofs.«01_k».proof.Proof.Gen.ProjIdeal.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.ProjIdealRun

open Cert.ProjIdeal Cert.ProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The point is the first of the grid: the kept rows are cleared there. -/
abbrev cond0 (i : grid0.Coords) : Prop :=
  Scalar.cmpi .ne (Scalar.extui (Scalar.cmpi .eq (BitVec.ofNat 32 (i 0).val) 0#32) : BitVec 32) 0#32 = 1#1

end Cert.ProjIdealRun

end
-- ==== Proof.ProjIdealRunA.lean ====
/- The first point of the projection's grid: the body's run, from the staged blocks and the rows kept from the point
   before, with what it stores in the three output blocks and in the kept rows. -/
module

public import proofs.«01_k».proof.Proof.ProjIdealBase

@[expose] public section

set_option maxRecDepth 16384

noncomputable section

namespace Cert.ProjIdealRun

open Cert.ProjIdeal Cert.ProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 4000000 in
/-- The stores of the body, with the proof that the body runs from the staged blocks, the kept rows at `fS` and the
    output blocks at anything, to the output blocks with those stores written and the kept rows with theirs. -/
noncomputable def runA (c : Dev nD) (i : grid0.Coords) (arg1 : Memref sig .tc .vmem S8x64x1024 .f32) (harg1 : arg1.IsWhole) (arg2 : Memref sig .tc .vmem S8x1x1024 .f32) (harg2 : arg2.IsWhole) (arg3 : Memref sig .tc .vmem S8x1x1024 .f32) (harg3 : arg3.IsWhole) (arg4 : Memref sig .tc .vmem S1x1024 .f32) (harg4 : arg4.IsWhole) (arg5 : Memref sig .tc .vmem S1024x7168 .bf16) (harg5 : arg5.IsWhole) (arg6 : Memref sig .tc .vmem S1x2048 .f32) (harg6 : arg6.IsWhole) (arg7 : Memref sig .tc .vmem S4x1024 .f32) (harg7 : arg7.IsWhole) (arg8 : Memref sig .tc .vmem S1x1024 .f32) (harg8 : arg8.IsWhole) (arg9 : Memref sig .tc .vmem S8x512x128 .f32) (harg9 : arg9.IsWhole) (arg10 : Memref sig .tc .vmem S8x8x128 .f32) (harg10 : arg10.IsWhole) (arg11 : Memref sig .tc .vmem S8x64x6144 .bf16) (harg11 : arg11.IsWhole) (arg12 : Memref sig .tc .vmem S8x536x128 .f32) (harg12 : arg12.IsWhole)
    (hc0 : cond0 i) (x0 : Vec F S8x64x1024 .f32) (x1 : Vec F S8x1x1024 .f32) (x2 : Vec F S8x1x1024 .f32) (x3 : Vec F S1x1024 .f32) (x4 : Vec F S1024x7168 .bf16) (x5 : Vec F S1x2048 .f32) (x6 : Vec F S4x1024 .f32) (x7 : Vec F S1x1024 .f32) (fS : arg12.view.ty.Contents (Elt F)) :
    Σ' (L8 : List (View.Piece (Elt F) S8x512x128 .f32)) (L9 : List (View.Piece (Elt F) S8x8x128 .f32))
      (L10 : List (View.Piece (Elt F) S8x64x6144 .bf16)) , { LS : List (View.Piece (Elt F) S8x536x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
            ∗ (∃ d, owns (c : Thread nD τ) arg9 fullShare d) ∗ (∃ d, owns (c : Thread nD τ) arg10 fullShare d) ∗ (∃ d, owns (c : Thread nD τ) arg11 fullShare d)
            ∗ (arg12.view.loc (c : Thread nD τ) ↦[arg12.view.set]{fullShare} fS)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
              ∗ (∃ f, arg9.view.loc (c : Thread nD τ) ↦[arg9.view.set]{fullShare} arg9.view.writes (Elt F) f L8)
              ∗ (∃ f, arg10.view.loc (c : Thread nD τ) ↦[arg10.view.set]{fullShare} arg10.view.writes (Elt F) f L9)
              ∗ (∃ f, arg11.view.loc (c : Thread nD τ) ↦[arg11.view.set]{fullShare} arg11.view.writes (Elt F) f L10)
              ∗ (arg12.view.loc (c : Thread nD τ) ↦[arg12.view.set]{fullShare} arg12.view.writes (Elt F) fS LS)) -∗ K ⟨⟩))
          ⊢ wp frame (wpE (defs₀ (F := F)) Variants.none c none) E (cc0_inproj i arg1 harg1 arg2 harg2 arg3 harg3 arg4 harg4 arg5 harg5 arg6 harg6 arg7 harg7 arg8 harg8 arg9 harg9 arg10 harg10 arg11 harg11 arg12 harg12) K } := by
  refine ⟨?_, ?_, ?_, ?_, fun E K => ?run⟩
  case run =>
    simp only [cc0_inproj_eq_skeleton]; unfold cc0_inproj_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, HS, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec (disch := sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]; · iexists _; iexact H9
    isplitl [H10]; · iexists _; iexact H10
    iexact HS

end Cert.ProjIdealRun

end
-- ==== Proof.ProjIdealRunB.lean ====
/- The later points of the projection's grid: the body's run, from the staged blocks and the rows kept from the point
   before, with what it stores in the three output blocks and in the kept rows. -/
module

public import proofs.«01_k».proof.Proof.ProjIdealBase

@[expose] public section

set_option maxRecDepth 16384

noncomputable section

namespace Cert.ProjIdealRun

open Cert.ProjIdeal Cert.ProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 4000000 in
/-- The stores of the body, with the proof that the body runs from the staged blocks, the kept rows at `fS` and the
    output blocks at anything, to the output blocks with those stores written and the kept rows with theirs. -/
noncomputable def runB (c : Dev nD) (i : grid0.Coords) (arg1 : Memref sig .tc .vmem S8x64x1024 .f32) (harg1 : arg1.IsWhole) (arg2 : Memref sig .tc .vmem S8x1x1024 .f32) (harg2 : arg2.IsWhole) (arg3 : Memref sig .tc .vmem S8x1x1024 .f32) (harg3 : arg3.IsWhole) (arg4 : Memref sig .tc .vmem S1x1024 .f32) (harg4 : arg4.IsWhole) (arg5 : Memref sig .tc .vmem S1024x7168 .bf16) (harg5 : arg5.IsWhole) (arg6 : Memref sig .tc .vmem S1x2048 .f32) (harg6 : arg6.IsWhole) (arg7 : Memref sig .tc .vmem S4x1024 .f32) (harg7 : arg7.IsWhole) (arg8 : Memref sig .tc .vmem S1x1024 .f32) (harg8 : arg8.IsWhole) (arg9 : Memref sig .tc .vmem S8x512x128 .f32) (harg9 : arg9.IsWhole) (arg10 : Memref sig .tc .vmem S8x8x128 .f32) (harg10 : arg10.IsWhole) (arg11 : Memref sig .tc .vmem S8x64x6144 .bf16) (harg11 : arg11.IsWhole) (arg12 : Memref sig .tc .vmem S8x536x128 .f32) (harg12 : arg12.IsWhole)
    (hc0 : ¬cond0 i) (x0 : Vec F S8x64x1024 .f32) (x1 : Vec F S8x1x1024 .f32) (x2 : Vec F S8x1x1024 .f32) (x3 : Vec F S1x1024 .f32) (x4 : Vec F S1024x7168 .bf16) (x5 : Vec F S1x2048 .f32) (x6 : Vec F S4x1024 .f32) (x7 : Vec F S1x1024 .f32) (fS : arg12.view.ty.Contents (Elt F)) :
    Σ' (L8 : List (View.Piece (Elt F) S8x512x128 .f32)) (L9 : List (View.Piece (Elt F) S8x8x128 .f32))
      (L10 : List (View.Piece (Elt F) S8x64x6144 .bf16)) , { LS : List (View.Piece (Elt F) S8x536x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
            ∗ (∃ d, owns (c : Thread nD τ) arg9 fullShare d) ∗ (∃ d, owns (c : Thread nD τ) arg10 fullShare d) ∗ (∃ d, owns (c : Thread nD τ) arg11 fullShare d)
            ∗ (arg12.view.loc (c : Thread nD τ) ↦[arg12.view.set]{fullShare} fS)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
              ∗ (∃ f, arg9.view.loc (c : Thread nD τ) ↦[arg9.view.set]{fullShare} arg9.view.writes (Elt F) f L8)
              ∗ (∃ f, arg10.view.loc (c : Thread nD τ) ↦[arg10.view.set]{fullShare} arg10.view.writes (Elt F) f L9)
              ∗ (∃ f, arg11.view.loc (c : Thread nD τ) ↦[arg11.view.set]{fullShare} arg11.view.writes (Elt F) f L10)
              ∗ (arg12.view.loc (c : Thread nD τ) ↦[arg12.view.set]{fullShare} arg12.view.writes (Elt F) fS LS)) -∗ K ⟨⟩))
          ⊢ wp frame (wpE (defs₀ (F := F)) Variants.none c none) E (cc0_inproj i arg1 harg1 arg2 harg2 arg3 harg3 arg4 harg4 arg5 harg5 arg6 harg6 arg7 harg7 arg8 harg8 arg9 harg9 arg10 harg10 arg11 harg11 arg12 harg12) K } := by
  refine ⟨?_, ?_, ?_, ?_, fun E K => ?run⟩
  case run =>
    simp only [cc0_inproj_eq_skeleton]; unfold cc0_inproj_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, HS, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec (disch := sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]; · iexists _; iexact H9
    isplitl [H10]; · iexists _; iexact H10
    iexact HS

end Cert.ProjIdealRun

end
-- ==== Proof.ProjPieces.lean ====
/- What a grid point of the projection stores, written out: the modulated rows times the seven column blocks of the
   weights; the first product laid out by (lane chunk, time, batch) behind the rows kept from the point before, and the
   convolution of those; the others through their activations. -/
module

public import proofs.«01_k».proof.Proof.ProjIdealRunA
public import proofs.«01_k».proof.Proof.ProjIdealRunB

@[expose] public section

set_option maxRecDepth 16384

noncomputable section

namespace Cert.ProjPieces

open Cert.ProjIdeal Cert.ProjIdeal.Gen Cert.ProjIdealRun Idealize.ShloMosaic

variable {F : FTy → Type} [FloatOps F]

/-- A load of a rectangle of a staged block. -/
abbrev ld {s : Shape} {e : EltTy} (arg : Memref sig .tc .vmem s e) (harg : arg.IsWhole) (x : Vec F s e)
    (off size : Fin s.rank → Nat) (inb : ∀ a, off a + size a ≤ s.size a) : Vec F ⟨s.rank, size⟩ e :=
  arg.view.readAt (Elt F) (Rect.unit off size inb).toLoadRect (harg.unread x)

/-- What a grid point loads from its staged blocks: rows, shift, scale of the two four-entry groups, gain, the seven
    column blocks of the weights, the gates' biases, the convolution's taps and bias per lane chunk. -/
structure Loads (F : FTy → Type) where
  x : Fin 2 → Vec F S4x64x1024 .f32
  sh : Fin 2 → Vec F S4x1x1024 .f32
  sc : Fin 2 → Vec F S4x1x1024 .f32
  g : Vec F S1x1024 .f32
  w : Fin 7 → Vec F S1024x1024 .bf16
  bg : Fin 2 → Vec F S1x1024 .f32
  cw : Fin 4 → Fin 8 → Vec F S1x128 .f32
  cb : Fin 8 → Vec F S1x128 .f32

theorem inb_x : ∀ (q : Fin 2) (a : Fin 3), (![4 * q.val, 0, 0] : Fin 3 → Nat) a + S4x64x1024.size a ≤ S8x64x1024.size a := by decide
theorem inb_m : ∀ (q : Fin 2) (a : Fin 3), (![4 * q.val, 0, 0] : Fin 3 → Nat) a + S4x1x1024.size a ≤ S8x1x1024.size a := by decide
theorem inb_w : ∀ (s : Fin 7) (a : Fin 2), (![0, 1024 * s.val] : Fin 2 → Nat) a + S1024x1024.size a ≤ S1024x7168.size a := by decide
theorem inb_bg : ∀ (s : Fin 2) (a : Fin 2), (![0, 1024 * s.val] : Fin 2 → Nat) a + S1x1024.size a ≤ S1x2048.size a := by decide
theorem inb_cw : ∀ (j : Fin 4) (k : Fin 8) (a : Fin 2), (![j.val, 128 * k.val] : Fin 2 → Nat) a + S1x128.size a ≤ S4x1024.size a := by decide
theorem inb_cb : ∀ (k : Fin 8) (a : Fin 2), (![0, 128 * k.val] : Fin 2 → Nat) a + S1x128.size a ≤ S1x1024.size a := by decide

def loads (arg1 : Memref sig .tc .vmem S8x64x1024 .f32) (harg1 : arg1.IsWhole) (arg2 : Memref sig .tc .vmem S8x1x1024 .f32) (harg2 : arg2.IsWhole) (arg3 : Memref sig .tc .vmem S8x1x1024 .f32) (harg3 : arg3.IsWhole) (arg4 : Memref sig .tc .vmem S1x1024 .f32) (harg4 : arg4.IsWhole) (arg5 : Memref sig .tc .vmem S1024x7168 .bf16) (harg5 : arg5.IsWhole) (arg6 : Memref sig .tc .vmem S1x2048 .f32) (harg6 : arg6.IsWhole) (arg7 : Memref sig .tc .vmem S4x1024 .f32) (harg7 : arg7.IsWhole) (arg8 : Memref sig .tc .vmem S1x1024 .f32) (harg8 : arg8.IsWhole)
    (x0 : Vec F S8x64x1024 .f32) (x1 : Vec F S8x1x1024 .f32) (x2 : Vec F S8x1x1024 .f32) (x3 : Vec F S1x1024 .f32) (x4 : Vec F S1024x7168 .bf16) (x5 : Vec F S1x2048 .f32) (x6 : Vec F S4x1024 .f32) (x7 : Vec F S1x1024 .f32) : Loads F where
  x q := ld arg1 harg1 x0 ![4 * q.val, 0, 0] S4x64x1024.size (inb_x q)
  sh q := ld arg2 harg2 x1 ![4 * q.val, 0, 0] S4x1x1024.size (inb_m q)
  sc q := ld arg3 harg3 x2 ![4 * q.val, 0, 0] S4x1x1024.size (inb_m q)
  g := ld arg4 harg4 x3 ![0, 0] S1x1024.size inb_S1x1024_S1x1024_0_0
  w s := ld arg5 harg5 x4 ![0, 1024 * s.val] S1024x1024.size (inb_w s)
  bg s := ld arg6 harg6 x5 ![0, 1024 * s.val] S1x1024.size (inb_bg s)
  cw j k := ld arg7 harg7 x6 ![j.val, 128 * k.val] S1x128.size (inb_cw j k)
  cb k := ld arg8 harg8 x7 ![0, 128 * k.val] S1x128.size (inb_cb k)

/-! ## The rows and the products -/

def norm (y : FVec F S4x64x1024 .f32) (g : Vec F S1x1024 .f32) : FVec F S4x64x1024 .f32 :=
  mulf (mulf y (broadcastTo S4x64x1024 (rsqrt (addf (divf (shapeCast S4x64x1
      (multiReduction .add [2] S4x64 (mulf y y) 0x00000000#32 reduces_S4x64x1024_S4x64 (.inl rfl) rfl) shapeCasts_S4x64_S4x64x1)
      (broadcast S4x64x1 (Scalar.ofBits .f32 0x44800000#32))) (broadcast S4x64x1 (Scalar.ofBits .f32 0x358637BD#32))))
      broadcasts_S4x64x1_S4x64x1024))
    (broadcastTo S4x64x1024 (shapeCast S1x1x1024 (shapeCast S1x1024 g shapeCasts_S1x1024_S1x1024) shapeCasts_S1x1024_S1x1x1024)
      broadcasts_S1x1x1024_S4x64x1024)

def per (v : Vec F S4x1x1024 .f32) : FVec F S4x64x1024 .f32 := broadcastTo S4x64x1024 v broadcasts_S4x1x1024_S4x64x1024

/-- The modulated rows of one group, flattened. -/
def rows (x : Vec F S4x64x1024 .f32) (g : Vec F S1x1024 .f32) (sc sh : Vec F S4x1x1024 .f32) : FVec F S256x1024 .bf16 :=
  truncf .bf16 (shapeCast S256x1024 (addf (mulf (norm x g)
      (per (addf (broadcast S4x1x1024 (Scalar.ofBits .f32 0x3F800000#32)) (shapeCast S4x1x1024 sc shapeCasts_S4x1x1024_S4x1x1024))))
      (per (shapeCast S4x1x1024 sh shapeCasts_S4x1x1024_S4x1x1024))) shapeCasts_S4x64x1024_S256x1024) bitsLt_bf16_f32

/-- The product of one group's rows with column block `s`. -/
def acc (l : Loads F) (q : Fin 2) (s : Fin 7) : FVec F S256x1024 .f32 :=
  matmul dot_S256x1024_S1024x1024_S256x1024_1_0_0_1_n_n none (rows (l.x q) l.g (l.sc q) (l.sh q))
    (shapeCast S1024x1024 (l.w s) shapeCasts_S1024x1024_S1024x1024) (constant S256x1024 .f32 0x00000000#32)

def fin (a : FVec F S256x1024 .f32) : FVec F S4x64x1024 .bf16 :=
  shapeCast S4x64x1024 (truncf .bf16 a bitsLt_bf16_f32) shapeCasts_S256x1024_S4x64x1024

def gelu (a : FVec F S256x1024 .f32) : FVec F S256x1024 .f32 :=
  mulf a (mulf (broadcast S256x1024 (Scalar.ofBits .f32 0x3F000000#32)) (addf (broadcast S256x1024 (Scalar.ofBits .f32 0x3F800000#32))
    (tanh (mulf (broadcast S256x1024 (Scalar.ofBits .f32 0x3F4C422A#32)) (addf a (mulf (broadcast S256x1024 (Scalar.ofBits .f32 0x3D372713#32))
      (mulf a (mulf a a))))))))

def scaled (a : FVec F S256x1024 .f32) : FVec F S256x1024 .f32 := mulf a (broadcast S256x1024 (Scalar.ofBits .f32 0x3E38AA3B#32))

def gate (a : FVec F S256x1024 .f32) (b : Vec F S1x1024 .f32) : FVec F S256x1024 .f32 :=
  logistic (addf a (broadcastTo S256x1024 (shapeCast S1x1024 b shapeCasts_S1x1024_S1x1024) broadcasts_S1x1024_S256x1024))

/-- The stores into the block of activated projections. -/
def prList (l : Loads F) : List (View.Piece (Elt F) S8x64x6144 .bf16) :=
  [⟨Rect.unit ![4, 0, 5120] S4x64x1024.size inb_S8x64x6144_S4x64x1024_4_0_5120, fin (gate (acc l 1 6) (l.bg 1))⟩,
   ⟨Rect.unit ![0, 0, 5120] S4x64x1024.size inb_S8x64x6144_S4x64x1024_0_0_5120, fin (gate (acc l 0 6) (l.bg 1))⟩,
   ⟨Rect.unit ![4, 0, 4096] S4x64x1024.size inb_S8x64x6144_S4x64x1024_4_0_4096, fin (gate (acc l 1 5) (l.bg 0))⟩,
   ⟨Rect.unit ![0, 0, 4096] S4x64x1024.size inb_S8x64x6144_S4x64x1024_0_0_4096, fin (gate (acc l 0 5) (l.bg 0))⟩,
   ⟨Rect.unit ![4, 0, 3072] S4x64x1024.size inb_S8x64x6144_S4x64x1024_4_0_3072, fin (acc l 1 4)⟩,
   ⟨Rect.unit ![0, 0, 3072] S4x64x1024.size inb_S8x64x6144_S4x64x1024_0_0_3072, fin (acc l 0 4)⟩,
   ⟨Rect.unit ![4, 0, 2048] S4x64x1024.size inb_S8x64x6144_S4x64x1024_4_0_2048, fin (acc l 1 3)⟩,
   ⟨Rect.unit ![0, 0, 2048] S4x64x1024.size inb_S8x64x6144_S4x64x1024_0_0_2048, fin (acc l 0 3)⟩,
   ⟨Rect.unit ![4, 0, 1024] S4x64x1024.size inb_S8x64x6144_S4x64x1024_4_0_1024, fin (scaled (acc l 1 2))⟩,
   ⟨Rect.unit ![0, 0, 1024] S4x64x1024.size inb_S8x64x6144_S4x64x1024_0_0_1024, fin (scaled (acc l 0 2))⟩,
   ⟨Rect.unit ![4, 0, 0] S4x64x1024.size inb_S8x64x6144_S4x64x1024_4_0_0, fin (gelu (acc l 1 1))⟩,
   ⟨Rect.unit ![0, 0, 0] S4x64x1024.size inb_S8x64x6144_S4x64x1024_0_0_0, fin (gelu (acc l 0 1))⟩]

/-! ## The rows of the first product, and the convolution -/

theorem slices_part : ∀ (b : Fin 4) (k : Fin 8), S256x1024.Slices ![64 * b.val, 128 * k.val] S64x128 := by decide

/-- The 64 times of one batch entry in one lane chunk. -/
def part (a : FVec F S256x1024 .f32) (b : Fin 4) (k : Fin 8) : FVec F S1x64x128 .f32 :=
  shapeCast S1x64x128 (extractStridedSlice S64x128 ![64 * b.val, 128 * k.val] a (slices_part b k)) shapeCasts_S64x128_S1x64x128

theorem inb_part (b k : Fin 8) : ∀ a, S1x64x128.size a = 0 ∨
    (![k.val, 24 + b.val, 0] : Fin 3 → Nat) a + (![1, 8, 1] : Fin 3 → Nat) a * (S1x64x128.size a - 1) < S8x536x128.size a := by
  intro a
  match a with
  | ⟨0, _⟩ => exact Or.inr (by show k.val + 1 * (1 - 1) < 8; omega)
  | ⟨1, _⟩ => exact Or.inr (by show 24 + b.val + 8 * (64 - 1) < 536; omega)
  | ⟨2, _⟩ => exact Or.inr (by show 0 + 1 * (128 - 1) < 128; omega)

theorem stride_part : ∀ a : Fin 3, 0 < (![1, 8, 1] : Fin 3 → Nat) a := by decide

/-- Every eighth row of lane chunk `k`, from row `24 + b`. -/
abbrev partRect (b k : Fin 8) : Rect S8x536x128 :=
  { off := ![k.val, 24 + b.val, 0], size := S1x64x128.size, stride := ![1, 8, 1], stride_pos := stride_part, inb := inb_part b k }

/-- The first `n` of the 64 stores of the first product, over the list `base`. -/
def partList (l : Loads F) (base : List (View.Piece (Elt F) S8x536x128 .f32)) : Nat → List (View.Piece (Elt F) S8x536x128 .f32)
  | 0 => base
  | n + 1 => ⟨partRect ⟨n / 8 % 8, by omega⟩ ⟨n % 8, by omega⟩,
      part (acc l ⟨n / 32 % 2, by omega⟩ 0) ⟨n / 8 % 4, by omega⟩ ⟨n % 8, by omega⟩⟩ :: partList l base n

theorem inb_chunk : ∀ (k : Fin 8) (a : Fin 3), (![k.val, 0, 0] : Fin 3 → Nat) a + S1x536x128.size a ≤ S8x536x128.size a := by decide
theorem inb_kept : ∀ (k : Fin 8) (a : Fin 3), (![k.val, 0, 0] : Fin 3 → Nat) a + S1x24x128.size a ≤ S8x536x128.size a := by decide
theorem inb_z : ∀ (k : Fin 8) (a : Fin 3), (![k.val, 0, 0] : Fin 3 → Nat) a + S1x512x128.size a ≤ S8x512x128.size a := by decide
theorem inb_tail : ∀ (k : Fin 8) (a : Fin 3), (![k.val, 0, 0] : Fin 3 → Nat) a + S1x8x128.size a ≤ S8x8x128.size a := by decide

/-- Lane chunk `k` as loaded after the stores `L`. -/
abbrev chunk (arg12 : Memref sig .tc .vmem S8x536x128 .f32) (fS : arg12.view.ty.Contents (Elt F))
    (L : List (View.Piece (Elt F) S8x536x128 .f32)) (k : Fin 8) : Vec F S1x536x128 .f32 :=
  arg12.view.readAt (Elt F) (Rect.unit (s := S8x536x128) ![k.val, 0, 0] S1x536x128.size (inb_chunk k)).toLoadRect (arg12.view.writes (Elt F) fS L)

/-- The last 24 rows of a lane chunk, kept for the next point. -/
def kept (v : Vec F S1x536x128 .f32) : FVec F S1x24x128 .f32 :=
  shapeCast S1x24x128 (extractStridedSlice S24x128 ![512, 0] (shapeCast S536x128 v shapeCasts_S1x536x128_S536x128)
    slices_S536x128_o512_0_S24x128) shapeCasts_S24x128_S1x24x128

/-- The first `n` of the eight stores of kept rows, over the 64 stores of the first product. -/
def keptList (arg12 : Memref sig .tc .vmem S8x536x128 .f32) (fS : arg12.view.ty.Contents (Elt F)) (l : Loads F)
    (base : List (View.Piece (Elt F) S8x536x128 .f32)) : Nat → List (View.Piece (Elt F) S8x536x128 .f32)
  | 0 => partList l base 64
  | n + 1 => ⟨Rect.unit ![(⟨n % 8, by omega⟩ : Fin 8).val, 0, 0] S1x24x128.size (inb_kept ⟨n % 8, by omega⟩),
      kept (chunk arg12 fS (keptList arg12 fS l base n) ⟨n % 8, by omega⟩)⟩ :: keptList arg12 fS l base n

def tap (v : Vec F S1x536x128 .f32) (w : Vec F S1x128 .f32) (o : Nat) (h : S536x128.Slices ![o, 0] S512x128) : FVec F S512x128 .f32 :=
  mulf (broadcastTo S512x128 (shapeCast S1x128 w shapeCasts_S1x128_S1x128) broadcasts_S1x128_S512x128)
    (extractStridedSlice S512x128 ![o, 0] (shapeCast S536x128 v shapeCasts_S1x536x128_S536x128) h)

/-- The convolution of one lane chunk. -/
def conv (v : Vec F S1x536x128 .f32) (b w0 w1 w2 w3 : Vec F S1x128 .f32) : FVec F S1x512x128 .f32 :=
  shapeCast S1x512x128 (addf (addf (addf (addf
    (broadcastTo S512x128 (shapeCast S1x128 b shapeCasts_S1x128_S1x128) broadcasts_S1x128_S512x128)
    (tap v w0 0 slices_S536x128_o0_0_S512x128)) (tap v w1 8 slices_S536x128_o8_0_S512x128)) (tap v w2 16 slices_S536x128_o16_0_S512x128))
    (tap v w3 24 slices_S536x128_o24_0_S512x128)) shapeCasts_S512x128_S1x512x128

def tapEnd (v : Vec F S1x536x128 .f32) (w : Vec F S1x128 .f32) (o : Nat) (h : S536x128.Slices ![o, 0] S8x128) : FVec F S8x128 .f32 :=
  mulf (broadcastTo S8x128 (shapeCast S1x128 w shapeCasts_S1x128_S1x128) broadcasts_S1x128_S8x128)
    (extractStridedSlice S8x128 ![o, 0] (shapeCast S536x128 v shapeCasts_S1x536x128_S536x128) h)

/-- The convolution's first three taps at the time after the chunk's last. -/
def convEnd (v : Vec F S1x536x128 .f32) (b w0 w1 w2 : Vec F S1x128 .f32) : FVec F S1x8x128 .f32 :=
  shapeCast S1x8x128 (addf (addf (addf
    (broadcastTo S8x128 (shapeCast S1x128 b shapeCasts_S1x128_S1x128) broadcasts_S1x128_S8x128)
    (tapEnd v w0 512 slices_S536x128_o512_0_S8x128)) (tapEnd v w1 520 slices_S536x128_o520_0_S8x128))
    (tapEnd v w2 528 slices_S536x128_o528_0_S8x128)) shapeCasts_S8x128_S1x8x128

section
variable (arg12 : Memref sig .tc .vmem S8x536x128 .f32) (fS : arg12.view.ty.Contents (Elt F)) (l : Loads F)
  (base : List (View.Piece (Elt F) S8x536x128 .f32))

abbrev zPiece (k : Fin 8) : View.Piece (Elt F) S8x512x128 .f32 :=
  ⟨Rect.unit ![k.val, 0, 0] S1x512x128.size (inb_z k),
    conv (chunk arg12 fS (keptList arg12 fS l base k.val) k) (l.cb k) (l.cw 0 k) (l.cw 1 k) (l.cw 2 k) (l.cw 3 k)⟩

abbrev endPiece (k : Fin 8) : View.Piece (Elt F) S8x8x128 .f32 :=
  ⟨Rect.unit ![k.val, 0, 0] S1x8x128.size (inb_tail k),
    convEnd (chunk arg12 fS (keptList arg12 fS l base k.val) k) (l.cb k) (l.cw 0 k) (l.cw 1 k) (l.cw 2 k)⟩

def zList : List (View.Piece (Elt F) S8x512x128 .f32) :=
  [zPiece arg12 fS l base 7, zPiece arg12 fS l base 6, zPiece arg12 fS l base 5, zPiece arg12 fS l base 4,
   zPiece arg12 fS l base 3, zPiece arg12 fS l base 2, zPiece arg12 fS l base 1, zPiece arg12 fS l base 0]

def endList : List (View.Piece (Elt F) S8x8x128 .f32) :=
  [endPiece arg12 fS l base 7, endPiece arg12 fS l base 6, endPiece arg12 fS l base 5, endPiece arg12 fS l base 4,
   endPiece arg12 fS l base 3, endPiece arg12 fS l base 2, endPiece arg12 fS l base 1, endPiece arg12 fS l base 0]

end

/-! ## The runs' stores are these -/

/-- The kept rows cleared, at the first point. -/
def cleared : List (View.Piece (Elt F) S8x536x128 .f32) :=
  [⟨Rect.unit ![0, 0, 0] S8x24x128.size inb_S8x536x128_S8x24x128_0_0_0, shapeCast S8x24x128 (broadcast S8x24x128 (Scalar.ofBits .f32 0x00000000#32)) shapeCasts_S8x24x128_S8x24x128⟩]

end Cert.ProjPieces

end
-- ==== Proof.ProjBlock.lean ====
/- The stores of one grid point of the projection (`ProjPieces`), read at an index on the extended reals: the products of
   the modulated rows, their activations, and the convolution over the rows kept from the point before. -/
module

public import proofs.«01_k».proof.Proof.ProjPieces
public import Idealize.ShloMosaic.Lib.Pointwise
public import Idealize.ShloMosaic.Lib.WritesUnit

@[expose] public section

set_option maxRecDepth 16384

noncomputable section

namespace Cert.ProjBlock

open Cert.ProjPieces Cert.ProjIdeal Cert.ProjIdeal.Gen Idealize.ShloMosaic

/-! ## The mathematics of one row -/

/-- A row of 1024 channels. -/
abbrev Row := Fin 1024 → EReal

/-- `y · rsqrt(mean(y²) + 1e-6) · g`, at channel `j`; the two literals are 1024 and 1e-6. -/
def rms (y g : Row) (j : Fin 1024) : EReal :=
  y j * Ideal.rsqrt (Ideal.div (∑ k, y k * y k) (Ideal.ofBits .f32 0x44800000#32) + Ideal.ofBits .f32 0x358637BD#32) * g j

/-- The modulated row: `rms(x) · (1 + sc) + sh`. -/
def modRow (x g sc sh : Row) (j : Fin 1024) : EReal := rms x g j * (1 + sc j) + sh j

/-- `gelu` of one entry, in its hyperbolic-tangent form; the literals are 1/2, √(2/π) and 0.044715. -/
def geluE (a : EReal) : EReal :=
  a * (Ideal.ofBits .f32 0x3F000000#32 * (1 + Ideal.tanh (Ideal.ofBits .f32 0x3F4C422A#32 * (a + Ideal.ofBits .f32 0x3D372713#32 * (a * (a * a))))))

/-- The logistic function of one entry. -/
def sigE (a : EReal) : EReal := Ideal.logistic a

/-! ## The products -/

/-- The row of the flattened (256, 1024) block that holds batch entry `b`, time `t`. -/
abbrev fl (b : Fin 4) (t : Fin 64) : Fin 256 := ⟨b.val * 64 + t.val, by omega⟩

theorem norm_apply (y : FVec Ideal S4x64x1024 .f32) (g : Vec Ideal S1x1024 .f32) (b : Fin 4) (t : Fin 64) (j : Fin 1024) :
    ProjPieces.norm y g (ix3 b t j) = rms (fun k => y (ix3 b t k)) (fun k => g (ix2 0 k)) j := by
  pointwise [ProjPieces.norm, rms]

theorem per_apply (v : Vec Ideal S4x1x1024 .f32) (b : Fin 4) (t : Fin 64) (j : Fin 1024) :
    per v (ix3 b t j) = v (ix3 b 0 j) := by
  pointwise [per]

theorem rows_apply (x : Vec Ideal S4x64x1024 .f32) (g : Vec Ideal S1x1024 .f32) (sc sh : Vec Ideal S4x1x1024 .f32)
    (b : Fin 4) (t : Fin 64) (j : Fin 1024) :
    rows x g sc sh (ix2 (fl b t) j)
      = modRow (fun k => x (ix3 b t k)) (fun k => g (ix2 0 k)) (fun k => sc (ix3 b 0 k)) (fun k => sh (ix3 b 0 k)) j := by
  have hb : (⟨(b.val * 64 + t.val) / 64, by omega⟩ : Fin 4) = b := Fin.ext (by show (b.val * 64 + t.val) / 64 = b.val; omega)
  have ht : (⟨(b.val * 64 + t.val) % 64, by omega⟩ : Fin 64) = t := Fin.ext (by show (b.val * 64 + t.val) % 64 = t.val; omega)
  pointwise [rows, modRow, norm_apply, per_apply]
  simp only [hb, ht]

theorem acc_apply (l : Loads Ideal) (q : Fin 2) (s : Fin 7) (b : Fin 4) (t : Fin 64) (j : Fin 1024) :
    acc l q s (ix2 (fl b t) j)
      = ∑ e, modRow (fun k => l.x q (ix3 b t k)) (fun k => l.g (ix2 0 k)) (fun k => l.sc q (ix3 b 0 k)) (fun k => l.sh q (ix3 b 0 k)) e
          * l.w s (ix2 e j) := by
  unfold acc
  have h := fun e => rows_apply (l.x q) l.g (l.sc q) (l.sh q) b t e
  generalize rows (l.x q) l.g (l.sc q) (l.sh q) = r at h
  simp only [← h]
  pointwise []

/-! ## The activated projections -/

theorem fin_apply (a : FVec Ideal S256x1024 .f32) (b : Fin 4) (t : Fin 64) (j : Fin 1024) :
    fin a (ix3 b t j) = a (ix2 (fl b t) j) := by
  pointwise [fin]

theorem gelu_apply (a : FVec Ideal S256x1024 .f32) (r : Fin 256) (j : Fin 1024) : gelu a (ix2 r j) = geluE (a (ix2 r j)) := by
  pointwise [gelu, geluE]

theorem scaled_apply (a : FVec Ideal S256x1024 .f32) (r : Fin 256) (j : Fin 1024) :
    scaled a (ix2 r j) = a (ix2 r j) * Ideal.ofBits .f32 0x3E38AA3B#32 := by
  pointwise [scaled]

theorem gate_apply (a : FVec Ideal S256x1024 .f32) (b : Vec Ideal S1x1024 .f32) (r : Fin 256) (j : Fin 1024) :
    gate a b (ix2 r j) = sigE (a (ix2 r j) + b (ix2 0 j)) := by
  pointwise [gate, sigE]

/-! ## The convolution of one lane chunk -/

theorem part_apply (a : FVec Ideal S256x1024 .f32) (b : Fin 4) (k : Fin 8) (t : Fin 64) (j : Fin 128) :
    part a b k (ix3 0 t j) = a (ix2 (fl b t) ⟨128 * k.val + j.val, by omega⟩) := by
  unfold part
  pointwise []
  congr 2 <;> exact Fin.ext (by simp <;> omega)

theorem kept_apply (v : Vec Ideal S1x536x128 .f32) (r : Fin 24) (j : Fin 128) :
    kept v (ix3 0 r j) = v (ix3 0 ⟨512 + r.val, by omega⟩ j) := by
  pointwise [kept]

/-- Four taps, from the bias on. -/
def tapsE (b : EReal) (w x : Fin 4 → EReal) : EReal := b + w 0 * x 0 + w 1 * x 1 + w 2 * x 2 + w 3 * x 3

theorem conv_apply (v : Vec Ideal S1x536x128 .f32) (b w0 w1 w2 w3 : Vec Ideal S1x128 .f32) (r : Fin 512) (j : Fin 128) :
    conv v b w0 w1 w2 w3 (ix3 0 r j)
      = b (ix2 0 j) + w0 (ix2 0 j) * v (ix3 0 ⟨r.val, by omega⟩ j) + w1 (ix2 0 j) * v (ix3 0 ⟨8 + r.val, by omega⟩ j)
        + w2 (ix2 0 j) * v (ix3 0 ⟨16 + r.val, by omega⟩ j) + w3 (ix2 0 j) * v (ix3 0 ⟨24 + r.val, by omega⟩ j) := by
  pointwise [conv, tap]

theorem convEnd_apply (v : Vec Ideal S1x536x128 .f32) (b w0 w1 w2 : Vec Ideal S1x128 .f32) (r : Fin 8) (j : Fin 128) :
    convEnd v b w0 w1 w2 (ix3 0 r j)
      = b (ix2 0 j) + w0 (ix2 0 j) * v (ix3 0 ⟨512 + r.val, by omega⟩ j) + w1 (ix2 0 j) * v (ix3 0 ⟨520 + r.val, by omega⟩ j)
        + w2 (ix2 0 j) * v (ix3 0 ⟨528 + r.val, by omega⟩ j) := by
  pointwise [convEnd, tapEnd]

end Cert.ProjBlock

end
-- ==== Proof.ProjStores.lean ====
/- What the stores of one grid point leave, read at an index on the extended reals: the scratch rows, the convolved block,
   the convolution's last partial time, and the activated projections. -/
module

public import proofs.«01_k».proof.Proof.ProjBlock

@[expose] public section

set_option maxRecDepth 16384

noncomputable section

namespace Cert.ProjStores

open Cert.ProjPieces Cert.ProjBlock Cert.ProjIdeal Cert.ProjIdeal.Gen Idealize.ShloMosaic

/-! ## The scratch -/

section
variable (arg12 : Memref sig .tc .vmem S8x536x128 .f32) (fS : arg12.view.ty.Contents (Elt Ideal)) (l : Loads Ideal)
  (base : List (View.Piece (Elt Ideal) S8x536x128 .f32)) (X : Fin 8 → ℕ → Fin 128 → EReal)

/-- The 64 stores of the first product put `X` in the rows from 24 on. -/
def Products : Prop := ∀ (n : ℕ) (hn : n < 64) (t : Fin 64) (j : Fin 128),
  part (acc l ⟨n / 32 % 2, by omega⟩ 0) ⟨n / 8 % 4, by omega⟩ ⟨n % 8, by omega⟩ (ix3 0 t j) = X ⟨n % 8, by omega⟩ (24 + n / 8 % 8 + 8 * t.val) j

/-- The rows before 24 hold `X` already. -/
def Before : Prop := ∀ (k : Fin 8) (r : Fin 536) (j : Fin 128), r.val < 24 →
  arg12.view.read (Elt Ideal) (arg12.view.writes (Elt Ideal) fS base) (ix3 k r j) = X k r.val j

variable {l base X fS arg12}

theorem part_read (hp : Products l X) (hb : Before arg12 fS base X) : ∀ (n : ℕ), n ≤ 64 → ∀ (k : Fin 8) (r : Fin 536) (j : Fin 128),
    r.val < 24 ∨ (r.val % 8) * 8 + k.val < n →
    arg12.view.read (Elt Ideal) (arg12.view.writes (Elt Ideal) fS (partList l base n)) (ix3 k r j) = X k r.val j
  | 0, _, k, r, j, h => hb k r j (by omega)
  | n + 1, hn, k, r, j, h => by
    have hk : k.val < 8 := k.isLt
    have hr : r.val < 536 := r.isLt
    by_cases hit : 24 ≤ r.val ∧ (r.val % 8) * 8 + k.val = n
    · obtain ⟨h24, e⟩ := hit
      have ek : (⟨n % 8, by omega⟩ : Fin 8) = k := Fin.ext (by show n % 8 = k.val; omega)
      have er : 24 + n / 8 % 8 + 8 * ((r.val - 24) / 8) = r.val := by omega
      refine (View.read_writes_cons_hit_of_coords arg12.view fS _ _ _ (ix3 0 ⟨(r.val - 24) / 8, by omega⟩ j) _ (fun (a : Fin 3) => ?_)).trans ?_
      · match a with
        | ⟨0, _⟩ => show k.val = n % 8 + 1 * 0; omega
        | ⟨1, _⟩ => show r.val = 24 + n / 8 % 8 + 8 * ((r.val - 24) / 8); omega
        | ⟨2, _⟩ => show j.val = 0 + 1 * j.val; omega
      · refine (hp n (by omega) ⟨(r.val - 24) / 8, by omega⟩ j).trans ?_
        show X ⟨n % 8, _⟩ (24 + n / 8 % 8 + 8 * ((r.val - 24) / 8)) j = X k r.val j
        rw [ek, er]
    · refine (View.read_writes_cons_miss arg12.view fS _ _ _ ?_).trans (part_read hp hb n (by omega) k r j ?_)
      · intro hy
        have h0 := (LoadRect.mem_set _).mp hy
        obtain ⟨i0, hi0, e0⟩ := h0 (0 : Fin 3)
        obtain ⟨i1, hi1, e1⟩ := h0 (1 : Fin 3)
        have hi0' : i0 < 1 := hi0
        have hi1' : i1 < 64 := hi1
        have e0' : k.val = n % 8 + 1 * i0 := e0
        have e1' : r.val = 24 + n / 8 % 8 + 8 * i1 := e1
        omega
      · omega

theorem chunk_apply (L : List (View.Piece (Elt Ideal) S8x536x128 .f32)) (k : Fin 8) (r : Fin 536) (j : Fin 128) :
    chunk arg12 fS L k (ix3 0 r j) = arg12.view.read (Elt Ideal) (arg12.view.writes (Elt Ideal) fS L) (ix3 k r j) := by
  refine congrArg (arg12.view.read (Elt Ideal) (arg12.view.writes (Elt Ideal) fS L)) (funext fun (a : Fin 3) => Fin.ext ?_)
  match a with
  | ⟨0, _⟩ => show k.val + 1 * 0 = k.val; omega
  | ⟨1, _⟩ => show 0 + 1 * r.val = r.val; omega
  | ⟨2, _⟩ => show 0 + 1 * j.val = j.val; omega

/-- After `n` chunks have kept their last 24 rows, those chunks' first rows hold `X` 512 rows on. -/
theorem kept_read (hp : Products l X) (hb : Before arg12 fS base X) : ∀ (n : ℕ), n ≤ 8 → ∀ (k : Fin 8) (r : Fin 536) (j : Fin 128),
    arg12.view.read (Elt Ideal) (arg12.view.writes (Elt Ideal) fS (keptList arg12 fS l base n)) (ix3 k r j)
      = X k (if k.val < n ∧ r.val < 24 then 512 + r.val else r.val) j
  | 0, _, k, r, j => by
    rw [if_neg (by omega)]
    exact part_read hp hb 64 le_rfl k r j (by omega)
  | n + 1, hn, k, r, j => by
    by_cases hit : k.val = n ∧ r.val < 24
    · obtain ⟨e, h24⟩ := hit
      have ek : (⟨n % 8, by omega⟩ : Fin 8) = k := Fin.ext (by show n % 8 = k.val; omega)
      refine (View.read_writes_cons_hit_of_coords arg12.view fS _ _ _ (ix3 0 ⟨r.val, h24⟩ j) _ (fun (a : Fin 3) => ?_)).trans ?_
      · match a with
        | ⟨0, _⟩ => show k.val = n % 8 + 1 * 0; omega
        | ⟨1, _⟩ => show r.val = 0 + 1 * r.val; omega
        | ⟨2, _⟩ => show j.val = 0 + 1 * j.val; omega
      · rw [kept_apply, chunk_apply, kept_read hp hb n (by omega), ek, if_neg (by show ¬(k.val < n ∧ 512 + r.val < 24); omega),
          if_pos (by omega)]
    · refine (View.read_writes_cons_miss arg12.view fS _ _ _ ?_).trans ((kept_read hp hb n (by omega) k r j).trans ?_)
      · intro hy
        have h0 := (LoadRect.mem_set _).mp hy
        obtain ⟨i0, hi0, e0⟩ := h0 (0 : Fin 3)
        obtain ⟨i1, hi1, e1⟩ := h0 (1 : Fin 3)
        have hi0' : i0 < 1 := hi0
        have hi1' : i1 < 24 := hi1
        have e0' : k.val = n % 8 + 1 * i0 := e0
        have e1' : r.val = 0 + 1 * i1 := e1
        omega
      · congr 1
        by_cases hc : k.val < n ∧ r.val < 24
        · rw [if_pos hc, if_pos (by omega)]
        · rw [if_neg hc, if_neg (by omega)]

/-- What the point leaves in the first 24 rows. -/
theorem after_read (hp : Products l X) (hb : Before arg12 fS base X) (k : Fin 8) (r : Fin 536) (j : Fin 128) (h : r.val < 24) :
    arg12.view.read (Elt Ideal) (arg12.view.writes (Elt Ideal) fS (keptList arg12 fS l base 8)) (ix3 k r j) = X k (512 + r.val) j := by
  rw [kept_read hp hb 8 le_rfl, if_pos ⟨k.isLt, h⟩]

theorem chunk_read (hp : Products l X) (hb : Before arg12 fS base X) (k : Fin 8) (r : Fin 536) (j : Fin 128) :
    chunk arg12 fS (keptList arg12 fS l base k.val) k (ix3 0 r j) = X k r.val j := by
  rw [chunk_apply, kept_read hp hb k.val (by omega), if_neg (by omega)]

/-! ## The convolved block -/

/-- One entry of the convolution, over four rows of `X` eight apart. -/
def convE (l : Loads Ideal) (X : Fin 8 → ℕ → Fin 128 → EReal) (k : Fin 8) (r : ℕ) (j : Fin 128) : EReal :=
  l.cb k (ix2 0 j) + l.cw 0 k (ix2 0 j) * X k r j + l.cw 1 k (ix2 0 j) * X k (8 + r) j + l.cw 2 k (ix2 0 j) * X k (16 + r) j
    + l.cw 3 k (ix2 0 j) * X k (24 + r) j

/-- Its first three taps, from row 512 on. -/
def endE (l : Loads Ideal) (X : Fin 8 → ℕ → Fin 128 → EReal) (k : Fin 8) (r : ℕ) (j : Fin 128) : EReal :=
  l.cb k (ix2 0 j) + l.cw 0 k (ix2 0 j) * X k (512 + r) j + l.cw 1 k (ix2 0 j) * X k (520 + r) j + l.cw 2 k (ix2 0 j) * X k (528 + r) j

theorem zPiece_apply (hp : Products l X) (hb : Before arg12 fS base X) (k : Fin 8) (x : S1x512x128.Idx) :
    (zPiece arg12 fS l base k).2 x = convE l X k (x 1).val (x 2) := by
  have hx : x = ix3 0 (x 1) (x 2) := by
    refine (ValueIdx.eq_ix3 x).trans ?_
    have h0 : x 0 = (0 : Fin 1) := Fin.ext (by have : (x 0).val < 1 := (x 0).isLt; show (x 0).val = 0; omega)
    rw [h0]
    rfl
  obtain ⟨r, hr⟩ : ∃ r : Fin 512, x 1 = r := ⟨x 1, rfl⟩
  obtain ⟨j, hj⟩ : ∃ j : Fin 128, x 2 = j := ⟨x 2, rfl⟩
  rw [hr, hj] at hx
  rw [hr, hj, hx]
  refine (conv_apply _ _ _ _ _ _ r j).trans ?_
  rw [chunk_read hp hb, chunk_read hp hb, chunk_read hp hb, chunk_read hp hb]
  rfl

theorem endPiece_apply (hp : Products l X) (hb : Before arg12 fS base X) (k : Fin 8) (x : S1x8x128.Idx) :
    (endPiece arg12 fS l base k).2 x = endE l X k (x 1).val (x 2) := by
  have hx : x = ix3 0 (x 1) (x 2) := by
    refine (ValueIdx.eq_ix3 x).trans ?_
    have h0 : x 0 = (0 : Fin 1) := Fin.ext (by have : (x 0).val < 1 := (x 0).isLt; show (x 0).val = 0; omega)
    rw [h0]
    rfl
  obtain ⟨r, hr⟩ : ∃ r : Fin 8, x 1 = r := ⟨x 1, rfl⟩
  obtain ⟨j, hj⟩ : ∃ j : Fin 128, x 2 = j := ⟨x 2, rfl⟩
  rw [hr, hj] at hx
  rw [hr, hj, hx]
  refine (convEnd_apply _ _ _ _ _ r j).trans ?_
  rw [chunk_read hp hb, chunk_read hp hb, chunk_read hp hb]
  rfl

theorem mem_zList (p : View.Piece (Elt Ideal) S8x512x128 .f32) : p ∈ zList arg12 fS l base ↔ ∃ k, p = zPiece arg12 fS l base k := by
  unfold zList
  constructor
  · intro h
    simp only [List.mem_cons, List.not_mem_nil, or_false] at h
    rcases h with h | h | h | h | h | h | h | h <;> exact ⟨_, h⟩
  · rintro ⟨k, rfl⟩
    fin_cases k <;> simp

theorem mem_endList (p : View.Piece (Elt Ideal) S8x8x128 .f32) : p ∈ endList arg12 fS l base ↔ ∃ k, p = endPiece arg12 fS l base k := by
  unfold endList
  constructor
  · intro h
    simp only [List.mem_cons, List.not_mem_nil, or_false] at h
    rcases h with h | h | h | h | h | h | h | h <;> exact ⟨_, h⟩
  · rintro ⟨k, rfl⟩
    fin_cases k <;> simp

theorem z_read (v : View sig .tc .vmem S8x512x128 .f32) (f : v.ty.Contents (Elt Ideal)) (hp : Products l X) (hb : Before arg12 fS base X) :
    v.read (Elt Ideal) (v.writes (Elt Ideal) f (zList arg12 fS l base)) = fun y => convE l X (y 0) (y 1).val (y 2) := by
  funext y
  refine View.read_writes_apply_of_pieces v f (fun y : S8x512x128.Idx => convE l X (y 0) (y 1).val (y 2)) _ (fun p hm x => ?_) y ?_
  · obtain ⟨k, rfl⟩ := (mem_zList p).mp hm
    refine (zPiece_apply hp hb k x).trans ?_
    have h0 : (x 0).val < 1 := (x 0).isLt
    have e0 : (zPiece arg12 fS l base k).1.emb x 0 = k := Fin.ext (by show k.val + 1 * (x 0).val = k.val; omega)
    have e1 : ((zPiece arg12 fS l base k).1.emb x 1).val = (x 1).val := by show 0 + 1 * (x 1).val = (x 1).val; omega
    have e2 : (zPiece arg12 fS l base k).1.emb x 2 = x 2 := Fin.ext (by show 0 + 1 * (x 2).val = (x 2).val; omega)
    show _ = convE l X ((zPiece arg12 fS l base k).1.emb x 0) ((zPiece arg12 fS l base k).1.emb x 1).val ((zPiece arg12 fS l base k).1.emb x 2)
    rw [e0, e1, e2]
  · refine ⟨zPiece arg12 fS l base (y 0), (mem_zList _).mpr ⟨y 0, rfl⟩, (Rect.mem_set_unit (inb := inb_z (y 0))).mpr fun (a : Fin 3) => ?_⟩
    have h1 : (y 1).val < 512 := (y 1).isLt
    have h2 : (y 2).val < 128 := (y 2).isLt
    match a with
    | ⟨0, _⟩ => exact ⟨le_rfl, Nat.lt_succ_self _⟩
    | ⟨1, _⟩ => exact ⟨Nat.zero_le _, by show (y 1).val < 0 + 512; omega⟩
    | ⟨2, _⟩ => exact ⟨Nat.zero_le _, by show (y 2).val < 0 + 128; omega⟩

theorem end_read (v : View sig .tc .vmem S8x8x128 .f32) (f : v.ty.Contents (Elt Ideal)) (hp : Products l X) (hb : Before arg12 fS base X) :
    v.read (Elt Ideal) (v.writes (Elt Ideal) f (endList arg12 fS l base)) = fun y => endE l X (y 0) (y 1).val (y 2) := by
  funext y
  refine View.read_writes_apply_of_pieces v f (fun y : S8x8x128.Idx => endE l X (y 0) (y 1).val (y 2)) _ (fun p hm x => ?_) y ?_
  · obtain ⟨k, rfl⟩ := (mem_endList p).mp hm
    refine (endPiece_apply hp hb k x).trans ?_
    have h0 : (x 0).val < 1 := (x 0).isLt
    have e0 : (endPiece arg12 fS l base k).1.emb x 0 = k := Fin.ext (by show k.val + 1 * (x 0).val = k.val; omega)
    have e1 : ((endPiece arg12 fS l base k).1.emb x 1).val = (x 1).val := by show 0 + 1 * (x 1).val = (x 1).val; omega
    have e2 : (endPiece arg12 fS l base k).1.emb x 2 = x 2 := Fin.ext (by show 0 + 1 * (x 2).val = (x 2).val; omega)
    show _ = endE l X ((endPiece arg12 fS l base k).1.emb x 0) ((endPiece arg12 fS l base k).1.emb x 1).val ((endPiece arg12 fS l base k).1.emb x 2)
    rw [e0, e1, e2]
  · refine ⟨endPiece arg12 fS l base (y 0), (mem_endList _).mpr ⟨y 0, rfl⟩, (Rect.mem_set_unit (inb := inb_tail (y 0))).mpr fun (a : Fin 3) => ?_⟩
    have h1 : (y 1).val < 8 := (y 1).isLt
    have h2 : (y 2).val < 128 := (y 2).isLt
    match a with
    | ⟨0, _⟩ => exact ⟨le_rfl, Nat.lt_succ_self _⟩
    | ⟨1, _⟩ => exact ⟨Nat.zero_le _, by show (y 1).val < 0 + 8; omega⟩
    | ⟨2, _⟩ => exact ⟨Nat.zero_le _, by show (y 2).val < 0 + 128; omega⟩

/-- The cleared rows read zero, whatever the scratch held. -/
theorem cleared_read (k : Fin 8) (r : Fin 536) (j : Fin 128) (h : r.val < 24) :
    arg12.view.read (Elt Ideal) (arg12.view.writes (Elt Ideal) fS cleared) (ix3 k r j) = 0 := by
  unfold cleared
  refine (View.read_writes_cons_hit_of_coords arg12.view fS _ _ _ (ix3 k ⟨r.val, h⟩ j) _ (fun (a : Fin 3) => ?_)).trans ?_
  · match a with
    | ⟨0, _⟩ => show k.val = 0 + 1 * k.val; omega
    | ⟨1, _⟩ => show r.val = 0 + 1 * r.val; omega
    | ⟨2, _⟩ => show j.val = 0 + 1 * j.val; omega
  · pointwise []

end

/-! ## The activated projections -/

/-- The activation of channel `j`, on the product's entry `a`. -/
def segE (l : Loads Ideal) (j : Fin 6144) (a : EReal) : EReal :=
  if j.val < 1024 then geluE a
  else if j.val < 2048 then a * Ideal.ofBits .f32 0x3E38AA3B#32
  else if j.val < 4096 then a
  else if j.val < 5120 then sigE (a + l.bg 0 (ix2 0 ⟨j.val % 1024, by omega⟩))
  else sigE (a + l.bg 1 (ix2 0 ⟨j.val % 1024, by omega⟩))

/-- Entry (batch `b`, time `t`, channel `j`) of the activated projections. -/
def actE (l : Loads Ideal) (b : Fin 8) (t : Fin 64) (j : Fin 6144) : EReal :=
  segE l j (acc l ⟨b.val / 4, by omega⟩ ⟨1 + j.val / 1024, by omega⟩ (ix2 (fl ⟨b.val % 4, by omega⟩ t) ⟨j.val % 1024, by omega⟩))

/-- One store of a group `q`, segment `s`, is `actE` where it goes. -/
theorem store_act (l : Loads Ideal) (q : Fin 2) (s : Fin 6) (o : Nat) (ho : o = 1024 * s.val) (oq : Nat) (hq : oq = 4 * q.val)
    (inb : ∀ a : Fin 3, (![oq, 0, o] : Fin 3 → Nat) a + S4x64x1024.size a ≤ S8x64x6144.size a)
    (w : FVec Ideal S4x64x1024 .bf16)
    (hw : ∀ (b : Fin 4) (t : Fin 64) (j : Fin 1024), w (ix3 b t j) = actE l ⟨4 * q.val + b.val, by omega⟩ t ⟨1024 * s.val + j.val, by omega⟩)
    (x : S4x64x1024.Idx) :
    w x = actE l ((Rect.unit (s := S8x64x6144) ![oq, 0, o] S4x64x1024.size inb).emb x 0) ((Rect.unit (s := S8x64x6144) ![oq, 0, o] S4x64x1024.size inb).emb x 1)
      ((Rect.unit (s := S8x64x6144) ![oq, 0, o] S4x64x1024.size inb).emb x 2) := by
  subst ho hq
  have e0 : (Rect.unit (s := S8x64x6144) ![4 * q.val, 0, 1024 * s.val] S4x64x1024.size inb).emb x 0 = (⟨4 * q.val + (x 0).val, by have : (x 0).val < 4 := (x 0).isLt; omega⟩ : Fin 8) :=
    Fin.ext (by show 4 * q.val + 1 * (x 0).val = 4 * q.val + (x 0).val; omega)
  have e1 : (Rect.unit (s := S8x64x6144) ![4 * q.val, 0, 1024 * s.val] S4x64x1024.size inb).emb x 1 = x 1 := Fin.ext (by show 0 + 1 * (x 1).val = (x 1).val; omega)
  have e2 : (Rect.unit (s := S8x64x6144) ![4 * q.val, 0, 1024 * s.val] S4x64x1024.size inb).emb x 2 = (⟨1024 * s.val + (x 2).val, by have : (x 2).val < 1024 := (x 2).isLt; omega⟩ : Fin 6144) :=
    Fin.ext (by show 1024 * s.val + 1 * (x 2).val = 1024 * s.val + (x 2).val; omega)
  rw [e0, e1, e2]
  exact (congrArg w (ValueIdx.eq_ix3 x)).trans (hw (x 0) (x 1) (x 2))

/-- The product that `actE` reads, at group `q` and segment `s`. -/
theorem actE_at (l : Loads Ideal) (q : Fin 2) (s : Fin 6) (b : Fin 4) (t : Fin 64) (j : Fin 1024) (hb : 4 * q.val + b.val < 8)
    (hj : 1024 * s.val + j.val < 6144) :
    actE l ⟨4 * q.val + b.val, hb⟩ t ⟨1024 * s.val + j.val, hj⟩
      = segE l ⟨1024 * s.val + j.val, hj⟩ (acc l q ⟨1 + s.val, by omega⟩ (ix2 (fl b t) j)) := by
  unfold actE
  have h1 : (⟨(4 * q.val + b.val) / 4, by omega⟩ : Fin 2) = q := Fin.ext (by show (4 * q.val + b.val) / 4 = q.val; omega)
  have h2 : (⟨1 + (1024 * s.val + j.val) / 1024, by omega⟩ : Fin 7) = ⟨1 + s.val, by omega⟩ := Fin.ext (by show 1 + (1024 * s.val + j.val) / 1024 = 1 + s.val; omega)
  have h3 : (⟨(4 * q.val + b.val) % 4, by omega⟩ : Fin 4) = b := Fin.ext (by show (4 * q.val + b.val) % 4 = b.val; omega)
  have h4 : (⟨(1024 * s.val + j.val) % 1024, by omega⟩ : Fin 1024) = j := Fin.ext (by show (1024 * s.val + j.val) % 1024 = j.val; omega)
  show segE l _ (acc l ⟨(4 * q.val + b.val) / 4, _⟩ ⟨1 + (1024 * s.val + j.val) / 1024, _⟩ (ix2 (fl ⟨(4 * q.val + b.val) % 4, _⟩ t) ⟨(1024 * s.val + j.val) % 1024, _⟩)) = _
  rw [h1, h2, h3, h4]

theorem act0 (l : Loads Ideal) (q : Fin 2) (b : Fin 4) (t : Fin 64) (j : Fin 1024) :
    fin (ProjPieces.gelu (acc l q 1)) (ix3 b t j) = actE l ⟨4 * q.val + b.val, by omega⟩ t ⟨1024 * (⟨0, by omega⟩ : Fin 6).val + j.val, by have := j.isLt; show 1024 * 0 + j.val < 6144; omega⟩ := by
  have hj := j.isLt
  rw [actE_at, fin_apply, gelu_apply]
  unfold segE
  rw [if_pos (by show (1024 * 0 + j.val < 1024); omega)]
  rfl

theorem act1 (l : Loads Ideal) (q : Fin 2) (b : Fin 4) (t : Fin 64) (j : Fin 1024) :
    fin (scaled (acc l q 2)) (ix3 b t j) = actE l ⟨4 * q.val + b.val, by omega⟩ t ⟨1024 * (⟨1, by omega⟩ : Fin 6).val + j.val, by have := j.isLt; show 1024 * 1 + j.val < 6144; omega⟩ := by
  have hj := j.isLt
  rw [actE_at, fin_apply, scaled_apply]
  unfold segE
  rw [if_neg (by show ¬ (1024 * 1 + j.val < 1024); omega), if_pos (by show (1024 * 1 + j.val < 2048); omega)]
  rfl

theorem act2 (l : Loads Ideal) (q : Fin 2) (b : Fin 4) (t : Fin 64) (j : Fin 1024) :
    fin (acc l q 3) (ix3 b t j) = actE l ⟨4 * q.val + b.val, by omega⟩ t ⟨1024 * (⟨2, by omega⟩ : Fin 6).val + j.val, by have := j.isLt; show 1024 * 2 + j.val < 6144; omega⟩ := by
  have hj := j.isLt
  rw [actE_at, fin_apply]
  unfold segE
  rw [if_neg (by show ¬ (1024 * 2 + j.val < 1024); omega), if_neg (by show ¬ (1024 * 2 + j.val < 2048); omega), if_pos (by show (1024 * 2 + j.val < 4096); omega)]
  rfl

theorem act3 (l : Loads Ideal) (q : Fin 2) (b : Fin 4) (t : Fin 64) (j : Fin 1024) :
    fin (acc l q 4) (ix3 b t j) = actE l ⟨4 * q.val + b.val, by omega⟩ t ⟨1024 * (⟨3, by omega⟩ : Fin 6).val + j.val, by have := j.isLt; show 1024 * 3 + j.val < 6144; omega⟩ := by
  have hj := j.isLt
  rw [actE_at, fin_apply]
  unfold segE
  rw [if_neg (by show ¬ (1024 * 3 + j.val < 1024); omega), if_neg (by show ¬ (1024 * 3 + j.val < 2048); omega), if_pos (by show (1024 * 3 + j.val < 4096); omega)]
  rfl

theorem act4 (l : Loads Ideal) (q : Fin 2) (b : Fin 4) (t : Fin 64) (j : Fin 1024) :
    fin (gate (acc l q 5) (l.bg 0)) (ix3 b t j) = actE l ⟨4 * q.val + b.val, by omega⟩ t ⟨1024 * (⟨4, by omega⟩ : Fin 6).val + j.val, by have := j.isLt; show 1024 * 4 + j.val < 6144; omega⟩ := by
  have hj := j.isLt
  rw [actE_at, fin_apply, gate_apply]
  unfold segE
  rw [if_neg (by show ¬ (1024 * 4 + j.val < 1024); omega), if_neg (by show ¬ (1024 * 4 + j.val < 2048); omega), if_neg (by show ¬ (1024 * 4 + j.val < 4096); omega), if_pos (by show (1024 * 4 + j.val < 5120); omega)]
  have ej : (⟨(1024 * 4 + j.val) % 1024, by omega⟩ : Fin 1024) = j := Fin.ext (by show (1024 * 4 + j.val) % 1024 = j.val; omega)
  show _ = sigE (_ + l.bg 0 (ix2 0 ⟨(1024 * 4 + j.val) % 1024, _⟩))
  rw [ej]
  rfl

theorem act5 (l : Loads Ideal) (q : Fin 2) (b : Fin 4) (t : Fin 64) (j : Fin 1024) :
    fin (gate (acc l q 6) (l.bg 1)) (ix3 b t j) = actE l ⟨4 * q.val + b.val, by omega⟩ t ⟨1024 * (⟨5, by omega⟩ : Fin 6).val + j.val, by have := j.isLt; show 1024 * 5 + j.val < 6144; omega⟩ := by
  have hj := j.isLt
  rw [actE_at, fin_apply, gate_apply]
  unfold segE
  rw [if_neg (by show ¬ (1024 * 5 + j.val < 1024); omega), if_neg (by show ¬ (1024 * 5 + j.val < 2048); omega), if_neg (by show ¬ (1024 * 5 + j.val < 4096); omega), if_neg (by show ¬ (1024 * 5 + j.val < 5120); omega)]
  have ej : (⟨(1024 * 5 + j.val) % 1024, by omega⟩ : Fin 1024) = j := Fin.ext (by show (1024 * 5 + j.val) % 1024 = j.val; omega)
  show _ = sigE (_ + l.bg 1 (ix2 0 ⟨(1024 * 5 + j.val) % 1024, _⟩))
  rw [ej]
  rfl

theorem pr_cover (l : Loads Ideal) (y : S8x64x6144.Idx) : ∃ p ∈ prList l, y ∈ p.1.set :=
  View.cover_of_tiledL (prList l) S4x64x1024.size (by rfl) y

theorem pr_read (l : Loads Ideal) (v : View sig .tc .vmem S8x64x6144 .bf16) (f : v.ty.Contents (Elt Ideal)) :
    v.read (Elt Ideal) (v.writes (Elt Ideal) f (prList l)) = fun y => actE l (y 0) (y 1) (y 2) := by
  funext y
  refine View.read_writes_apply_of_pieces v f (fun y : S8x64x6144.Idx => (actE l (y 0) (y 1) (y 2) : EReal)) _ (fun p hm => ?_) y (pr_cover l y)
  unfold prList at hm
  simp only [List.mem_cons, List.not_mem_nil, or_false] at hm
  rcases hm with h | h | h | h | h | h | h | h | h | h | h | h <;> subst h
  · exact store_act l 1 5 5120 rfl 4 rfl inb_S8x64x6144_S4x64x1024_4_0_5120 _ (act5 l 1)
  · exact store_act l 0 5 5120 rfl 0 rfl inb_S8x64x6144_S4x64x1024_0_0_5120 _ (act5 l 0)
  · exact store_act l 1 4 4096 rfl 4 rfl inb_S8x64x6144_S4x64x1024_4_0_4096 _ (act4 l 1)
  · exact store_act l 0 4 4096 rfl 0 rfl inb_S8x64x6144_S4x64x1024_0_0_4096 _ (act4 l 0)
  · exact store_act l 1 3 3072 rfl 4 rfl inb_S8x64x6144_S4x64x1024_4_0_3072 _ (act3 l 1)
  · exact store_act l 0 3 3072 rfl 0 rfl inb_S8x64x6144_S4x64x1024_0_0_3072 _ (act3 l 0)
  · exact store_act l 1 2 2048 rfl 4 rfl inb_S8x64x6144_S4x64x1024_4_0_2048 _ (act2 l 1)
  · exact store_act l 0 2 2048 rfl 0 rfl inb_S8x64x6144_S4x64x1024_0_0_2048 _ (act2 l 0)
  · exact store_act l 1 1 1024 rfl 4 rfl inb_S8x64x6144_S4x64x1024_4_0_1024 _ (act1 l 1)
  · exact store_act l 0 1 1024 rfl 0 rfl inb_S8x64x6144_S4x64x1024_0_0_1024 _ (act1 l 0)
  · exact store_act l 1 0 0 rfl 4 rfl inb_S8x64x6144_S4x64x1024_4_0_0 _ (act0 l 1)
  · exact store_act l 0 0 0 rfl 0 rfl inb_S8x64x6144_S4x64x1024_0_0_0 _ (act0 l 0)

end Cert.ProjStores

end
-- ==== Proof.ProjMath.lean ====
/- The projection's mathematics over the whole arguments, and what a grid point's loads are of it: point `p` works on the
   times 64 p … 64 p + 63; the convolution's input, by (time step, batch entry, channel), is the first product with three zero
   time steps before it and one after. -/
module

public import proofs.«01_k».proof.Proof.ProjStores
public import proofs.«01_k».proof.Proof.Gen.ProjIdeal.Frame
public import Idealize.ShloMosaic.Lib.Pipeline.Value
public import Idealize.ShloMosaic.Lib.Claim

@[expose] public section

set_option maxRecDepth 16384

noncomputable section

namespace Cert.ProjMath

open Cert.ProjStores Cert.ProjBlock Cert.ProjPieces Cert.ProjIdeal Cert.ProjIdeal.Gen
open Idealize.ShloMosaic Idealize.ShloMosaic.TcCoe Idealize.ShloMosaic.Tactic

/-! ## The mathematics -/

section
variable (x : Vec Ideal S8x2048x1024 .f32) (md : Vec Ideal S16x6144 .f32) (g : Vec Ideal S1024 .f32) (w : Vec Ideal S1024x7168 .f32)
  (bg : Vec Ideal S2048 .f32) (cw : Vec Ideal S4x1024 .f32) (cb : Vec Ideal S1024 .f32)

/-- The projection at (batch b, time T, channel j): the modulated row times the weights. -/
def projE (b : Fin 8) (T : Fin 2048) (j : Fin 7168) : EReal :=
  ∑ e, modRow (fun k => x (ix3 b T k)) (fun k => g (ix1 k)) (fun k => md (ix2 ⟨b.val, by omega⟩ ⟨1024 + k.val, by omega⟩))
    (fun k => md (ix2 ⟨b.val, by omega⟩ ⟨k.val, by omega⟩)) e * w (ix2 e j)

/-- The convolution's input: time step `s` is the projection's time `s - 3`, and zero outside. -/
def rowE (s : ℕ) (b : Fin 8) (j : Fin 1024) : EReal :=
  if h : 3 ≤ s ∧ s < 2051 then projE x md g w b ⟨s - 3, by omega⟩ ⟨j.val, by omega⟩ else 0

/-- Half the convolution at time step `s`, the halved taps applied one by one. -/
def convG (s : ℕ) (b : Fin 8) (j : Fin 1024) : EReal :=
  Ideal.ofBits .f32 0x3F000000#32 * cb (ix1 j) + Ideal.ofBits .f32 0x3F000000#32 * cw (ix2 0 j) * rowE x md g w s b j
    + Ideal.ofBits .f32 0x3F000000#32 * cw (ix2 1 j) * rowE x md g w (s + 1) b j
    + Ideal.ofBits .f32 0x3F000000#32 * cw (ix2 2 j) * rowE x md g w (s + 2) b j
    + Ideal.ofBits .f32 0x3F000000#32 * cw (ix2 3 j) * rowE x md g w (s + 3) b j

/-- The activated projection at (batch b, time T, channel j). -/
def actG (b : Fin 8) (T : Fin 2048) (j : Fin 6144) : EReal :=
  if j.val < 1024 then geluE (projE x md g w b T ⟨1024 + j.val, by omega⟩)
  else if j.val < 2048 then projE x md g w b T ⟨1024 + j.val, by omega⟩ * Ideal.ofBits .f32 0x3E38AA3B#32
  else if h : j.val < 4096 then projE x md g w b T ⟨1024 + j.val, by omega⟩
  else sigE (projE x md g w b T ⟨1024 + j.val, by omega⟩ + bg (ix1 ⟨j.val - 4096, by omega⟩))

/-- A grid point's rows of the convolution's input: lane chunk, row (eight batch entries to a time step), lane. -/
def ptX (p : ℕ) (k : Fin 8) (r : ℕ) (j : Fin 128) : EReal :=
  rowE x md g w (64 * p + r / 8) ⟨r % 8, by omega⟩ ⟨128 * k.val + j.val, by omega⟩

theorem ptX_next (p : ℕ) (k : Fin 8) (r : ℕ) (j : Fin 128) : ptX x md g w p k (512 + r) j = ptX x md g w (p + 1) k r j := by
  unfold ptX
  congr 1
  · omega
  · exact Fin.ext (by show (512 + r) % 8 = r % 8; omega)

theorem ptX_first (k : Fin 8) (r : ℕ) (j : Fin 128) (h : r < 24) : ptX x md g w 0 k r j = 0 := by
  unfold ptX rowE
  rw [dif_neg (by omega)]

end

/-! ## The staged blocks -/

section
variable {F : FTy → Type} [FloatOps F]
variable (m : (ℓ : Loc nD τ sig) → Buf (Elt F) ℓ)

theorem at0 : ∀ t : Fin cfg0.N, win0_0.index t (0 : Fin 3) = 0 ∧ win0_0.index t (1 : Fin 3) = t.val ∧ win0_0.index t (2 : Fin 3) = 0 :=
  (by decide +kernel : ∀ t : Fin grid0.N, _)

theorem block0 (c : Dev nD) (t : Fin cfg0.N) (y : S8x64x1024.Idx) (z : S8x2048x1024.Idx) (h0 : (z 0).val = (y 0).val) (h1 : (z 1).val = t.val * 64 + (y 1).val) (h2 : (z 2).val = (y 2).val) :
    iblk m c 0 t y = V m c main_arg0 z := by
  obtain ⟨e0, e1, e2⟩ := at0 t
  show V m c main_arg0 (((cfg0.win 0).blk t).view.emb y) = _
  refine congrArg _ (funext fun (a : Fin 3) => Fin.ext ?_)
  match a with
    | ⟨0, _⟩ => show win0_0.index t (0 : Fin 3) * 8 + 1 * (y 0).val = (z 0).val; omega
    | ⟨1, _⟩ => show win0_0.index t (1 : Fin 3) * 64 + 1 * (y 1).val = (z 1).val; omega
    | ⟨2, _⟩ => show win0_0.index t (2 : Fin 3) * 1024 + 1 * (y 2).val = (z 2).val; omega

theorem at1 : ∀ t : Fin cfg0.N, win0_1.index t (0 : Fin 3) = 0 ∧ win0_1.index t (1 : Fin 3) = 0 ∧ win0_1.index t (2 : Fin 3) = 0 :=
  (by decide +kernel : ∀ t : Fin grid0.N, _)

theorem block1 (c : Dev nD) (t : Fin cfg0.N) (y : S8x1x1024.Idx) (z : S16x1x6144.Idx) (h0 : (z 0).val = (y 0).val) (h1 : (z 1).val = (y 1).val) (h2 : (z 2).val = (y 2).val) :
    iblk m c 1 t y = V m c main_v0 z := by
  obtain ⟨e0, e1, e2⟩ := at1 t
  show V m c main_v0 (((cfg0.win 1).blk t).view.emb y) = _
  refine congrArg _ (funext fun (a : Fin 3) => Fin.ext ?_)
  match a with
    | ⟨0, _⟩ => show win0_1.index t (0 : Fin 3) * 8 + 1 * (y 0).val = (z 0).val; omega
    | ⟨1, _⟩ => show win0_1.index t (1 : Fin 3) * 1 + 1 * (y 1).val = (z 1).val; omega
    | ⟨2, _⟩ => show win0_1.index t (2 : Fin 3) * 1024 + 1 * (y 2).val = (z 2).val; omega

theorem at2 : ∀ t : Fin cfg0.N, win0_2.index t (0 : Fin 3) = 0 ∧ win0_2.index t (1 : Fin 3) = 0 ∧ win0_2.index t (2 : Fin 3) = 1 :=
  (by decide +kernel : ∀ t : Fin grid0.N, _)

theorem block2 (c : Dev nD) (t : Fin cfg0.N) (y : S8x1x1024.Idx) (z : S16x1x6144.Idx) (h0 : (z 0).val = (y 0).val) (h1 : (z 1).val = (y 1).val) (h2 : (z 2).val = 1024 + (y 2).val) :
    iblk m c 2 t y = V m c main_v0 z := by
  obtain ⟨e0, e1, e2⟩ := at2 t
  show V m c main_v0 (((cfg0.win 2).blk t).view.emb y) = _
  refine congrArg _ (funext fun (a : Fin 3) => Fin.ext ?_)
  match a with
    | ⟨0, _⟩ => show win0_2.index t (0 : Fin 3) * 8 + 1 * (y 0).val = (z 0).val; omega
    | ⟨1, _⟩ => show win0_2.index t (1 : Fin 3) * 1 + 1 * (y 1).val = (z 1).val; omega
    | ⟨2, _⟩ => show win0_2.index t (2 : Fin 3) * 1024 + 1 * (y 2).val = (z 2).val; omega

theorem at3 : ∀ t : Fin cfg0.N, win0_3.index t (0 : Fin 2) = 0 ∧ win0_3.index t (1 : Fin 2) = 0 :=
  (by decide +kernel : ∀ t : Fin grid0.N, _)

theorem block3 (c : Dev nD) (t : Fin cfg0.N) (y : S1x1024.Idx) (z : S1x1024.Idx) (h0 : (z 0).val = (y 0).val) (h1 : (z 1).val = (y 1).val) :
    iblk m c 3 t y = V m c main_v1 z := by
  obtain ⟨e0, e1⟩ := at3 t
  show V m c main_v1 (((cfg0.win 3).blk t).view.emb y) = _
  refine congrArg _ (funext fun (a : Fin 2) => Fin.ext ?_)
  match a with
    | ⟨0, _⟩ => show win0_3.index t (0 : Fin 2) * 1 + 1 * (y 0).val = (z 0).val; omega
    | ⟨1, _⟩ => show win0_3.index t (1 : Fin 2) * 1024 + 1 * (y 1).val = (z 1).val; omega

theorem at4 : ∀ t : Fin cfg0.N, win0_4.index t (0 : Fin 2) = 0 ∧ win0_4.index t (1 : Fin 2) = 0 :=
  (by decide +kernel : ∀ t : Fin grid0.N, _)

theorem block4 (c : Dev nD) (t : Fin cfg0.N) (y : S1024x7168.Idx) (z : S1024x7168.Idx) (h0 : (z 0).val = (y 0).val) (h1 : (z 1).val = (y 1).val) :
    iblk m c 4 t y = V m c main_v2 z := by
  obtain ⟨e0, e1⟩ := at4 t
  show V m c main_v2 (((cfg0.win 4).blk t).view.emb y) = _
  refine congrArg _ (funext fun (a : Fin 2) => Fin.ext ?_)
  match a with
    | ⟨0, _⟩ => show win0_4.index t (0 : Fin 2) * 1024 + 1 * (y 0).val = (z 0).val; omega
    | ⟨1, _⟩ => show win0_4.index t (1 : Fin 2) * 7168 + 1 * (y 1).val = (z 1).val; omega

theorem at5 : ∀ t : Fin cfg0.N, win0_5.index t (0 : Fin 2) = 0 ∧ win0_5.index t (1 : Fin 2) = 0 :=
  (by decide +kernel : ∀ t : Fin grid0.N, _)

theorem block5 (c : Dev nD) (t : Fin cfg0.N) (y : S1x2048.Idx) (z : S1x2048.Idx) (h0 : (z 0).val = (y 0).val) (h1 : (z 1).val = (y 1).val) :
    iblk m c 5 t y = V m c main_v3 z := by
  obtain ⟨e0, e1⟩ := at5 t
  show V m c main_v3 (((cfg0.win 5).blk t).view.emb y) = _
  refine congrArg _ (funext fun (a : Fin 2) => Fin.ext ?_)
  match a with
    | ⟨0, _⟩ => show win0_5.index t (0 : Fin 2) * 1 + 1 * (y 0).val = (z 0).val; omega
    | ⟨1, _⟩ => show win0_5.index t (1 : Fin 2) * 2048 + 1 * (y 1).val = (z 1).val; omega

theorem at6 : ∀ t : Fin cfg0.N, win0_6.index t (0 : Fin 2) = 0 ∧ win0_6.index t (1 : Fin 2) = 0 :=
  (by decide +kernel : ∀ t : Fin grid0.N, _)

theorem block6 (c : Dev nD) (t : Fin cfg0.N) (y : S4x1024.Idx) (z : S4x1024.Idx) (h0 : (z 0).val = (y 0).val) (h1 : (z 1).val = (y 1).val) :
    iblk m c 6 t y = V m c main_v5 z := by
  obtain ⟨e0, e1⟩ := at6 t
  show V m c main_v5 (((cfg0.win 6).blk t).view.emb y) = _
  refine congrArg _ (funext fun (a : Fin 2) => Fin.ext ?_)
  match a with
    | ⟨0, _⟩ => show win0_6.index t (0 : Fin 2) * 4 + 1 * (y 0).val = (z 0).val; omega
    | ⟨1, _⟩ => show win0_6.index t (1 : Fin 2) * 1024 + 1 * (y 1).val = (z 1).val; omega

theorem at7 : ∀ t : Fin cfg0.N, win0_7.index t (0 : Fin 2) = 0 ∧ win0_7.index t (1 : Fin 2) = 0 :=
  (by decide +kernel : ∀ t : Fin grid0.N, _)

theorem block7 (c : Dev nD) (t : Fin cfg0.N) (y : S1x1024.Idx) (z : S1x1024.Idx) (h0 : (z 0).val = (y 0).val) (h1 : (z 1).val = (y 1).val) :
    iblk m c 7 t y = V m c main_v8 z := by
  obtain ⟨e0, e1⟩ := at7 t
  show V m c main_v8 (((cfg0.win 7).blk t).view.emb y) = _
  refine congrArg _ (funext fun (a : Fin 2) => Fin.ext ?_)
  match a with
    | ⟨0, _⟩ => show win0_7.index t (0 : Fin 2) * 1 + 1 * (y 0).val = (z 0).val; omega
    | ⟨1, _⟩ => show win0_7.index t (1 : Fin 2) * 1024 + 1 * (y 1).val = (z 1).val; omega

end

/-! ## The arrays the call is given -/

section
variable (m : (ℓ : Loc nD τ sig) → Buf (Elt Ideal) ℓ)

theorem entry_v0 (c : Dev nD) (b : Fin 16) (k : Fin 6144) :
    V m c main_v0 (ix3 b 0 k : S16x1x6144.Idx) = m ((c : Thread nD τ).loc main_arg1) (ix2 b k : S16x6144.Idx) := by
  have h : V m c main_v0 = broadcastInDim S16x1x6144 ![0, 2] bcast_S16x6144_S16x1x6144_0_2 (m ((c : Thread nD τ).loc main_arg1)) := by
    unfold_abbrev_sides
    after_results
  rw [h]
  generalize m ((c : Thread nD τ).loc main_arg1) = u
  pointwise []

theorem entry_v1 (c : Dev nD) (k : Fin 1024) :
    V m c main_v1 (ix2 0 k : S1x1024.Idx) = m ((c : Thread nD τ).loc main_arg2) (ix1 k : S1024.Idx) := by
  have h : V m c main_v1 = broadcastInDim S1x1024 ![1] bcast_S1024_S1x1024_1 (m ((c : Thread nD τ).loc main_arg2)) := by
    unfold_abbrev_sides
    after_results
  rw [h]
  generalize m ((c : Thread nD τ).loc main_arg2) = u
  pointwise []

theorem entry_v2 (c : Dev nD) : V m c main_v2 = m ((c : Thread nD τ).loc main_arg3) := by
  unfold_abbrev_sides
  after_results
  rfl

theorem entry_v3 (c : Dev nD) (k : Fin 2048) :
    V m c main_v3 (ix2 0 k : S1x2048.Idx) = m ((c : Thread nD τ).loc main_arg4) (ix1 k : S2048.Idx) := by
  have h : V m c main_v3 = broadcastInDim S1x2048 ![1] bcast_S2048_S1x2048_1 (m ((c : Thread nD τ).loc main_arg4)) := by
    unfold_abbrev_sides
    after_results
  rw [h]
  generalize m ((c : Thread nD τ).loc main_arg4) = u
  pointwise []

theorem entry_v5 (c : Dev nD) (i : Fin 4) (k : Fin 1024) :
    V m c main_v5 (ix2 i k : S4x1024.Idx)
      = Ideal.ofBits .f32 0x3F000000#32 * m ((c : Thread nD τ).loc main_arg5) (ix2 i k : S4x1024.Idx) := by
  have h : V m c main_v5 = mulf (broadcastInDim S4x1024 ![] bcast_S_S4x1024 (constant (F := Ideal) S_ .f32 0x3F000000#32))
      (m ((c : Thread nD τ).loc main_arg5)) := by
    unfold_abbrev_sides
    after_results
  rw [h]
  generalize m ((c : Thread nD τ).loc main_arg5) = u
  pointwise []

theorem entry_v8 (c : Dev nD) (k : Fin 1024) :
    V m c main_v8 (ix2 0 k : S1x1024.Idx)
      = Ideal.ofBits .f32 0x3F000000#32 * m ((c : Thread nD τ).loc main_arg6) (ix1 k : S1024.Idx) := by
  have h : V m c main_v8 = mulf (broadcastInDim S1x1024 ![] bcast_S_S1x1024 (constant (F := Ideal) S_ .f32 0x3F000000#32))
      (broadcastInDim S1x1024 ![1] bcast_S1024_S1x1024_1 (m ((c : Thread nD τ).loc main_arg6))) := by
    unfold_abbrev_sides
    after_results
  rw [h]
  generalize m ((c : Thread nD τ).loc main_arg6) = u
  pointwise []

/-! ## The loads of a grid point -/

theorem ld_apply {s : Shape} {e : EltTy} (arg : Memref sig .tc .vmem s e) (harg : arg.IsWhole) (x : Vec Ideal s e)
    (off size : Fin s.rank → Nat) (inb : ∀ a, off a + size a ≤ s.size a) (y : (⟨s.rank, size⟩ : Shape).Idx) (z : s.Idx)
    (h : ∀ a, (z a).val = off a + (y a).val) : ld arg harg x off size inb y = x z := by
  refine (congrFun (harg.read_unread x) _).trans (congrArg x (funext fun a => Fin.ext ?_))
  show off a + 1 * (y a).val = (z a).val
  rw [h a, Nat.one_mul]

abbrev ms0_0 (t : Fin cfg0.N) : Memref sig .tc .vmem S8x64x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x1x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x7168 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x2048 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S4x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1024 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S8x512x128 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S8x8x128 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S8x64x6144 .bf16 := win0_10.stage (cfg0.slots t 10)
abbrev hs0_10 (t : Fin cfg0.N) : (ms0_10 t).IsWhole := hstage0_10 ((cfg0.slots t 10).cast nbuf0_10)

/-- What point `t` loads. -/
def L (c : Dev nD) (t : Fin cfg0.N) : Loads Ideal :=
  loads (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t) (iblk m c 4 t) (iblk m c 5 t) (iblk m c 6 t) (iblk m c 7 t)

theorem L_x (c : Dev nD) (p : Fin cfg0.N) (q : Fin 2) (b : Fin 4) (t : Fin 64) (k : Fin 1024) (b' : Fin 8) (hb : b'.val = 4 * q.val + b.val)
    (T : Fin 2048) (hT : T.val = p.val * 64 + t.val) :
    (L m c p).x q (ix3 b t k) = m ((c : Thread nD τ).loc main_arg0) (ix3 b' T k : S8x2048x1024.Idx) :=
  (ld_apply (ms0_0 p) (hs0_0 p) (iblk m c 0 p) ![4 * q.val, 0, 0] S4x64x1024.size (inb_x q) (ix3 b t k : S4x64x1024.Idx) (ix3 b' t k : S8x64x1024.Idx) (fun (a : Fin 3) => match a with
    | ⟨0, _⟩ => hb
    | ⟨1, _⟩ => (Nat.zero_add t.val).symm
    | ⟨2, _⟩ => (Nat.zero_add k.val).symm)).trans
    ((block0 m c p (ix3 b' t k : S8x64x1024.Idx) (ix3 b' T k : S8x2048x1024.Idx) rfl hT rfl).trans (congrFun (V_main_arg0 m c) _))

theorem L_sh (c : Dev nD) (p : Fin cfg0.N) (q : Fin 2) (b : Fin 4) (k : Fin 1024) (b' : Fin 8) (hb : b'.val = 4 * q.val + b.val) :
    (L m c p).sh q (ix3 b 0 k) = m ((c : Thread nD τ).loc main_arg1) (ix2 ⟨b'.val, by omega⟩ ⟨k.val, by omega⟩ : S16x6144.Idx) :=
  (ld_apply (ms0_1 p) (hs0_1 p) (iblk m c 1 p) ![4 * q.val, 0, 0] S4x1x1024.size (inb_m q) (ix3 b 0 k : S4x1x1024.Idx) (ix3 b' 0 k : S8x1x1024.Idx) (fun (a : Fin 3) => match a with
    | ⟨0, _⟩ => hb
    | ⟨1, _⟩ => rfl
    | ⟨2, _⟩ => (Nat.zero_add k.val).symm)).trans
    ((block1 m c p _ (ix3 ⟨b'.val, by omega⟩ 0 ⟨k.val, by omega⟩ : S16x1x6144.Idx) rfl rfl rfl).trans (entry_v0 m c _ _))

theorem L_sc (c : Dev nD) (p : Fin cfg0.N) (q : Fin 2) (b : Fin 4) (k : Fin 1024) (b' : Fin 8) (hb : b'.val = 4 * q.val + b.val) :
    (L m c p).sc q (ix3 b 0 k) = m ((c : Thread nD τ).loc main_arg1) (ix2 ⟨b'.val, by omega⟩ ⟨1024 + k.val, by omega⟩ : S16x6144.Idx) :=
  (ld_apply (ms0_2 p) (hs0_2 p) (iblk m c 2 p) ![4 * q.val, 0, 0] S4x1x1024.size (inb_m q) (ix3 b 0 k : S4x1x1024.Idx) (ix3 b' 0 k : S8x1x1024.Idx) (fun (a : Fin 3) => match a with
    | ⟨0, _⟩ => hb
    | ⟨1, _⟩ => rfl
    | ⟨2, _⟩ => (Nat.zero_add k.val).symm)).trans
    ((block2 m c p _ (ix3 ⟨b'.val, by omega⟩ 0 ⟨1024 + k.val, by omega⟩ : S16x1x6144.Idx) rfl rfl rfl).trans (entry_v0 m c _ _))

theorem L_g (c : Dev nD) (p : Fin cfg0.N) (k : Fin 1024) : (L m c p).g (ix2 0 k) = m ((c : Thread nD τ).loc main_arg2) (ix1 k : S1024.Idx) :=
  (ld_apply (ms0_3 p) (hs0_3 p) (iblk m c 3 p) ![0, 0] S1x1024.size inb_S1x1024_S1x1024_0_0 (ix2 0 k : S1x1024.Idx) (ix2 0 k : S1x1024.Idx) (fun (a : Fin 2) => match a with
    | ⟨0, _⟩ => rfl
    | ⟨1, _⟩ => (Nat.zero_add k.val).symm)).trans
    ((block3 m c p _ (ix2 0 k : S1x1024.Idx) rfl rfl).trans (entry_v1 m c _))

theorem L_w (c : Dev nD) (p : Fin cfg0.N) (s : Fin 7) (e j : Fin 1024) (j' : Fin 7168) (hj : j'.val = 1024 * s.val + j.val) :
    (L m c p).w s (ix2 e j) = m ((c : Thread nD τ).loc main_arg3) (ix2 e j' : S1024x7168.Idx) :=
  (ld_apply (ms0_4 p) (hs0_4 p) (iblk m c 4 p) ![0, 1024 * s.val] S1024x1024.size (inb_w s) (ix2 e j : S1024x1024.Idx) (ix2 e j' : S1024x7168.Idx) (fun (a : Fin 2) => match a with
    | ⟨0, _⟩ => (Nat.zero_add e.val).symm
    | ⟨1, _⟩ => hj)).trans
    ((block4 m c p _ (ix2 e j' : S1024x7168.Idx) rfl rfl).trans (congrFun (entry_v2 m c) _))

theorem L_bg (c : Dev nD) (p : Fin cfg0.N) (s : Fin 2) (k : Fin 1024) (k' : Fin 2048) (hk : k'.val = 1024 * s.val + k.val) :
    (L m c p).bg s (ix2 0 k) = m ((c : Thread nD τ).loc main_arg4) (ix1 k' : S2048.Idx) :=
  (ld_apply (ms0_5 p) (hs0_5 p) (iblk m c 5 p) ![0, 1024 * s.val] S1x1024.size (inb_bg s) (ix2 0 k : S1x1024.Idx) (ix2 0 k' : S1x2048.Idx) (fun (a : Fin 2) => match a with
    | ⟨0, _⟩ => rfl
    | ⟨1, _⟩ => hk)).trans
    ((block5 m c p _ (ix2 0 k' : S1x2048.Idx) rfl rfl).trans (entry_v3 m c _))

theorem L_cw (c : Dev nD) (p : Fin cfg0.N) (i : Fin 4) (k : Fin 8) (j : Fin 128) (j' : Fin 1024) (hj : j'.val = 128 * k.val + j.val) :
    (L m c p).cw i k (ix2 0 j) = Ideal.ofBits .f32 0x3F000000#32 * m ((c : Thread nD τ).loc main_arg5) (ix2 i j' : S4x1024.Idx) :=
  (ld_apply (ms0_6 p) (hs0_6 p) (iblk m c 6 p) ![i.val, 128 * k.val] S1x128.size (inb_cw i k) (ix2 0 j : S1x128.Idx) (ix2 i j' : S4x1024.Idx) (fun (a : Fin 2) => match a with
    | ⟨0, _⟩ => rfl
    | ⟨1, _⟩ => hj)).trans
    ((block6 m c p _ (ix2 i j' : S4x1024.Idx) rfl rfl).trans (entry_v5 m c _ _))

theorem L_cb (c : Dev nD) (p : Fin cfg0.N) (k : Fin 8) (j : Fin 128) (j' : Fin 1024) (hj : j'.val = 128 * k.val + j.val) :
    (L m c p).cb k (ix2 0 j) = Ideal.ofBits .f32 0x3F000000#32 * m ((c : Thread nD τ).loc main_arg6) (ix1 j' : S1024.Idx) :=
  (ld_apply (ms0_7 p) (hs0_7 p) (iblk m c 7 p) ![0, 128 * k.val] S1x128.size (inb_cb k) (ix2 0 j : S1x128.Idx) (ix2 0 j' : S1x1024.Idx) (fun (a : Fin 2) => match a with
    | ⟨0, _⟩ => rfl
    | ⟨1, _⟩ => hj)).trans
    ((block7 m c p _ (ix2 0 j' : S1x1024.Idx) rfl rfl).trans (entry_v8 m c _))

/-! ## The point's products, convolution and activations, of the whole arguments -/

/-- The arguments' own functions. -/
abbrev projM (c : Dev nD) := projE (m ((c : Thread nD τ).loc main_arg0)) (m ((c : Thread nD τ).loc main_arg1)) (m ((c : Thread nD τ).loc main_arg2)) (m ((c : Thread nD τ).loc main_arg3))
abbrev rowM (c : Dev nD) := rowE (m ((c : Thread nD τ).loc main_arg0)) (m ((c : Thread nD τ).loc main_arg1)) (m ((c : Thread nD τ).loc main_arg2)) (m ((c : Thread nD τ).loc main_arg3))
abbrev ptM (c : Dev nD) := ptX (m ((c : Thread nD τ).loc main_arg0)) (m ((c : Thread nD τ).loc main_arg1)) (m ((c : Thread nD τ).loc main_arg2)) (m ((c : Thread nD τ).loc main_arg3))
abbrev convM (c : Dev nD) := convG (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6))
abbrev actM (c : Dev nD) := actG (m ((c : Thread nD τ).loc main_arg0)) (m ((c : Thread nD τ).loc main_arg1)) (m ((c : Thread nD τ).loc main_arg2)) (m ((c : Thread nD τ).loc main_arg3)) (m ((c : Thread nD τ).loc main_arg4))

theorem acc_at (c : Dev nD) (p : Fin cfg0.N) (q : Fin 2) (s : Fin 7) (b : Fin 4) (t : Fin 64) (j : Fin 1024)
    (b' : Fin 8) (hb : b'.val = 4 * q.val + b.val) (T : Fin 2048) (hT : T.val = p.val * 64 + t.val) (j' : Fin 7168) (hj : j'.val = 1024 * s.val + j.val) :
    acc (L m c p) q s (ix2 (fl b t) j) = projM m c b' T j' := by
  rw [acc_apply]
  unfold projM projE
  have h0 : (fun k => (L m c p).x q (ix3 b t k)) = fun k => m ((c : Thread nD τ).loc main_arg0) (ix3 b' T k : S8x2048x1024.Idx) := funext fun k => L_x m c p q b t k b' hb T hT
  have h1 : (fun k => (L m c p).sh q (ix3 b 0 k)) = fun k => m ((c : Thread nD τ).loc main_arg1) (ix2 ⟨b'.val, by omega⟩ ⟨k.val, by omega⟩ : S16x6144.Idx) := funext fun k => L_sh m c p q b k b' hb
  have h2 : (fun k => (L m c p).sc q (ix3 b 0 k)) = fun k => m ((c : Thread nD τ).loc main_arg1) (ix2 ⟨b'.val, by omega⟩ ⟨1024 + k.val, by omega⟩ : S16x6144.Idx) := funext fun k => L_sc m c p q b k b' hb
  have h3 : (fun k => (L m c p).g (ix2 0 k)) = fun k => m ((c : Thread nD τ).loc main_arg2) (ix1 k : S1024.Idx) := funext fun k => L_g m c p k
  rw [h0, h1, h2, h3]
  exact Finset.sum_congr rfl fun e _ => congrArg _ (L_w m c p s e j j' hj)

theorem products (c : Dev nD) (p : Fin cfg0.N) : Products (L m c p) (ptM m c p.val) := by
  intro n hn t j
  have hp : p.val < 32 := lt_of_lt_of_eq p.isLt N_0
  rw [part_apply]
  refine (acc_at m c p _ 0 _ t _ ⟨n / 8 % 8, by omega⟩ (by show n / 8 % 8 = 4 * (n / 32 % 2) + n / 8 % 4; omega)
    ⟨p.val * 64 + t.val, by omega⟩ rfl ⟨128 * (n % 8) + j.val, by omega⟩ (by show 128 * (n % 8) + j.val = 1024 * 0 + (128 * (n % 8) + j.val); omega)).trans ?_
  unfold ptM ptX rowE projM
  rw [dif_pos (by omega)]
  congr 1
  · exact Fin.ext (by show n / 8 % 8 = (24 + n / 8 % 8 + 8 * t.val) % 8; omega)
  · exact Fin.ext (by show p.val * 64 + t.val = 64 * p.val + (24 + n / 8 % 8 + 8 * t.val) / 8 - 3; omega)

/-- The convolved block of point `p`, at scratch row `r`: the time step 64 p + r / 8 of the batch entry r % 8. -/
theorem conv_at (c : Dev nD) (p : Fin cfg0.N) (k : Fin 8) (r : ℕ) (j : Fin 128) (s : ℕ) (hs : s = 64 * p.val + r / 8)
    (b : Fin 8) (hb : b.val = r % 8) (j' : Fin 1024) (hj : j'.val = 128 * k.val + j.val) :
    convE (L m c p) (ptM m c p.val) k r j = convM m c s b j' := by
  have hX : ∀ i : ℕ, ptM m c p.val k (8 * i + r) j = rowM m c (s + i) b j' := by
    intro i
    unfold ptM ptX rowM
    congr 1
    · omega
    · exact Fin.ext (by show (8 * i + r) % 8 = b.val; omega)
    · exact Fin.ext hj.symm
  have h0 := hX 0
  have h1 := hX 1
  have h2 := hX 2
  have h3 := hX 3
  rw [Nat.mul_zero, Nat.zero_add, Nat.add_zero] at h0
  unfold convE convM convG
  rw [h0, show 8 + r = 8 * 1 + r from rfl, h1, show 16 + r = 8 * 2 + r from rfl, h2, show 24 + r = 8 * 3 + r from rfl, h3]
  rw [L_cb m c p k j j' hj, L_cw m c p 0 k j j' hj, L_cw m c p 1 k j j' hj, L_cw m c p 2 k j j' hj, L_cw m c p 3 k j j' hj]

/-- The last point's extra step: the time step 2048, its fourth tap on a zero. -/
theorem end_at (c : Dev nD) (p : Fin cfg0.N) (hp : p.val = 31) (k : Fin 8) (r : Fin 8) (j : Fin 128) (j' : Fin 1024) (hj : j'.val = 128 * k.val + j.val) :
    endE (L m c p) (ptM m c p.val) k r.val j = convM m c 2048 r j' := by
  have hX : ∀ i : ℕ, ptM m c p.val k (512 + 8 * i + r.val) j = rowM m c (2048 + i) r j' := by
    intro i
    unfold ptM ptX rowM
    congr 1
    · omega
    · exact Fin.ext (by show (512 + 8 * i + r.val) % 8 = r.val; omega)
    · exact Fin.ext hj.symm
  have h0 := hX 0
  have h1 := hX 1
  have h2 := hX 2
  have h3 : rowE (m ((c : Thread nD τ).loc main_arg0)) (m ((c : Thread nD τ).loc main_arg1)) (m ((c : Thread nD τ).loc main_arg2)) (m ((c : Thread nD τ).loc main_arg3)) (2048 + 3) r j' = 0 := by
    unfold rowE
    rw [dif_neg (by omega)]
  rw [Nat.add_zero] at h0
  unfold endE convM convG
  rw [show 512 + r.val = 512 + 8 * 0 + r.val from rfl, h0, show 520 + r.val = 512 + 8 * 1 + r.val from rfl, h1,
    show 528 + r.val = 512 + 8 * 2 + r.val from rfl, h2, h3]
  rw [L_cb m c p k j j' hj, L_cw m c p 0 k j j' hj, L_cw m c p 1 k j j' hj, L_cw m c p 2 k j j' hj, mul_zero, add_zero, add_zero]

/-- The activated block of point `p`. -/
theorem act_at (c : Dev nD) (p : Fin cfg0.N) (b : Fin 8) (t : Fin 64) (j : Fin 6144) (T : Fin 2048) (hT : T.val = p.val * 64 + t.val) :
    actE (L m c p) b t j = actM m c b T j := by
  unfold actE actM actG segE
  rw [acc_at m c p ⟨b.val / 4, by omega⟩ ⟨1 + j.val / 1024, by omega⟩ ⟨b.val % 4, by omega⟩ t ⟨j.val % 1024, by omega⟩ b (by show b.val = 4 * (b.val / 4) + b.val % 4; omega)
    T hT ⟨1024 + j.val, by omega⟩ (by show 1024 + j.val = 1024 * (1 + j.val / 1024) + j.val % 1024; omega)]
  by_cases h1 : j.val < 1024
  · rw [if_pos h1, if_pos h1]
  rw [if_neg h1, if_neg h1]
  by_cases h2 : j.val < 2048
  · rw [if_pos h2, if_pos h2]
  rw [if_neg h2, if_neg h2]
  by_cases h3 : j.val < 4096
  · rw [if_pos h3, dif_pos h3]
  rw [if_neg h3, dif_neg h3]
  by_cases h4 : j.val < 5120
  · rw [if_pos h4, L_bg m c p 0 ⟨j.val % 1024, by omega⟩ ⟨j.val - 4096, by omega⟩ (by show j.val - 4096 = 1024 * 0 + j.val % 1024; omega)]
  · rw [if_neg h4, L_bg m c p 1 ⟨j.val % 1024, by omega⟩ ⟨j.val - 4096, by omega⟩ (by show j.val - 4096 = 1024 * 1 + j.val % 1024; omega)]

end

end Cert.ProjMath

end
-- ==== Proof.ProjPiecesA.lean ====
/- The stores of the run at the first point are the written-out lists of `ProjPieces`. -/
module

public import proofs.«01_k».proof.Proof.ProjPieces

@[expose] public section

set_option maxRecDepth 16384

noncomputable section

namespace Cert.ProjPiecesA

open Cert.ProjPieces Cert.ProjIdeal Cert.ProjIdeal.Gen Cert.ProjIdealRun Idealize.ShloMosaic

variable {F : FTy → Type} [FloatOps F]

section
variable (c : Dev nD) (i : grid0.Coords) (arg1 : Memref sig .tc .vmem S8x64x1024 .f32) (harg1 : arg1.IsWhole) (arg2 : Memref sig .tc .vmem S8x1x1024 .f32) (harg2 : arg2.IsWhole) (arg3 : Memref sig .tc .vmem S8x1x1024 .f32) (harg3 : arg3.IsWhole) (arg4 : Memref sig .tc .vmem S1x1024 .f32) (harg4 : arg4.IsWhole) (arg5 : Memref sig .tc .vmem S1024x7168 .bf16) (harg5 : arg5.IsWhole) (arg6 : Memref sig .tc .vmem S1x2048 .f32) (harg6 : arg6.IsWhole) (arg7 : Memref sig .tc .vmem S4x1024 .f32) (harg7 : arg7.IsWhole) (arg8 : Memref sig .tc .vmem S1x1024 .f32) (harg8 : arg8.IsWhole) (arg9 : Memref sig .tc .vmem S8x512x128 .f32) (harg9 : arg9.IsWhole) (arg10 : Memref sig .tc .vmem S8x8x128 .f32) (harg10 : arg10.IsWhole) (arg11 : Memref sig .tc .vmem S8x64x6144 .bf16) (harg11 : arg11.IsWhole) (arg12 : Memref sig .tc .vmem S8x536x128 .f32) (harg12 : arg12.IsWhole)
    (hc0 : cond0 i) (x0 : Vec F S8x64x1024 .f32) (x1 : Vec F S8x1x1024 .f32) (x2 : Vec F S8x1x1024 .f32) (x3 : Vec F S1x1024 .f32) (x4 : Vec F S1024x7168 .bf16) (x5 : Vec F S1x2048 .f32) (x6 : Vec F S4x1024 .f32) (x7 : Vec F S1x1024 .f32) (fS : arg12.view.ty.Contents (Elt F))

set_option maxHeartbeats 2000000

theorem h0 : runA.sl.HS_65 c arg1 harg1 arg2 harg2 arg3 harg3 arg4 harg4 arg5 harg5 x0 x1 x2 x3 x4 = partList (loads arg1 harg1 arg2 harg2 arg3 harg3 arg4 harg4 arg5 harg5 arg6 harg6 arg7 harg7 arg8 harg8 x0 x1 x2 x3 x4 x5 x6 x7) cleared 64 := by
  unfold runA.sl.HS_65
  rfl

theorem h1 : runA.sl.HS_66 c arg1 harg1 arg2 harg2 arg3 harg3 arg4 harg4 arg5 harg5 arg12 x0 x1 x2 x3 x4 fS = keptList arg12 fS (loads arg1 harg1 arg2 harg2 arg3 harg3 arg4 harg4 arg5 harg5 arg6 harg6 arg7 harg7 arg8 harg8 x0 x1 x2 x3 x4 x5 x6 x7) cleared 1 := by
  simp only [runA.sl.HS_66, runA.sl.r, runA.sl.r_1, runA.sl.r_10, runA.sl.r_11, runA.sl.r_12, runA.sl.r_13, runA.sl.r_14, runA.sl.r_15, runA.sl.r_16, runA.sl.r_17, runA.sl.r_18, runA.sl.r_19, runA.sl.r_2, runA.sl.r_20, runA.sl.r_21, runA.sl.r_22, runA.sl.r_23, runA.sl.r_24, runA.sl.r_25, runA.sl.r_26, runA.sl.r_27, runA.sl.r_28, runA.sl.r_29, runA.sl.r_3, runA.sl.r_30, runA.sl.r_31, runA.sl.r_32, runA.sl.r_33, runA.sl.r_34, runA.sl.r_35, runA.sl.r_36, runA.sl.r_37, runA.sl.r_38, runA.sl.r_39, runA.sl.r_4, runA.sl.r_40, runA.sl.r_41, runA.sl.r_42, runA.sl.r_43, runA.sl.r_44, runA.sl.r_45, runA.sl.r_46, runA.sl.r_47, runA.sl.r_48, runA.sl.r_49, runA.sl.r_5, runA.sl.r_50, runA.sl.r_51, runA.sl.r_52, runA.sl.r_53, runA.sl.r_54, runA.sl.r_55, runA.sl.r_6, runA.sl.r_7, runA.sl.r_8, runA.sl.r_9]
  rw [h0 c arg1 harg1 arg2 harg2 arg3 harg3 arg4 harg4 arg5 harg5 arg6 harg6 arg7 harg7 arg8 harg8 x0 x1 x2 x3 x4 x5 x6 x7]
  rfl

theorem h2 : runA.sl.HS_67 c arg1 harg1 arg2 harg2 arg3 harg3 arg4 harg4 arg5 harg5 arg12 x0 x1 x2 x3 x4 fS = keptList arg12 fS (loads arg1 harg1 arg2 harg2 arg3 harg3 arg4 harg4 arg5 harg5 arg6 harg6 arg7 harg7 arg8 harg8 x0 x1 x2 x3 x4 x5 x6 x7) cleared 2 := by
  simp only [runA.sl.HS_67, runA.sl.r, runA.sl.r_1, runA.sl.r_10, runA.sl.r_11, runA.sl.r_12, runA.sl.r_13, runA.sl.r_14, runA.sl.r_15, runA.sl.r_16, runA.sl.r_17, runA.sl.r_18, runA.sl.r_19, runA.sl.r_2, runA.sl.r_20, runA.sl.r_21, runA.sl.r_22, runA.sl.r_23, runA.sl.r_24, runA.sl.r_25, runA.sl.r_26, runA.sl.r_27, runA.sl.r_28, runA.sl.r_29, runA.sl.r_3, runA.sl.r_30, runA.sl.r_31, runA.sl.r_32, runA.sl.r_33, runA.sl.r_34, runA.sl.r_35, runA.sl.r_36, runA.sl.r_37, runA.sl.r_38, runA.sl.r_39, runA.sl.r_4, runA.sl.r_40, runA.sl.r_41, runA.sl.r_42, runA.sl.r_43, runA.sl.r_44, runA.sl.r_45, runA.sl.r_46, runA.sl.r_47, runA.sl.r_48, runA.sl.r_49, runA.sl.r_5, runA.sl.r_50, runA.sl.r_51, runA.sl.r_52, runA.sl.r_53, runA.sl.r_54, runA.sl.r_55, runA.sl.r_6, runA.sl.r_7, runA.sl.r_8, runA.sl.r_9]
  rw [h1 c arg1 harg1 arg2 harg2 arg3 harg3 arg4 harg4 arg5 harg5 arg6 harg6 arg7 harg7 arg8 harg8 arg12 x0 x1 x2 x3 x4 x5 x6 x7 fS]
  rfl

theorem h3 : runA.sl.HS_68 c arg1 harg1 arg2 harg2 arg3 harg3 arg4 harg4 arg5 harg5 arg12 x0 x1 x2 x3 x4 fS = keptList arg12 fS (loads arg1 harg1 arg2 harg2 arg3 harg3 arg4 harg4 arg5 harg5 arg6 harg6 arg7 harg7 arg8 harg8 x0 x1 x2 x3 x4 x5 x6 x7) cleared 3 := by
  simp only [runA.sl.HS_68, runA.sl.r, runA.sl.r_1, runA.sl.r_10, runA.sl.r_11, runA.sl.r_12, runA.sl.r_13, runA.sl.r_14, runA.sl.r_15, runA.sl.r_16, runA.sl.r_17, runA.sl.r_18, runA.sl.r_19, runA.sl.r_2, runA.sl.r_20, runA.sl.r_21, runA.sl.r_22, runA.sl.r_23, runA.sl.r_24, runA.sl.r_25, runA.sl.r_26, runA.sl.r_27, runA.sl.r_28, runA.sl.r_29, runA.sl.r_3, runA.sl.r_30, runA.sl.r_31, runA.sl.r_32, runA.sl.r_33, runA.sl.r_34, runA.sl.r_35, runA.sl.r_36, runA.sl.r_37, runA.sl.r_38, runA.sl.r_39, runA.sl.r_4, runA.sl.r_40, runA.sl.r_41, runA.sl.r_42, runA.sl.r_43, runA.sl.r_44, runA.sl.r_45, runA.sl.r_46, runA.sl.r_47, runA.sl.r_48, runA.sl.r_49, runA.sl.r_5, runA.sl.r_50, runA.sl.r_51, runA.sl.r_52, runA.sl.r_53, runA.sl.r_54, runA.sl.r_55, runA.sl.r_6, runA.sl.r_7, runA.sl.r_8, runA.sl.r_9]
  rw [h2 c arg1 harg1 arg2 harg2 arg3 harg3 arg4 harg4 arg5 harg5 arg6 harg6 arg7 harg7 arg8 harg8 arg12 x0 x1 x2 x3 x4 x5 x6 x7 fS]
  rfl

theorem h4 : runA.sl.HS_69 c arg1 harg1 arg2 harg2 arg3 harg3 arg4 harg4 arg5 harg5 arg12 x0 x1 x2 x3 x4 fS = keptList arg12 fS (loads arg1 harg1 arg2 harg2 arg3 harg3 arg4 harg4 arg5 harg5 arg6 harg6 arg7 harg7 arg8 harg8 x0 x1 x2 x3 x4 x5 x6 x7) cleared 4 := by
  simp only [runA.sl.HS_69, runA.sl.r, runA.sl.r_1, runA.sl.r_10, runA.sl.r_11, runA.sl.r_12, runA.sl.r_13, runA.sl.r_14, runA.sl.r_15, runA.sl.r_16, runA.sl.r_17, runA.sl.r_18, runA.sl.r_19, runA.sl.r_2, runA.sl.r_20, runA.sl.r_21, runA.sl.r_22, runA.sl.r_23, runA.sl.r_24, runA.sl.r_25, runA.sl.r_26, runA.sl.r_27, runA.sl.r_28, runA.sl.r_29, runA.sl.r_3, runA.sl.r_30, runA.sl.r_31, runA.sl.r_32, runA.sl.r_33, runA.sl.r_34, runA.sl.r_35, runA.sl.r_36, runA.sl.r_37, runA.sl.r_38, runA.sl.r_39, runA.sl.r_4, runA.sl.r_40, runA.sl.r_41, runA.sl.r_42, runA.sl.r_43, runA.sl.r_44, runA.sl.r_45, runA.sl.r_46, runA.sl.r_47, runA.sl.r_48, runA.sl.r_49, runA.sl.r_5, runA.sl.r_50, runA.sl.r_51, runA.sl.r_52, runA.sl.r_53, runA.sl.r_54, runA.sl.r_55, runA.sl.r_6, runA.sl.r_7, runA.sl.r_8, runA.sl.r_9]
  rw [h3 c arg1 harg1 arg2 harg2 arg3 harg3 arg4 harg4 arg5 harg5 arg6 harg6 arg7 harg7 arg8 harg8 arg12 x0 x1 x2 x3 x4 x5 x6 x7 fS]
  rfl

theorem h5 : runA.sl.HS_70 c arg1 harg1 arg2 harg2 arg3 harg3 arg4 harg4 arg5 harg5 arg12 x0 x1 x2 x3 x4 fS = keptList arg12 fS (loads arg1 harg1 arg2 harg2 arg3 harg3 arg4 harg4 arg5 harg5 arg6 harg6 arg7 harg7 arg8 harg8 x0 x1 x2 x3 x4 x5 x6 x7) cleared 5 := by
  simp only [runA.sl.HS_70, runA.sl.r, runA.sl.r_1, runA.sl.r_10, runA.sl.r_11, runA.sl.r_12, runA.sl.r_13, runA.sl.r_14, runA.sl.r_15, runA.sl.r_16, runA.sl.r_17, runA.sl.r_18, runA.sl.r_19, runA.sl.r_2, runA.sl.r_20, runA.sl.r_21, runA.sl.r_22, runA.sl.r_23, runA.sl.r_24, runA.sl.r_25, runA.sl.r_26, runA.sl.r_27, runA.sl.r_28, runA.sl.r_29, runA.sl.r_3, runA.sl.r_30, runA.sl.r_31, runA.sl.r_32, runA.sl.r_33, runA.sl.r_34, runA.sl.r_35, runA.sl.r_36, runA.sl.r_37, runA.sl.r_38, runA.sl.r_39, runA.sl.r_4, runA.sl.r_40, runA.sl.r_41, runA.sl.r_42, runA.sl.r_43, runA.sl.r_44, runA.sl.r_45, runA.sl.r_46, runA.sl.r_47, runA.sl.r_48, runA.sl.r_49, runA.sl.r_5, runA.sl.r_50, runA.sl.r_51, runA.sl.r_52, runA.sl.r_53, runA.sl.r_54, runA.sl.r_55, runA.sl.r_6, runA.sl.r_7, runA.sl.r_8, runA.sl.r_9]
  rw [h4 c arg1 harg1 arg2 harg2 arg3 harg3 arg4 harg4 arg5 harg5 arg6 harg6 arg7 harg7 arg8 harg8 arg12 x0 x1 x2 x3 x4 x5 x6 x7 fS]
  rfl

theorem h6 : runA.sl.HS_71 c arg1 harg1 arg2 harg2 arg3 harg3 arg4 harg4 arg5 harg5 arg12 x0 x1 x2 x3 x4 fS = keptList arg12 fS (loads arg1 harg1 arg2 harg2 arg3 harg3 arg4 harg4 arg5 harg5 arg6 harg6 arg7 harg7 arg8 harg8 x0 x1 x2 x3 x4 x5 x6 x7) cleared 6 := by
  simp only [runA.sl.HS_71, runA.sl.r, runA.sl.r_1, runA.sl.r_10, runA.sl.r_11, runA.sl.r_12, runA.sl.r_13, runA.sl.r_14, runA.sl.r_15, runA.sl.r_16, runA.sl.r_17, runA.sl.r_18, runA.sl.r_19, runA.sl.r_2, runA.sl.r_20, runA.sl.r_21, runA.sl.r_22, runA.sl.r_23, runA.sl.r_24, runA.sl.r_25, runA.sl.r_26, runA.sl.r_27, runA.sl.r_28, runA.sl.r_29, runA.sl.r_3, runA.sl.r_30, runA.sl.r_31, runA.sl.r_32, runA.sl.r_33, runA.sl.r_34, runA.sl.r_35, runA.sl.r_36, runA.sl.r_37, runA.sl.r_38, runA.sl.r_39, runA.sl.r_4, runA.sl.r_40, runA.sl.r_41, runA.sl.r_42, runA.sl.r_43, runA.sl.r_44, runA.sl.r_45, runA.sl.r_46, runA.sl.r_47, runA.sl.r_48, runA.sl.r_49, runA.sl.r_5, runA.sl.r_50, runA.sl.r_51, runA.sl.r_52, runA.sl.r_53, runA.sl.r_54, runA.sl.r_55, runA.sl.r_6, runA.sl.r_7, runA.sl.r_8, runA.sl.r_9]
  rw [h5 c arg1 harg1 arg2 harg2 arg3 harg3 arg4 harg4 arg5 harg5 arg6 harg6 arg7 harg7 arg8 harg8 arg12 x0 x1 x2 x3 x4 x5 x6 x7 fS]
  rfl

theorem h7 : runA.sl.HS_72 c arg1 harg1 arg2 harg2 arg3 harg3 arg4 harg4 arg5 harg5 arg12 x0 x1 x2 x3 x4 fS = keptList arg12 fS (loads arg1 harg1 arg2 harg2 arg3 harg3 arg4 harg4 arg5 harg5 arg6 harg6 arg7 harg7 arg8 harg8 x0 x1 x2 x3 x4 x5 x6 x7) cleared 7 := by
  simp only [runA.sl.HS_72, runA.sl.r, runA.sl.r_1, runA.sl.r_10, runA.sl.r_11, runA.sl.r_12, runA.sl.r_13, runA.sl.r_14, runA.sl.r_15, runA.sl.r_16, runA.sl.r_17, runA.sl.r_18, runA.sl.r_19, runA.sl.r_2, runA.sl.r_20, runA.sl.r_21, runA.sl.r_22, runA.sl.r_23, runA.sl.r_24, runA.sl.r_25, runA.sl.r_26, runA.sl.r_27, runA.sl.r_28, runA.sl.r_29, runA.sl.r_3, runA.sl.r_30, runA.sl.r_31, runA.sl.r_32, runA.sl.r_33, runA.sl.r_34, runA.sl.r_35, runA.sl.r_36, runA.sl.r_37, runA.sl.r_38, runA.sl.r_39, runA.sl.r_4, runA.sl.r_40, runA.sl.r_41, runA.sl.r_42, runA.sl.r_43, runA.sl.r_44, runA.sl.r_45, runA.sl.r_46, runA.sl.r_47, runA.sl.r_48, runA.sl.r_49, runA.sl.r_5, runA.sl.r_50, runA.sl.r_51, runA.sl.r_52, runA.sl.r_53, runA.sl.r_54, runA.sl.r_55, runA.sl.r_6, runA.sl.r_7, runA.sl.r_8, runA.sl.r_9]
  rw [h6 c arg1 harg1 arg2 harg2 arg3 harg3 arg4 harg4 arg5 harg5 arg6 harg6 arg7 harg7 arg8 harg8 arg12 x0 x1 x2 x3 x4 x5 x6 x7 fS]
  rfl

theorem kept_eq : (runA c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 fS).2.2.2.1 = keptList arg12 fS (loads arg1 harg1 arg2 harg2 arg3 harg3 arg4 harg4 arg5 harg5 arg6 harg6 arg7 harg7 arg8 harg8 x0 x1 x2 x3 x4 x5 x6 x7) cleared 8 := by
  unfold runA
  simp only [runA.sl.r, runA.sl.r_1, runA.sl.r_10, runA.sl.r_11, runA.sl.r_12, runA.sl.r_13, runA.sl.r_14, runA.sl.r_15, runA.sl.r_16, runA.sl.r_17, runA.sl.r_18, runA.sl.r_19, runA.sl.r_2, runA.sl.r_20, runA.sl.r_21, runA.sl.r_22, runA.sl.r_23, runA.sl.r_24, runA.sl.r_25, runA.sl.r_26, runA.sl.r_27, runA.sl.r_28, runA.sl.r_29, runA.sl.r_3, runA.sl.r_30, runA.sl.r_31, runA.sl.r_32, runA.sl.r_33, runA.sl.r_34, runA.sl.r_35, runA.sl.r_36, runA.sl.r_37, runA.sl.r_38, runA.sl.r_39, runA.sl.r_4, runA.sl.r_40, runA.sl.r_41, runA.sl.r_42, runA.sl.r_43, runA.sl.r_44, runA.sl.r_45, runA.sl.r_46, runA.sl.r_47, runA.sl.r_48, runA.sl.r_49, runA.sl.r_5, runA.sl.r_50, runA.sl.r_51, runA.sl.r_52, runA.sl.r_53, runA.sl.r_54, runA.sl.r_55, runA.sl.r_6, runA.sl.r_7, runA.sl.r_8, runA.sl.r_9]
  rw [h7 c arg1 harg1 arg2 harg2 arg3 harg3 arg4 harg4 arg5 harg5 arg6 harg6 arg7 harg7 arg8 harg8 arg12 x0 x1 x2 x3 x4 x5 x6 x7 fS]
  rfl

theorem pr_eq : (runA c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 fS).2.2.1 = prList (loads arg1 harg1 arg2 harg2 arg3 harg3 arg4 harg4 arg5 harg5 arg6 harg6 arg7 harg7 arg8 harg8 x0 x1 x2 x3 x4 x5 x6 x7) := by
  unfold runA
  simp only [runA.sl.r, runA.sl.r_1, runA.sl.r_10, runA.sl.r_11, runA.sl.r_12, runA.sl.r_13, runA.sl.r_14, runA.sl.r_15, runA.sl.r_16, runA.sl.r_17, runA.sl.r_18, runA.sl.r_19, runA.sl.r_2, runA.sl.r_20, runA.sl.r_21, runA.sl.r_22, runA.sl.r_23, runA.sl.r_24, runA.sl.r_25, runA.sl.r_26, runA.sl.r_27, runA.sl.r_28, runA.sl.r_29, runA.sl.r_3, runA.sl.r_30, runA.sl.r_31, runA.sl.r_32, runA.sl.r_33, runA.sl.r_34, runA.sl.r_35, runA.sl.r_36, runA.sl.r_37, runA.sl.r_38, runA.sl.r_39, runA.sl.r_4, runA.sl.r_40, runA.sl.r_41, runA.sl.r_42, runA.sl.r_43, runA.sl.r_44, runA.sl.r_45, runA.sl.r_46, runA.sl.r_47, runA.sl.r_48, runA.sl.r_49, runA.sl.r_5, runA.sl.r_50, runA.sl.r_51, runA.sl.r_52, runA.sl.r_53, runA.sl.r_54, runA.sl.r_55, runA.sl.r_6, runA.sl.r_7, runA.sl.r_8, runA.sl.r_9]
  rfl

theorem z_eq : (runA c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 fS).1 = zList arg12 fS (loads arg1 harg1 arg2 harg2 arg3 harg3 arg4 harg4 arg5 harg5 arg6 harg6 arg7 harg7 arg8 harg8 x0 x1 x2 x3 x4 x5 x6 x7) cleared := by
  unfold runA
  simp only [runA.sl.r, runA.sl.r_1, runA.sl.r_10, runA.sl.r_11, runA.sl.r_12, runA.sl.r_13, runA.sl.r_14, runA.sl.r_15, runA.sl.r_16, runA.sl.r_17, runA.sl.r_18, runA.sl.r_19, runA.sl.r_2, runA.sl.r_20, runA.sl.r_21, runA.sl.r_22, runA.sl.r_23, runA.sl.r_24, runA.sl.r_25, runA.sl.r_26, runA.sl.r_27, runA.sl.r_28, runA.sl.r_29, runA.sl.r_3, runA.sl.r_30, runA.sl.r_31, runA.sl.r_32, runA.sl.r_33, runA.sl.r_34, runA.sl.r_35, runA.sl.r_36, runA.sl.r_37, runA.sl.r_38, runA.sl.r_39, runA.sl.r_4, runA.sl.r_40, runA.sl.r_41, runA.sl.r_42, runA.sl.r_43, runA.sl.r_44, runA.sl.r_45, runA.sl.r_46, runA.sl.r_47, runA.sl.r_48, runA.sl.r_49, runA.sl.r_5, runA.sl.r_50, runA.sl.r_51, runA.sl.r_52, runA.sl.r_53, runA.sl.r_54, runA.sl.r_55, runA.sl.r_6, runA.sl.r_7, runA.sl.r_8, runA.sl.r_9, h0 c arg1 harg1 arg2 harg2 arg3 harg3 arg4 harg4 arg5 harg5 arg6 harg6 arg7 harg7 arg8 harg8 x0 x1 x2 x3 x4 x5 x6 x7, h1 c arg1 harg1 arg2 harg2 arg3 harg3 arg4 harg4 arg5 harg5 arg6 harg6 arg7 harg7 arg8 harg8 arg12 x0 x1 x2 x3 x4 x5 x6 x7 fS, h2 c arg1 harg1 arg2 harg2 arg3 harg3 arg4 harg4 arg5 harg5 arg6 harg6 arg7 harg7 arg8 harg8 arg12 x0 x1 x2 x3 x4 x5 x6 x7 fS, h3 c arg1 harg1 arg2 harg2 arg3 harg3 arg4 harg4 arg5 harg5 arg6 harg6 arg7 harg7 arg8 harg8 arg12 x0 x1 x2 x3 x4 x5 x6 x7 fS, h4 c arg1 harg1 arg2 harg2 arg3 harg3 arg4 harg4 arg5 harg5 arg6 harg6 arg7 harg7 arg8 harg8 arg12 x0 x1 x2 x3 x4 x5 x6 x7 fS, h5 c arg1 harg1 arg2 harg2 arg3 harg3 arg4 harg4 arg5 harg5 arg6 harg6 arg7 harg7 arg8 harg8 arg12 x0 x1 x2 x3 x4 x5 x6 x7 fS, h6 c arg1 harg1 arg2 harg2 arg3 harg3 arg4 harg4 arg5 harg5 arg6 harg6 arg7 harg7 arg8 harg8 arg12 x0 x1 x2 x3 x4 x5 x6 x7 fS, h7 c arg1 harg1 arg2 harg2 arg3 harg3 arg4 harg4 arg5 harg5 arg6 harg6 arg7 harg7 arg8 harg8 arg12 x0 x1 x2 x3 x4 x5 x6 x7 fS]
  rfl

theorem end_eq : (runA c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 fS).2.1 = endList arg12 fS (loads arg1 harg1 arg2 harg2 arg3 harg3 arg4 harg4 arg5 harg5 arg6 harg6 arg7 harg7 arg8 harg8 x0 x1 x2 x3 x4 x5 x6 x7) cleared := by
  unfold runA
  simp only [runA.sl.r, runA.sl.r_1, runA.sl.r_10, runA.sl.r_11, runA.sl.r_12, runA.sl.r_13, runA.sl.r_14, runA.sl.r_15, runA.sl.r_16, runA.sl.r_17, runA.sl.r_18, runA.sl.r_19, runA.sl.r_2, runA.sl.r_20, runA.sl.r_21, runA.sl.r_22, runA.sl.r_23, runA.sl.r_24, runA.sl.r_25, runA.sl.r_26, runA.sl.r_27, runA.sl.r_28, runA.sl.r_29, runA.sl.r_3, runA.sl.r_30, runA.sl.r_31, runA.sl.r_32, runA.sl.r_33, runA.sl.r_34, runA.sl.r_35, runA.sl.r_36, runA.sl.r_37, runA.sl.r_38, runA.sl.r_39, runA.sl.r_4, runA.sl.r_40, runA.sl.r_41, runA.sl.r_42, runA.sl.r_43, runA.sl.r_44, runA.sl.r_45, runA.sl.r_46, runA.sl.r_47, runA.sl.r_48, runA.sl.r_49, runA.sl.r_5, runA.sl.r_50, runA.sl.r_51, runA.sl.r_52, runA.sl.r_53, runA.sl.r_54, runA.sl.r_55, runA.sl.r_6, runA.sl.r_7, runA.sl.r_8, runA.sl.r_9, h0 c arg1 harg1 arg2 harg2 arg3 harg3 arg4 harg4 arg5 harg5 arg6 harg6 arg7 harg7 arg8 harg8 x0 x1 x2 x3 x4 x5 x6 x7, h1 c arg1 harg1 arg2 harg2 arg3 harg3 arg4 harg4 arg5 harg5 arg6 harg6 arg7 harg7 arg8 harg8 arg12 x0 x1 x2 x3 x4 x5 x6 x7 fS, h2 c arg1 harg1 arg2 harg2 arg3 harg3 arg4 harg4 arg5 harg5 arg6 harg6 arg7 harg7 arg8 harg8 arg12 x0 x1 x2 x3 x4 x5 x6 x7 fS, h3 c arg1 harg1 arg2 harg2 arg3 harg3 arg4 harg4 arg5 harg5 arg6 harg6 arg7 harg7 arg8 harg8 arg12 x0 x1 x2 x3 x4 x5 x6 x7 fS, h4 c arg1 harg1 arg2 harg2 arg3 harg3 arg4 harg4 arg5 harg5 arg6 harg6 arg7 harg7 arg8 harg8 arg12 x0 x1 x2 x3 x4 x5 x6 x7 fS, h5 c arg1 harg1 arg2 harg2 arg3 harg3 arg4 harg4 arg5 harg5 arg6 harg6 arg7 harg7 arg8 harg8 arg12 x0 x1 x2 x3 x4 x5 x6 x7 fS, h6 c arg1 harg1 arg2 harg2 arg3 harg3 arg4 harg4 arg5 harg5 arg6 harg6 arg7 harg7 arg8 harg8 arg12 x0 x1 x2 x3 x4 x5 x6 x7 fS, h7 c arg1 harg1 arg2 harg2 arg3 harg3 arg4 harg4 arg5 harg5 arg6 harg6 arg7 harg7 arg8 harg8 arg12 x0 x1 x2 x3 x4 x5 x6 x7 fS]
  rfl

end

end Cert.ProjPiecesA

end
-- ==== Proof.ProjPiecesB.lean ====
/- The stores of the run at the later points are the written-out lists of `ProjPieces`. -/
module

public import proofs.«01_k».proof.Proof.ProjPieces

@[expose] public section

set_option maxRecDepth 16384

noncomputable section

namespace Cert.ProjPiecesB

open Cert.ProjPieces Cert.ProjIdeal Cert.ProjIdeal.Gen Cert.ProjIdealRun Idealize.ShloMosaic

variable {F : FTy → Type} [FloatOps F]

section
variable (c : Dev nD) (i : grid0.Coords) (arg1 : Memref sig .tc .vmem S8x64x1024 .f32) (harg1 : arg1.IsWhole) (arg2 : Memref sig .tc .vmem S8x1x1024 .f32) (harg2 : arg2.IsWhole) (arg3 : Memref sig .tc .vmem S8x1x1024 .f32) (harg3 : arg3.IsWhole) (arg4 : Memref sig .tc .vmem S1x1024 .f32) (harg4 : arg4.IsWhole) (arg5 : Memref sig .tc .vmem S1024x7168 .bf16) (harg5 : arg5.IsWhole) (arg6 : Memref sig .tc .vmem S1x2048 .f32) (harg6 : arg6.IsWhole) (arg7 : Memref sig .tc .vmem S4x1024 .f32) (harg7 : arg7.IsWhole) (arg8 : Memref sig .tc .vmem S1x1024 .f32) (harg8 : arg8.IsWhole) (arg9 : Memref sig .tc .vmem S8x512x128 .f32) (harg9 : arg9.IsWhole) (arg10 : Memref sig .tc .vmem S8x8x128 .f32) (harg10 : arg10.IsWhole) (arg11 : Memref sig .tc .vmem S8x64x6144 .bf16) (harg11 : arg11.IsWhole) (arg12 : Memref sig .tc .vmem S8x536x128 .f32) (harg12 : arg12.IsWhole)
    (hc0 : ¬cond0 i) (x0 : Vec F S8x64x1024 .f32) (x1 : Vec F S8x1x1024 .f32) (x2 : Vec F S8x1x1024 .f32) (x3 : Vec F S1x1024 .f32) (x4 : Vec F S1024x7168 .bf16) (x5 : Vec F S1x2048 .f32) (x6 : Vec F S4x1024 .f32) (x7 : Vec F S1x1024 .f32) (fS : arg12.view.ty.Contents (Elt F))

set_option maxHeartbeats 2000000

theorem h0 : runB.sl.HS_64 c arg1 harg1 arg2 harg2 arg3 harg3 arg4 harg4 arg5 harg5 x0 x1 x2 x3 x4 = partList (loads arg1 harg1 arg2 harg2 arg3 harg3 arg4 harg4 arg5 harg5 arg6 harg6 arg7 harg7 arg8 harg8 x0 x1 x2 x3 x4 x5 x6 x7) [] 64 := by
  unfold runB.sl.HS_64
  rfl

theorem h1 : runB.sl.HS_65 c arg1 harg1 arg2 harg2 arg3 harg3 arg4 harg4 arg5 harg5 arg12 x0 x1 x2 x3 x4 fS = keptList arg12 fS (loads arg1 harg1 arg2 harg2 arg3 harg3 arg4 harg4 arg5 harg5 arg6 harg6 arg7 harg7 arg8 harg8 x0 x1 x2 x3 x4 x5 x6 x7) [] 1 := by
  simp only [runB.sl.HS_65, runB.sl.r, runB.sl.r_1, runB.sl.r_10, runB.sl.r_11, runB.sl.r_12, runB.sl.r_13, runB.sl.r_14, runB.sl.r_15, runB.sl.r_16, runB.sl.r_17, runB.sl.r_18, runB.sl.r_19, runB.sl.r_2, runB.sl.r_20, runB.sl.r_21, runB.sl.r_22, runB.sl.r_23, runB.sl.r_24, runB.sl.r_25, runB.sl.r_26, runB.sl.r_27, runB.sl.r_28, runB.sl.r_29, runB.sl.r_3, runB.sl.r_30, runB.sl.r_31, runB.sl.r_32, runB.sl.r_33, runB.sl.r_34, runB.sl.r_35, runB.sl.r_36, runB.sl.r_37, runB.sl.r_38, runB.sl.r_39, runB.sl.r_4, runB.sl.r_40, runB.sl.r_41, runB.sl.r_42, runB.sl.r_43, runB.sl.r_44, runB.sl.r_45, runB.sl.r_46, runB.sl.r_47, runB.sl.r_48, runB.sl.r_49, runB.sl.r_5, runB.sl.r_50, runB.sl.r_51, runB.sl.r_52, runB.sl.r_53, runB.sl.r_54, runB.sl.r_55, runB.sl.r_6, runB.sl.r_7, runB.sl.r_8, runB.sl.r_9]
  rw [h0 c arg1 harg1 arg2 harg2 arg3 harg3 arg4 harg4 arg5 harg5 arg6 harg6 arg7 harg7 arg8 harg8 x0 x1 x2 x3 x4 x5 x6 x7]
  rfl

theorem h2 : runB.sl.HS_66 c arg1 harg1 arg2 harg2 arg3 harg3 arg4 harg4 arg5 harg5 arg12 x0 x1 x2 x3 x4 fS = keptList arg12 fS (loads arg1 harg1 arg2 harg2 arg3 harg3 arg4 harg4 arg5 harg5 arg6 harg6 arg7 harg7 arg8 harg8 x0 x1 x2 x3 x4 x5 x6 x7) [] 2 := by
  simp only [runB.sl.HS_66, runB.sl.r, runB.sl.r_1, runB.sl.r_10, runB.sl.r_11, runB.sl.r_12, runB.sl.r_13, runB.sl.r_14, runB.sl.r_15, runB.sl.r_16, runB.sl.r_17, runB.sl.r_18, runB.sl.r_19, runB.sl.r_2, runB.sl.r_20, runB.sl.r_21, runB.sl.r_22, runB.sl.r_23, runB.sl.r_24, runB.sl.r_25, runB.sl.r_26, runB.sl.r_27, runB.sl.r_28, runB.sl.r_29, runB.sl.r_3, runB.sl.r_30, runB.sl.r_31, runB.sl.r_32, runB.sl.r_33, runB.sl.r_34, runB.sl.r_35, runB.sl.r_36, runB.sl.r_37, runB.sl.r_38, runB.sl.r_39, runB.sl.r_4, runB.sl.r_40, runB.sl.r_41, runB.sl.r_42, runB.sl.r_43, runB.sl.r_44, runB.sl.r_45, runB.sl.r_46, runB.sl.r_47, runB.sl.r_48, runB.sl.r_49, runB.sl.r_5, runB.sl.r_50, runB.sl.r_51, runB.sl.r_52, runB.sl.r_53, runB.sl.r_54, runB.sl.r_55, runB.sl.r_6, runB.sl.r_7, runB.sl.r_8, runB.sl.r_9]
  rw [h1 c arg1 harg1 arg2 harg2 arg3 harg3 arg4 harg4 arg5 harg5 arg6 harg6 arg7 harg7 arg8 harg8 arg12 x0 x1 x2 x3 x4 x5 x6 x7 fS]
  rfl

theorem h3 : runB.sl.HS_67 c arg1 harg1 arg2 harg2 arg3 harg3 arg4 harg4 arg5 harg5 arg12 x0 x1 x2 x3 x4 fS = keptList arg12 fS (loads arg1 harg1 arg2 harg2 arg3 harg3 arg4 harg4 arg5 harg5 arg6 harg6 arg7 harg7 arg8 harg8 x0 x1 x2 x3 x4 x5 x6 x7) [] 3 := by
  simp only [runB.sl.HS_67, runB.sl.r, runB.sl.r_1, runB.sl.r_10, runB.sl.r_11, runB.sl.r_12, runB.sl.r_13, runB.sl.r_14, runB.sl.r_15, runB.sl.r_16, runB.sl.r_17, runB.sl.r_18, runB.sl.r_19, runB.sl.r_2, runB.sl.r_20, runB.sl.r_21, runB.sl.r_22, runB.sl.r_23, runB.sl.r_24, runB.sl.r_25, runB.sl.r_26, runB.sl.r_27, runB.sl.r_28, runB.sl.r_29, runB.sl.r_3, runB.sl.r_30, runB.sl.r_31, runB.sl.r_32, runB.sl.r_33, runB.sl.r_34, runB.sl.r_35, runB.sl.r_36, runB.sl.r_37, runB.sl.r_38, runB.sl.r_39, runB.sl.r_4, runB.sl.r_40, runB.sl.r_41, runB.sl.r_42, runB.sl.r_43, runB.sl.r_44, runB.sl.r_45, runB.sl.r_46, runB.sl.r_47, runB.sl.r_48, runB.sl.r_49, runB.sl.r_5, runB.sl.r_50, runB.sl.r_51, runB.sl.r_52, runB.sl.r_53, runB.sl.r_54, runB.sl.r_55, runB.sl.r_6, runB.sl.r_7, runB.sl.r_8, runB.sl.r_9]
  rw [h2 c arg1 harg1 arg2 harg2 arg3 harg3 arg4 harg4 arg5 harg5 arg6 harg6 arg7 harg7 arg8 harg8 arg12 x0 x1 x2 x3 x4 x5 x6 x7 fS]
  rfl

theorem h4 : runB.sl.HS_68 c arg1 harg1 arg2 harg2 arg3 harg3 arg4 harg4 arg5 harg5 arg12 x0 x1 x2 x3 x4 fS = keptList arg12 fS (loads arg1 harg1 arg2 harg2 arg3 harg3 arg4 harg4 arg5 harg5 arg6 harg6 arg7 harg7 arg8 harg8 x0 x1 x2 x3 x4 x5 x6 x7) [] 4 := by
  simp only [runB.sl.HS_68, runB.sl.r, runB.sl.r_1, runB.sl.r_10, runB.sl.r_11, runB.sl.r_12, runB.sl.r_13, runB.sl.r_14, runB.sl.r_15, runB.sl.r_16, runB.sl.r_17, runB.sl.r_18, runB.sl.r_19, runB.sl.r_2, runB.sl.r_20, runB.sl.r_21, runB.sl.r_22, runB.sl.r_23, runB.sl.r_24, runB.sl.r_25, runB.sl.r_26, runB.sl.r_27, runB.sl.r_28, runB.sl.r_29, runB.sl.r_3, runB.sl.r_30, runB.sl.r_31, runB.sl.r_32, runB.sl.r_33, runB.sl.r_34, runB.sl.r_35, runB.sl.r_36, runB.sl.r_37, runB.sl.r_38, runB.sl.r_39, runB.sl.r_4, runB.sl.r_40, runB.sl.r_41, runB.sl.r_42, runB.sl.r_43, runB.sl.r_44, runB.sl.r_45, runB.sl.r_46, runB.sl.r_47, runB.sl.r_48, runB.sl.r_49, runB.sl.r_5, runB.sl.r_50, runB.sl.r_51, runB.sl.r_52, runB.sl.r_53, runB.sl.r_54, runB.sl.r_55, runB.sl.r_6, runB.sl.r_7, runB.sl.r_8, runB.sl.r_9]
  rw [h3 c arg1 harg1 arg2 harg2 arg3 harg3 arg4 harg4 arg5 harg5 arg6 harg6 arg7 harg7 arg8 harg8 arg12 x0 x1 x2 x3 x4 x5 x6 x7 fS]
  rfl

theorem h5 : runB.sl.HS_69 c arg1 harg1 arg2 harg2 arg3 harg3 arg4 harg4 arg5 harg5 arg12 x0 x1 x2 x3 x4 fS = keptList arg12 fS (loads arg1 harg1 arg2 harg2 arg3 harg3 arg4 harg4 arg5 harg5 arg6 harg6 arg7 harg7 arg8 harg8 x0 x1 x2 x3 x4 x5 x6 x7) [] 5 := by
  simp only [runB.sl.HS_69, runB.sl.r, runB.sl.r_1, runB.sl.r_10, runB.sl.r_11, runB.sl.r_12, runB.sl.r_13, runB.sl.r_14, runB.sl.r_15, runB.sl.r_16, runB.sl.r_17, runB.sl.r_18, runB.sl.r_19, runB.sl.r_2, runB.sl.r_20, runB.sl.r_21, runB.sl.r_22, runB.sl.r_23, runB.sl.r_24, runB.sl.r_25, runB.sl.r_26, runB.sl.r_27, runB.sl.r_28, runB.sl.r_29, runB.sl.r_3, runB.sl.r_30, runB.sl.r_31, runB.sl.r_32, runB.sl.r_33, runB.sl.r_34, runB.sl.r_35, runB.sl.r_36, runB.sl.r_37, runB.sl.r_38, runB.sl.r_39, runB.sl.r_4, runB.sl.r_40, runB.sl.r_41, runB.sl.r_42, runB.sl.r_43, runB.sl.r_44, runB.sl.r_45, runB.sl.r_46, runB.sl.r_47, runB.sl.r_48, runB.sl.r_49, runB.sl.r_5, runB.sl.r_50, runB.sl.r_51, runB.sl.r_52, runB.sl.r_53, runB.sl.r_54, runB.sl.r_55, runB.sl.r_6, runB.sl.r_7, runB.sl.r_8, runB.sl.r_9]
  rw [h4 c arg1 harg1 arg2 harg2 arg3 harg3 arg4 harg4 arg5 harg5 arg6 harg6 arg7 harg7 arg8 harg8 arg12 x0 x1 x2 x3 x4 x5 x6 x7 fS]
  rfl

theorem h6 : runB.sl.HS_70 c arg1 harg1 arg2 harg2 arg3 harg3 arg4 harg4 arg5 harg5 arg12 x0 x1 x2 x3 x4 fS = keptList arg12 fS (loads arg1 harg1 arg2 harg2 arg3 harg3 arg4 harg4 arg5 harg5 arg6 harg6 arg7 harg7 arg8 harg8 x0 x1 x2 x3 x4 x5 x6 x7) [] 6 := by
  simp only [runB.sl.HS_70, runB.sl.r, runB.sl.r_1, runB.sl.r_10, runB.sl.r_11, runB.sl.r_12, runB.sl.r_13, runB.sl.r_14, runB.sl.r_15, runB.sl.r_16, runB.sl.r_17, runB.sl.r_18, runB.sl.r_19, runB.sl.r_2, runB.sl.r_20, runB.sl.r_21, runB.sl.r_22, runB.sl.r_23, runB.sl.r_24, runB.sl.r_25, runB.sl.r_26, runB.sl.r_27, runB.sl.r_28, runB.sl.r_29, runB.sl.r_3, runB.sl.r_30, runB.sl.r_31, runB.sl.r_32, runB.sl.r_33, runB.sl.r_34, runB.sl.r_35, runB.sl.r_36, runB.sl.r_37, runB.sl.r_38, runB.sl.r_39, runB.sl.r_4, runB.sl.r_40, runB.sl.r_41, runB.sl.r_42, runB.sl.r_43, runB.sl.r_44, runB.sl.r_45, runB.sl.r_46, runB.sl.r_47, runB.sl.r_48, runB.sl.r_49, runB.sl.r_5, runB.sl.r_50, runB.sl.r_51, runB.sl.r_52, runB.sl.r_53, runB.sl.r_54, runB.sl.r_55, runB.sl.r_6, runB.sl.r_7, runB.sl.r_8, runB.sl.r_9]
  rw [h5 c arg1 harg1 arg2 harg2 arg3 harg3 arg4 harg4 arg5 harg5 arg6 harg6 arg7 harg7 arg8 harg8 arg12 x0 x1 x2 x3 x4 x5 x6 x7 fS]
  rfl

theorem h7 : runB.sl.HS_71 c arg1 harg1 arg2 harg2 arg3 harg3 arg4 harg4 arg5 harg5 arg12 x0 x1 x2 x3 x4 fS = keptList arg12 fS (loads arg1 harg1 arg2 harg2 arg3 harg3 arg4 harg4 arg5 harg5 arg6 harg6 arg7 harg7 arg8 harg8 x0 x1 x2 x3 x4 x5 x6 x7) [] 7 := by
  simp only [runB.sl.HS_71, runB.sl.r, runB.sl.r_1, runB.sl.r_10, runB.sl.r_11, runB.sl.r_12, runB.sl.r_13, runB.sl.r_14, runB.sl.r_15, runB.sl.r_16, runB.sl.r_17, runB.sl.r_18, runB.sl.r_19, runB.sl.r_2, runB.sl.r_20, runB.sl.r_21, runB.sl.r_22, runB.sl.r_23, runB.sl.r_24, runB.sl.r_25, runB.sl.r_26, runB.sl.r_27, runB.sl.r_28, runB.sl.r_29, runB.sl.r_3, runB.sl.r_30, runB.sl.r_31, runB.sl.r_32, runB.sl.r_33, runB.sl.r_34, runB.sl.r_35, runB.sl.r_36, runB.sl.r_37, runB.sl.r_38, runB.sl.r_39, runB.sl.r_4, runB.sl.r_40, runB.sl.r_41, runB.sl.r_42, runB.sl.r_43, runB.sl.r_44, runB.sl.r_45, runB.sl.r_46, runB.sl.r_47, runB.sl.r_48, runB.sl.r_49, runB.sl.r_5, runB.sl.r_50, runB.sl.r_51, runB.sl.r_52, runB.sl.r_53, runB.sl.r_54, runB.sl.r_55, runB.sl.r_6, runB.sl.r_7, runB.sl.r_8, runB.sl.r_9]
  rw [h6 c arg1 harg1 arg2 harg2 arg3 harg3 arg4 harg4 arg5 harg5 arg6 harg6 arg7 harg7 arg8 harg8 arg12 x0 x1 x2 x3 x4 x5 x6 x7 fS]
  rfl

theorem kept_eq : (runB c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 fS).2.2.2.1 = keptList arg12 fS (loads arg1 harg1 arg2 harg2 arg3 harg3 arg4 harg4 arg5 harg5 arg6 harg6 arg7 harg7 arg8 harg8 x0 x1 x2 x3 x4 x5 x6 x7) [] 8 := by
  unfold runB
  simp only [runB.sl.r, runB.sl.r_1, runB.sl.r_10, runB.sl.r_11, runB.sl.r_12, runB.sl.r_13, runB.sl.r_14, runB.sl.r_15, runB.sl.r_16, runB.sl.r_17, runB.sl.r_18, runB.sl.r_19, runB.sl.r_2, runB.sl.r_20, runB.sl.r_21, runB.sl.r_22, runB.sl.r_23, runB.sl.r_24, runB.sl.r_25, runB.sl.r_26, runB.sl.r_27, runB.sl.r_28, runB.sl.r_29, runB.sl.r_3, runB.sl.r_30, runB.sl.r_31, runB.sl.r_32, runB.sl.r_33, runB.sl.r_34, runB.sl.r_35, runB.sl.r_36, runB.sl.r_37, runB.sl.r_38, runB.sl.r_39, runB.sl.r_4, runB.sl.r_40, runB.sl.r_41, runB.sl.r_42, runB.sl.r_43, runB.sl.r_44, runB.sl.r_45, runB.sl.r_46, runB.sl.r_47, runB.sl.r_48, runB.sl.r_49, runB.sl.r_5, runB.sl.r_50, runB.sl.r_51, runB.sl.r_52, runB.sl.r_53, runB.sl.r_54, runB.sl.r_55, runB.sl.r_6, runB.sl.r_7, runB.sl.r_8, runB.sl.r_9]
  rw [h7 c arg1 harg1 arg2 harg2 arg3 harg3 arg4 harg4 arg5 harg5 arg6 harg6 arg7 harg7 arg8 harg8 arg12 x0 x1 x2 x3 x4 x5 x6 x7 fS]
  rfl

theorem pr_eq : (runB c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 fS).2.2.1 = prList (loads arg1 harg1 arg2 harg2 arg3 harg3 arg4 harg4 arg5 harg5 arg6 harg6 arg7 harg7 arg8 harg8 x0 x1 x2 x3 x4 x5 x6 x7) := by
  unfold runB
  simp only [runB.sl.r, runB.sl.r_1, runB.sl.r_10, runB.sl.r_11, runB.sl.r_12, runB.sl.r_13, runB.sl.r_14, runB.sl.r_15, runB.sl.r_16, runB.sl.r_17, runB.sl.r_18, runB.sl.r_19, runB.sl.r_2, runB.sl.r_20, runB.sl.r_21, runB.sl.r_22, runB.sl.r_23, runB.sl.r_24, runB.sl.r_25, runB.sl.r_26, runB.sl.r_27, runB.sl.r_28, runB.sl.r_29, runB.sl.r_3, runB.sl.r_30, runB.sl.r_31, runB.sl.r_32, runB.sl.r_33, runB.sl.r_34, runB.sl.r_35, runB.sl.r_36, runB.sl.r_37, runB.sl.r_38, runB.sl.r_39, runB.sl.r_4, runB.sl.r_40, runB.sl.r_41, runB.sl.r_42, runB.sl.r_43, runB.sl.r_44, runB.sl.r_45, runB.sl.r_46, runB.sl.r_47, runB.sl.r_48, runB.sl.r_49, runB.sl.r_5, runB.sl.r_50, runB.sl.r_51, runB.sl.r_52, runB.sl.r_53, runB.sl.r_54, runB.sl.r_55, runB.sl.r_6, runB.sl.r_7, runB.sl.r_8, runB.sl.r_9]
  rfl

theorem z_eq : (runB c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 fS).1 = zList arg12 fS (loads arg1 harg1 arg2 harg2 arg3 harg3 arg4 harg4 arg5 harg5 arg6 harg6 arg7 harg7 arg8 harg8 x0 x1 x2 x3 x4 x5 x6 x7) [] := by
  unfold runB
  simp only [runB.sl.r, runB.sl.r_1, runB.sl.r_10, runB.sl.r_11, runB.sl.r_12, runB.sl.r_13, runB.sl.r_14, runB.sl.r_15, runB.sl.r_16, runB.sl.r_17, runB.sl.r_18, runB.sl.r_19, runB.sl.r_2, runB.sl.r_20, runB.sl.r_21, runB.sl.r_22, runB.sl.r_23, runB.sl.r_24, runB.sl.r_25, runB.sl.r_26, runB.sl.r_27, runB.sl.r_28, runB.sl.r_29, runB.sl.r_3, runB.sl.r_30, runB.sl.r_31, runB.sl.r_32, runB.sl.r_33, runB.sl.r_34, runB.sl.r_35, runB.sl.r_36, runB.sl.r_37, runB.sl.r_38, runB.sl.r_39, runB.sl.r_4, runB.sl.r_40, runB.sl.r_41, runB.sl.r_42, runB.sl.r_43, runB.sl.r_44, runB.sl.r_45, runB.sl.r_46, runB.sl.r_47, runB.sl.r_48, runB.sl.r_49, runB.sl.r_5, runB.sl.r_50, runB.sl.r_51, runB.sl.r_52, runB.sl.r_53, runB.sl.r_54, runB.sl.r_55, runB.sl.r_6, runB.sl.r_7, runB.sl.r_8, runB.sl.r_9, h0 c arg1 harg1 arg2 harg2 arg3 harg3 arg4 harg4 arg5 harg5 arg6 harg6 arg7 harg7 arg8 harg8 x0 x1 x2 x3 x4 x5 x6 x7, h1 c arg1 harg1 arg2 harg2 arg3 harg3 arg4 harg4 arg5 harg5 arg6 harg6 arg7 harg7 arg8 harg8 arg12 x0 x1 x2 x3 x4 x5 x6 x7 fS, h2 c arg1 harg1 arg2 harg2 arg3 harg3 arg4 harg4 arg5 harg5 arg6 harg6 arg7 harg7 arg8 harg8 arg12 x0 x1 x2 x3 x4 x5 x6 x7 fS, h3 c arg1 harg1 arg2 harg2 arg3 harg3 arg4 harg4 arg5 harg5 arg6 harg6 arg7 harg7 arg8 harg8 arg12 x0 x1 x2 x3 x4 x5 x6 x7 fS, h4 c arg1 harg1 arg2 harg2 arg3 harg3 arg4 harg4 arg5 harg5 arg6 harg6 arg7 harg7 arg8 harg8 arg12 x0 x1 x2 x3 x4 x5 x6 x7 fS, h5 c arg1 harg1 arg2 harg2 arg3 harg3 arg4 harg4 arg5 harg5 arg6 harg6 arg7 harg7 arg8 harg8 arg12 x0 x1 x2 x3 x4 x5 x6 x7 fS, h6 c arg1 harg1 arg2 harg2 arg3 harg3 arg4 harg4 arg5 harg5 arg6 harg6 arg7 harg7 arg8 harg8 arg12 x0 x1 x2 x3 x4 x5 x6 x7 fS, h7 c arg1 harg1 arg2 harg2 arg3 harg3 arg4 harg4 arg5 harg5 arg6 harg6 arg7 harg7 arg8 harg8 arg12 x0 x1 x2 x3 x4 x5 x6 x7 fS]
  rfl

theorem end_eq : (runB c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 fS).2.1 = endList arg12 fS (loads arg1 harg1 arg2 harg2 arg3 harg3 arg4 harg4 arg5 harg5 arg6 harg6 arg7 harg7 arg8 harg8 x0 x1 x2 x3 x4 x5 x6 x7) [] := by
  unfold runB
  simp only [runB.sl.r, runB.sl.r_1, runB.sl.r_10, runB.sl.r_11, runB.sl.r_12, runB.sl.r_13, runB.sl.r_14, runB.sl.r_15, runB.sl.r_16, runB.sl.r_17, runB.sl.r_18, runB.sl.r_19, runB.sl.r_2, runB.sl.r_20, runB.sl.r_21, runB.sl.r_22, runB.sl.r_23, runB.sl.r_24, runB.sl.r_25, runB.sl.r_26, runB.sl.r_27, runB.sl.r_28, runB.sl.r_29, runB.sl.r_3, runB.sl.r_30, runB.sl.r_31, runB.sl.r_32, runB.sl.r_33, runB.sl.r_34, runB.sl.r_35, runB.sl.r_36, runB.sl.r_37, runB.sl.r_38, runB.sl.r_39, runB.sl.r_4, runB.sl.r_40, runB.sl.r_41, runB.sl.r_42, runB.sl.r_43, runB.sl.r_44, runB.sl.r_45, runB.sl.r_46, runB.sl.r_47, runB.sl.r_48, runB.sl.r_49, runB.sl.r_5, runB.sl.r_50, runB.sl.r_51, runB.sl.r_52, runB.sl.r_53, runB.sl.r_54, runB.sl.r_55, runB.sl.r_6, runB.sl.r_7, runB.sl.r_8, runB.sl.r_9, h0 c arg1 harg1 arg2 harg2 arg3 harg3 arg4 harg4 arg5 harg5 arg6 harg6 arg7 harg7 arg8 harg8 x0 x1 x2 x3 x4 x5 x6 x7, h1 c arg1 harg1 arg2 harg2 arg3 harg3 arg4 harg4 arg5 harg5 arg6 harg6 arg7 harg7 arg8 harg8 arg12 x0 x1 x2 x3 x4 x5 x6 x7 fS, h2 c arg1 harg1 arg2 harg2 arg3 harg3 arg4 harg4 arg5 harg5 arg6 harg6 arg7 harg7 arg8 harg8 arg12 x0 x1 x2 x3 x4 x5 x6 x7 fS, h3 c arg1 harg1 arg2 harg2 arg3 harg3 arg4 harg4 arg5 harg5 arg6 harg6 arg7 harg7 arg8 harg8 arg12 x0 x1 x2 x3 x4 x5 x6 x7 fS, h4 c arg1 harg1 arg2 harg2 arg3 harg3 arg4 harg4 arg5 harg5 arg6 harg6 arg7 harg7 arg8 harg8 arg12 x0 x1 x2 x3 x4 x5 x6 x7 fS, h5 c arg1 harg1 arg2 harg2 arg3 harg3 arg4 harg4 arg5 harg5 arg6 harg6 arg7 harg7 arg8 harg8 arg12 x0 x1 x2 x3 x4 x5 x6 x7 fS, h6 c arg1 harg1 arg2 harg2 arg3 harg3 arg4 harg4 arg5 harg5 arg6 harg6 arg7 harg7 arg8 harg8 arg12 x0 x1 x2 x3 x4 x5 x6 x7 fS, h7 c arg1 harg1 arg2 harg2 arg3 harg3 arg4 harg4 arg5 harg5 arg6 harg6 arg7 harg7 arg8 harg8 arg12 x0 x1 x2 x3 x4 x5 x6 x7 fS]
  rfl

end

end Cert.ProjPiecesB

end
-- ==== Proof.ProjFrame.lean ====
/- The projection's frame with its values: each grid point finds the last three time steps of the point before in the kept
   rows (zeros at the first), leaves its own last three there, and leaves in the output blocks the convolved block, the extra
   step and the activated block of `ProjMath`. -/
module

public import proofs.«01_k».proof.Proof.ProjMath
public import proofs.«01_k».proof.Proof.ProjPiecesA
public import proofs.«01_k».proof.Proof.ProjPiecesB
public import Idealize.ShloMosaic.Lib.Pipeline.FrameBody
public import Idealize.ShloMosaic.Lib.Claim

@[expose] public section

set_option maxRecDepth 16384

noncomputable section

namespace Cert.ProjFrame

open Cert Cert.ProjMath Cert.ProjStores Cert.ProjPieces Cert.ProjIdealRun Cert.ProjIdeal Cert.ProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The kept rows' buffer. -/
abbrev scM : Memref sig .tc .vmem S8x536x128 .f32 := Memref.whole cc0_scratch0

/-- What the kept rows hold when point `p` starts: its first three time steps, from the second point on. -/
def Good (c : Dev nD) (p : ℕ) (f : scM.view.ty.Contents (Elt Ideal)) : Prop :=
  1 ≤ p → ∀ (k : Fin 8) (r : Fin 536) (j : Fin 128), r.val < 24 → scM.view.read (Elt Ideal) f (ix3 k r j) = ptM m c p k r.val j

/-- What the point's body leaves in the three output blocks. -/
def outZ (c : Dev nD) (t : Fin cfg0.N) : Vec Ideal S8x512x128 .f32 := fun y => convE (L m c t) (ptM m c t.val) (y 0) (y 1).val (y 2)
def outE (c : Dev nD) (t : Fin cfg0.N) : Vec Ideal S8x8x128 .f32 := fun y => endE (L m c t) (ptM m c t.val) (y 0) (y 1).val (y 2)
def outP (c : Dev nD) (t : Fin cfg0.N) : Vec Ideal S8x64x6144 .bf16 := fun y => actE (L m c t) (y 0) (y 1) (y 2)

/-- The invariant between points: the kept rows are good, and the generator's register is at some state. -/
def inv (c : Dev nD) (p : ℕ) : sProp 𝕄 :=
  iprop((∃ f, ⌜Good m c p f⌝ ∗ (scM.view.loc (c : Thread nD τ) ↦[scM.view.set]{fullShare} f)) ∗ (∃ r, prngReg c r))

/-- The proof data: inputs stay at their blocks, outputs are left at the point's values, the invariant is `inv`. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outZ m c t
    | ⟨9, _⟩ => outE m c t
    | ⟨10, _⟩ => outP m c t
  Φ t := inv m c t.val
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = outZ m c t := by dsimp only [dats]
theorem after0_9 (c : Dev nD) (t : Fin cfg0.N) : (dats m 0 c).after 9 t = outE m c t := by dsimp only [dats]
theorem after0_10 (c : Dev nD) (t : Fin cfg0.N) : (dats m 0 c).after 10 t = outP m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-- The body's condition holds at the first point only. -/
theorem first_iff : ∀ t : Fin cfg0.N, cond0 (grid0.coords t) ↔ t.val = 0 :=
  (by decide +kernel : ∀ t : Fin grid0.N, cond0 (grid0.coords t) ↔ t.val = 0)

theorem before_first (c : Dev nD) (f : scM.view.ty.Contents (Elt Ideal)) : Before scM f cleared (ptM m c 0) :=
  fun k r j h => (cleared_read k r j h).trans (ptX_first _ _ _ _ k r.val j h).symm

theorem before_later (c : Dev nD) (p : ℕ) (hp : 1 ≤ p) (f : scM.view.ty.Contents (Elt Ideal)) (hg : Good m c p f) : Before scM f [] (ptM m c p) :=
  fun k r j h => hg hp k r j h

/-- The rows kept by point `p` are good for the next. -/
theorem good_next (c : Dev nD) (t : Fin cfg0.N) (f : scM.view.ty.Contents (Elt Ideal)) (base : List (View.Piece (Elt Ideal) S8x536x128 .f32))
    (hb : Before scM f base (ptM m c t.val)) : Good m c (t.val + 1) (scM.view.writes (Elt Ideal) f (keptList scM f (L m c t) base 8)) :=
  fun _ k r j h => (after_read (products m c t) hb k r j h).trans (ptX_next _ _ _ _ t.val k r.val j)

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t))

set_option maxHeartbeats 4000000 in
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl, after0_0, after0_1, after0_2, after0_3, after0_4, after0_5, after0_6, after0_7, after0_8, after0_9, after0_10]
  rw [show (dats m 0 c).Φ t.castSucc = inv m c t.val from rfl, show (dats m 0 c).Φ t.succ = inv m c (t.val + 1) from rfl]
  unfold inv
  by_cases h0 : t.val = 0
  · have hc : cond0 (grid0.coords t) := (first_iff t).mpr h0
    iintro ⟨⟨⟨%f, %hg, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    have hb : Before scM f cleared (ptM m c t.val) := by rw [h0]; exact before_first m c f
    iapply ((runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM (Memref.isWhole_whole _) hc (iblk m c 0 t) (iblk m c 1 t) (iblk m c 2 t) (iblk m c 3 t) (iblk m c 4 t) (iblk m c 5 t) (iblk m c 6 t) (iblk m c 7 t) f).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [HS]; · iexact HS
    iintro ⟨H0, H1, H2, H3, H4, H5, H6, H7, ⟨%e8, H8⟩, ⟨%e9, H9⟩, ⟨%e10, H10⟩, HS⟩
    isplitl [HS Hg]
    · isplitl [HS]
      · iexists _
        isplitr
        swap; · iexact HS
        ipureintro
        exact (congrArg (fun l => Good m c (t.val + 1) (scM.view.writes (Elt Ideal) f l)) (ProjPiecesA.kept_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM (Memref.isWhole_whole _) hc (iblk m c 0 t) (iblk m c 1 t) (iblk m c 2 t) (iblk m c 3 t) (iblk m c 4 t) (iblk m c 5 t) (iblk m c 6 t) (iblk m c 7 t) f)).mpr (good_next m c t f _ hb)
      · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro
      exact (congrArg (fun l => (ms0_8 t).view.read (Elt Ideal) ((ms0_8 t).view.writes (Elt Ideal) e8 l)) (ProjPiecesA.z_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM (Memref.isWhole_whole _) hc (iblk m c 0 t) (iblk m c 1 t) (iblk m c 2 t) (iblk m c 3 t) (iblk m c 4 t) (iblk m c 5 t) (iblk m c 6 t) (iblk m c 7 t) f)).trans (z_read _ e8 (products m c t) hb)
    isplitl [H9]
    · unfold owns; iexists _; isplitr
      swap; · iexact H9
      ipureintro
      exact (congrArg (fun l => (ms0_9 t).view.read (Elt Ideal) ((ms0_9 t).view.writes (Elt Ideal) e9 l)) (ProjPiecesA.end_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM (Memref.isWhole_whole _) hc (iblk m c 0 t) (iblk m c 1 t) (iblk m c 2 t) (iblk m c 3 t) (iblk m c 4 t) (iblk m c 5 t) (iblk m c 6 t) (iblk m c 7 t) f)).trans (end_read _ e9 (products m c t) hb)
    unfold owns; iexists _; isplitr
    swap; · iexact H10
    ipureintro
    exact (congrArg (fun l => (ms0_10 t).view.read (Elt Ideal) ((ms0_10 t).view.writes (Elt Ideal) e10 l)) (ProjPiecesA.pr_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM (Memref.isWhole_whole _) hc (iblk m c 0 t) (iblk m c 1 t) (iblk m c 2 t) (iblk m c 3 t) (iblk m c 4 t) (iblk m c 5 t) (iblk m c 6 t) (iblk m c 7 t) f)).trans (pr_read (L m c t) _ e10)
  · have hc : ¬cond0 (grid0.coords t) := fun hc => h0 ((first_iff t).mp hc)
    iintro ⟨⟨⟨%f, %hg, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    have hb : Before scM f [] (ptM m c t.val) := before_later m c t.val (by omega) f hg
    iapply ((runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM (Memref.isWhole_whole _) hc (iblk m c 0 t) (iblk m c 1 t) (iblk m c 2 t) (iblk m c 3 t) (iblk m c 4 t) (iblk m c 5 t) (iblk m c 6 t) (iblk m c 7 t) f).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [HS]; · iexact HS
    iintro ⟨H0, H1, H2, H3, H4, H5, H6, H7, ⟨%e8, H8⟩, ⟨%e9, H9⟩, ⟨%e10, H10⟩, HS⟩
    isplitl [HS Hg]
    · isplitl [HS]
      · iexists _
        isplitr
        swap; · iexact HS
        ipureintro
        exact (congrArg (fun l => Good m c (t.val + 1) (scM.view.writes (Elt Ideal) f l)) (ProjPiecesB.kept_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM (Memref.isWhole_whole _) hc (iblk m c 0 t) (iblk m c 1 t) (iblk m c 2 t) (iblk m c 3 t) (iblk m c 4 t) (iblk m c 5 t) (iblk m c 6 t) (iblk m c 7 t) f)).mpr (good_next m c t f _ hb)
      · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro
      exact (congrArg (fun l => (ms0_8 t).view.read (Elt Ideal) ((ms0_8 t).view.writes (Elt Ideal) e8 l)) (ProjPiecesB.z_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM (Memref.isWhole_whole _) hc (iblk m c 0 t) (iblk m c 1 t) (iblk m c 2 t) (iblk m c 3 t) (iblk m c 4 t) (iblk m c 5 t) (iblk m c 6 t) (iblk m c 7 t) f)).trans (z_read _ e8 (products m c t) hb)
    isplitl [H9]
    · unfold owns; iexists _; isplitr
      swap; · iexact H9
      ipureintro
      exact (congrArg (fun l => (ms0_9 t).view.read (Elt Ideal) ((ms0_9 t).view.writes (Elt Ideal) e9 l)) (ProjPiecesB.end_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM (Memref.isWhole_whole _) hc (iblk m c 0 t) (iblk m c 1 t) (iblk m c 2 t) (iblk m c 3 t) (iblk m c 4 t) (iblk m c 5 t) (iblk m c 6 t) (iblk m c 7 t) f)).trans (end_read _ e9 (products m c t) hb)
    unfold owns; iexists _; isplitr
    swap; · iexact H10
    ipureintro
    exact (congrArg (fun l => (ms0_10 t).view.read (Elt Ideal) ((ms0_10 t).view.writes (Elt Ideal) e10 l)) (ProjPiecesB.pr_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM (Memref.isWhole_whole _) hc (iblk m c 0 t) (iblk m c 1 t) (iblk m c 2 t) (iblk m c 3 t) (iblk m c 4 t) (iblk m c 5 t) (iblk m c 6 t) (iblk m c 7 t) f)).trans (pr_read (L m c t) _ e10)

theorem defs₀_row (t : Fin cfg0.N) :
    defs₀ (F := Ideal) .tc cfg0.body (cfg0.bodyArgs t (cfg0.slots t)) = bodyAt0 t := by
  unfold defs₀; rw [Defs.onTc_tc]

theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

/-! ## The run and the frame -/

theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

theorem inv_in (c : Dev nD) : (Pipeline.ΦA spec0 c : sProp 𝕄) ⊢ inv m c 0 := by
  rw [PhiA_eq]
  unfold inv owns
  iintro ⟨⟨%d, %f, -, HS⟩, Hg⟩
  isplitl [HS]
  · iexists f
    isplitr
    · ipureintro
      exact fun h => absurd h (by omega)
    · iexact HS
  · iexact Hg

theorem inv_out (c : Dev nD) (p : ℕ) : inv m c p ⊢ (Pipeline.ΦA spec0 c : sProp 𝕄) := by
  rw [PhiA_eq]
  unfold inv owns
  iintro ⟨⟨%f, -, HS⟩, Hg⟩
  isplitl [HS]
  · iexists _
    iexists f
    isplitr
    · ipureintro
      rfl
    · iexact HS
  · iexact Hg

set_option backward.isDefEq.respectTransparency.types false in
theorem run_main_quiescent : θ_run defs (onTc (τ := τ) (main (F := Ideal))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := fun c => inv_in m c) (hout := fun c => inv_out m c _)

theorem run_main : θ_run defs (onTc (τ := τ) (main (F := Ideal))) (s₀ m ρ) (Pipeline.FramePost cfgs (dats m) 0 (V m)) :=
  (θ_run defs _ _).mono (fun _ h => h.1) (run_main_quiescent m ρ)

theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run_main m ρ)) ((θ_run defs _ _).mono (fun _ h => h.2) (run_main_quiescent m ρ))

end Cert.ProjFrame

end
-- ==== Proof.ProjFinal.lean ====
/- What the projection's run leaves in its three results: each block is read back from the point that wrote it, so that half the
   convolution, its extra step and the activations are those of `ProjMath` at every index. -/
module

public import proofs.«01_k».proof.Proof.ProjFrame
public import Idealize.ShloMosaic.Lib.Pipeline.Value

@[expose] public section

set_option maxRecDepth 16384

noncomputable section

namespace Cert.ProjFinal

open Cert.ProjIdeal Cert.ProjIdeal.Gen Cert.ProjMath Cert.ProjStores Cert.ProjBlock Cert.ProjFrame
open Idealize.ShloMosaic Idealize.ShloMosaic.TcCoe
open Idealize.ShloMosaic.Pipeline (Dat)

variable (m : (ℓ : Loc nD τ sig) → Buf (Elt Ideal) ℓ) (ρ : Dev nD → PrngReg)

theorem points : cfg0.N = 32 := by decide +kernel

theorem idx_inj8 : ∀ t t' : Fin cfg0.N, (cfg0.win 8).index t = (cfg0.win 8).index t' → t = t' :=
  (by decide +kernel : ∀ t t' : Fin grid0.N, win0_8.index t = win0_8.index t' → t = t')

theorem blocks8 (c : Dev nD) (t : Fin cfg0.N) (hf : (cfg0.win 8).flush t = true) :
    ((cfg0.win 8).blk t).view.read (Elt Ideal) ((dats m 0 c).arrAt 8 cfg0.N) = (dats m 0 c).flushed 8 t :=
  (dats m 0 c).read_blk_arrAt_eq_flushed 8 (fun t t' _ _ hne => (cfg0.win 8).disjoint_blk fun h => hne (idx_inj8 t t' h)) cfg0.N t t.isLt hf

theorem at8 : ∀ t : Fin cfg0.N, win0_8.index t (0 : Fin 3) = 0 ∧ win0_8.index t (1 : Fin 3) = t.val ∧ win0_8.index t (2 : Fin 3) = 0 :=
  (by decide +kernel : ∀ t : Fin grid0.N, _)

theorem flush_last9 : ∀ t : Fin cfg0.N, t.val = 31 → (cfg0.win 9).flush t = true :=
  (by decide +kernel : ∀ t : Fin grid0.N, t.val = 31 → win0_9.flush t = true)

theorem last_of_flush9 : ∀ t : Fin cfg0.N, (cfg0.win 9).flush t = true → t.val = 31 :=
  (by decide +kernel : ∀ t : Fin grid0.N, win0_9.flush t = true → t.val = 31)

theorem blocks9 (c : Dev nD) (t : Fin cfg0.N) (hf : (cfg0.win 9).flush t = true) :
    ((cfg0.win 9).blk t).view.read (Elt Ideal) ((dats m 0 c).arrAt 9 cfg0.N) = (dats m 0 c).flushed 9 t :=
  (dats m 0 c).read_blk_arrAt_eq_flushed 9 (fun t t' ht ht' hne => absurd (Fin.ext ((last_of_flush9 t ht).trans (last_of_flush9 t' ht').symm)) hne) cfg0.N t t.isLt hf

theorem at9 : ∀ t : Fin cfg0.N, win0_9.index t (0 : Fin 3) = 0 ∧ win0_9.index t (1 : Fin 3) = 0 ∧ win0_9.index t (2 : Fin 3) = 0 :=
  (by decide +kernel : ∀ t : Fin grid0.N, _)

theorem idx_inj10 : ∀ t t' : Fin cfg0.N, (cfg0.win 10).index t = (cfg0.win 10).index t' → t = t' :=
  (by decide +kernel : ∀ t t' : Fin grid0.N, win0_10.index t = win0_10.index t' → t = t')

theorem blocks10 (c : Dev nD) (t : Fin cfg0.N) (hf : (cfg0.win 10).flush t = true) :
    ((cfg0.win 10).blk t).view.read (Elt Ideal) ((dats m 0 c).arrAt 10 cfg0.N) = (dats m 0 c).flushed 10 t :=
  (dats m 0 c).read_blk_arrAt_eq_flushed 10 (fun t t' _ _ hne => (cfg0.win 10).disjoint_blk fun h => hne (idx_inj10 t t' h)) cfg0.N t t.isLt hf

theorem at10 : ∀ t : Fin cfg0.N, win0_10.index t (0 : Fin 3) = 0 ∧ win0_10.index t (1 : Fin 3) = t.val ∧ win0_10.index t (2 : Fin 3) = 0 :=
  (by decide +kernel : ∀ t : Fin grid0.N, _)

theorem place8 (p : Fin cfg0.N) (a : Fin 8) (r : Fin 512) (j : Fin 128) (R : Fin 16384) (hR : R.val = p.val * 512 + r.val) :
    ((cfg0.win 8).blk p).view.emb (ix3 a r j : S8x512x128.Idx) = (ix3 a R j : S8x16384x128.Idx) := by
  obtain ⟨e0, e1, e2⟩ := at8 p
  refine funext fun (d : Fin 3) => Fin.ext ?_
  match d with
  | ⟨0, _⟩ => show win0_8.index p (0 : Fin 3) * 8 + 1 * a.val = a.val; omega
  | ⟨1, _⟩ => show win0_8.index p (1 : Fin 3) * 512 + 1 * r.val = R.val; omega
  | ⟨2, _⟩ => show win0_8.index p (2 : Fin 3) * 128 + 1 * j.val = j.val; omega

theorem place9 (p : Fin cfg0.N) (a : Fin 8) (r : Fin 8) (j : Fin 128) (R : Fin 8) (hR : R.val = r.val) :
    ((cfg0.win 9).blk p).view.emb (ix3 a r j : S8x8x128.Idx) = (ix3 a R j : S8x8x128.Idx) := by
  obtain ⟨e0, e1, e2⟩ := at9 p
  refine funext fun (d : Fin 3) => Fin.ext ?_
  match d with
  | ⟨0, _⟩ => show win0_9.index p (0 : Fin 3) * 8 + 1 * a.val = a.val; omega
  | ⟨1, _⟩ => show win0_9.index p (1 : Fin 3) * 8 + 1 * r.val = R.val; omega
  | ⟨2, _⟩ => show win0_9.index p (2 : Fin 3) * 128 + 1 * j.val = j.val; omega

theorem place10 (p : Fin cfg0.N) (a : Fin 8) (r : Fin 64) (j : Fin 6144) (R : Fin 2048) (hR : R.val = p.val * 64 + r.val) :
    ((cfg0.win 10).blk p).view.emb (ix3 a r j : S8x64x6144.Idx) = (ix3 a R j : S8x2048x6144.Idx) := by
  obtain ⟨e0, e1, e2⟩ := at10 p
  refine funext fun (d : Fin 3) => Fin.ext ?_
  match d with
  | ⟨0, _⟩ => show win0_10.index p (0 : Fin 3) * 8 + 1 * a.val = a.val; omega
  | ⟨1, _⟩ => show win0_10.index p (1 : Fin 3) * 64 + 1 * r.val = R.val; omega
  | ⟨2, _⟩ => show win0_10.index p (2 : Fin 3) * 6144 + 1 * j.val = j.val; omega

theorem flushed8 (c : Dev nD) (t : Fin cfg0.N) : (dats m 0 c).flushed 8 t = outZ m c t := by
  show (cfg0.win 8).cut (grid0.coords t) ((dats m 0 c).after 8 t) = _
  rw [after0_8]
  rfl

theorem entry8 (c : Dev nD) (t : Fin cfg0.N) (hf : (cfg0.win 8).flush t = true) (y : S8x512x128.Idx) :
    (dats m 0 c).arrAt 8 cfg0.N (((cfg0.win 8).blk t).view.emb y) = outZ m c t y := by
  have h := blocks8 m c t hf
  rw [flushed8] at h
  revert h
  generalize (dats m 0 c).arrAt 8 cfg0.N = A
  intro h
  exact congrFun h y

theorem flushed9 (c : Dev nD) (t : Fin cfg0.N) : (dats m 0 c).flushed 9 t = outE m c t := by
  show (cfg0.win 9).cut (grid0.coords t) ((dats m 0 c).after 9 t) = _
  rw [after0_9]
  rfl

theorem entry9 (c : Dev nD) (t : Fin cfg0.N) (hf : (cfg0.win 9).flush t = true) (y : S8x8x128.Idx) :
    (dats m 0 c).arrAt 9 cfg0.N (((cfg0.win 9).blk t).view.emb y) = outE m c t y := by
  have h := blocks9 m c t hf
  rw [flushed9] at h
  revert h
  generalize (dats m 0 c).arrAt 9 cfg0.N = A
  intro h
  exact congrFun h y

theorem flushed10 (c : Dev nD) (t : Fin cfg0.N) : (dats m 0 c).flushed 10 t = outP m c t := by
  show (cfg0.win 10).cut (grid0.coords t) ((dats m 0 c).after 10 t) = _
  rw [after0_10]
  rfl

theorem entry10 (c : Dev nD) (t : Fin cfg0.N) (hf : (cfg0.win 10).flush t = true) (y : S8x64x6144.Idx) :
    (dats m 0 c).arrAt 10 cfg0.N (((cfg0.win 10).blk t).view.emb y) = outP m c t y := by
  have h := blocks10 m c t hf
  rw [flushed10] at h
  revert h
  generalize (dats m 0 c).arrAt 10 cfg0.N = A
  intro h
  exact congrFun h y

/-- Half the convolution after the run, at (lane group, 8 · time + batch, lane). -/
theorem conv_final (c : Dev nD) (k : Fin 8) (R : Fin 16384) (j : Fin 128) :
    (dats m 0 c).arrAt 8 cfg0.N (ix3 k R j : S8x16384x128.Idx)
      = convM m c (R.val / 8) ⟨R.val % 8, by omega⟩ ⟨128 * k.val + j.val, by omega⟩ := by
  have hN := points
  have hR : R.val < 16384 := R.isLt
  have hp : R.val / 512 < cfg0.N := by omega
  have hs' := entry8 m c ⟨R.val / 512, hp⟩ (flush0_8 _) (ix3 k (⟨R.val % 512, by omega⟩ : Fin 512) j : S8x512x128.Idx)
  rw [place8 ⟨R.val / 512, hp⟩ k ⟨R.val % 512, by omega⟩ j R (by show R.val = R.val / 512 * 512 + R.val % 512; omega)] at hs'
  exact hs'.trans (conv_at m c ⟨R.val / 512, hp⟩ k (R.val % 512) j (R.val / 8)
    (by show R.val / 8 = 64 * (R.val / 512) + R.val % 512 / 8; omega) ⟨R.val % 8, by omega⟩ (by show R.val % 8 = R.val % 512 % 8; omega) ⟨128 * k.val + j.val, by omega⟩ rfl)

/-- The convolution's extra step after the run, at (lane group, batch, lane). -/
theorem end_final (c : Dev nD) (k r : Fin 8) (j : Fin 128) :
    (dats m 0 c).arrAt 9 cfg0.N (ix3 k r j : S8x8x128.Idx) = convM m c 2048 r ⟨128 * k.val + j.val, by omega⟩ := by
  have hN := points
  have hp : 31 < cfg0.N := by omega
  have hs' := entry9 m c ⟨31, hp⟩ (flush_last9 _ rfl) (ix3 k r j : S8x8x128.Idx)
  rw [place9 ⟨31, hp⟩ k r j r rfl] at hs'
  exact hs'.trans (end_at m c ⟨31, hp⟩ rfl k r j ⟨128 * k.val + j.val, by omega⟩ rfl)

/-- The activations after the run, at (batch, time, channel). -/
theorem act_final (c : Dev nD) (b : Fin 8) (T : Fin 2048) (j : Fin 6144) :
    (dats m 0 c).arrAt 10 cfg0.N (ix3 b T j : S8x2048x6144.Idx) = actM m c b T j := by
  have hN := points
  have hT : T.val < 2048 := T.isLt
  have hp : T.val / 64 < cfg0.N := by omega
  have hs' := entry10 m c ⟨T.val / 64, hp⟩ (flush0_10 _) (ix3 b (⟨T.val % 64, by omega⟩ : Fin 64) j : S8x64x6144.Idx)
  rw [place10 ⟨T.val / 64, hp⟩ b ⟨T.val % 64, by omega⟩ j T (by show T.val = T.val / 64 * 64 + T.val % 64; omega)] at hs'
  exact hs'.trans (act_at m c ⟨T.val / 64, hp⟩ b ⟨T.val % 64, by omega⟩ j T (by show T.val = T.val / 64 * 64 + T.val % 64; omega))

/-- The run, with the three results named and the arguments unchanged. -/
theorem run_results : θ_run defs (onTc (τ := τ) (main (F := Ideal))) ⟨m, fun _ => 0, ρ⟩ (fun r => ∀ c : Dev nD,
      r.2.mem ((c.tc : Thread nD τ).loc main_v9_0) = (dats m 0 c).arrAt 8 cfg0.N
      ∧ r.2.mem ((c.tc : Thread nD τ).loc main_v9_1) = (dats m 0 c).arrAt 9 cfg0.N
      ∧ r.2.mem ((c.tc : Thread nD τ).loc main_v9_2) = (dats m 0 c).arrAt 10 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1 8, (h c).1 9, (h c).1 10,
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩) (run_main m ρ)

end Cert.ProjFinal

end
-- ==== Proof.ProjRef.lean ====
/- The projection's reference, read at an index: the modulated rows times the weights, the input of the convolution with its
   zero time steps, half the convolution and the activations are the functions of `ProjMath`. -/
module

public import proofs.«01_k».proof.Proof.ProjMath
public import proofs.«01_k».proof.Proof.Gen.ProjReferenceIdeal.Run
public import proofs.«01_k».proof.Proof.Gen.ProjReferenceIdeal.Read
public import Idealize.ShloMosaic.Lib.Pointwise

@[expose] public section

set_option maxRecDepth 4096

noncomputable section

namespace Cert.ProjRef

open Cert.ProjReferenceIdeal Cert.ProjReferenceIdeal.Gen Cert.ProjReferenceIdeal.Read Cert.ProjBlock Cert.ProjMath
open Idealize.ShloMosaic

/-! ## A half over a sum -/

theorem half_eq : Ideal.ofBits .f32 0x3F000000#32 = (((1 : ℝ) / 2 : ℝ) : EReal) := by
  simp [Ideal.ofBits, Ideal.ieee, -EReal.coe_mul]
  norm_num

/-- A half is finite and not negative, so it distributes over any sum of extended reals. -/
theorem half_add (a b : EReal) :
    Ideal.ofBits .f32 0x3F000000#32 * (a + b) = Ideal.ofBits .f32 0x3F000000#32 * a + Ideal.ofBits .f32 0x3F000000#32 * b := by
  rw [half_eq]
  exact EReal.left_distrib_of_nonneg_of_ne_top (by exact_mod_cast (by norm_num : (0 : ℝ) ≤ 1 / 2)) (EReal.coe_ne_top _) a b

/-! ## The projection -/

theorem mod_apply (x0 : Vec Ideal S8x2048x1024 .f32) (x1 : Vec Ideal S16x6144 .f32) (x2 : Vec Ideal S1024 .f32) (b : Fin 8) (T : Fin 2048) (j : Fin 1024) :
    val_main_v22 (F := Ideal) x0 x1 x2 (ix3 b T j) = modRow (fun k => x0 (ix3 b T k)) (fun k => x2 (ix1 k))
      (fun k => x1 (ix2 ⟨b.val, by omega⟩ ⟨1024 + k.val, by omega⟩)) (fun k => x1 (ix2 ⟨b.val, by omega⟩ ⟨k.val, by omega⟩)) j := by
  pointwise [val_main_v22, val_main_v21, val_main_v20, val_main_v19, val_main_v18, val_main_v17, val_main_cst_2, val_main_v16, val_main_v15, val_main_v14, val_main_v13, val_main_v12, val_main_v11, val_main_v10, val_main_v9, val_main_cst_1, val_main_v8, val_main_v7, val_main_cst_0, val_main_v6, val_main_v5, val_main_cst, val_main_v4, val_main_v3, val_main_v2, val_main_v1, val_main_v0, modRow, rms]

theorem proj_apply (x0 : Vec Ideal S8x2048x1024 .f32) (x1 : Vec Ideal S16x6144 .f32) (x2 : Vec Ideal S1024 .f32) (x3 : Vec Ideal S1024x7168 .f32) (b : Fin 8) (T : Fin 2048) (j : Fin 7168) :
    val_main_v23 (F := Ideal) x0 x1 x2 x3 (ix3 b T j) = projE x0 x1 x2 x3 b T j := by
  unfold projE
  simp only [← mod_apply x0 x1 x2 b T]
  rw [val_main_v23]
  generalize val_main_v22 (F := Ideal) x0 x1 x2 = y
  pointwise []

/-! ## The convolution -/

theorem steps_apply (x0 : Vec Ideal S8x2048x1024 .f32) (x1 : Vec Ideal S16x6144 .f32) (x2 : Vec Ideal S1024 .f32) (x3 : Vec Ideal S1024x7168 .f32) (b : Fin 8) (s : Fin 2052) (j : Fin 1024) :
    val_main_v30 (F := Ideal) x0 x1 x2 x3 (ix3 b s j) = rowE x0 x1 x2 x3 s.val b j := by
  have hs : s.val < 2052 := s.isLt
  unfold rowE val_main_v30
  by_cases h : 3 ≤ s.val ∧ s.val < 2051
  · rw [dif_pos h, ← proj_apply]
    refine Eq.trans (concatenate_apply_piece (1 : Fin 3) _ _ (ix3 b s j) 1 (by simp) S8x2048x1024 (val_main_v24 (F := Ideal) x0 x1 x2 x3) rfl rfl 3 (by rfl)
      (ix3 b ⟨s.val - 3, by omega⟩ j) ?_ ?_) ?_
    · intro d hd
      fin_cases d
      · rfl
      · exact absurd rfl hd
      · rfl
    · show 3 + (s.val - 3) = s.val
      omega
    · refine (val_main_v24_apply (F := Ideal) _ _ _ _ _).trans ?_
      exact congrArg _ (funext fun d => match d with
        | ⟨0, _⟩ => rfl
        | ⟨1, _⟩ => rfl
        | ⟨2, _⟩ => rfl)
  · rw [dif_neg h]
    by_cases h3 : s.val < 3
    · refine Eq.trans (concatenate_apply_piece (1 : Fin 3) _ _ (ix3 b s j) 0 (by simp) S8x3x1024 (val_main_v28 (F := Ideal)) rfl rfl 0 (by rfl)
        (ix3 b ⟨s.val, h3⟩ j) ?_ ?_) ?_
      · intro d hd
        fin_cases d
        · rfl
        · exact absurd rfl hd
        · rfl
      · show 0 + s.val = s.val
        omega
      · pointwise [val_main_v28, val_main_cst_3]
    · refine Eq.trans (concatenate_apply_piece (1 : Fin 3) _ _ (ix3 b s j) 2 (by simp) S8x1x1024 (val_main_v29 (F := Ideal)) rfl rfl 2051 (by rfl)
        (ix3 b ⟨s.val - 2051, by omega⟩ j) ?_ ?_) ?_
      · intro d hd
        fin_cases d
        · rfl
        · exact absurd rfl hd
        · rfl
      · show 2051 + (s.val - 2051) = s.val
        omega
      · pointwise [val_main_v29, val_main_cst_4]

/-- Half the convolution, as the reference writes it: half of the bias plus the four taps. -/
theorem taps_apply (x0 : Vec Ideal S8x2048x1024 .f32) (x1 : Vec Ideal S16x6144 .f32) (x2 : Vec Ideal S1024 .f32) (x3 : Vec Ideal S1024x7168 .f32)
    (x5 : Vec Ideal S4x1024 .f32) (x6 : Vec Ideal S1024 .f32) (b : Fin 8) (s : Fin 2049) (j : Fin 1024) :
    val_main_v62 (F := Ideal) x0 x1 x2 x3 x5 x6 (ix3 b s j) = Ideal.ofBits .f32 0x3F000000#32 *
      (x6 (ix1 j) + x5 (ix2 0 j) * rowE x0 x1 x2 x3 s.val b j + x5 (ix2 1 j) * rowE x0 x1 x2 x3 (s.val + 1) b j
        + x5 (ix2 2 j) * rowE x0 x1 x2 x3 (s.val + 2) b j + x5 (ix2 3 j) * rowE x0 x1 x2 x3 (s.val + 3) b j) := by
  have hs : s.val < 2049 := s.isLt
  rw [show rowE x0 x1 x2 x3 s.val b j = _ from (steps_apply x0 x1 x2 x3 b ⟨s.val, by omega⟩ j).symm,
    show rowE x0 x1 x2 x3 (s.val + 1) b j = _ from (congrArg (fun n => rowE x0 x1 x2 x3 n b j) (Nat.add_comm _ _)).trans (steps_apply x0 x1 x2 x3 b ⟨1 + s.val, by omega⟩ j).symm,
    show rowE x0 x1 x2 x3 (s.val + 2) b j = _ from (congrArg (fun n => rowE x0 x1 x2 x3 n b j) (Nat.add_comm _ _)).trans (steps_apply x0 x1 x2 x3 b ⟨2 + s.val, by omega⟩ j).symm,
    show rowE x0 x1 x2 x3 (s.val + 3) b j = _ from (congrArg (fun n => rowE x0 x1 x2 x3 n b j) (Nat.add_comm _ _)).trans (steps_apply x0 x1 x2 x3 b ⟨3 + s.val, by omega⟩ j).symm]
  pointwise [val_main_v62, val_main_v61, val_main_v60, val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_cst_5]

theorem conv_apply (x0 : Vec Ideal S8x2048x1024 .f32) (x1 : Vec Ideal S16x6144 .f32) (x2 : Vec Ideal S1024 .f32) (x3 : Vec Ideal S1024x7168 .f32)
    (x5 : Vec Ideal S4x1024 .f32) (x6 : Vec Ideal S1024 .f32) (b : Fin 8) (s : Fin 2049) (j : Fin 1024) :
    val_main_v62 (F := Ideal) x0 x1 x2 x3 x5 x6 (ix3 b s j) = convG x0 x1 x2 x3 x5 x6 s.val b j := by
  rw [taps_apply, half_add, half_add, half_add, half_add]
  unfold convG
  simp only [mul_assoc]

/-! ## The three results -/

theorem z_split (k : Fin 8) (R : Fin 16384) (j : Fin 128) :
    idx_main_v66 (ix3 k R j) = ix4 k (⟨R.val / 8, by omega⟩ : Fin 2048) (⟨R.val % 8, by omega⟩ : Fin 8) j := by
  have hk := k.isLt
  have hR := R.isLt
  have hj := j.isLt
  refine funext fun (d : Fin 4) => Fin.ext ?_
  match d with
  | ⟨0, _⟩ => show ((k.val * 16384 + R.val) * 128 + j.val) / 2097152 = k.val; omega
  | ⟨1, _⟩ => show ((k.val * 16384 + R.val) * 128 + j.val) / 1024 % 2048 = R.val / 8; omega
  | ⟨2, _⟩ => show ((k.val * 16384 + R.val) * 128 + j.val) / 128 % 8 = R.val % 8; omega
  | ⟨3, _⟩ => show ((k.val * 16384 + R.val) * 128 + j.val) % 128 = j.val; omega

theorem z_join (b : Fin 8) (T : Fin 2048) (k : Fin 8) (j : Fin 128) :
    idx_main_v64 (ix4 b T k j) = ix3 b T (⟨128 * k.val + j.val, by omega⟩ : Fin 1024) := by
  have hb := b.isLt
  have hT := T.isLt
  have hk := k.isLt
  have hj := j.isLt
  refine funext fun (d : Fin 3) => Fin.ext ?_
  match d with
  | ⟨0, _⟩ => show (((b.val * 2048 + T.val) * 8 + k.val) * 128 + j.val) / 2097152 = b.val; omega
  | ⟨1, _⟩ => show (((b.val * 2048 + T.val) * 8 + k.val) * 128 + j.val) / 1024 % 2048 = T.val; omega
  | ⟨2, _⟩ => show (((b.val * 2048 + T.val) * 8 + k.val) * 128 + j.val) % 1024 = 128 * k.val + j.val; omega

theorem z_swap (k : Fin 8) (T : Fin 2048) (b : Fin 8) (j : Fin 128) : idx_main_v65 (ix4 k T b j) = ix4 b T k j :=
  funext fun (d : Fin 4) => match d with
  | ⟨0, _⟩ => rfl
  | ⟨1, _⟩ => rfl
  | ⟨2, _⟩ => rfl
  | ⟨3, _⟩ => rfl

theorem z_keep (b : Fin 8) (T : Fin 2048) (j : Fin 1024) : idx_main_v63 (ix3 b T j) = ix3 b (⟨T.val, by omega⟩ : Fin 2049) j :=
  funext fun (d : Fin 3) => match d with
  | ⟨0, _⟩ => rfl
  | ⟨1, _⟩ => rfl
  | ⟨2, _⟩ => rfl

theorem z_apply (x0 : Vec Ideal S8x2048x1024 .f32) (x1 : Vec Ideal S16x6144 .f32) (x2 : Vec Ideal S1024 .f32) (x3 : Vec Ideal S1024x7168 .f32)
    (x5 : Vec Ideal S4x1024 .f32) (x6 : Vec Ideal S1024 .f32) (k : Fin 8) (R : Fin 16384) (j : Fin 128) :
    val_main_v66 (F := Ideal) x0 x1 x2 x3 x5 x6 (ix3 k R j)
      = convG x0 x1 x2 x3 x5 x6 (R.val / 8) ⟨R.val % 8, by omega⟩ ⟨128 * k.val + j.val, by omega⟩ := by
  rw [val_main_v66_apply, z_split, val_main_v65_apply, z_swap, val_main_v64_apply, z_join, val_main_v63_apply, z_keep, conv_apply]

theorem tail_first (b k : Fin 8) (j : Fin 128) :
    idx_main_v69 (ix3 b k j) = ix2 b (⟨128 * k.val + j.val, by omega⟩ : Fin 1024) := by
  have hb := b.isLt
  have hk := k.isLt
  have hj := j.isLt
  refine funext fun (d : Fin 2) => Fin.ext ?_
  match d with
  | ⟨0, _⟩ => show ((b.val * 8 + k.val) * 128 + j.val) / 1024 = b.val; omega
  | ⟨1, _⟩ => show ((b.val * 8 + k.val) * 128 + j.val) % 1024 = 128 * k.val + j.val; omega

theorem tail_second (b : Fin 8) (j : Fin 1024) : idx_main_v68 (ix2 b j) = ix3 b (0 : Fin 1) j := by
  have hb := b.isLt
  have hj := j.isLt
  refine funext fun (d : Fin 3) => Fin.ext ?_
  match d with
  | ⟨0, _⟩ => show (b.val * 1024 + j.val) / 1024 = b.val; omega
  | ⟨1, _⟩ => rfl
  | ⟨2, _⟩ => show (b.val * 1024 + j.val) % 1024 = j.val; omega

theorem tail_swap (k b : Fin 8) (j : Fin 128) : idx_main_v70 (ix3 k b j) = ix3 b k j :=
  funext fun (d : Fin 3) => match d with
  | ⟨0, _⟩ => rfl
  | ⟨1, _⟩ => rfl
  | ⟨2, _⟩ => rfl

theorem tail_last (b : Fin 8) (j : Fin 1024) : idx_main_v67 (ix3 b (0 : Fin 1) j) = ix3 b (⟨2048, by omega⟩ : Fin 2049) j :=
  funext fun (d : Fin 3) => match d with
  | ⟨0, _⟩ => rfl
  | ⟨1, _⟩ => rfl
  | ⟨2, _⟩ => rfl

theorem tail_apply (x0 : Vec Ideal S8x2048x1024 .f32) (x1 : Vec Ideal S16x6144 .f32) (x2 : Vec Ideal S1024 .f32) (x3 : Vec Ideal S1024x7168 .f32)
    (x5 : Vec Ideal S4x1024 .f32) (x6 : Vec Ideal S1024 .f32) (k b : Fin 8) (j : Fin 128) :
    val_main_v70 (F := Ideal) x0 x1 x2 x3 x5 x6 (ix3 k b j) = convG x0 x1 x2 x3 x5 x6 2048 b ⟨128 * k.val + j.val, by omega⟩ := by
  rw [val_main_v70_apply, tail_swap, val_main_v69_apply, tail_first, val_main_v68_apply, tail_second, val_main_v67_apply, tail_last, conv_apply]

theorem part25 (b : Fin 8) (T : Fin 2048) (j : Fin 1024) : idx_main_v25 (ix3 b T j) = ix3 b T (⟨1024 + j.val, by omega⟩ : Fin 7168) :=
  funext fun (d : Fin 3) => match d with
  | ⟨0, _⟩ => rfl
  | ⟨1, _⟩ => rfl
  | ⟨2, _⟩ => rfl

theorem part26 (b : Fin 8) (T : Fin 2048) (j : Fin 1024) : idx_main_v26 (ix3 b T j) = ix3 b T (⟨2048 + j.val, by omega⟩ : Fin 7168) :=
  funext fun (d : Fin 3) => match d with
  | ⟨0, _⟩ => rfl
  | ⟨1, _⟩ => rfl
  | ⟨2, _⟩ => rfl

theorem part27 (b : Fin 8) (T : Fin 2048) (j : Fin 2048) : idx_main_v27 (ix3 b T j) = ix3 b T (⟨3072 + j.val, by omega⟩ : Fin 7168) :=
  funext fun (d : Fin 3) => match d with
  | ⟨0, _⟩ => rfl
  | ⟨1, _⟩ => rfl
  | ⟨2, _⟩ => rfl

theorem part86 (b : Fin 8) (T : Fin 2048) (j : Fin 2048) : idx_main_v86 (ix3 b T j) = ix3 b T (⟨5120 + j.val, by omega⟩ : Fin 7168) :=
  funext fun (d : Fin 3) => match d with
  | ⟨0, _⟩ => rfl
  | ⟨1, _⟩ => rfl
  | ⟨2, _⟩ => rfl

theorem gelu_apply (x0 : Vec Ideal S8x2048x1024 .f32) (x1 : Vec Ideal S16x6144 .f32) (x2 : Vec Ideal S1024 .f32) (x3 : Vec Ideal S1024x7168 .f32) (b : Fin 8) (T : Fin 2048) (j : Fin 1024) :
    val_main_v83 (F := Ideal) x0 x1 x2 x3 (ix3 b T j) = geluE (projE x0 x1 x2 x3 b T ⟨1024 + j.val, by omega⟩) := by
  have e := (val_main_v25_apply (F := Ideal) x0 x1 x2 x3 (ix3 b T j)).trans ((congrArg (val_main_v23 (F := Ideal) x0 x1 x2 x3)
    (part25 b T j)).trans (proj_apply x0 x1 x2 x3 b T ⟨1024 + j.val, by omega⟩))
  rw [← e]
  unfold geluE
  pointwise [val_main_v83, val_main_v82, val_main_v81, val_main_cst_9, val_main_v80, val_main_v79, val_main_cst_8, val_main_v78, val_main_v77, val_main_v76, val_main_cst_7, val_main_v75, val_main_v74, val_main_v73, val_main_cst_6, val_main_v72, val_main_v71]
  rw [mul_comm (_ * _) (val_main_v25 (F := Ideal) x0 x1 x2 x3 (ix3 b T j))]

theorem scaled_apply (x0 : Vec Ideal S8x2048x1024 .f32) (x1 : Vec Ideal S16x6144 .f32) (x2 : Vec Ideal S1024 .f32) (x3 : Vec Ideal S1024x7168 .f32) (b : Fin 8) (T : Fin 2048) (j : Fin 1024) :
    val_main_v85 (F := Ideal) x0 x1 x2 x3 (ix3 b T j) = projE x0 x1 x2 x3 b T ⟨2048 + j.val, by omega⟩ * Ideal.ofBits .f32 0x3E38AA3B#32 := by
  have e := (val_main_v26_apply (F := Ideal) x0 x1 x2 x3 (ix3 b T j)).trans ((congrArg (val_main_v23 (F := Ideal) x0 x1 x2 x3)
    (part26 b T j)).trans (proj_apply x0 x1 x2 x3 b T ⟨2048 + j.val, by omega⟩))
  rw [← e]
  pointwise [val_main_v85, val_main_v84, val_main_cst_10]

theorem plain_apply (x0 : Vec Ideal S8x2048x1024 .f32) (x1 : Vec Ideal S16x6144 .f32) (x2 : Vec Ideal S1024 .f32) (x3 : Vec Ideal S1024x7168 .f32) (b : Fin 8) (T : Fin 2048) (j : Fin 2048) :
    val_main_v27 (F := Ideal) x0 x1 x2 x3 (ix3 b T j) = projE x0 x1 x2 x3 b T ⟨3072 + j.val, by omega⟩ :=
  (val_main_v27_apply (F := Ideal) x0 x1 x2 x3 (ix3 b T j)).trans ((congrArg (val_main_v23 (F := Ideal) x0 x1 x2 x3)
    (part27 b T j)).trans (proj_apply x0 x1 x2 x3 b T ⟨3072 + j.val, by omega⟩))

theorem gate_apply (x0 : Vec Ideal S8x2048x1024 .f32) (x1 : Vec Ideal S16x6144 .f32) (x2 : Vec Ideal S1024 .f32) (x3 : Vec Ideal S1024x7168 .f32)
    (x4 : Vec Ideal S2048 .f32) (b : Fin 8) (T : Fin 2048) (j : Fin 2048) :
    val_main_v95 (F := Ideal) x0 x1 x2 x3 x4 (ix3 b T j) = sigE (projE x0 x1 x2 x3 b T ⟨5120 + j.val, by omega⟩ + x4 (ix1 j)) := by
  have e := (val_main_v86_apply (F := Ideal) x0 x1 x2 x3 (ix3 b T j)).trans ((congrArg (val_main_v23 (F := Ideal) x0 x1 x2 x3)
    (part86 b T j)).trans (proj_apply x0 x1 x2 x3 b T ⟨5120 + j.val, by omega⟩))
  rw [← e]
  unfold sigE Ideal.logistic
  pointwise [val_main_v95, val_main_v94, val_main_cst_12, val_main_v93, val_main_v92, val_main_cst_11, val_main_v91, val_main_v90, val_main_v89, val_main_v88, val_main_v87]

theorem act_apply (x0 : Vec Ideal S8x2048x1024 .f32) (x1 : Vec Ideal S16x6144 .f32) (x2 : Vec Ideal S1024 .f32) (x3 : Vec Ideal S1024x7168 .f32)
    (x4 : Vec Ideal S2048 .f32) (b : Fin 8) (T : Fin 2048) (j : Fin 6144) :
    val_main_v97 (F := Ideal) x0 x1 x2 x3 x4 (ix3 b T j) = actG x0 x1 x2 x3 x4 b T j := by
  have hj := j.isLt
  show val_main_v96 (F := Ideal) x0 x1 x2 x3 x4 (ix3 b T j) = _
  unfold actG val_main_v96
  by_cases h1 : j.val < 1024
  · rw [if_pos h1]
    refine Eq.trans (concatenate_apply_piece (2 : Fin 3) _ _ (ix3 b T j) 0 (by simp) S8x2048x1024 (val_main_v83 (F := Ideal) x0 x1 x2 x3) rfl rfl 0 (by rfl)
      (ix3 b T ⟨j.val - 0, by omega⟩) ?_ ?_) ?_
    · intro d hd
      fin_cases d
      · rfl
      · rfl
      · exact absurd rfl hd
    · show 0 + (j.val - 0) = j.val
      omega
    · refine (gelu_apply x0 x1 x2 x3 b T ⟨j.val - 0, by omega⟩).trans ?_
      rw [show (⟨1024 + (j.val - 0), by omega⟩ : Fin 7168) = ⟨1024 + j.val, by omega⟩ from Fin.ext (by show 1024 + (j.val - 0) = 1024 + j.val; omega)]
  rw [if_neg h1]
  by_cases h2 : j.val < 2048
  · rw [if_pos h2]
    refine Eq.trans (concatenate_apply_piece (2 : Fin 3) _ _ (ix3 b T j) 1 (by simp) S8x2048x1024 (val_main_v85 (F := Ideal) x0 x1 x2 x3) rfl rfl 1024 (by rfl)
      (ix3 b T ⟨j.val - 1024, by omega⟩) ?_ ?_) ?_
    · intro d hd
      fin_cases d
      · rfl
      · rfl
      · exact absurd rfl hd
    · show 1024 + (j.val - 1024) = j.val
      omega
    · refine (scaled_apply x0 x1 x2 x3 b T ⟨j.val - 1024, by omega⟩).trans ?_
      rw [show (⟨2048 + (j.val - 1024), by omega⟩ : Fin 7168) = ⟨1024 + j.val, by omega⟩ from Fin.ext (by show 2048 + (j.val - 1024) = 1024 + j.val; omega)]
  rw [if_neg h2]
  by_cases h3 : j.val < 4096
  · rw [dif_pos h3]
    refine Eq.trans (concatenate_apply_piece (2 : Fin 3) _ _ (ix3 b T j) 2 (by simp) S8x2048x2048 (val_main_v27 (F := Ideal) x0 x1 x2 x3) rfl rfl 2048 (by rfl)
      (ix3 b T ⟨j.val - 2048, by omega⟩) ?_ ?_) ?_
    · intro d hd
      fin_cases d
      · rfl
      · rfl
      · exact absurd rfl hd
    · show 2048 + (j.val - 2048) = j.val
      omega
    · refine (plain_apply x0 x1 x2 x3 b T ⟨j.val - 2048, by omega⟩).trans ?_
      rw [show (⟨3072 + (j.val - 2048), by omega⟩ : Fin 7168) = ⟨1024 + j.val, by omega⟩ from Fin.ext (by show 3072 + (j.val - 2048) = 1024 + j.val; omega)]
  · rw [dif_neg h3]
    refine Eq.trans (concatenate_apply_piece (2 : Fin 3) _ _ (ix3 b T j) 3 (by simp) S8x2048x2048 (val_main_v95 (F := Ideal) x0 x1 x2 x3 x4) rfl rfl 4096 (by show 1024 + (1024 + (2048 + 0)) = 4096; norm_num)
      (ix3 b T ⟨j.val - 4096, by omega⟩) ?_ ?_) ?_
    · intro d hd
      fin_cases d
      · rfl
      · rfl
      · exact absurd rfl hd
    · show 4096 + (j.val - 4096) = j.val
      omega
    · refine (gate_apply x0 x1 x2 x3 x4 b T ⟨j.val - 4096, by omega⟩).trans ?_
      rw [show (⟨5120 + (j.val - 4096), by omega⟩ : Fin 7168) = ⟨1024 + j.val, by omega⟩ from Fin.ext (by show 5120 + (j.val - 4096) = 1024 + j.val; omega)]

end Cert.ProjRef

end
-- ==== Proof.ProjClaims.lean ====
/- The projection's five claims: the two programs and the reference run and leave their arguments unchanged, the ideal program
   is the program's, and its three results are the reference's. -/
module

public import proofs.«01_k».proof.Defs
public import proofs.«01_k».proof.Proof.ProjBits
public import proofs.«01_k».proof.Proof.ProjFinal
public import proofs.«01_k».proof.Proof.ProjRef
public import Idealize.ShloMosaic.Lib.Quiescent

@[expose] public section

noncomputable section

namespace Cert.ProjClaims

open Cert.ProjReferenceIdeal Cert.ProjReferenceIdeal.Gen
open Idealize.ShloMosaic Idealize.ShloMosaic.TcCoe Idealize.SL.Sem

theorem frame : Cert.quiescent_Proj := fun m ρ _ => Cert.ProjBits.frame (F := Bits) m ρ

theorem frame_ideal : Cert.quiescent_ProjIdeal := fun m ρ _ => Cert.ProjFrame.frame m ρ

theorem frame_reference : Cert.quiescent_ProjReferenceIdeal := fun m ρ _ =>
  (θ_run Cert.ProjReferenceIdeal.defs _ _).mono (fun r h => ⟨fun c => (h c).2.2.2, Idealize.ShloMosaic.sem_eq_zero_of_no_sems (by decide) r.2⟩)
    (Cert.ProjReferenceIdeal.Value.run (F := Ideal) m ρ)

theorem preserves : Cert.preserves_Proj_ProjIdeal := trivial

/-- The projection's three results are the reference's, at every index, on the same arguments. -/
theorem algebraic : Cert.algebraic_ProjIdeal_ProjReferenceIdeal := by
  intro m ρ m' ρ' _ hag
  refine ⟨fun c => (Cert.ProjFrame.dats m 0 c).arrAt 8 Cert.ProjIdeal.cfg0.N, fun c => (Cert.ProjFrame.dats m 0 c).arrAt 9 Cert.ProjIdeal.cfg0.N,
    fun c => (Cert.ProjFrame.dats m 0 c).arrAt 10 Cert.ProjIdeal.cfg0.N, Cert.ProjFinal.run_results m ρ, ?_⟩
  refine (θ_run Cert.ProjReferenceIdeal.defs _ _).mono
    (fun _ h c => ⟨(h c).1.trans ?_, (h c).2.1.trans ?_, (h c).2.2.1.trans ?_, (h c).2.2.2⟩) (Cert.ProjReferenceIdeal.Value.run (F := Ideal) m' ρ')
  · obtain ⟨e0, e1, e2, e3, e4, e5, e6⟩ := hag c
    refine (Read.val_main_v66_eq (F := Ideal) m' c).trans ?_
    refine funext fun i => ?_
    rw [ValueIdx.eq_ix3 i]
    refine Eq.trans ?_ (Cert.ProjFinal.conv_final m c (i 0) (i 1) (i 2)).symm
    unfold Cert.ProjMath.convM
    rw [← e0, ← e1, ← e2, ← e3, ← e5, ← e6]
    exact Cert.ProjRef.z_apply _ _ _ _ _ _ (i 0) (i 1) (i 2)
  · obtain ⟨e0, e1, e2, e3, e4, e5, e6⟩ := hag c
    refine (Read.val_main_v70_eq (F := Ideal) m' c).trans ?_
    refine funext fun i => ?_
    rw [ValueIdx.eq_ix3 i]
    refine Eq.trans ?_ (Cert.ProjFinal.end_final m c (i 0) (i 1) (i 2)).symm
    unfold Cert.ProjMath.convM
    rw [← e0, ← e1, ← e2, ← e3, ← e5, ← e6]
    exact Cert.ProjRef.tail_apply _ _ _ _ _ _ (i 0) (i 1) (i 2)
  · obtain ⟨e0, e1, e2, e3, e4, e5, e6⟩ := hag c
    refine (Read.val_main_v97_eq (F := Ideal) m' c).trans ?_
    refine funext fun i => ?_
    rw [ValueIdx.eq_ix3 i]
    refine Eq.trans ?_ (Cert.ProjFinal.act_final m c (i 0) (i 1) (i 2)).symm
    unfold Cert.ProjMath.actM
    rw [← e0, ← e1, ← e2, ← e3, ← e4]
    exact Cert.ProjRef.act_apply _ _ _ _ _ (i 0) (i 1) (i 2)

end Cert.ProjClaims

end
-- ==== Proof.ModClaims.lean ====
/- Hand-written, untrusted: THE CLAIMS ABOUT THE MODULATION'S PRODUCT. Grid point `t` computes the columns
   1024 t … 1024 t + 1023 of `silu(cs) · w + b`; the kernel and the reference build the rows `cs` by the same
   concatenation, which is never opened. -/
module

public import proofs.«01_k».proof.Defs
public import proofs.«01_k».proof.Proof.Gen.ModIdeal.Value
public import proofs.«01_k».proof.Proof.Gen.Mod.Frame
public import proofs.«01_k».proof.Proof.Gen.ModReferenceIdeal.Run
public import proofs.«01_k».proof.Proof.Gen.ModReferenceIdeal.Read
public import Idealize.ShloMosaic.Lib.Pointwise
public import Idealize.ShloMosaic.Lib.Pipeline.Value
public import Idealize.ShloMosaic.Lib.Pipeline.ValueKit.Basic
public import Idealize.ShloMosaic.Lib.Claim
public import Idealize.ShloMosaic.Lib.Quiescent

@[expose] public section

set_option maxRecDepth 16384

noncomputable section

namespace Cert.ModClaims

open Idealize.ShloMosaic Idealize.ShloMosaic.TcCoe Idealize.SL.Sem

/-- `silu(x) = x · logistic(x)`, of one entry. -/
def siluE (x : EReal) : EReal := x * Ideal.logistic x

section kernel

open Cert.ModIdeal Cert.ModIdeal.Gen

variable (m : (ℓ : Loc nD τ sig) → Buf (Elt Ideal) ℓ)

/-! ## One grid point -/

theorem corner : ∀ a : Fin 2, (![0, 0] : Fin 2 → ℕ) a = 0 := by decide

theorem stored (p : Vec Ideal S16x1024 .f32) : View.canon [(⟨r0_0, p⟩ : View.Piece (Elt Ideal) S16x1024 .f32)] = p :=
  View.canon_cons_unit_lit inb_S16x1024_S16x1024_0_0 p [] corner

theorem point_apply (x : Vec Ideal S16x1024 .f32) (w : Vec Ideal S1024x1024 .f32) (b : Vec Ideal S1x1024 .f32) (r : Fin 16) (j : Fin 1024) :
    out0_3 x w b (ix2 r j) = (∑ k, siluE (x (ix2 r k)) * w (ix2 k j)) + b (ix2 0 j) := by
  have h : out0_3 x w b = k0_pay1 x w b := by
    have hx : View.ld x r0_0 = x := View.ld_unit_lit inb_S16x1024_S16x1024_0_0 x corner
    have hw : View.ld w r0_1 = w := View.ld_unit_lit inb_S1024x1024_S1024x1024_0_0 w corner
    have hb : View.ld b r0_2 = b := View.ld_unit_lit inb_S1x1024_S1x1024_0_0 b corner
    unfold out0_3
    rw [hx, hw, hb]
    exact stored _
  rw [h]
  pointwise [k0_pay1, siluE]

/-! ## The staged blocks -/

theorem at0 : ∀ t : Fin cfg0.N, win0_0.index t (0 : Fin 2) = 0 ∧ win0_0.index t (1 : Fin 2) = 0 :=
  (by decide +kernel : ∀ t : Fin grid0.N, _)

theorem rows_block (c : Dev nD) (t : Fin cfg0.N) (y : S16x1024.Idx) : iblk m c 0 t y = V m c main_v2 y := by
  obtain ⟨e0, e1⟩ := at0 t
  show V m c main_v2 (((cfg0.win 0).blk t).view.emb y) = _
  refine congrArg _ (funext fun (a : Fin 2) => Fin.ext ?_)
  match a with
    | ⟨0, _⟩ => show win0_0.index t (0 : Fin 2) * 16 + 1 * (y 0).val = (y 0).val; omega
    | ⟨1, _⟩ => show win0_0.index t (1 : Fin 2) * 1024 + 1 * (y 1).val = (y 1).val; omega

theorem at1 : ∀ t : Fin cfg0.N, win0_1.index t (0 : Fin 2) = 0 ∧ win0_1.index t (1 : Fin 2) = t.val :=
  (by decide +kernel : ∀ t : Fin grid0.N, _)

theorem weight_block (c : Dev nD) (t : Fin cfg0.N) (y : S1024x1024.Idx) (z : S1024x6144.Idx) (h0 : (z 0).val = (y 0).val)
    (h1 : (z 1).val = t.val * 1024 + (y 1).val) : iblk m c 1 t y = V m c main_arg2 z := by
  obtain ⟨e0, e1⟩ := at1 t
  show V m c main_arg2 (((cfg0.win 1).blk t).view.emb y) = _
  refine congrArg _ (funext fun (a : Fin 2) => Fin.ext ?_)
  match a with
    | ⟨0, _⟩ => show win0_1.index t (0 : Fin 2) * 1024 + 1 * (y 0).val = (z 0).val; omega
    | ⟨1, _⟩ => show win0_1.index t (1 : Fin 2) * 1024 + 1 * (y 1).val = (z 1).val; omega

theorem at2 : ∀ t : Fin cfg0.N, win0_2.index t (0 : Fin 2) = 0 ∧ win0_2.index t (1 : Fin 2) = t.val :=
  (by decide +kernel : ∀ t : Fin grid0.N, _)

theorem bias_block (c : Dev nD) (t : Fin cfg0.N) (y : S1x1024.Idx) (z : S1x6144.Idx) (h0 : (z 0).val = (y 0).val)
    (h1 : (z 1).val = t.val * 1024 + (y 1).val) : iblk m c 2 t y = V m c main_v3 z := by
  obtain ⟨e0, e1⟩ := at2 t
  show V m c main_v3 (((cfg0.win 2).blk t).view.emb y) = _
  refine congrArg _ (funext fun (a : Fin 2) => Fin.ext ?_)
  match a with
    | ⟨0, _⟩ => show win0_2.index t (0 : Fin 2) * 1 + 1 * (y 0).val = (z 0).val; omega
    | ⟨1, _⟩ => show win0_2.index t (1 : Fin 2) * 1024 + 1 * (y 1).val = (z 1).val; omega

theorem entry_bias (c : Dev nD) (j : Fin 6144) :
    V m c main_v3 (ix2 0 j : S1x6144.Idx) = m ((c : Thread nD τ).loc main_arg3) (ix1 j : S6144.Idx) := by
  have h : V m c main_v3 = broadcastInDim S1x6144 ![1] bcast_S6144_S1x6144_1 (m ((c : Thread nD τ).loc main_arg3)) := by
    unfold_abbrev_sides
    after_results
  rw [h]
  generalize m ((c : Thread nD τ).loc main_arg3) = u
  pointwise []

/-- The rows the kernel stages are those the reference builds. -/
theorem entry_rows (c : Dev nD) : V m c main_v2
    = Cert.ModReferenceIdeal.Read.val_main_v2 (F := Ideal) (m ((c : Thread nD τ).loc main_arg0)) (m ((c : Thread nD τ).loc main_arg1)) := by
  unfold_abbrev_sides
  after_results
  rfl

/-! ## The result -/

theorem at3 : ∀ t : Fin cfg0.N, win0_3.index t (0 : Fin 2) = 0 ∧ win0_3.index t (1 : Fin 2) = t.val :=
  (by decide +kernel : ∀ t : Fin grid0.N, _)

theorem place (p : Fin cfg0.N) (r : Fin 16) (j : Fin 1024) (J : Fin 6144) (hJ : J.val = p.val * 1024 + j.val) :
    ((cfg0.win 3).blk p).view.emb (ix2 r j : S16x1024.Idx) = (ix2 r J : S16x6144.Idx) := by
  obtain ⟨e0, e1⟩ := at3 p
  refine funext fun (a : Fin 2) => Fin.ext ?_
  match a with
  | ⟨0, _⟩ => show win0_3.index p (0 : Fin 2) * 16 + 1 * r.val = r.val; omega
  | ⟨1, _⟩ => show win0_3.index p (1 : Fin 2) * 1024 + 1 * j.val = J.val; omega

/-- The result array after the run, at an index. -/
theorem final_apply (c : Dev nD) (r : Fin 16) (J : Fin 6144) :
    (dats m 0 c).arrAt 3 cfg0.N (ix2 r J : S16x6144.Idx)
      = (∑ k : Fin 1024, siluE (Cert.ModReferenceIdeal.Read.val_main_v2 (F := Ideal) (m ((c : Thread nD τ).loc main_arg0)) (m ((c : Thread nD τ).loc main_arg1)) (ix2 r k))
          * m ((c : Thread nD τ).loc main_arg2) (ix2 k J : S1024x6144.Idx)) + m ((c : Thread nD τ).loc main_arg3) (ix1 J : S6144.Idx) := by
  have hN : cfg0.N = 6 := by decide +kernel
  have hJ : J.val < 6144 := J.isLt
  have hp : J.val / 1024 < cfg0.N := by omega
  have hs := Cert.ModIdeal.Value.blocks3 m c ⟨J.val / 1024, hp⟩ (flush0_3 _)
  rw [Cert.ModIdeal.Value.flushed3] at hs
  have hd : J.val = J.val / 1024 * 1024 + J.val % 1024 := by omega
  rw [← place ⟨J.val / 1024, hp⟩ r ⟨J.val % 1024, by omega⟩ J hd]
  revert hs
  generalize (dats m 0 c).arrAt 3 cfg0.N = A
  intro hs
  refine (congrFun hs (ix2 r ⟨J.val % 1024, by omega⟩ : S16x1024.Idx)).trans ((point_apply _ _ _ r ⟨J.val % 1024, by omega⟩).trans ?_)
  refine congrArg₂ (· + ·) (Finset.sum_congr rfl fun k _ => congrArg₂ (· * ·) (congrArg siluE ?_) ?_) ?_
  · rw [rows_block m c, entry_rows m c]
  · exact (weight_block m c ⟨J.val / 1024, hp⟩ (ix2 k ⟨J.val % 1024, by omega⟩ : S1024x1024.Idx) (ix2 k J : S1024x6144.Idx) rfl hd).trans (congrFun (V_main_arg2 m c) _)
  · exact (bias_block m c ⟨J.val / 1024, hp⟩ (ix2 0 ⟨J.val % 1024, by omega⟩ : S1x1024.Idx) (ix2 0 J : S1x6144.Idx) rfl hd).trans (entry_bias m c J)

end kernel

/-! ## The reference -/

open Cert.ModReferenceIdeal Cert.ModReferenceIdeal.Read in
theorem silu_apply (x0 : Vec Ideal S8x1024 .f32) (x1 : Vec Ideal S1024 .f32) (i : S16x1024.Idx) :
    val_main_v3 (F := Ideal) x0 x1 i = siluE (val_main_v2 (F := Ideal) x0 x1 i) := by
  unfold siluE Ideal.logistic
  rw [val_main_v3_apply, val_main_call0_v5_apply, val_main_call0_v3_apply, val_main_call0_v1_apply, val_main_call0_v0_apply]
  generalize val_main_v2 (F := Ideal) x0 x1 i = a
  pointwise [val_main_call0_v4, val_main_call0_v2, val_main_call0_cst, val_main_call0_cst_0]

open Cert.ModReferenceIdeal Cert.ModReferenceIdeal.Read in
theorem reference_apply (x0 : Vec Ideal S8x1024 .f32) (x1 : Vec Ideal S1024 .f32) (x2 : Vec Ideal S1024x6144 .f32) (x3 : Vec Ideal S6144 .f32)
    (r : Fin 16) (J : Fin 6144) :
    val_main_v7 (F := Ideal) x0 x1 x2 x3 (ix2 r J)
      = (∑ k : Fin 1024, siluE (val_main_v2 (F := Ideal) x0 x1 (ix2 r k)) * x2 (ix2 k J)) + x3 (ix1 J) := by
  rw [val_main_v7_apply, val_main_v4_apply]
  refine congrArg₂ (· + ·) (Finset.sum_congr rfl fun k _ => congrArg₂ (· * ·) ?_ ?_) ?_
  · rw [silu_apply]
    refine congrArg siluE (congrArg _ (funext fun (a : Fin 2) => ?_))
    match a with
    | ⟨0, _⟩ => rfl
    | ⟨1, _⟩ => rfl
  · refine congrArg _ (funext fun (a : Fin 2) => ?_)
    match a with
    | ⟨0, _⟩ => rfl
    | ⟨1, _⟩ => rfl
  · pointwise [val_main_v6, val_main_v5]

/-! ## The claims -/

theorem frame_kernel : Cert.quiescent_Mod := fun m ρ _ => Cert.Mod.Gen.frame m ρ

theorem frame_ideal : Cert.quiescent_ModIdeal := fun m ρ _ => Cert.ModIdeal.Gen.frame m ρ

theorem frame_reference : Cert.quiescent_ModReferenceIdeal := fun m ρ _ =>
  (θ_run Cert.ModReferenceIdeal.defs _ _).mono (fun r h => ⟨fun c => (h c).2,
      Idealize.ShloMosaic.sem_eq_zero_of_no_sems (by decide) r.2⟩)
    (Cert.ModReferenceIdeal.Value.run (F := Ideal) m ρ)

theorem preserves : Cert.preserves_Mod_ModIdeal := trivial

/-- The reference's result array is the kernel's, from arguments that agree. -/
theorem algebraic : Cert.algebraic_ModIdeal_ModReferenceIdeal := by
  intro m ρ m' ρ' _ hag
  refine ⟨fun c => (Cert.ModIdeal.Gen.dats m 0 c).arrAt 3 Cert.ModIdeal.cfg0.N, Cert.ModIdeal.Value.run_blocks (F := Ideal) m ρ, ?_⟩
  refine (θ_run Cert.ModReferenceIdeal.defs _ _).mono (fun _ h c => ⟨(h c).1.trans ?_, (h c).2⟩)
    (Cert.ModReferenceIdeal.Value.run (F := Ideal) m' ρ')
  obtain ⟨e0, e1, e2, e3⟩ := hag c
  refine funext fun i => ?_
  rw [ValueIdx.eq_ix2 i]
  refine Eq.trans ?_ (final_apply m c (i 0) (i 1)).symm
  rw [← e0, ← e1, ← e2, ← e3]
  exact reference_apply _ _ _ _ (i 0) (i 1)

end Cert.ModClaims

end
-- ==== Proof.CtxBase.lean ====
/- What both runs of the context projection body name. -/
module

public import proofs.«01_k».proof.Proof.Gen.Ctx.Frame
public import proofs.«01_k».proof.Proof.Gen.Ctx.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.CtxRun

open Cert.Ctx Cert.Ctx.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The point is the first of the grid: the kept rows are cleared there. -/
abbrev cond0 (i : grid0.Coords) : Prop :=
  Scalar.cmpi .ne (Scalar.extui (Scalar.cmpi .eq (BitVec.ofNat 32 (i 0).val) 0#32) : BitVec 32) 0#32 = 1#1

end Cert.CtxRun

end
-- ==== Proof.CtxBits.lean ====
/- The frame of the context projection's program as it runs: each grid point runs from its staged blocks and the kept rows at
   anything, and leaves the three output blocks and the kept rows at something. -/
module

public import proofs.«01_k».proof.Proof.CtxRunA
public import proofs.«01_k».proof.Proof.CtxRunB
public import Idealize.ShloMosaic.Lib.Pipeline.FrameBody
public import Idealize.ShloMosaic.Lib.Claim

@[expose] public section

set_option maxRecDepth 16384

noncomputable section

namespace Cert.CtxBits

open Cert Cert.CtxRun Cert.Ctx Cert.Ctx.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The kept rows' buffer. -/
abbrev scM : Memref sig .tc .vmem S8x536x128 .f32 := Memref.whole cc0_scratch0

abbrev ms0_0 (t : Fin cfg0.N) : Memref sig .tc .vmem S8x64x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x7168 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x2048 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S4x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1024 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S8x512x128 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S8x8x128 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S8x64x2048 .bf16 := win0_10.stage (cfg0.slots t 10)
abbrev hs0_10 (t : Fin cfg0.N) : (ms0_10 t).IsWhole := hstage0_10 ((cfg0.slots t 10).cast nbuf0_10)

/-- The three output windows, of which nothing is said. -/
def forgets (w : Fin cfg0.W) : Bool := match w with
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => true
  | ⟨9, _⟩ => true
  | ⟨10, _⟩ => true

/-- The proof data: inputs stay at their blocks, of the outputs nothing is said, between points the kept rows are at anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

theorem PhiA_open (c : Dev nD) :
    (Pipeline.ΦA spec0 c : sProp 𝕄)
      = iprop((∃ d, ∃ f, ⌜scM.view.read (Elt F) f = d⌝ ∗ (scM.view.loc (c : Thread nD τ) ↦[scM.view.set]{fullShare} f)) ∗ (∃ r, prngReg c r)) := by
  rw [PhiA_eq]
  rfl

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ X, owns (c : Thread nD τ) (ms0_8 t) fullShare X)
    ∗ (∃ X, owns (c : Thread nD τ) (ms0_9 t) fullShare X)
    ∗ (∃ X, owns (c : Thread nD τ) (ms0_10 t) fullShare X))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ (∃ X, owns (c : Thread nD τ) (ms0_8 t) fullShare X)
    ∗ (∃ X, owns (c : Thread nD τ) (ms0_9 t) fullShare X)
    ∗ (∃ X, owns (c : Thread nD τ) (ms0_10 t) fullShare X))

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl, after0_0, after0_1, after0_2, after0_3, after0_4, after0_5, after0_6, after0_7]
  rw [show (dats m 0 c).Φ t.castSucc = Pipeline.ΦA spec0 c from rfl, show (dats m 0 c).Φ t.succ = Pipeline.ΦA spec0 c from rfl]
  rw [PhiA_open]
  by_cases h0 : cond0 (grid0.coords t)
  · iintro ⟨⟨⟨%dS, %f, -, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM (Memref.isWhole_whole _) h0 (iblk m c 0 t) (iblk m c 1 t) (iblk m c 2 t) (iblk m c 3 t) (iblk m c 4 t) (iblk m c 5 t) (iblk m c 6 t) (iblk m c 7 t) f).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [HS]; · iexact HS
    iintro ⟨H0, H1, H2, H3, H4, H5, H6, H7, ⟨%e8, H8⟩, ⟨%e9, H9⟩, ⟨%e10, H10⟩, HS⟩
    isplitl [HS Hg]
    · isplitl [HS]
      · iexists _
        iexists _
        isplitr
        swap; · iexact HS
        ipureintro
        rfl
      · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · iexists _; unfold owns; iexists _; isplitr
      swap; · iexact H8
      ipureintro
      rfl
    isplitl [H9]
    · iexists _; unfold owns; iexists _; isplitr
      swap; · iexact H9
      ipureintro
      rfl
    iexists _; unfold owns; iexists _; isplitr
    swap; · iexact H10
    ipureintro
    rfl
  · iintro ⟨⟨⟨%dS, %f, -, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM (Memref.isWhole_whole _) h0 (iblk m c 0 t) (iblk m c 1 t) (iblk m c 2 t) (iblk m c 3 t) (iblk m c 4 t) (iblk m c 5 t) (iblk m c 6 t) (iblk m c 7 t) f).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [HS]; · iexact HS
    iintro ⟨H0, H1, H2, H3, H4, H5, H6, H7, ⟨%e8, H8⟩, ⟨%e9, H9⟩, ⟨%e10, H10⟩, HS⟩
    isplitl [HS Hg]
    · isplitl [HS]
      · iexists _
        iexists _
        isplitr
        swap; · iexact HS
        ipureintro
        rfl
      · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · iexists _; unfold owns; iexists _; isplitr
      swap; · iexact H8
      ipureintro
      rfl
    isplitl [H9]
    · iexists _; unfold owns; iexists _; isplitr
      swap; · iexact H9
      ipureintro
      rfl
    iexists _; unfold owns; iexists _; isplitr
    swap; · iexact H10
    ipureintro
    rfl

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats m 0 c) (defs₀ (F := F)) Variants.none () Set.univ forgets := fun t => by
  rw [bigSep_W0, bigSep_W0, defs₀_row]
  exact triple_restated (sound_body m c t) rfl .rfl fun _ => .rfl

/-! ## The run and the frame -/

set_option backward.isDefEq.respectTransparency.types false in
theorem run_main : θ_run defs (onTc (τ := τ) (main (F := F))) (s₀ m ρ)
    (fun r => RDat.FramePost cfg0 (fun c => (dats m 0 c).toRForget forgets) (V m) r ∧ r.2.sem = fun _ => 0) :=
  Pipeline.θ_run_frame_forget_shared cfgs (dats m) (0 : Fin 1) launch₀0 defs₀ Variants.none forgets m ρ main
    (hbody := fun c => (body_obligation m c).loose) (hq := fun _ _ _ => rfl)
    (howed := fun _ _ => rfl) (V := V m) (hmain := hmain m Variants.none) (hA := A_eq m) (hΦ := fun _ _ => rfl)
    (Q' := fun r => RDat.FramePost cfg0 (fun c => (dats m 0 c).toRForget forgets) (V m) r ∧ r.2.sem = fun _ => 0) (hQ' := fun _ h => h)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨(h.1.arr_in c 0 rfl).trans ((A_eq m c 0).trans (V_main_arg0 m c)),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c)⟩, h.2⟩) (run_main m ρ)

end Cert.CtxBits

end
-- ==== Proof.CtxIdealBase.lean ====
/- What both runs of the context projection body name. -/
module

public import proofs.«01_k».proof.Proof.Gen.CtxIdeal.Frame
public import proofs.«01_k».proof.Proof.Gen.CtxIdeal.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.CtxIdealRun

open Cert.CtxIdeal Cert.CtxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The point is the first of the grid: the kept rows are cleared there. -/
abbrev cond0 (i : grid0.Coords) : Prop :=
  Scalar.cmpi .ne (Scalar.extui (Scalar.cmpi .eq (BitVec.ofNat 32 (i 0).val) 0#32) : BitVec 32) 0#32 = 1#1

end Cert.CtxIdealRun

end
-- ==== Proof.CtxIdealRunA.lean ====
/- The first point of the context projection's grid: the body's run, from the staged blocks and the rows kept from the point
   before, with what it stores in the three output blocks and in the kept rows. -/
module

public import proofs.«01_k».proof.Proof.CtxIdealBase

@[expose] public section

set_option maxRecDepth 16384

noncomputable section

namespace Cert.CtxIdealRun

open Cert.CtxIdeal Cert.CtxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 4000000 in
/-- The stores of the body, with the proof that the body runs from the staged blocks, the kept rows at `fS` and the
    output blocks at anything, to the output blocks with those stores written and the kept rows with theirs. -/
noncomputable def runA (c : Dev nD) (i : grid0.Coords) (arg1 : Memref sig .tc .vmem S8x64x1024 .f32) (harg1 : arg1.IsWhole) (arg2 : Memref sig .tc .vmem S1x1x1024 .f32) (harg2 : arg2.IsWhole) (arg3 : Memref sig .tc .vmem S1x1x1024 .f32) (harg3 : arg3.IsWhole) (arg4 : Memref sig .tc .vmem S1x1024 .f32) (harg4 : arg4.IsWhole) (arg5 : Memref sig .tc .vmem S1024x7168 .bf16) (harg5 : arg5.IsWhole) (arg6 : Memref sig .tc .vmem S1x2048 .f32) (harg6 : arg6.IsWhole) (arg7 : Memref sig .tc .vmem S4x1024 .f32) (harg7 : arg7.IsWhole) (arg8 : Memref sig .tc .vmem S1x1024 .f32) (harg8 : arg8.IsWhole) (arg9 : Memref sig .tc .vmem S8x512x128 .f32) (harg9 : arg9.IsWhole) (arg10 : Memref sig .tc .vmem S8x8x128 .f32) (harg10 : arg10.IsWhole) (arg11 : Memref sig .tc .vmem S8x64x2048 .bf16) (harg11 : arg11.IsWhole) (arg12 : Memref sig .tc .vmem S8x536x128 .f32) (harg12 : arg12.IsWhole)
    (hc0 : cond0 i) (x0 : Vec F S8x64x1024 .f32) (x1 : Vec F S1x1x1024 .f32) (x2 : Vec F S1x1x1024 .f32) (x3 : Vec F S1x1024 .f32) (x4 : Vec F S1024x7168 .bf16) (x5 : Vec F S1x2048 .f32) (x6 : Vec F S4x1024 .f32) (x7 : Vec F S1x1024 .f32) (fS : arg12.view.ty.Contents (Elt F)) :
    Σ' (L8 : List (View.Piece (Elt F) S8x512x128 .f32)) (L9 : List (View.Piece (Elt F) S8x8x128 .f32))
      (L10 : List (View.Piece (Elt F) S8x64x2048 .bf16)) , { LS : List (View.Piece (Elt F) S8x536x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
            ∗ (∃ d, owns (c : Thread nD τ) arg9 fullShare d) ∗ (∃ d, owns (c : Thread nD τ) arg10 fullShare d) ∗ (∃ d, owns (c : Thread nD τ) arg11 fullShare d)
            ∗ (arg12.view.loc (c : Thread nD τ) ↦[arg12.view.set]{fullShare} fS)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
              ∗ (∃ f, arg9.view.loc (c : Thread nD τ) ↦[arg9.view.set]{fullShare} arg9.view.writes (Elt F) f L8)
              ∗ (∃ f, arg10.view.loc (c : Thread nD τ) ↦[arg10.view.set]{fullShare} arg10.view.writes (Elt F) f L9)
              ∗ (∃ f, arg11.view.loc (c : Thread nD τ) ↦[arg11.view.set]{fullShare} arg11.view.writes (Elt F) f L10)
              ∗ (arg12.view.loc (c : Thread nD τ) ↦[arg12.view.set]{fullShare} arg12.view.writes (Elt F) fS LS)) -∗ K ⟨⟩))
          ⊢ wp frame (wpE (defs₀ (F := F)) Variants.none c none) E (cc0_inproj i arg1 harg1 arg2 harg2 arg3 harg3 arg4 harg4 arg5 harg5 arg6 harg6 arg7 harg7 arg8 harg8 arg9 harg9 arg10 harg10 arg11 harg11 arg12 harg12) K } := by
  refine ⟨?_, ?_, ?_, ?_, fun E K => ?run⟩
  case run =>
    simp only [cc0_inproj_eq_skeleton]; unfold cc0_inproj_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, HS, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec (disch := sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]; · iexists _; iexact H9
    isplitl [H10]; · iexists _; iexact H10
    iexact HS

end Cert.CtxIdealRun

end
-- ==== Proof.CtxIdealRunB.lean ====
/- The later points of the context projection's grid: the body's run, from the staged blocks and the rows kept from the point
   before, with what it stores in the three output blocks and in the kept rows. -/
module

public import proofs.«01_k».proof.Proof.CtxIdealBase

@[expose] public section

set_option maxRecDepth 16384

noncomputable section

namespace Cert.CtxIdealRun

open Cert.CtxIdeal Cert.CtxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 4000000 in
/-- The stores of the body, with the proof that the body runs from the staged blocks, the kept rows at `fS` and the
    output blocks at anything, to the output blocks with those stores written and the kept rows with theirs. -/
noncomputable def runB (c : Dev nD) (i : grid0.Coords) (arg1 : Memref sig .tc .vmem S8x64x1024 .f32) (harg1 : arg1.IsWhole) (arg2 : Memref sig .tc .vmem S1x1x1024 .f32) (harg2 : arg2.IsWhole) (arg3 : Memref sig .tc .vmem S1x1x1024 .f32) (harg3 : arg3.IsWhole) (arg4 : Memref sig .tc .vmem S1x1024 .f32) (harg4 : arg4.IsWhole) (arg5 : Memref sig .tc .vmem S1024x7168 .bf16) (harg5 : arg5.IsWhole) (arg6 : Memref sig .tc .vmem S1x2048 .f32) (harg6 : arg6.IsWhole) (arg7 : Memref sig .tc .vmem S4x1024 .f32) (harg7 : arg7.IsWhole) (arg8 : Memref sig .tc .vmem S1x1024 .f32) (harg8 : arg8.IsWhole) (arg9 : Memref sig .tc .vmem S8x512x128 .f32) (harg9 : arg9.IsWhole) (arg10 : Memref sig .tc .vmem S8x8x128 .f32) (harg10 : arg10.IsWhole) (arg11 : Memref sig .tc .vmem S8x64x2048 .bf16) (harg11 : arg11.IsWhole) (arg12 : Memref sig .tc .vmem S8x536x128 .f32) (harg12 : arg12.IsWhole)
    (hc0 : ¬cond0 i) (x0 : Vec F S8x64x1024 .f32) (x1 : Vec F S1x1x1024 .f32) (x2 : Vec F S1x1x1024 .f32) (x3 : Vec F S1x1024 .f32) (x4 : Vec F S1024x7168 .bf16) (x5 : Vec F S1x2048 .f32) (x6 : Vec F S4x1024 .f32) (x7 : Vec F S1x1024 .f32) (fS : arg12.view.ty.Contents (Elt F)) :
    Σ' (L8 : List (View.Piece (Elt F) S8x512x128 .f32)) (L9 : List (View.Piece (Elt F) S8x8x128 .f32))
      (L10 : List (View.Piece (Elt F) S8x64x2048 .bf16)) , { LS : List (View.Piece (Elt F) S8x536x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
            ∗ (∃ d, owns (c : Thread nD τ) arg9 fullShare d) ∗ (∃ d, owns (c : Thread nD τ) arg10 fullShare d) ∗ (∃ d, owns (c : Thread nD τ) arg11 fullShare d)
            ∗ (arg12.view.loc (c : Thread nD τ) ↦[arg12.view.set]{fullShare} fS)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
              ∗ (∃ f, arg9.view.loc (c : Thread nD τ) ↦[arg9.view.set]{fullShare} arg9.view.writes (Elt F) f L8)
              ∗ (∃ f, arg10.view.loc (c : Thread nD τ) ↦[arg10.view.set]{fullShare} arg10.view.writes (Elt F) f L9)
              ∗ (∃ f, arg11.view.loc (c : Thread nD τ) ↦[arg11.view.set]{fullShare} arg11.view.writes (Elt F) f L10)
              ∗ (arg12.view.loc (c : Thread nD τ) ↦[arg12.view.set]{fullShare} arg12.view.writes (Elt F) fS LS)) -∗ K ⟨⟩))
          ⊢ wp frame (wpE (defs₀ (F := F)) Variants.none c none) E (cc0_inproj i arg1 harg1 arg2 harg2 arg3 harg3 arg4 harg4 arg5 harg5 arg6 harg6 arg7 harg7 arg8 harg8 arg9 harg9 arg10 harg10 arg11 harg11 arg12 harg12) K } := by
  refine ⟨?_, ?_, ?_, ?_, fun E K => ?run⟩
  case run =>
    simp only [cc0_inproj_eq_skeleton]; unfold cc0_inproj_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, HS, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec (disch := sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]; · iexists _; iexact H9
    isplitl [H10]; · iexists _; iexact H10
    iexact HS

end Cert.CtxIdealRun

end
-- ==== Proof.CtxPieces.lean ====
/- What a grid point of the context projection stores, written out: the modulated rows times three column blocks of the
   weights; the first product laid out by (lane chunk, time, batch) behind the rows kept from the point before, and the
   convolution of those; the others as they are. -/
module

public import proofs.«01_k».proof.Proof.CtxIdealRunA
public import proofs.«01_k».proof.Proof.CtxIdealRunB

@[expose] public section

set_option maxRecDepth 16384

noncomputable section

namespace Cert.CtxPieces

open Cert.CtxIdeal Cert.CtxIdeal.Gen Cert.CtxIdealRun Idealize.ShloMosaic

variable {F : FTy → Type} [FloatOps F]

/-- A load of a rectangle of a staged block. -/
abbrev ld {s : Shape} {e : EltTy} (arg : Memref sig .tc .vmem s e) (harg : arg.IsWhole) (x : Vec F s e)
    (off size : Fin s.rank → Nat) (inb : ∀ a, off a + size a ≤ s.size a) : Vec F ⟨s.rank, size⟩ e :=
  arg.view.readAt (Elt F) (Rect.unit off size inb).toLoadRect (harg.unread x)

/-- What a grid point loads from its staged blocks: rows of the two four-entry groups, shift, scale, gain, the
    column blocks of the weights, the convolution's taps and bias per lane chunk. -/
structure Loads (F : FTy → Type) where
  x : Fin 2 → Vec F S4x64x1024 .f32
  sh : Vec F S1x1x1024 .f32
  sc : Vec F S1x1x1024 .f32
  g : Vec F S1x1024 .f32
  w : Fin 7 → Vec F S1024x1024 .bf16
  cw : Fin 4 → Fin 8 → Vec F S1x128 .f32
  cb : Fin 8 → Vec F S1x128 .f32

theorem inb_x : ∀ (q : Fin 2) (a : Fin 3), (![4 * q.val, 0, 0] : Fin 3 → Nat) a + S4x64x1024.size a ≤ S8x64x1024.size a := by decide
theorem inb_w : ∀ (s : Fin 7) (a : Fin 2), (![0, 1024 * s.val] : Fin 2 → Nat) a + S1024x1024.size a ≤ S1024x7168.size a := by decide
theorem inb_cw : ∀ (j : Fin 4) (k : Fin 8) (a : Fin 2), (![j.val, 128 * k.val] : Fin 2 → Nat) a + S1x128.size a ≤ S4x1024.size a := by decide
theorem inb_cb : ∀ (k : Fin 8) (a : Fin 2), (![0, 128 * k.val] : Fin 2 → Nat) a + S1x128.size a ≤ S1x1024.size a := by decide

def loads (arg1 : Memref sig .tc .vmem S8x64x1024 .f32) (harg1 : arg1.IsWhole) (arg2 : Memref sig .tc .vmem S1x1x1024 .f32) (harg2 : arg2.IsWhole) (arg3 : Memref sig .tc .vmem S1x1x1024 .f32) (harg3 : arg3.IsWhole) (arg4 : Memref sig .tc .vmem S1x1024 .f32) (harg4 : arg4.IsWhole) (arg5 : Memref sig .tc .vmem S1024x7168 .bf16) (harg5 : arg5.IsWhole) (arg6 : Memref sig .tc .vmem S1x2048 .f32) (harg6 : arg6.IsWhole) (arg7 : Memref sig .tc .vmem S4x1024 .f32) (harg7 : arg7.IsWhole) (arg8 : Memref sig .tc .vmem S1x1024 .f32) (harg8 : arg8.IsWhole)
    (x0 : Vec F S8x64x1024 .f32) (x1 : Vec F S1x1x1024 .f32) (x2 : Vec F S1x1x1024 .f32) (x3 : Vec F S1x1024 .f32) (x4 : Vec F S1024x7168 .bf16) (x5 : Vec F S1x2048 .f32) (x6 : Vec F S4x1024 .f32) (x7 : Vec F S1x1024 .f32) : Loads F where
  x q := ld arg1 harg1 x0 ![4 * q.val, 0, 0] S4x64x1024.size (inb_x q)
  sh := ld arg2 harg2 x1 ![0, 0, 0] S1x1x1024.size inb_S1x1x1024_S1x1x1024_0_0_0
  sc := ld arg3 harg3 x2 ![0, 0, 0] S1x1x1024.size inb_S1x1x1024_S1x1x1024_0_0_0
  g := ld arg4 harg4 x3 ![0, 0] S1x1024.size inb_S1x1024_S1x1024_0_0
  w s := ld arg5 harg5 x4 ![0, 1024 * s.val] S1024x1024.size (inb_w s)
  cw j k := ld arg7 harg7 x6 ![j.val, 128 * k.val] S1x128.size (inb_cw j k)
  cb k := ld arg8 harg8 x7 ![0, 128 * k.val] S1x128.size (inb_cb k)

/-! ## The rows and the products -/

def norm (y : FVec F S4x64x1024 .f32) (g : Vec F S1x1024 .f32) : FVec F S4x64x1024 .f32 :=
  mulf (mulf y (broadcastTo S4x64x1024 (rsqrt (addf (divf (shapeCast S4x64x1
      (multiReduction .add [2] S4x64 (mulf y y) 0x00000000#32 reduces_S4x64x1024_S4x64 (.inl rfl) rfl) shapeCasts_S4x64_S4x64x1)
      (broadcast S4x64x1 (Scalar.ofBits .f32 0x44800000#32))) (broadcast S4x64x1 (Scalar.ofBits .f32 0x358637BD#32))))
      broadcasts_S4x64x1_S4x64x1024))
    (broadcastTo S4x64x1024 (shapeCast S1x1x1024 (shapeCast S1x1024 g shapeCasts_S1x1024_S1x1024) shapeCasts_S1x1024_S1x1x1024)
      broadcasts_S1x1x1024_S4x64x1024)

def per (v : Vec F S1x1x1024 .f32) : FVec F S4x64x1024 .f32 := broadcastTo S4x64x1024 v broadcasts_S1x1x1024_S4x64x1024

/-- The modulated rows of one group, flattened. -/
def rows (x : Vec F S4x64x1024 .f32) (g : Vec F S1x1024 .f32) (sc sh : Vec F S1x1x1024 .f32) : FVec F S256x1024 .bf16 :=
  truncf .bf16 (shapeCast S256x1024 (addf (mulf (norm x g)
      (per (addf (broadcast S1x1x1024 (Scalar.ofBits .f32 0x3F800000#32)) (shapeCast S1x1x1024 sc shapeCasts_S1x1x1024_S1x1x1024))))
      (per (shapeCast S1x1x1024 sh shapeCasts_S1x1x1024_S1x1x1024))) shapeCasts_S4x64x1024_S256x1024) bitsLt_bf16_f32

/-- The product of one group's rows with column block `s`. -/
def acc (l : Loads F) (q : Fin 2) (s : Fin 7) : FVec F S256x1024 .f32 :=
  matmul dot_S256x1024_S1024x1024_S256x1024_1_0_0_1_n_n none (rows (l.x q) l.g l.sc l.sh)
    (shapeCast S1024x1024 (l.w s) shapeCasts_S1024x1024_S1024x1024) (constant S256x1024 .f32 0x00000000#32)

def fin (a : FVec F S256x1024 .f32) : FVec F S4x64x1024 .bf16 :=
  shapeCast S4x64x1024 (truncf .bf16 a bitsLt_bf16_f32) shapeCasts_S256x1024_S4x64x1024

/-- The stores into the block of projections. -/
def prList (l : Loads F) : List (View.Piece (Elt F) S8x64x2048 .bf16) :=
  [⟨Rect.unit ![4, 0, 1024] S4x64x1024.size inb_S8x64x2048_S4x64x1024_4_0_1024, fin (acc l 1 4)⟩,
   ⟨Rect.unit ![0, 0, 1024] S4x64x1024.size inb_S8x64x2048_S4x64x1024_0_0_1024, fin (acc l 0 4)⟩,
   ⟨Rect.unit ![4, 0, 0] S4x64x1024.size inb_S8x64x2048_S4x64x1024_4_0_0, fin (acc l 1 3)⟩,
   ⟨Rect.unit ![0, 0, 0] S4x64x1024.size inb_S8x64x2048_S4x64x1024_0_0_0, fin (acc l 0 3)⟩]

/-! ## The rows of the first product, and the convolution -/

theorem slices_part : ∀ (b : Fin 4) (k : Fin 8), S256x1024.Slices ![64 * b.val, 128 * k.val] S64x128 := by decide

/-- The 64 times of one batch entry in one lane chunk. -/
def part (a : FVec F S256x1024 .f32) (b : Fin 4) (k : Fin 8) : FVec F S1x64x128 .f32 :=
  shapeCast S1x64x128 (extractStridedSlice S64x128 ![64 * b.val, 128 * k.val] a (slices_part b k)) shapeCasts_S64x128_S1x64x128

theorem inb_part (b k : Fin 8) : ∀ a, S1x64x128.size a = 0 ∨
    (![k.val, 24 + b.val, 0] : Fin 3 → Nat) a + (![1, 8, 1] : Fin 3 → Nat) a * (S1x64x128.size a - 1) < S8x536x128.size a := by
  intro a
  match a with
  | ⟨0, _⟩ => exact Or.inr (by show k.val + 1 * (1 - 1) < 8; omega)
  | ⟨1, _⟩ => exact Or.inr (by show 24 + b.val + 8 * (64 - 1) < 536; omega)
  | ⟨2, _⟩ => exact Or.inr (by show 0 + 1 * (128 - 1) < 128; omega)

theorem stride_part : ∀ a : Fin 3, 0 < (![1, 8, 1] : Fin 3 → Nat) a := by decide

/-- Every eighth row of lane chunk `k`, from row `24 + b`. -/
abbrev partRect (b k : Fin 8) : Rect S8x536x128 :=
  { off := ![k.val, 24 + b.val, 0], size := S1x64x128.size, stride := ![1, 8, 1], stride_pos := stride_part, inb := inb_part b k }

/-- The first `n` of the 64 stores of the first product, over the list `base`. -/
def partList (l : Loads F) (base : List (View.Piece (Elt F) S8x536x128 .f32)) : Nat → List (View.Piece (Elt F) S8x536x128 .f32)
  | 0 => base
  | n + 1 => ⟨partRect ⟨n / 8 % 8, by omega⟩ ⟨n % 8, by omega⟩,
      part (acc l ⟨n / 32 % 2, by omega⟩ 0) ⟨n / 8 % 4, by omega⟩ ⟨n % 8, by omega⟩⟩ :: partList l base n

theorem inb_chunk : ∀ (k : Fin 8) (a : Fin 3), (![k.val, 0, 0] : Fin 3 → Nat) a + S1x536x128.size a ≤ S8x536x128.size a := by decide
theorem inb_kept : ∀ (k : Fin 8) (a : Fin 3), (![k.val, 0, 0] : Fin 3 → Nat) a + S1x24x128.size a ≤ S8x536x128.size a := by decide
theorem inb_z : ∀ (k : Fin 8) (a : Fin 3), (![k.val, 0, 0] : Fin 3 → Nat) a + S1x512x128.size a ≤ S8x512x128.size a := by decide
theorem inb_tail : ∀ (k : Fin 8) (a : Fin 3), (![k.val, 0, 0] : Fin 3 → Nat) a + S1x8x128.size a ≤ S8x8x128.size a := by decide

/-- Lane chunk `k` as loaded after the stores `L`. -/
abbrev chunk (arg12 : Memref sig .tc .vmem S8x536x128 .f32) (fS : arg12.view.ty.Contents (Elt F))
    (L : List (View.Piece (Elt F) S8x536x128 .f32)) (k : Fin 8) : Vec F S1x536x128 .f32 :=
  arg12.view.readAt (Elt F) (Rect.unit (s := S8x536x128) ![k.val, 0, 0] S1x536x128.size (inb_chunk k)).toLoadRect (arg12.view.writes (Elt F) fS L)

/-- The last 24 rows of a lane chunk, kept for the next point. -/
def kept (v : Vec F S1x536x128 .f32) : FVec F S1x24x128 .f32 :=
  shapeCast S1x24x128 (extractStridedSlice S24x128 ![512, 0] (shapeCast S536x128 v shapeCasts_S1x536x128_S536x128)
    slices_S536x128_o512_0_S24x128) shapeCasts_S24x128_S1x24x128

/-- The first `n` of the eight stores of kept rows, over the 64 stores of the first product. -/
def keptList (arg12 : Memref sig .tc .vmem S8x536x128 .f32) (fS : arg12.view.ty.Contents (Elt F)) (l : Loads F)
    (base : List (View.Piece (Elt F) S8x536x128 .f32)) : Nat → List (View.Piece (Elt F) S8x536x128 .f32)
  | 0 => partList l base 64
  | n + 1 => ⟨Rect.unit ![(⟨n % 8, by omega⟩ : Fin 8).val, 0, 0] S1x24x128.size (inb_kept ⟨n % 8, by omega⟩),
      kept (chunk arg12 fS (keptList arg12 fS l base n) ⟨n % 8, by omega⟩)⟩ :: keptList arg12 fS l base n

def tap (v : Vec F S1x536x128 .f32) (w : Vec F S1x128 .f32) (o : Nat) (h : S536x128.Slices ![o, 0] S512x128) : FVec F S512x128 .f32 :=
  mulf (broadcastTo S512x128 (shapeCast S1x128 w shapeCasts_S1x128_S1x128) broadcasts_S1x128_S512x128)
    (extractStridedSlice S512x128 ![o, 0] (shapeCast S536x128 v shapeCasts_S1x536x128_S536x128) h)

/-- The convolution of one lane chunk. -/
def conv (v : Vec F S1x536x128 .f32) (b w0 w1 w2 w3 : Vec F S1x128 .f32) : FVec F S1x512x128 .f32 :=
  shapeCast S1x512x128 (addf (addf (addf (addf
    (broadcastTo S512x128 (shapeCast S1x128 b shapeCasts_S1x128_S1x128) broadcasts_S1x128_S512x128)
    (tap v w0 0 slices_S536x128_o0_0_S512x128)) (tap v w1 8 slices_S536x128_o8_0_S512x128)) (tap v w2 16 slices_S536x128_o16_0_S512x128))
    (tap v w3 24 slices_S536x128_o24_0_S512x128)) shapeCasts_S512x128_S1x512x128

def tapEnd (v : Vec F S1x536x128 .f32) (w : Vec F S1x128 .f32) (o : Nat) (h : S536x128.Slices ![o, 0] S8x128) : FVec F S8x128 .f32 :=
  mulf (broadcastTo S8x128 (shapeCast S1x128 w shapeCasts_S1x128_S1x128) broadcasts_S1x128_S8x128)
    (extractStridedSlice S8x128 ![o, 0] (shapeCast S536x128 v shapeCasts_S1x536x128_S536x128) h)

/-- The convolution's first three taps at the time after the chunk's last. -/
def convEnd (v : Vec F S1x536x128 .f32) (b w0 w1 w2 : Vec F S1x128 .f32) : FVec F S1x8x128 .f32 :=
  shapeCast S1x8x128 (addf (addf (addf
    (broadcastTo S8x128 (shapeCast S1x128 b shapeCasts_S1x128_S1x128) broadcasts_S1x128_S8x128)
    (tapEnd v w0 512 slices_S536x128_o512_0_S8x128)) (tapEnd v w1 520 slices_S536x128_o520_0_S8x128))
    (tapEnd v w2 528 slices_S536x128_o528_0_S8x128)) shapeCasts_S8x128_S1x8x128

section
variable (arg12 : Memref sig .tc .vmem S8x536x128 .f32) (fS : arg12.view.ty.Contents (Elt F)) (l : Loads F)
  (base : List (View.Piece (Elt F) S8x536x128 .f32))

abbrev zPiece (k : Fin 8) : View.Piece (Elt F) S8x512x128 .f32 :=
  ⟨Rect.unit ![k.val, 0, 0] S1x512x128.size (inb_z k),
    conv (chunk arg12 fS (keptList arg12 fS l base k.val) k) (l.cb k) (l.cw 0 k) (l.cw 1 k) (l.cw 2 k) (l.cw 3 k)⟩

abbrev endPiece (k : Fin 8) : View.Piece (Elt F) S8x8x128 .f32 :=
  ⟨Rect.unit ![k.val, 0, 0] S1x8x128.size (inb_tail k),
    convEnd (chunk arg12 fS (keptList arg12 fS l base k.val) k) (l.cb k) (l.cw 0 k) (l.cw 1 k) (l.cw 2 k)⟩

def zList : List (View.Piece (Elt F) S8x512x128 .f32) :=
  [zPiece arg12 fS l base 7, zPiece arg12 fS l base 6, zPiece arg12 fS l base 5, zPiece arg12 fS l base 4,
   zPiece arg12 fS l base 3, zPiece arg12 fS l base 2, zPiece arg12 fS l base 1, zPiece arg12 fS l base 0]

def endList : List (View.Piece (Elt F) S8x8x128 .f32) :=
  [endPiece arg12 fS l base 7, endPiece arg12 fS l base 6, endPiece arg12 fS l base 5, endPiece arg12 fS l base 4,
   endPiece arg12 fS l base 3, endPiece arg12 fS l base 2, endPiece arg12 fS l base 1, endPiece arg12 fS l base 0]

end

/-! ## The runs' stores are these -/

/-- The kept rows cleared, at the first point. -/
def cleared : List (View.Piece (Elt F) S8x536x128 .f32) :=
  [⟨Rect.unit ![0, 0, 0] S8x24x128.size inb_S8x536x128_S8x24x128_0_0_0, shapeCast S8x24x128 (broadcast S8x24x128 (Scalar.ofBits .f32 0x00000000#32)) shapeCasts_S8x24x128_S8x24x128⟩]

end Cert.CtxPieces

end
-- ==== Proof.CtxBlock.lean ====
/- The stores of one grid point of the context projection (`CtxPieces`), read at an index on the extended reals: the products of
   the modulated rows and the convolution over the rows kept from the point before. -/
module

public import proofs.«01_k».proof.Proof.CtxPieces
public import Idealize.ShloMosaic.Lib.Pointwise
public import Idealize.ShloMosaic.Lib.WritesUnit

@[expose] public section

set_option maxRecDepth 16384

noncomputable section

namespace Cert.CtxBlock

open Cert.CtxPieces Cert.CtxIdeal Cert.CtxIdeal.Gen Idealize.ShloMosaic

/-! ## The mathematics of one row -/

/-- A row of 1024 channels. -/
abbrev Row := Fin 1024 → EReal

/-- `y · rsqrt(mean(y²) + 1e-6) · g`, at channel `j`; the two literals are 1024 and 1e-6. -/
def rms (y g : Row) (j : Fin 1024) : EReal :=
  y j * Ideal.rsqrt (Ideal.div (∑ k, y k * y k) (Ideal.ofBits .f32 0x44800000#32) + Ideal.ofBits .f32 0x358637BD#32) * g j

/-- The modulated row: `rms(x) · (1 + sc) + sh`. -/
def modRow (x g sc sh : Row) (j : Fin 1024) : EReal := rms x g j * (1 + sc j) + sh j

/-! ## The products -/

/-- The row of the flattened (256, 1024) block that holds batch entry `b`, time `t`. -/
abbrev fl (b : Fin 4) (t : Fin 64) : Fin 256 := ⟨b.val * 64 + t.val, by omega⟩

theorem norm_apply (y : FVec Ideal S4x64x1024 .f32) (g : Vec Ideal S1x1024 .f32) (b : Fin 4) (t : Fin 64) (j : Fin 1024) :
    CtxPieces.norm y g (ix3 b t j) = rms (fun k => y (ix3 b t k)) (fun k => g (ix2 0 k)) j := by
  pointwise [CtxPieces.norm, rms]

theorem per_apply (v : Vec Ideal S1x1x1024 .f32) (b : Fin 4) (t : Fin 64) (j : Fin 1024) :
    per v (ix3 b t j) = v (ix3 0 0 j) := by
  pointwise [per]

theorem rows_apply (x : Vec Ideal S4x64x1024 .f32) (g : Vec Ideal S1x1024 .f32) (sc sh : Vec Ideal S1x1x1024 .f32)
    (b : Fin 4) (t : Fin 64) (j : Fin 1024) :
    rows x g sc sh (ix2 (fl b t) j)
      = modRow (fun k => x (ix3 b t k)) (fun k => g (ix2 0 k)) (fun k => sc (ix3 0 0 k)) (fun k => sh (ix3 0 0 k)) j := by
  have hb : (⟨(b.val * 64 + t.val) / 64, by omega⟩ : Fin 4) = b := Fin.ext (by show (b.val * 64 + t.val) / 64 = b.val; omega)
  have ht : (⟨(b.val * 64 + t.val) % 64, by omega⟩ : Fin 64) = t := Fin.ext (by show (b.val * 64 + t.val) % 64 = t.val; omega)
  pointwise [rows, modRow, norm_apply, per_apply]
  simp only [hb, ht]

theorem acc_apply (l : Loads Ideal) (q : Fin 2) (s : Fin 7) (b : Fin 4) (t : Fin 64) (j : Fin 1024) :
    acc l q s (ix2 (fl b t) j)
      = ∑ e, modRow (fun k => l.x q (ix3 b t k)) (fun k => l.g (ix2 0 k)) (fun k => l.sc (ix3 0 0 k)) (fun k => l.sh (ix3 0 0 k)) e
          * l.w s (ix2 e j) := by
  unfold acc
  have h := fun e => rows_apply (l.x q) l.g l.sc l.sh b t e
  generalize rows (l.x q) l.g l.sc l.sh = r at h
  simp only [← h]
  pointwise []

/-! ## The projections -/

theorem fin_apply (a : FVec Ideal S256x1024 .f32) (b : Fin 4) (t : Fin 64) (j : Fin 1024) :
    fin a (ix3 b t j) = a (ix2 (fl b t) j) := by
  pointwise [fin]

/-! ## The convolution of one lane chunk -/

theorem part_apply (a : FVec Ideal S256x1024 .f32) (b : Fin 4) (k : Fin 8) (t : Fin 64) (j : Fin 128) :
    part a b k (ix3 0 t j) = a (ix2 (fl b t) ⟨128 * k.val + j.val, by omega⟩) := by
  unfold part
  pointwise []
  congr 2 <;> exact Fin.ext (by simp <;> omega)

theorem kept_apply (v : Vec Ideal S1x536x128 .f32) (r : Fin 24) (j : Fin 128) :
    kept v (ix3 0 r j) = v (ix3 0 ⟨512 + r.val, by omega⟩ j) := by
  pointwise [kept]

/-- Four taps, from the bias on. -/
def tapsE (b : EReal) (w x : Fin 4 → EReal) : EReal := b + w 0 * x 0 + w 1 * x 1 + w 2 * x 2 + w 3 * x 3

theorem conv_apply (v : Vec Ideal S1x536x128 .f32) (b w0 w1 w2 w3 : Vec Ideal S1x128 .f32) (r : Fin 512) (j : Fin 128) :
    conv v b w0 w1 w2 w3 (ix3 0 r j)
      = b (ix2 0 j) + w0 (ix2 0 j) * v (ix3 0 ⟨r.val, by omega⟩ j) + w1 (ix2 0 j) * v (ix3 0 ⟨8 + r.val, by omega⟩ j)
        + w2 (ix2 0 j) * v (ix3 0 ⟨16 + r.val, by omega⟩ j) + w3 (ix2 0 j) * v (ix3 0 ⟨24 + r.val, by omega⟩ j) := by
  pointwise [conv, tap]

theorem convEnd_apply (v : Vec Ideal S1x536x128 .f32) (b w0 w1 w2 : Vec Ideal S1x128 .f32) (r : Fin 8) (j : Fin 128) :
    convEnd v b w0 w1 w2 (ix3 0 r j)
      = b (ix2 0 j) + w0 (ix2 0 j) * v (ix3 0 ⟨512 + r.val, by omega⟩ j) + w1 (ix2 0 j) * v (ix3 0 ⟨520 + r.val, by omega⟩ j)
        + w2 (ix2 0 j) * v (ix3 0 ⟨528 + r.val, by omega⟩ j) := by
  pointwise [convEnd, tapEnd]

end Cert.CtxBlock

end
-- ==== Proof.CtxStores.lean ====
/- What the stores of one grid point leave, read at an index on the extended reals: the scratch rows, the convolved block,
   the convolution's last partial time, and the stored projections. -/
module

public import proofs.«01_k».proof.Proof.CtxBlock

@[expose] public section

set_option maxRecDepth 16384

noncomputable section

namespace Cert.CtxStores

open Cert.CtxPieces Cert.CtxBlock Cert.CtxIdeal Cert.CtxIdeal.Gen Idealize.ShloMosaic

/-! ## The scratch -/

section
variable (arg12 : Memref sig .tc .vmem S8x536x128 .f32) (fS : arg12.view.ty.Contents (Elt Ideal)) (l : Loads Ideal)
  (base : List (View.Piece (Elt Ideal) S8x536x128 .f32)) (X : Fin 8 → ℕ → Fin 128 → EReal)

/-- The 64 stores of the first product put `X` in the rows from 24 on. -/
def Products : Prop := ∀ (n : ℕ) (hn : n < 64) (t : Fin 64) (j : Fin 128),
  part (acc l ⟨n / 32 % 2, by omega⟩ 0) ⟨n / 8 % 4, by omega⟩ ⟨n % 8, by omega⟩ (ix3 0 t j) = X ⟨n % 8, by omega⟩ (24 + n / 8 % 8 + 8 * t.val) j

/-- The rows before 24 hold `X` already. -/
def Before : Prop := ∀ (k : Fin 8) (r : Fin 536) (j : Fin 128), r.val < 24 →
  arg12.view.read (Elt Ideal) (arg12.view.writes (Elt Ideal) fS base) (ix3 k r j) = X k r.val j

variable {l base X fS arg12}

theorem part_read (hp : Products l X) (hb : Before arg12 fS base X) : ∀ (n : ℕ), n ≤ 64 → ∀ (k : Fin 8) (r : Fin 536) (j : Fin 128),
    r.val < 24 ∨ (r.val % 8) * 8 + k.val < n →
    arg12.view.read (Elt Ideal) (arg12.view.writes (Elt Ideal) fS (partList l base n)) (ix3 k r j) = X k r.val j
  | 0, _, k, r, j, h => hb k r j (by omega)
  | n + 1, hn, k, r, j, h => by
    have hk : k.val < 8 := k.isLt
    have hr : r.val < 536 := r.isLt
    by_cases hit : 24 ≤ r.val ∧ (r.val % 8) * 8 + k.val = n
    · obtain ⟨h24, e⟩ := hit
      have ek : (⟨n % 8, by omega⟩ : Fin 8) = k := Fin.ext (by show n % 8 = k.val; omega)
      have er : 24 + n / 8 % 8 + 8 * ((r.val - 24) / 8) = r.val := by omega
      refine (View.read_writes_cons_hit_of_coords arg12.view fS _ _ _ (ix3 0 ⟨(r.val - 24) / 8, by omega⟩ j) _ (fun (a : Fin 3) => ?_)).trans ?_
      · match a with
        | ⟨0, _⟩ => show k.val = n % 8 + 1 * 0; omega
        | ⟨1, _⟩ => show r.val = 24 + n / 8 % 8 + 8 * ((r.val - 24) / 8); omega
        | ⟨2, _⟩ => show j.val = 0 + 1 * j.val; omega
      · refine (hp n (by omega) ⟨(r.val - 24) / 8, by omega⟩ j).trans ?_
        show X ⟨n % 8, _⟩ (24 + n / 8 % 8 + 8 * ((r.val - 24) / 8)) j = X k r.val j
        rw [ek, er]
    · refine (View.read_writes_cons_miss arg12.view fS _ _ _ ?_).trans (part_read hp hb n (by omega) k r j ?_)
      · intro hy
        have h0 := (LoadRect.mem_set _).mp hy
        obtain ⟨i0, hi0, e0⟩ := h0 (0 : Fin 3)
        obtain ⟨i1, hi1, e1⟩ := h0 (1 : Fin 3)
        have hi0' : i0 < 1 := hi0
        have hi1' : i1 < 64 := hi1
        have e0' : k.val = n % 8 + 1 * i0 := e0
        have e1' : r.val = 24 + n / 8 % 8 + 8 * i1 := e1
        omega
      · omega

theorem chunk_apply (L : List (View.Piece (Elt Ideal) S8x536x128 .f32)) (k : Fin 8) (r : Fin 536) (j : Fin 128) :
    chunk arg12 fS L k (ix3 0 r j) = arg12.view.read (Elt Ideal) (arg12.view.writes (Elt Ideal) fS L) (ix3 k r j) := by
  refine congrArg (arg12.view.read (Elt Ideal) (arg12.view.writes (Elt Ideal) fS L)) (funext fun (a : Fin 3) => Fin.ext ?_)
  match a with
  | ⟨0, _⟩ => show k.val + 1 * 0 = k.val; omega
  | ⟨1, _⟩ => show 0 + 1 * r.val = r.val; omega
  | ⟨2, _⟩ => show 0 + 1 * j.val = j.val; omega

/-- After `n` chunks have kept their last 24 rows, those chunks' first rows hold `X` 512 rows on. -/
theorem kept_read (hp : Products l X) (hb : Before arg12 fS base X) : ∀ (n : ℕ), n ≤ 8 → ∀ (k : Fin 8) (r : Fin 536) (j : Fin 128),
    arg12.view.read (Elt Ideal) (arg12.view.writes (Elt Ideal) fS (keptList arg12 fS l base n)) (ix3 k r j)
      = X k (if k.val < n ∧ r.val < 24 then 512 + r.val else r.val) j
  | 0, _, k, r, j => by
    rw [if_neg (by omega)]
    exact part_read hp hb 64 le_rfl k r j (by omega)
  | n + 1, hn, k, r, j => by
    by_cases hit : k.val = n ∧ r.val < 24
    · obtain ⟨e, h24⟩ := hit
      have ek : (⟨n % 8, by omega⟩ : Fin 8) = k := Fin.ext (by show n % 8 = k.val; omega)
      refine (View.read_writes_cons_hit_of_coords arg12.view fS _ _ _ (ix3 0 ⟨r.val, h24⟩ j) _ (fun (a : Fin 3) => ?_)).trans ?_
      · match a with
        | ⟨0, _⟩ => show k.val = n % 8 + 1 * 0; omega
        | ⟨1, _⟩ => show r.val = 0 + 1 * r.val; omega
        | ⟨2, _⟩ => show j.val = 0 + 1 * j.val; omega
      · rw [kept_apply, chunk_apply, kept_read hp hb n (by omega), ek, if_neg (by show ¬(k.val < n ∧ 512 + r.val < 24); omega),
          if_pos (by omega)]
    · refine (View.read_writes_cons_miss arg12.view fS _ _ _ ?_).trans ((kept_read hp hb n (by omega) k r j).trans ?_)
      · intro hy
        have h0 := (LoadRect.mem_set _).mp hy
        obtain ⟨i0, hi0, e0⟩ := h0 (0 : Fin 3)
        obtain ⟨i1, hi1, e1⟩ := h0 (1 : Fin 3)
        have hi0' : i0 < 1 := hi0
        have hi1' : i1 < 24 := hi1
        have e0' : k.val = n % 8 + 1 * i0 := e0
        have e1' : r.val = 0 + 1 * i1 := e1
        omega
      · congr 1
        by_cases hc : k.val < n ∧ r.val < 24
        · rw [if_pos hc, if_pos (by omega)]
        · rw [if_neg hc, if_neg (by omega)]

/-- What the point leaves in the first 24 rows. -/
theorem after_read (hp : Products l X) (hb : Before arg12 fS base X) (k : Fin 8) (r : Fin 536) (j : Fin 128) (h : r.val < 24) :
    arg12.view.read (Elt Ideal) (arg12.view.writes (Elt Ideal) fS (keptList arg12 fS l base 8)) (ix3 k r j) = X k (512 + r.val) j := by
  rw [kept_read hp hb 8 le_rfl, if_pos ⟨k.isLt, h⟩]

theorem chunk_read (hp : Products l X) (hb : Before arg12 fS base X) (k : Fin 8) (r : Fin 536) (j : Fin 128) :
    chunk arg12 fS (keptList arg12 fS l base k.val) k (ix3 0 r j) = X k r.val j := by
  rw [chunk_apply, kept_read hp hb k.val (by omega), if_neg (by omega)]

/-! ## The convolved block -/

/-- One entry of the convolution, over four rows of `X` eight apart. -/
def convE (l : Loads Ideal) (X : Fin 8 → ℕ → Fin 128 → EReal) (k : Fin 8) (r : ℕ) (j : Fin 128) : EReal :=
  l.cb k (ix2 0 j) + l.cw 0 k (ix2 0 j) * X k r j + l.cw 1 k (ix2 0 j) * X k (8 + r) j + l.cw 2 k (ix2 0 j) * X k (16 + r) j
    + l.cw 3 k (ix2 0 j) * X k (24 + r) j

/-- Its first three taps, from row 512 on. -/
def endE (l : Loads Ideal) (X : Fin 8 → ℕ → Fin 128 → EReal) (k : Fin 8) (r : ℕ) (j : Fin 128) : EReal :=
  l.cb k (ix2 0 j) + l.cw 0 k (ix2 0 j) * X k (512 + r) j + l.cw 1 k (ix2 0 j) * X k (520 + r) j + l.cw 2 k (ix2 0 j) * X k (528 + r) j

theorem zPiece_apply (hp : Products l X) (hb : Before arg12 fS base X) (k : Fin 8) (x : S1x512x128.Idx) :
    (zPiece arg12 fS l base k).2 x = convE l X k (x 1).val (x 2) := by
  have hx : x = ix3 0 (x 1) (x 2) := by
    refine (ValueIdx.eq_ix3 x).trans ?_
    have h0 : x 0 = (0 : Fin 1) := Fin.ext (by have : (x 0).val < 1 := (x 0).isLt; show (x 0).val = 0; omega)
    rw [h0]
    rfl
  obtain ⟨r, hr⟩ : ∃ r : Fin 512, x 1 = r := ⟨x 1, rfl⟩
  obtain ⟨j, hj⟩ : ∃ j : Fin 128, x 2 = j := ⟨x 2, rfl⟩
  rw [hr, hj] at hx
  rw [hr, hj, hx]
  refine (conv_apply _ _ _ _ _ _ r j).trans ?_
  rw [chunk_read hp hb, chunk_read hp hb, chunk_read hp hb, chunk_read hp hb]
  rfl

theorem endPiece_apply (hp : Products l X) (hb : Before arg12 fS base X) (k : Fin 8) (x : S1x8x128.Idx) :
    (endPiece arg12 fS l base k).2 x = endE l X k (x 1).val (x 2) := by
  have hx : x = ix3 0 (x 1) (x 2) := by
    refine (ValueIdx.eq_ix3 x).trans ?_
    have h0 : x 0 = (0 : Fin 1) := Fin.ext (by have : (x 0).val < 1 := (x 0).isLt; show (x 0).val = 0; omega)
    rw [h0]
    rfl
  obtain ⟨r, hr⟩ : ∃ r : Fin 8, x 1 = r := ⟨x 1, rfl⟩
  obtain ⟨j, hj⟩ : ∃ j : Fin 128, x 2 = j := ⟨x 2, rfl⟩
  rw [hr, hj] at hx
  rw [hr, hj, hx]
  refine (convEnd_apply _ _ _ _ _ r j).trans ?_
  rw [chunk_read hp hb, chunk_read hp hb, chunk_read hp hb]
  rfl

theorem mem_zList (p : View.Piece (Elt Ideal) S8x512x128 .f32) : p ∈ zList arg12 fS l base ↔ ∃ k, p = zPiece arg12 fS l base k := by
  unfold zList
  constructor
  · intro h
    simp only [List.mem_cons, List.not_mem_nil, or_false] at h
    rcases h with h | h | h | h | h | h | h | h <;> exact ⟨_, h⟩
  · rintro ⟨k, rfl⟩
    fin_cases k <;> simp

theorem mem_endList (p : View.Piece (Elt Ideal) S8x8x128 .f32) : p ∈ endList arg12 fS l base ↔ ∃ k, p = endPiece arg12 fS l base k := by
  unfold endList
  constructor
  · intro h
    simp only [List.mem_cons, List.not_mem_nil, or_false] at h
    rcases h with h | h | h | h | h | h | h | h <;> exact ⟨_, h⟩
  · rintro ⟨k, rfl⟩
    fin_cases k <;> simp

theorem z_read (v : View sig .tc .vmem S8x512x128 .f32) (f : v.ty.Contents (Elt Ideal)) (hp : Products l X) (hb : Before arg12 fS base X) :
    v.read (Elt Ideal) (v.writes (Elt Ideal) f (zList arg12 fS l base)) = fun y => convE l X (y 0) (y 1).val (y 2) := by
  funext y
  refine View.read_writes_apply_of_pieces v f (fun y : S8x512x128.Idx => convE l X (y 0) (y 1).val (y 2)) _ (fun p hm x => ?_) y ?_
  · obtain ⟨k, rfl⟩ := (mem_zList p).mp hm
    refine (zPiece_apply hp hb k x).trans ?_
    have h0 : (x 0).val < 1 := (x 0).isLt
    have e0 : (zPiece arg12 fS l base k).1.emb x 0 = k := Fin.ext (by show k.val + 1 * (x 0).val = k.val; omega)
    have e1 : ((zPiece arg12 fS l base k).1.emb x 1).val = (x 1).val := by show 0 + 1 * (x 1).val = (x 1).val; omega
    have e2 : (zPiece arg12 fS l base k).1.emb x 2 = x 2 := Fin.ext (by show 0 + 1 * (x 2).val = (x 2).val; omega)
    show _ = convE l X ((zPiece arg12 fS l base k).1.emb x 0) ((zPiece arg12 fS l base k).1.emb x 1).val ((zPiece arg12 fS l base k).1.emb x 2)
    rw [e0, e1, e2]
  · refine ⟨zPiece arg12 fS l base (y 0), (mem_zList _).mpr ⟨y 0, rfl⟩, (Rect.mem_set_unit (inb := inb_z (y 0))).mpr fun (a : Fin 3) => ?_⟩
    have h1 : (y 1).val < 512 := (y 1).isLt
    have h2 : (y 2).val < 128 := (y 2).isLt
    match a with
    | ⟨0, _⟩ => exact ⟨le_rfl, Nat.lt_succ_self _⟩
    | ⟨1, _⟩ => exact ⟨Nat.zero_le _, by show (y 1).val < 0 + 512; omega⟩
    | ⟨2, _⟩ => exact ⟨Nat.zero_le _, by show (y 2).val < 0 + 128; omega⟩

theorem end_read (v : View sig .tc .vmem S8x8x128 .f32) (f : v.ty.Contents (Elt Ideal)) (hp : Products l X) (hb : Before arg12 fS base X) :
    v.read (Elt Ideal) (v.writes (Elt Ideal) f (endList arg12 fS l base)) = fun y => endE l X (y 0) (y 1).val (y 2) := by
  funext y
  refine View.read_writes_apply_of_pieces v f (fun y : S8x8x128.Idx => endE l X (y 0) (y 1).val (y 2)) _ (fun p hm x => ?_) y ?_
  · obtain ⟨k, rfl⟩ := (mem_endList p).mp hm
    refine (endPiece_apply hp hb k x).trans ?_
    have h0 : (x 0).val < 1 := (x 0).isLt
    have e0 : (endPiece arg12 fS l base k).1.emb x 0 = k := Fin.ext (by show k.val + 1 * (x 0).val = k.val; omega)
    have e1 : ((endPiece arg12 fS l base k).1.emb x 1).val = (x 1).val := by show 0 + 1 * (x 1).val = (x 1).val; omega
    have e2 : (endPiece arg12 fS l base k).1.emb x 2 = x 2 := Fin.ext (by show 0 + 1 * (x 2).val = (x 2).val; omega)
    show _ = endE l X ((endPiece arg12 fS l base k).1.emb x 0) ((endPiece arg12 fS l base k).1.emb x 1).val ((endPiece arg12 fS l base k).1.emb x 2)
    rw [e0, e1, e2]
  · refine ⟨endPiece arg12 fS l base (y 0), (mem_endList _).mpr ⟨y 0, rfl⟩, (Rect.mem_set_unit (inb := inb_tail (y 0))).mpr fun (a : Fin 3) => ?_⟩
    have h1 : (y 1).val < 8 := (y 1).isLt
    have h2 : (y 2).val < 128 := (y 2).isLt
    match a with
    | ⟨0, _⟩ => exact ⟨le_rfl, Nat.lt_succ_self _⟩
    | ⟨1, _⟩ => exact ⟨Nat.zero_le _, by show (y 1).val < 0 + 8; omega⟩
    | ⟨2, _⟩ => exact ⟨Nat.zero_le _, by show (y 2).val < 0 + 128; omega⟩

/-- The cleared rows read zero, whatever the scratch held. -/
theorem cleared_read (k : Fin 8) (r : Fin 536) (j : Fin 128) (h : r.val < 24) :
    arg12.view.read (Elt Ideal) (arg12.view.writes (Elt Ideal) fS cleared) (ix3 k r j) = 0 := by
  unfold cleared
  refine (View.read_writes_cons_hit_of_coords arg12.view fS _ _ _ (ix3 k ⟨r.val, h⟩ j) _ (fun (a : Fin 3) => ?_)).trans ?_
  · match a with
    | ⟨0, _⟩ => show k.val = 0 + 1 * k.val; omega
    | ⟨1, _⟩ => show r.val = 0 + 1 * r.val; omega
    | ⟨2, _⟩ => show j.val = 0 + 1 * j.val; omega
  · pointwise []

end

/-! ## The projections -/

/-- Entry (batch `b`, time `t`, channel `j`) of the stored projections: column blocks three and four of the weights. -/
def actE (l : Loads Ideal) (b : Fin 8) (t : Fin 64) (j : Fin 2048) : EReal :=
  acc l ⟨b.val / 4, by omega⟩ ⟨3 + j.val / 1024, by omega⟩ (ix2 (fl ⟨b.val % 4, by omega⟩ t) ⟨j.val % 1024, by omega⟩)

/-- The store of group `q`, column block `3 + s`, is `actE` where it goes. -/
theorem store_act (l : Loads Ideal) (q : Fin 2) (s : Fin 2) (o : Nat) (ho : o = 1024 * s.val) (oq : Nat) (hq : oq = 4 * q.val)
    (inb : ∀ a : Fin 3, (![oq, 0, o] : Fin 3 → Nat) a + S4x64x1024.size a ≤ S8x64x2048.size a) (x : S4x64x1024.Idx) :
    fin (acc l q ⟨3 + s.val, by omega⟩) x = actE l ((Rect.unit (s := S8x64x2048) ![oq, 0, o] S4x64x1024.size inb).emb x 0) ((Rect.unit (s := S8x64x2048) ![oq, 0, o] S4x64x1024.size inb).emb x 1)
      ((Rect.unit (s := S8x64x2048) ![oq, 0, o] S4x64x1024.size inb).emb x 2) := by
  subst ho hq
  obtain ⟨b, hb⟩ : ∃ b : Fin 4, x 0 = b := ⟨x 0, rfl⟩
  obtain ⟨t, ht⟩ : ∃ t : Fin 64, x 1 = t := ⟨x 1, rfl⟩
  obtain ⟨j, hj⟩ : ∃ j : Fin 1024, x 2 = j := ⟨x 2, rfl⟩
  have hx : x = ix3 b t j := by rw [← hb, ← ht, ← hj]; exact ValueIdx.eq_ix3 x
  have e0 : (Rect.unit (s := S8x64x2048) ![4 * q.val, 0, 1024 * s.val] S4x64x1024.size inb).emb x 0 = (⟨4 * q.val + b.val, by omega⟩ : Fin 8) :=
    Fin.ext (by show 4 * q.val + 1 * (x 0).val = 4 * q.val + b.val; rw [hb]; omega)
  have e1 : (Rect.unit (s := S8x64x2048) ![4 * q.val, 0, 1024 * s.val] S4x64x1024.size inb).emb x 1 = t := Fin.ext (by show 0 + 1 * (x 1).val = t.val; rw [ht]; omega)
  have e2 : (Rect.unit (s := S8x64x2048) ![4 * q.val, 0, 1024 * s.val] S4x64x1024.size inb).emb x 2 = (⟨1024 * s.val + j.val, by omega⟩ : Fin 2048) :=
    Fin.ext (by show 1024 * s.val + 1 * (x 2).val = 1024 * s.val + j.val; rw [hj]; omega)
  rw [e0, e1, e2, hx, fin_apply]
  unfold actE
  have h1 : (⟨(4 * q.val + b.val) / 4, by omega⟩ : Fin 2) = q := Fin.ext (by show (4 * q.val + b.val) / 4 = q.val; omega)
  have h2 : (⟨3 + (1024 * s.val + j.val) / 1024, by omega⟩ : Fin 7) = ⟨3 + s.val, by omega⟩ := Fin.ext (by show 3 + (1024 * s.val + j.val) / 1024 = 3 + s.val; omega)
  have h3 : (⟨(4 * q.val + b.val) % 4, by omega⟩ : Fin 4) = b := Fin.ext (by show (4 * q.val + b.val) % 4 = b.val; omega)
  have h4 : (⟨(1024 * s.val + j.val) % 1024, by omega⟩ : Fin 1024) = j := Fin.ext (by show (1024 * s.val + j.val) % 1024 = j.val; omega)
  show _ = acc l ⟨(4 * q.val + b.val) / 4, _⟩ ⟨3 + (1024 * s.val + j.val) / 1024, _⟩ (ix2 (fl ⟨(4 * q.val + b.val) % 4, _⟩ t) ⟨(1024 * s.val + j.val) % 1024, _⟩)
  rw [h1, h2, h3, h4]

theorem pr_cover (l : Loads Ideal) (y : S8x64x2048.Idx) : ∃ p ∈ prList l, y ∈ p.1.set :=
  View.cover_of_tiledL (prList l) S4x64x1024.size (by rfl) y

theorem pr_read (l : Loads Ideal) (v : View sig .tc .vmem S8x64x2048 .bf16) (f : v.ty.Contents (Elt Ideal)) :
    v.read (Elt Ideal) (v.writes (Elt Ideal) f (prList l)) = fun y => actE l (y 0) (y 1) (y 2) := by
  funext y
  refine View.read_writes_apply_of_pieces v f (fun y : S8x64x2048.Idx => (actE l (y 0) (y 1) (y 2) : EReal)) _ (fun p hm => ?_) y (pr_cover l y)
  unfold prList at hm
  simp only [List.mem_cons, List.not_mem_nil, or_false] at hm
  rcases hm with h | h | h | h <;> subst h
  · exact store_act l 1 1 1024 rfl 4 rfl inb_S8x64x2048_S4x64x1024_4_0_1024
  · exact store_act l 0 1 1024 rfl 0 rfl inb_S8x64x2048_S4x64x1024_0_0_1024
  · exact store_act l 1 0 0 rfl 4 rfl inb_S8x64x2048_S4x64x1024_4_0_0
  · exact store_act l 0 0 0 rfl 0 rfl inb_S8x64x2048_S4x64x1024_0_0_0

end Cert.CtxStores

end
-- ==== Proof.CtxMath.lean ====
/- The context projection's mathematics over the whole arguments, and what a grid point's loads are of it: point `p` works on the
   times 64 p … 64 p + 63; the convolution's input, by (time step, batch entry, channel), is the first product with three zero
   time steps before it and one after. -/
module

public import proofs.«01_k».proof.Proof.CtxStores
public import proofs.«01_k».proof.Proof.Gen.CtxIdeal.Frame
public import Idealize.ShloMosaic.Lib.Pipeline.Value
public import Idealize.ShloMosaic.Lib.Claim

@[expose] public section

set_option maxRecDepth 16384

noncomputable section

namespace Cert.CtxMath

open Cert.CtxStores Cert.CtxBlock Cert.CtxPieces Cert.CtxIdeal Cert.CtxIdeal.Gen
open Idealize.ShloMosaic Idealize.ShloMosaic.TcCoe Idealize.ShloMosaic.Tactic

/-! ## The mathematics -/

section
variable (x : Vec Ideal S8x256x1024 .f32) (md : Vec Ideal S16x6144 .f32) (g : Vec Ideal S1024 .f32) (w : Vec Ideal S1024x7168 .f32)
  (cw : Vec Ideal S4x1024 .f32) (cb : Vec Ideal S1024 .f32)

/-- The projection at (batch b, time T, channel j): the modulated row times the weights. -/
def projE (b : Fin 8) (T : Fin 256) (j : Fin 7168) : EReal :=
  ∑ e, modRow (fun k => x (ix3 b T k)) (fun k => g (ix1 k)) (fun k => md (ix2 8 ⟨1024 + k.val, by omega⟩))
    (fun k => md (ix2 8 ⟨k.val, by omega⟩)) e * w (ix2 e j)

/-- The convolution's input: time step `s` is the context projection's time `s - 3`, and zero outside. -/
def rowE (s : ℕ) (b : Fin 8) (j : Fin 1024) : EReal :=
  if h : 3 ≤ s ∧ s < 259 then projE x md g w b ⟨s - 3, by omega⟩ ⟨j.val, by omega⟩ else 0

/-- Half the convolution at time step `s`, the halved taps applied one by one. -/
def convG (s : ℕ) (b : Fin 8) (j : Fin 1024) : EReal :=
  Ideal.ofBits .f32 0x3F000000#32 * cb (ix1 j) + Ideal.ofBits .f32 0x3F000000#32 * cw (ix2 0 j) * rowE x md g w s b j
    + Ideal.ofBits .f32 0x3F000000#32 * cw (ix2 1 j) * rowE x md g w (s + 1) b j
    + Ideal.ofBits .f32 0x3F000000#32 * cw (ix2 2 j) * rowE x md g w (s + 2) b j
    + Ideal.ofBits .f32 0x3F000000#32 * cw (ix2 3 j) * rowE x md g w (s + 3) b j

/-- The stored projection at (batch b, time T, channel j): the weights' columns from 3072 on. -/
def actG (b : Fin 8) (T : Fin 256) (j : Fin 2048) : EReal := projE x md g w b T ⟨3072 + j.val, by omega⟩

/-- A grid point's rows of the convolution's input: lane chunk, row (eight batch entries to a time step), lane. -/
def ptX (p : ℕ) (k : Fin 8) (r : ℕ) (j : Fin 128) : EReal :=
  rowE x md g w (64 * p + r / 8) ⟨r % 8, by omega⟩ ⟨128 * k.val + j.val, by omega⟩

theorem ptX_next (p : ℕ) (k : Fin 8) (r : ℕ) (j : Fin 128) : ptX x md g w p k (512 + r) j = ptX x md g w (p + 1) k r j := by
  unfold ptX
  congr 1
  · omega
  · exact Fin.ext (by show (512 + r) % 8 = r % 8; omega)

theorem ptX_first (k : Fin 8) (r : ℕ) (j : Fin 128) (h : r < 24) : ptX x md g w 0 k r j = 0 := by
  unfold ptX rowE
  rw [dif_neg (by omega)]

end

/-! ## The staged blocks -/

section
variable {F : FTy → Type} [FloatOps F]
variable (m : (ℓ : Loc nD τ sig) → Buf (Elt F) ℓ)

theorem at0 : ∀ t : Fin cfg0.N, win0_0.index t (0 : Fin 3) = 0 ∧ win0_0.index t (1 : Fin 3) = t.val ∧ win0_0.index t (2 : Fin 3) = 0 :=
  (by decide +kernel : ∀ t : Fin grid0.N, _)

theorem block0 (c : Dev nD) (t : Fin cfg0.N) (y : S8x64x1024.Idx) (z : S8x256x1024.Idx) (h0 : (z 0).val = (y 0).val) (h1 : (z 1).val = t.val * 64 + (y 1).val) (h2 : (z 2).val = (y 2).val) :
    iblk m c 0 t y = V m c main_arg0 z := by
  obtain ⟨e0, e1, e2⟩ := at0 t
  show V m c main_arg0 (((cfg0.win 0).blk t).view.emb y) = _
  refine congrArg _ (funext fun (a : Fin 3) => Fin.ext ?_)
  match a with
    | ⟨0, _⟩ => show win0_0.index t (0 : Fin 3) * 8 + 1 * (y 0).val = (z 0).val; omega
    | ⟨1, _⟩ => show win0_0.index t (1 : Fin 3) * 64 + 1 * (y 1).val = (z 1).val; omega
    | ⟨2, _⟩ => show win0_0.index t (2 : Fin 3) * 1024 + 1 * (y 2).val = (z 2).val; omega

theorem at1 : ∀ t : Fin cfg0.N, win0_1.index t (0 : Fin 3) = 8 ∧ win0_1.index t (1 : Fin 3) = 0 ∧ win0_1.index t (2 : Fin 3) = 0 :=
  (by decide +kernel : ∀ t : Fin grid0.N, _)

theorem block1 (c : Dev nD) (t : Fin cfg0.N) (y : S1x1x1024.Idx) (z : S16x1x6144.Idx) (h0 : (z 0).val = 8 + (y 0).val) (h1 : (z 1).val = (y 1).val) (h2 : (z 2).val = (y 2).val) :
    iblk m c 1 t y = V m c main_v0 z := by
  obtain ⟨e0, e1, e2⟩ := at1 t
  show V m c main_v0 (((cfg0.win 1).blk t).view.emb y) = _
  refine congrArg _ (funext fun (a : Fin 3) => Fin.ext ?_)
  match a with
    | ⟨0, _⟩ => show win0_1.index t (0 : Fin 3) * 1 + 1 * (y 0).val = (z 0).val; omega
    | ⟨1, _⟩ => show win0_1.index t (1 : Fin 3) * 1 + 1 * (y 1).val = (z 1).val; omega
    | ⟨2, _⟩ => show win0_1.index t (2 : Fin 3) * 1024 + 1 * (y 2).val = (z 2).val; omega

theorem at2 : ∀ t : Fin cfg0.N, win0_2.index t (0 : Fin 3) = 8 ∧ win0_2.index t (1 : Fin 3) = 0 ∧ win0_2.index t (2 : Fin 3) = 1 :=
  (by decide +kernel : ∀ t : Fin grid0.N, _)

theorem block2 (c : Dev nD) (t : Fin cfg0.N) (y : S1x1x1024.Idx) (z : S16x1x6144.Idx) (h0 : (z 0).val = 8 + (y 0).val) (h1 : (z 1).val = (y 1).val) (h2 : (z 2).val = 1024 + (y 2).val) :
    iblk m c 2 t y = V m c main_v0 z := by
  obtain ⟨e0, e1, e2⟩ := at2 t
  show V m c main_v0 (((cfg0.win 2).blk t).view.emb y) = _
  refine congrArg _ (funext fun (a : Fin 3) => Fin.ext ?_)
  match a with
    | ⟨0, _⟩ => show win0_2.index t (0 : Fin 3) * 1 + 1 * (y 0).val = (z 0).val; omega
    | ⟨1, _⟩ => show win0_2.index t (1 : Fin 3) * 1 + 1 * (y 1).val = (z 1).val; omega
    | ⟨2, _⟩ => show win0_2.index t (2 : Fin 3) * 1024 + 1 * (y 2).val = (z 2).val; omega

theorem at3 : ∀ t : Fin cfg0.N, win0_3.index t (0 : Fin 2) = 0 ∧ win0_3.index t (1 : Fin 2) = 0 :=
  (by decide +kernel : ∀ t : Fin grid0.N, _)

theorem block3 (c : Dev nD) (t : Fin cfg0.N) (y : S1x1024.Idx) (z : S1x1024.Idx) (h0 : (z 0).val = (y 0).val) (h1 : (z 1).val = (y 1).val) :
    iblk m c 3 t y = V m c main_v1 z := by
  obtain ⟨e0, e1⟩ := at3 t
  show V m c main_v1 (((cfg0.win 3).blk t).view.emb y) = _
  refine congrArg _ (funext fun (a : Fin 2) => Fin.ext ?_)
  match a with
    | ⟨0, _⟩ => show win0_3.index t (0 : Fin 2) * 1 + 1 * (y 0).val = (z 0).val; omega
    | ⟨1, _⟩ => show win0_3.index t (1 : Fin 2) * 1024 + 1 * (y 1).val = (z 1).val; omega

theorem at4 : ∀ t : Fin cfg0.N, win0_4.index t (0 : Fin 2) = 0 ∧ win0_4.index t (1 : Fin 2) = 0 :=
  (by decide +kernel : ∀ t : Fin grid0.N, _)

theorem block4 (c : Dev nD) (t : Fin cfg0.N) (y : S1024x7168.Idx) (z : S1024x7168.Idx) (h0 : (z 0).val = (y 0).val) (h1 : (z 1).val = (y 1).val) :
    iblk m c 4 t y = V m c main_v2 z := by
  obtain ⟨e0, e1⟩ := at4 t
  show V m c main_v2 (((cfg0.win 4).blk t).view.emb y) = _
  refine congrArg _ (funext fun (a : Fin 2) => Fin.ext ?_)
  match a with
    | ⟨0, _⟩ => show win0_4.index t (0 : Fin 2) * 1024 + 1 * (y 0).val = (z 0).val; omega
    | ⟨1, _⟩ => show win0_4.index t (1 : Fin 2) * 7168 + 1 * (y 1).val = (z 1).val; omega

theorem at6 : ∀ t : Fin cfg0.N, win0_6.index t (0 : Fin 2) = 0 ∧ win0_6.index t (1 : Fin 2) = 0 :=
  (by decide +kernel : ∀ t : Fin grid0.N, _)

theorem block6 (c : Dev nD) (t : Fin cfg0.N) (y : S4x1024.Idx) (z : S4x1024.Idx) (h0 : (z 0).val = (y 0).val) (h1 : (z 1).val = (y 1).val) :
    iblk m c 6 t y = V m c main_v5 z := by
  obtain ⟨e0, e1⟩ := at6 t
  show V m c main_v5 (((cfg0.win 6).blk t).view.emb y) = _
  refine congrArg _ (funext fun (a : Fin 2) => Fin.ext ?_)
  match a with
    | ⟨0, _⟩ => show win0_6.index t (0 : Fin 2) * 4 + 1 * (y 0).val = (z 0).val; omega
    | ⟨1, _⟩ => show win0_6.index t (1 : Fin 2) * 1024 + 1 * (y 1).val = (z 1).val; omega

theorem at7 : ∀ t : Fin cfg0.N, win0_7.index t (0 : Fin 2) = 0 ∧ win0_7.index t (1 : Fin 2) = 0 :=
  (by decide +kernel : ∀ t : Fin grid0.N, _)

theorem block7 (c : Dev nD) (t : Fin cfg0.N) (y : S1x1024.Idx) (z : S1x1024.Idx) (h0 : (z 0).val = (y 0).val) (h1 : (z 1).val = (y 1).val) :
    iblk m c 7 t y = V m c main_v8 z := by
  obtain ⟨e0, e1⟩ := at7 t
  show V m c main_v8 (((cfg0.win 7).blk t).view.emb y) = _
  refine congrArg _ (funext fun (a : Fin 2) => Fin.ext ?_)
  match a with
    | ⟨0, _⟩ => show win0_7.index t (0 : Fin 2) * 1 + 1 * (y 0).val = (z 0).val; omega
    | ⟨1, _⟩ => show win0_7.index t (1 : Fin 2) * 1024 + 1 * (y 1).val = (z 1).val; omega

end

/-! ## The arrays the call is given -/

section
variable (m : (ℓ : Loc nD τ sig) → Buf (Elt Ideal) ℓ)

theorem entry_v0 (c : Dev nD) (b : Fin 16) (k : Fin 6144) :
    V m c main_v0 (ix3 b 0 k : S16x1x6144.Idx) = m ((c : Thread nD τ).loc main_arg1) (ix2 b k : S16x6144.Idx) := by
  have h : V m c main_v0 = broadcastInDim S16x1x6144 ![0, 2] bcast_S16x6144_S16x1x6144_0_2 (m ((c : Thread nD τ).loc main_arg1)) := by
    unfold_abbrev_sides
    after_results
  rw [h]
  generalize m ((c : Thread nD τ).loc main_arg1) = u
  pointwise []

theorem entry_v1 (c : Dev nD) (k : Fin 1024) :
    V m c main_v1 (ix2 0 k : S1x1024.Idx) = m ((c : Thread nD τ).loc main_arg2) (ix1 k : S1024.Idx) := by
  have h : V m c main_v1 = broadcastInDim S1x1024 ![1] bcast_S1024_S1x1024_1 (m ((c : Thread nD τ).loc main_arg2)) := by
    unfold_abbrev_sides
    after_results
  rw [h]
  generalize m ((c : Thread nD τ).loc main_arg2) = u
  pointwise []

theorem entry_v2 (c : Dev nD) : V m c main_v2 = m ((c : Thread nD τ).loc main_arg3) := by
  unfold_abbrev_sides
  after_results
  rfl

theorem entry_v5 (c : Dev nD) (i : Fin 4) (k : Fin 1024) :
    V m c main_v5 (ix2 i k : S4x1024.Idx)
      = Ideal.ofBits .f32 0x3F000000#32 * m ((c : Thread nD τ).loc main_arg5) (ix2 i k : S4x1024.Idx) := by
  have h : V m c main_v5 = mulf (broadcastInDim S4x1024 ![] bcast_S_S4x1024 (constant (F := Ideal) S_ .f32 0x3F000000#32))
      (m ((c : Thread nD τ).loc main_arg5)) := by
    unfold_abbrev_sides
    after_results
  rw [h]
  generalize m ((c : Thread nD τ).loc main_arg5) = u
  pointwise []

theorem entry_v8 (c : Dev nD) (k : Fin 1024) :
    V m c main_v8 (ix2 0 k : S1x1024.Idx)
      = Ideal.ofBits .f32 0x3F000000#32 * m ((c : Thread nD τ).loc main_arg6) (ix1 k : S1024.Idx) := by
  have h : V m c main_v8 = mulf (broadcastInDim S1x1024 ![] bcast_S_S1x1024 (constant (F := Ideal) S_ .f32 0x3F000000#32))
      (broadcastInDim S1x1024 ![1] bcast_S1024_S1x1024_1 (m ((c : Thread nD τ).loc main_arg6))) := by
    unfold_abbrev_sides
    after_results
  rw [h]
  generalize m ((c : Thread nD τ).loc main_arg6) = u
  pointwise []

/-! ## The loads of a grid point -/

theorem ld_apply {s : Shape} {e : EltTy} (arg : Memref sig .tc .vmem s e) (harg : arg.IsWhole) (x : Vec Ideal s e)
    (off size : Fin s.rank → Nat) (inb : ∀ a, off a + size a ≤ s.size a) (y : (⟨s.rank, size⟩ : Shape).Idx) (z : s.Idx)
    (h : ∀ a, (z a).val = off a + (y a).val) : ld arg harg x off size inb y = x z := by
  refine (congrFun (harg.read_unread x) _).trans (congrArg x (funext fun a => Fin.ext ?_))
  show off a + 1 * (y a).val = (z a).val
  rw [h a, Nat.one_mul]

abbrev ms0_0 (t : Fin cfg0.N) : Memref sig .tc .vmem S8x64x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x7168 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x2048 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S4x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1024 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S8x512x128 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S8x8x128 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S8x64x2048 .bf16 := win0_10.stage (cfg0.slots t 10)
abbrev hs0_10 (t : Fin cfg0.N) : (ms0_10 t).IsWhole := hstage0_10 ((cfg0.slots t 10).cast nbuf0_10)

/-- What point `t` loads. -/
def L (c : Dev nD) (t : Fin cfg0.N) : Loads Ideal :=
  loads (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t) (iblk m c 4 t) (iblk m c 5 t) (iblk m c 6 t) (iblk m c 7 t)

theorem L_x (c : Dev nD) (p : Fin cfg0.N) (q : Fin 2) (b : Fin 4) (t : Fin 64) (k : Fin 1024) (b' : Fin 8) (hb : b'.val = 4 * q.val + b.val)
    (T : Fin 256) (hT : T.val = p.val * 64 + t.val) :
    (L m c p).x q (ix3 b t k) = m ((c : Thread nD τ).loc main_arg0) (ix3 b' T k : S8x256x1024.Idx) :=
  (ld_apply (ms0_0 p) (hs0_0 p) (iblk m c 0 p) ![4 * q.val, 0, 0] S4x64x1024.size (inb_x q) (ix3 b t k : S4x64x1024.Idx) (ix3 b' t k : S8x64x1024.Idx) (fun (a : Fin 3) => match a with
    | ⟨0, _⟩ => hb
    | ⟨1, _⟩ => (Nat.zero_add t.val).symm
    | ⟨2, _⟩ => (Nat.zero_add k.val).symm)).trans
    ((block0 m c p (ix3 b' t k : S8x64x1024.Idx) (ix3 b' T k : S8x256x1024.Idx) rfl hT rfl).trans (congrFun (V_main_arg0 m c) _))

theorem L_sh (c : Dev nD) (p : Fin cfg0.N) (k : Fin 1024) :
    (L m c p).sh (ix3 0 0 k) = m ((c : Thread nD τ).loc main_arg1) (ix2 8 ⟨k.val, by omega⟩ : S16x6144.Idx) :=
  (ld_apply (ms0_1 p) (hs0_1 p) (iblk m c 1 p) ![0, 0, 0] S1x1x1024.size inb_S1x1x1024_S1x1x1024_0_0_0 (ix3 0 0 k : S1x1x1024.Idx) (ix3 0 0 k : S1x1x1024.Idx) (fun (a : Fin 3) => match a with
    | ⟨0, _⟩ => rfl
    | ⟨1, _⟩ => rfl
    | ⟨2, _⟩ => (Nat.zero_add k.val).symm)).trans
    ((block1 m c p (ix3 0 0 k : S1x1x1024.Idx) (ix3 8 0 ⟨k.val, by omega⟩ : S16x1x6144.Idx) rfl rfl rfl).trans (entry_v0 m c _ _))

theorem L_sc (c : Dev nD) (p : Fin cfg0.N) (k : Fin 1024) :
    (L m c p).sc (ix3 0 0 k) = m ((c : Thread nD τ).loc main_arg1) (ix2 8 ⟨1024 + k.val, by omega⟩ : S16x6144.Idx) :=
  (ld_apply (ms0_2 p) (hs0_2 p) (iblk m c 2 p) ![0, 0, 0] S1x1x1024.size inb_S1x1x1024_S1x1x1024_0_0_0 (ix3 0 0 k : S1x1x1024.Idx) (ix3 0 0 k : S1x1x1024.Idx) (fun (a : Fin 3) => match a with
    | ⟨0, _⟩ => rfl
    | ⟨1, _⟩ => rfl
    | ⟨2, _⟩ => (Nat.zero_add k.val).symm)).trans
    ((block2 m c p (ix3 0 0 k : S1x1x1024.Idx) (ix3 8 0 ⟨1024 + k.val, by omega⟩ : S16x1x6144.Idx) rfl rfl rfl).trans (entry_v0 m c _ _))

theorem L_g (c : Dev nD) (p : Fin cfg0.N) (k : Fin 1024) : (L m c p).g (ix2 0 k) = m ((c : Thread nD τ).loc main_arg2) (ix1 k : S1024.Idx) :=
  (ld_apply (ms0_3 p) (hs0_3 p) (iblk m c 3 p) ![0, 0] S1x1024.size inb_S1x1024_S1x1024_0_0 (ix2 0 k : S1x1024.Idx) (ix2 0 k : S1x1024.Idx) (fun (a : Fin 2) => match a with
    | ⟨0, _⟩ => rfl
    | ⟨1, _⟩ => (Nat.zero_add k.val).symm)).trans
    ((block3 m c p _ (ix2 0 k : S1x1024.Idx) rfl rfl).trans (entry_v1 m c _))

theorem L_w (c : Dev nD) (p : Fin cfg0.N) (s : Fin 7) (e j : Fin 1024) (j' : Fin 7168) (hj : j'.val = 1024 * s.val + j.val) :
    (L m c p).w s (ix2 e j) = m ((c : Thread nD τ).loc main_arg3) (ix2 e j' : S1024x7168.Idx) :=
  (ld_apply (ms0_4 p) (hs0_4 p) (iblk m c 4 p) ![0, 1024 * s.val] S1024x1024.size (inb_w s) (ix2 e j : S1024x1024.Idx) (ix2 e j' : S1024x7168.Idx) (fun (a : Fin 2) => match a with
    | ⟨0, _⟩ => (Nat.zero_add e.val).symm
    | ⟨1, _⟩ => hj)).trans
    ((block4 m c p _ (ix2 e j' : S1024x7168.Idx) rfl rfl).trans (congrFun (entry_v2 m c) _))

theorem L_cw (c : Dev nD) (p : Fin cfg0.N) (i : Fin 4) (k : Fin 8) (j : Fin 128) (j' : Fin 1024) (hj : j'.val = 128 * k.val + j.val) :
    (L m c p).cw i k (ix2 0 j) = Ideal.ofBits .f32 0x3F000000#32 * m ((c : Thread nD τ).loc main_arg5) (ix2 i j' : S4x1024.Idx) :=
  (ld_apply (ms0_6 p) (hs0_6 p) (iblk m c 6 p) ![i.val, 128 * k.val] S1x128.size (inb_cw i k) (ix2 0 j : S1x128.Idx) (ix2 i j' : S4x1024.Idx) (fun (a : Fin 2) => match a with
    | ⟨0, _⟩ => rfl
    | ⟨1, _⟩ => hj)).trans
    ((block6 m c p _ (ix2 i j' : S4x1024.Idx) rfl rfl).trans (entry_v5 m c _ _))

theorem L_cb (c : Dev nD) (p : Fin cfg0.N) (k : Fin 8) (j : Fin 128) (j' : Fin 1024) (hj : j'.val = 128 * k.val + j.val) :
    (L m c p).cb k (ix2 0 j) = Ideal.ofBits .f32 0x3F000000#32 * m ((c : Thread nD τ).loc main_arg6) (ix1 j' : S1024.Idx) :=
  (ld_apply (ms0_7 p) (hs0_7 p) (iblk m c 7 p) ![0, 128 * k.val] S1x128.size (inb_cb k) (ix2 0 j : S1x128.Idx) (ix2 0 j' : S1x1024.Idx) (fun (a : Fin 2) => match a with
    | ⟨0, _⟩ => rfl
    | ⟨1, _⟩ => hj)).trans
    ((block7 m c p _ (ix2 0 j' : S1x1024.Idx) rfl rfl).trans (entry_v8 m c _))

/-! ## The point's products, convolution and stored columns, of the whole arguments -/

/-- The arguments' own functions. -/
abbrev projM (c : Dev nD) := projE (m ((c : Thread nD τ).loc main_arg0)) (m ((c : Thread nD τ).loc main_arg1)) (m ((c : Thread nD τ).loc main_arg2)) (m ((c : Thread nD τ).loc main_arg3))
abbrev rowM (c : Dev nD) := rowE (m ((c : Thread nD τ).loc main_arg0)) (m ((c : Thread nD τ).loc main_arg1)) (m ((c : Thread nD τ).loc main_arg2)) (m ((c : Thread nD τ).loc main_arg3))
abbrev ptM (c : Dev nD) := ptX (m ((c : Thread nD τ).loc main_arg0)) (m ((c : Thread nD τ).loc main_arg1)) (m ((c : Thread nD τ).loc main_arg2)) (m ((c : Thread nD τ).loc main_arg3))
abbrev convM (c : Dev nD) := convG (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6))
abbrev actM (c : Dev nD) := actG (m ((c : Thread nD τ).loc main_arg0)) (m ((c : Thread nD τ).loc main_arg1)) (m ((c : Thread nD τ).loc main_arg2)) (m ((c : Thread nD τ).loc main_arg3))

theorem acc_at (c : Dev nD) (p : Fin cfg0.N) (q : Fin 2) (s : Fin 7) (b : Fin 4) (t : Fin 64) (j : Fin 1024)
    (b' : Fin 8) (hb : b'.val = 4 * q.val + b.val) (T : Fin 256) (hT : T.val = p.val * 64 + t.val) (j' : Fin 7168) (hj : j'.val = 1024 * s.val + j.val) :
    acc (L m c p) q s (ix2 (fl b t) j) = projM m c b' T j' := by
  rw [acc_apply]
  unfold projM projE
  have h0 : (fun k => (L m c p).x q (ix3 b t k)) = fun k => m ((c : Thread nD τ).loc main_arg0) (ix3 b' T k : S8x256x1024.Idx) := funext fun k => L_x m c p q b t k b' hb T hT
  have h1 : (fun k => (L m c p).sh (ix3 0 0 k)) = fun k => m ((c : Thread nD τ).loc main_arg1) (ix2 8 ⟨k.val, by omega⟩ : S16x6144.Idx) := funext fun k => L_sh m c p k
  have h2 : (fun k => (L m c p).sc (ix3 0 0 k)) = fun k => m ((c : Thread nD τ).loc main_arg1) (ix2 8 ⟨1024 + k.val, by omega⟩ : S16x6144.Idx) := funext fun k => L_sc m c p k
  have h3 : (fun k => (L m c p).g (ix2 0 k)) = fun k => m ((c : Thread nD τ).loc main_arg2) (ix1 k : S1024.Idx) := funext fun k => L_g m c p k
  rw [h0, h1, h2, h3]
  exact Finset.sum_congr rfl fun e _ => congrArg _ (L_w m c p s e j j' hj)

theorem products (c : Dev nD) (p : Fin cfg0.N) : Products (L m c p) (ptM m c p.val) := by
  intro n hn t j
  have hp : p.val < 4 := lt_of_lt_of_eq p.isLt N_0
  rw [part_apply]
  refine (acc_at m c p _ 0 _ t _ ⟨n / 8 % 8, by omega⟩ (by show n / 8 % 8 = 4 * (n / 32 % 2) + n / 8 % 4; omega)
    ⟨p.val * 64 + t.val, by omega⟩ rfl ⟨128 * (n % 8) + j.val, by omega⟩ (by show 128 * (n % 8) + j.val = 1024 * 0 + (128 * (n % 8) + j.val); omega)).trans ?_
  unfold ptM ptX rowE projM
  rw [dif_pos (by omega)]
  congr 1
  · exact Fin.ext (by show n / 8 % 8 = (24 + n / 8 % 8 + 8 * t.val) % 8; omega)
  · exact Fin.ext (by show p.val * 64 + t.val = 64 * p.val + (24 + n / 8 % 8 + 8 * t.val) / 8 - 3; omega)

/-- The convolved block of point `p`, at scratch row `r`: the time step 64 p + r / 8 of the batch entry r % 8. -/
theorem conv_at (c : Dev nD) (p : Fin cfg0.N) (k : Fin 8) (r : ℕ) (j : Fin 128) (s : ℕ) (hs : s = 64 * p.val + r / 8)
    (b : Fin 8) (hb : b.val = r % 8) (j' : Fin 1024) (hj : j'.val = 128 * k.val + j.val) :
    convE (L m c p) (ptM m c p.val) k r j = convM m c s b j' := by
  have hX : ∀ i : ℕ, ptM m c p.val k (8 * i + r) j = rowM m c (s + i) b j' := by
    intro i
    unfold ptM ptX rowM
    congr 1
    · omega
    · exact Fin.ext (by show (8 * i + r) % 8 = b.val; omega)
    · exact Fin.ext hj.symm
  have h0 := hX 0
  have h1 := hX 1
  have h2 := hX 2
  have h3 := hX 3
  rw [Nat.mul_zero, Nat.zero_add, Nat.add_zero] at h0
  unfold convE convM convG
  rw [h0, show 8 + r = 8 * 1 + r from rfl, h1, show 16 + r = 8 * 2 + r from rfl, h2, show 24 + r = 8 * 3 + r from rfl, h3]
  rw [L_cb m c p k j j' hj, L_cw m c p 0 k j j' hj, L_cw m c p 1 k j j' hj, L_cw m c p 2 k j j' hj, L_cw m c p 3 k j j' hj]

/-- The last point's extra step: the time step 256, its fourth tap on a zero. -/
theorem end_at (c : Dev nD) (p : Fin cfg0.N) (hp : p.val = 3) (k : Fin 8) (r : Fin 8) (j : Fin 128) (j' : Fin 1024) (hj : j'.val = 128 * k.val + j.val) :
    endE (L m c p) (ptM m c p.val) k r.val j = convM m c 256 r j' := by
  have hX : ∀ i : ℕ, ptM m c p.val k (512 + 8 * i + r.val) j = rowM m c (256 + i) r j' := by
    intro i
    unfold ptM ptX rowM
    congr 1
    · omega
    · exact Fin.ext (by show (512 + 8 * i + r.val) % 8 = r.val; omega)
    · exact Fin.ext hj.symm
  have h0 := hX 0
  have h1 := hX 1
  have h2 := hX 2
  have h3 : rowE (m ((c : Thread nD τ).loc main_arg0)) (m ((c : Thread nD τ).loc main_arg1)) (m ((c : Thread nD τ).loc main_arg2)) (m ((c : Thread nD τ).loc main_arg3)) (256 + 3) r j' = 0 := by
    unfold rowE
    rw [dif_neg (by omega)]
  rw [Nat.add_zero] at h0
  unfold endE convM convG
  rw [show 512 + r.val = 512 + 8 * 0 + r.val from rfl, h0, show 520 + r.val = 512 + 8 * 1 + r.val from rfl, h1,
    show 528 + r.val = 512 + 8 * 2 + r.val from rfl, h2, h3]
  rw [L_cb m c p k j j' hj, L_cw m c p 0 k j j' hj, L_cw m c p 1 k j j' hj, L_cw m c p 2 k j j' hj, mul_zero, add_zero, add_zero]

/-- The stored block of point `p`. -/
theorem act_at (c : Dev nD) (p : Fin cfg0.N) (b : Fin 8) (t : Fin 64) (j : Fin 2048) (T : Fin 256) (hT : T.val = p.val * 64 + t.val) :
    actE (L m c p) b t j = actM m c b T j := by
  unfold actE actM actG
  exact acc_at m c p ⟨b.val / 4, by omega⟩ ⟨3 + j.val / 1024, by omega⟩ ⟨b.val % 4, by omega⟩ t ⟨j.val % 1024, by omega⟩ b (by show b.val = 4 * (b.val / 4) + b.val % 4; omega)
    T hT ⟨3072 + j.val, by omega⟩ (by show 3072 + j.val = 1024 * (3 + j.val / 1024) + j.val % 1024; omega)

end

end Cert.CtxMath

end
-- ==== Proof.CtxPiecesA.lean ====
/- The stores of the run at the first point are the written-out lists of `CtxPieces`. -/
module

public import proofs.«01_k».proof.Proof.CtxPieces

@[expose] public section

set_option maxRecDepth 16384

noncomputable section

namespace Cert.CtxPiecesA

open Cert.CtxPieces Cert.CtxIdeal Cert.CtxIdeal.Gen Cert.CtxIdealRun Idealize.ShloMosaic

variable {F : FTy → Type} [FloatOps F]

section
variable (c : Dev nD) (i : grid0.Coords) (arg1 : Memref sig .tc .vmem S8x64x1024 .f32) (harg1 : arg1.IsWhole) (arg2 : Memref sig .tc .vmem S1x1x1024 .f32) (harg2 : arg2.IsWhole) (arg3 : Memref sig .tc .vmem S1x1x1024 .f32) (harg3 : arg3.IsWhole) (arg4 : Memref sig .tc .vmem S1x1024 .f32) (harg4 : arg4.IsWhole) (arg5 : Memref sig .tc .vmem S1024x7168 .bf16) (harg5 : arg5.IsWhole) (arg6 : Memref sig .tc .vmem S1x2048 .f32) (harg6 : arg6.IsWhole) (arg7 : Memref sig .tc .vmem S4x1024 .f32) (harg7 : arg7.IsWhole) (arg8 : Memref sig .tc .vmem S1x1024 .f32) (harg8 : arg8.IsWhole) (arg9 : Memref sig .tc .vmem S8x512x128 .f32) (harg9 : arg9.IsWhole) (arg10 : Memref sig .tc .vmem S8x8x128 .f32) (harg10 : arg10.IsWhole) (arg11 : Memref sig .tc .vmem S8x64x2048 .bf16) (harg11 : arg11.IsWhole) (arg12 : Memref sig .tc .vmem S8x536x128 .f32) (harg12 : arg12.IsWhole)
    (hc0 : cond0 i) (x0 : Vec F S8x64x1024 .f32) (x1 : Vec F S1x1x1024 .f32) (x2 : Vec F S1x1x1024 .f32) (x3 : Vec F S1x1024 .f32) (x4 : Vec F S1024x7168 .bf16) (x5 : Vec F S1x2048 .f32) (x6 : Vec F S4x1024 .f32) (x7 : Vec F S1x1024 .f32) (fS : arg12.view.ty.Contents (Elt F))

set_option maxHeartbeats 2000000

theorem h0 : runA.sl.HS_65 c arg1 harg1 arg2 harg2 arg3 harg3 arg4 harg4 arg5 harg5 x0 x1 x2 x3 x4 = partList (loads arg1 harg1 arg2 harg2 arg3 harg3 arg4 harg4 arg5 harg5 arg6 harg6 arg7 harg7 arg8 harg8 x0 x1 x2 x3 x4 x5 x6 x7) cleared 64 := by
  unfold runA.sl.HS_65
  rfl

theorem h1 : runA.sl.HS_66 c arg1 harg1 arg2 harg2 arg3 harg3 arg4 harg4 arg5 harg5 arg12 x0 x1 x2 x3 x4 fS = keptList arg12 fS (loads arg1 harg1 arg2 harg2 arg3 harg3 arg4 harg4 arg5 harg5 arg6 harg6 arg7 harg7 arg8 harg8 x0 x1 x2 x3 x4 x5 x6 x7) cleared 1 := by
  simp only [runA.sl.HS_66, runA.sl.r, runA.sl.r_1, runA.sl.r_10, runA.sl.r_11, runA.sl.r_12, runA.sl.r_13, runA.sl.r_14, runA.sl.r_15, runA.sl.r_16, runA.sl.r_17, runA.sl.r_18, runA.sl.r_19, runA.sl.r_2, runA.sl.r_20, runA.sl.r_21, runA.sl.r_22, runA.sl.r_23, runA.sl.r_24, runA.sl.r_25, runA.sl.r_26, runA.sl.r_27, runA.sl.r_28, runA.sl.r_29, runA.sl.r_3, runA.sl.r_30, runA.sl.r_31, runA.sl.r_32, runA.sl.r_33, runA.sl.r_34, runA.sl.r_35, runA.sl.r_36, runA.sl.r_37, runA.sl.r_38, runA.sl.r_39, runA.sl.r_4, runA.sl.r_40, runA.sl.r_41, runA.sl.r_42, runA.sl.r_43, runA.sl.r_44, runA.sl.r_45, runA.sl.r_46, runA.sl.r_47, runA.sl.r_48, runA.sl.r_49, runA.sl.r_5, runA.sl.r_50, runA.sl.r_6, runA.sl.r_7, runA.sl.r_8, runA.sl.r_9]
  rw [h0 c arg1 harg1 arg2 harg2 arg3 harg3 arg4 harg4 arg5 harg5 arg6 harg6 arg7 harg7 arg8 harg8 x0 x1 x2 x3 x4 x5 x6 x7]
  rfl

theorem h2 : runA.sl.HS_67 c arg1 harg1 arg2 harg2 arg3 harg3 arg4 harg4 arg5 harg5 arg12 x0 x1 x2 x3 x4 fS = keptList arg12 fS (loads arg1 harg1 arg2 harg2 arg3 harg3 arg4 harg4 arg5 harg5 arg6 harg6 arg7 harg7 arg8 harg8 x0 x1 x2 x3 x4 x5 x6 x7) cleared 2 := by
  simp only [runA.sl.HS_67, runA.sl.r, runA.sl.r_1, runA.sl.r_10, runA.sl.r_11, runA.sl.r_12, runA.sl.r_13, runA.sl.r_14, runA.sl.r_15, runA.sl.r_16, runA.sl.r_17, runA.sl.r_18, runA.sl.r_19, runA.sl.r_2, runA.sl.r_20, runA.sl.r_21, runA.sl.r_22, runA.sl.r_23, runA.sl.r_24, runA.sl.r_25, runA.sl.r_26, runA.sl.r_27, runA.sl.r_28, runA.sl.r_29, runA.sl.r_3, runA.sl.r_30, runA.sl.r_31, runA.sl.r_32, runA.sl.r_33, runA.sl.r_34, runA.sl.r_35, runA.sl.r_36, runA.sl.r_37, runA.sl.r_38, runA.sl.r_39, runA.sl.r_4, runA.sl.r_40, runA.sl.r_41, runA.sl.r_42, runA.sl.r_43, runA.sl.r_44, runA.sl.r_45, runA.sl.r_46, runA.sl.r_47, runA.sl.r_48, runA.sl.r_49, runA.sl.r_5, runA.sl.r_50, runA.sl.r_6, runA.sl.r_7, runA.sl.r_8, runA.sl.r_9]
  rw [h1 c arg1 harg1 arg2 harg2 arg3 harg3 arg4 harg4 arg5 harg5 arg6 harg6 arg7 harg7 arg8 harg8 arg12 x0 x1 x2 x3 x4 x5 x6 x7 fS]
  rfl

theorem h3 : runA.sl.HS_68 c arg1 harg1 arg2 harg2 arg3 harg3 arg4 harg4 arg5 harg5 arg12 x0 x1 x2 x3 x4 fS = keptList arg12 fS (loads arg1 harg1 arg2 harg2 arg3 harg3 arg4 harg4 arg5 harg5 arg6 harg6 arg7 harg7 arg8 harg8 x0 x1 x2 x3 x4 x5 x6 x7) cleared 3 := by
  simp only [runA.sl.HS_68, runA.sl.r, runA.sl.r_1, runA.sl.r_10, runA.sl.r_11, runA.sl.r_12, runA.sl.r_13, runA.sl.r_14, runA.sl.r_15, runA.sl.r_16, runA.sl.r_17, runA.sl.r_18, runA.sl.r_19, runA.sl.r_2, runA.sl.r_20, runA.sl.r_21, runA.sl.r_22, runA.sl.r_23, runA.sl.r_24, runA.sl.r_25, runA.sl.r_26, runA.sl.r_27, runA.sl.r_28, runA.sl.r_29, runA.sl.r_3, runA.sl.r_30, runA.sl.r_31, runA.sl.r_32, runA.sl.r_33, runA.sl.r_34, runA.sl.r_35, runA.sl.r_36, runA.sl.r_37, runA.sl.r_38, runA.sl.r_39, runA.sl.r_4, runA.sl.r_40, runA.sl.r_41, runA.sl.r_42, runA.sl.r_43, runA.sl.r_44, runA.sl.r_45, runA.sl.r_46, runA.sl.r_47, runA.sl.r_48, runA.sl.r_49, runA.sl.r_5, runA.sl.r_50, runA.sl.r_6, runA.sl.r_7, runA.sl.r_8, runA.sl.r_9]
  rw [h2 c arg1 harg1 arg2 harg2 arg3 harg3 arg4 harg4 arg5 harg5 arg6 harg6 arg7 harg7 arg8 harg8 arg12 x0 x1 x2 x3 x4 x5 x6 x7 fS]
  rfl

theorem h4 : runA.sl.HS_69 c arg1 harg1 arg2 harg2 arg3 harg3 arg4 harg4 arg5 harg5 arg12 x0 x1 x2 x3 x4 fS = keptList arg12 fS (loads arg1 harg1 arg2 harg2 arg3 harg3 arg4 harg4 arg5 harg5 arg6 harg6 arg7 harg7 arg8 harg8 x0 x1 x2 x3 x4 x5 x6 x7) cleared 4 := by
  simp only [runA.sl.HS_69, runA.sl.r, runA.sl.r_1, runA.sl.r_10, runA.sl.r_11, runA.sl.r_12, runA.sl.r_13, runA.sl.r_14, runA.sl.r_15, runA.sl.r_16, runA.sl.r_17, runA.sl.r_18, runA.sl.r_19, runA.sl.r_2, runA.sl.r_20, runA.sl.r_21, runA.sl.r_22, runA.sl.r_23, runA.sl.r_24, runA.sl.r_25, runA.sl.r_26, runA.sl.r_27, runA.sl.r_28, runA.sl.r_29, runA.sl.r_3, runA.sl.r_30, runA.sl.r_31, runA.sl.r_32, runA.sl.r_33, runA.sl.r_34, runA.sl.r_35, runA.sl.r_36, runA.sl.r_37, runA.sl.r_38, runA.sl.r_39, runA.sl.r_4, runA.sl.r_40, runA.sl.r_41, runA.sl.r_42, runA.sl.r_43, runA.sl.r_44, runA.sl.r_45, runA.sl.r_46, runA.sl.r_47, runA.sl.r_48, runA.sl.r_49, runA.sl.r_5, runA.sl.r_50, runA.sl.r_6, runA.sl.r_7, runA.sl.r_8, runA.sl.r_9]
  rw [h3 c arg1 harg1 arg2 harg2 arg3 harg3 arg4 harg4 arg5 harg5 arg6 harg6 arg7 harg7 arg8 harg8 arg12 x0 x1 x2 x3 x4 x5 x6 x7 fS]
  rfl

theorem h5 : runA.sl.HS_70 c arg1 harg1 arg2 harg2 arg3 harg3 arg4 harg4 arg5 harg5 arg12 x0 x1 x2 x3 x4 fS = keptList arg12 fS (loads arg1 harg1 arg2 harg2 arg3 harg3 arg4 harg4 arg5 harg5 arg6 harg6 arg7 harg7 arg8 harg8 x0 x1 x2 x3 x4 x5 x6 x7) cleared 5 := by
  simp only [runA.sl.HS_70, runA.sl.r, runA.sl.r_1, runA.sl.r_10, runA.sl.r_11, runA.sl.r_12, runA.sl.r_13, runA.sl.r_14, runA.sl.r_15, runA.sl.r_16, runA.sl.r_17, runA.sl.r_18, runA.sl.r_19, runA.sl.r_2, runA.sl.r_20, runA.sl.r_21, runA.sl.r_22, runA.sl.r_23, runA.sl.r_24, runA.sl.r_25, runA.sl.r_26, runA.sl.r_27, runA.sl.r_28, runA.sl.r_29, runA.sl.r_3, runA.sl.r_30, runA.sl.r_31, runA.sl.r_32, runA.sl.r_33, runA.sl.r_34, runA.sl.r_35, runA.sl.r_36, runA.sl.r_37, runA.sl.r_38, runA.sl.r_39, runA.sl.r_4, runA.sl.r_40, runA.sl.r_41, runA.sl.r_42, runA.sl.r_43, runA.sl.r_44, runA.sl.r_45, runA.sl.r_46, runA.sl.r_47, runA.sl.r_48, runA.sl.r_49, runA.sl.r_5, runA.sl.r_50, runA.sl.r_6, runA.sl.r_7, runA.sl.r_8, runA.sl.r_9]
  rw [h4 c arg1 harg1 arg2 harg2 arg3 harg3 arg4 harg4 arg5 harg5 arg6 harg6 arg7 harg7 arg8 harg8 arg12 x0 x1 x2 x3 x4 x5 x6 x7 fS]
  rfl

theorem h6 : runA.sl.HS_71 c arg1 harg1 arg2 harg2 arg3 harg3 arg4 harg4 arg5 harg5 arg12 x0 x1 x2 x3 x4 fS = keptList arg12 fS (loads arg1 harg1 arg2 harg2 arg3 harg3 arg4 harg4 arg5 harg5 arg6 harg6 arg7 harg7 arg8 harg8 x0 x1 x2 x3 x4 x5 x6 x7) cleared 6 := by
  simp only [runA.sl.HS_71, runA.sl.r, runA.sl.r_1, runA.sl.r_10, runA.sl.r_11, runA.sl.r_12, runA.sl.r_13, runA.sl.r_14, runA.sl.r_15, runA.sl.r_16, runA.sl.r_17, runA.sl.r_18, runA.sl.r_19, runA.sl.r_2, runA.sl.r_20, runA.sl.r_21, runA.sl.r_22, runA.sl.r_23, runA.sl.r_24, runA.sl.r_25, runA.sl.r_26, runA.sl.r_27, runA.sl.r_28, runA.sl.r_29, runA.sl.r_3, runA.sl.r_30, runA.sl.r_31, runA.sl.r_32, runA.sl.r_33, runA.sl.r_34, runA.sl.r_35, runA.sl.r_36, runA.sl.r_37, runA.sl.r_38, runA.sl.r_39, runA.sl.r_4, runA.sl.r_40, runA.sl.r_41, runA.sl.r_42, runA.sl.r_43, runA.sl.r_44, runA.sl.r_45, runA.sl.r_46, runA.sl.r_47, runA.sl.r_48, runA.sl.r_49, runA.sl.r_5, runA.sl.r_50, runA.sl.r_6, runA.sl.r_7, runA.sl.r_8, runA.sl.r_9]
  rw [h5 c arg1 harg1 arg2 harg2 arg3 harg3 arg4 harg4 arg5 harg5 arg6 harg6 arg7 harg7 arg8 harg8 arg12 x0 x1 x2 x3 x4 x5 x6 x7 fS]
  rfl

theorem h7 : runA.sl.HS_72 c arg1 harg1 arg2 harg2 arg3 harg3 arg4 harg4 arg5 harg5 arg12 x0 x1 x2 x3 x4 fS = keptList arg12 fS (loads arg1 harg1 arg2 harg2 arg3 harg3 arg4 harg4 arg5 harg5 arg6 harg6 arg7 harg7 arg8 harg8 x0 x1 x2 x3 x4 x5 x6 x7) cleared 7 := by
  simp only [runA.sl.HS_72, runA.sl.r, runA.sl.r_1, runA.sl.r_10, runA.sl.r_11, runA.sl.r_12, runA.sl.r_13, runA.sl.r_14, runA.sl.r_15, runA.sl.r_16, runA.sl.r_17, runA.sl.r_18, runA.sl.r_19, runA.sl.r_2, runA.sl.r_20, runA.sl.r_21, runA.sl.r_22, runA.sl.r_23, runA.sl.r_24, runA.sl.r_25, runA.sl.r_26, runA.sl.r_27, runA.sl.r_28, runA.sl.r_29, runA.sl.r_3, runA.sl.r_30, runA.sl.r_31, runA.sl.r_32, runA.sl.r_33, runA.sl.r_34, runA.sl.r_35, runA.sl.r_36, runA.sl.r_37, runA.sl.r_38, runA.sl.r_39, runA.sl.r_4, runA.sl.r_40, runA.sl.r_41, runA.sl.r_42, runA.sl.r_43, runA.sl.r_44, runA.sl.r_45, runA.sl.r_46, runA.sl.r_47, runA.sl.r_48, runA.sl.r_49, runA.sl.r_5, runA.sl.r_50, runA.sl.r_6, runA.sl.r_7, runA.sl.r_8, runA.sl.r_9]
  rw [h6 c arg1 harg1 arg2 harg2 arg3 harg3 arg4 harg4 arg5 harg5 arg6 harg6 arg7 harg7 arg8 harg8 arg12 x0 x1 x2 x3 x4 x5 x6 x7 fS]
  rfl

theorem kept_eq : (runA c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 fS).2.2.2.1 = keptList arg12 fS (loads arg1 harg1 arg2 harg2 arg3 harg3 arg4 harg4 arg5 harg5 arg6 harg6 arg7 harg7 arg8 harg8 x0 x1 x2 x3 x4 x5 x6 x7) cleared 8 := by
  unfold runA
  simp only [runA.sl.r, runA.sl.r_1, runA.sl.r_10, runA.sl.r_11, runA.sl.r_12, runA.sl.r_13, runA.sl.r_14, runA.sl.r_15, runA.sl.r_16, runA.sl.r_17, runA.sl.r_18, runA.sl.r_19, runA.sl.r_2, runA.sl.r_20, runA.sl.r_21, runA.sl.r_22, runA.sl.r_23, runA.sl.r_24, runA.sl.r_25, runA.sl.r_26, runA.sl.r_27, runA.sl.r_28, runA.sl.r_29, runA.sl.r_3, runA.sl.r_30, runA.sl.r_31, runA.sl.r_32, runA.sl.r_33, runA.sl.r_34, runA.sl.r_35, runA.sl.r_36, runA.sl.r_37, runA.sl.r_38, runA.sl.r_39, runA.sl.r_4, runA.sl.r_40, runA.sl.r_41, runA.sl.r_42, runA.sl.r_43, runA.sl.r_44, runA.sl.r_45, runA.sl.r_46, runA.sl.r_47, runA.sl.r_48, runA.sl.r_49, runA.sl.r_5, runA.sl.r_50, runA.sl.r_6, runA.sl.r_7, runA.sl.r_8, runA.sl.r_9]
  rw [h7 c arg1 harg1 arg2 harg2 arg3 harg3 arg4 harg4 arg5 harg5 arg6 harg6 arg7 harg7 arg8 harg8 arg12 x0 x1 x2 x3 x4 x5 x6 x7 fS]
  rfl

theorem pr_eq : (runA c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 fS).2.2.1 = prList (loads arg1 harg1 arg2 harg2 arg3 harg3 arg4 harg4 arg5 harg5 arg6 harg6 arg7 harg7 arg8 harg8 x0 x1 x2 x3 x4 x5 x6 x7) := by
  unfold runA
  simp only [runA.sl.r, runA.sl.r_1, runA.sl.r_10, runA.sl.r_11, runA.sl.r_12, runA.sl.r_13, runA.sl.r_14, runA.sl.r_15, runA.sl.r_16, runA.sl.r_17, runA.sl.r_18, runA.sl.r_19, runA.sl.r_2, runA.sl.r_20, runA.sl.r_21, runA.sl.r_22, runA.sl.r_23, runA.sl.r_24, runA.sl.r_25, runA.sl.r_26, runA.sl.r_27, runA.sl.r_28, runA.sl.r_29, runA.sl.r_3, runA.sl.r_30, runA.sl.r_31, runA.sl.r_32, runA.sl.r_33, runA.sl.r_34, runA.sl.r_35, runA.sl.r_36, runA.sl.r_37, runA.sl.r_38, runA.sl.r_39, runA.sl.r_4, runA.sl.r_40, runA.sl.r_41, runA.sl.r_42, runA.sl.r_43, runA.sl.r_44, runA.sl.r_45, runA.sl.r_46, runA.sl.r_47, runA.sl.r_48, runA.sl.r_49, runA.sl.r_5, runA.sl.r_50, runA.sl.r_6, runA.sl.r_7, runA.sl.r_8, runA.sl.r_9]
  rfl

theorem z_eq : (runA c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 fS).1 = zList arg12 fS (loads arg1 harg1 arg2 harg2 arg3 harg3 arg4 harg4 arg5 harg5 arg6 harg6 arg7 harg7 arg8 harg8 x0 x1 x2 x3 x4 x5 x6 x7) cleared := by
  unfold runA
  simp only [runA.sl.r, runA.sl.r_1, runA.sl.r_10, runA.sl.r_11, runA.sl.r_12, runA.sl.r_13, runA.sl.r_14, runA.sl.r_15, runA.sl.r_16, runA.sl.r_17, runA.sl.r_18, runA.sl.r_19, runA.sl.r_2, runA.sl.r_20, runA.sl.r_21, runA.sl.r_22, runA.sl.r_23, runA.sl.r_24, runA.sl.r_25, runA.sl.r_26, runA.sl.r_27, runA.sl.r_28, runA.sl.r_29, runA.sl.r_3, runA.sl.r_30, runA.sl.r_31, runA.sl.r_32, runA.sl.r_33, runA.sl.r_34, runA.sl.r_35, runA.sl.r_36, runA.sl.r_37, runA.sl.r_38, runA.sl.r_39, runA.sl.r_4, runA.sl.r_40, runA.sl.r_41, runA.sl.r_42, runA.sl.r_43, runA.sl.r_44, runA.sl.r_45, runA.sl.r_46, runA.sl.r_47, runA.sl.r_48, runA.sl.r_49, runA.sl.r_5, runA.sl.r_50, runA.sl.r_6, runA.sl.r_7, runA.sl.r_8, runA.sl.r_9, h0 c arg1 harg1 arg2 harg2 arg3 harg3 arg4 harg4 arg5 harg5 arg6 harg6 arg7 harg7 arg8 harg8 x0 x1 x2 x3 x4 x5 x6 x7, h1 c arg1 harg1 arg2 harg2 arg3 harg3 arg4 harg4 arg5 harg5 arg6 harg6 arg7 harg7 arg8 harg8 arg12 x0 x1 x2 x3 x4 x5 x6 x7 fS, h2 c arg1 harg1 arg2 harg2 arg3 harg3 arg4 harg4 arg5 harg5 arg6 harg6 arg7 harg7 arg8 harg8 arg12 x0 x1 x2 x3 x4 x5 x6 x7 fS, h3 c arg1 harg1 arg2 harg2 arg3 harg3 arg4 harg4 arg5 harg5 arg6 harg6 arg7 harg7 arg8 harg8 arg12 x0 x1 x2 x3 x4 x5 x6 x7 fS, h4 c arg1 harg1 arg2 harg2 arg3 harg3 arg4 harg4 arg5 harg5 arg6 harg6 arg7 harg7 arg8 harg8 arg12 x0 x1 x2 x3 x4 x5 x6 x7 fS, h5 c arg1 harg1 arg2 harg2 arg3 harg3 arg4 harg4 arg5 harg5 arg6 harg6 arg7 harg7 arg8 harg8 arg12 x0 x1 x2 x3 x4 x5 x6 x7 fS, h6 c arg1 harg1 arg2 harg2 arg3 harg3 arg4 harg4 arg5 harg5 arg6 harg6 arg7 harg7 arg8 harg8 arg12 x0 x1 x2 x3 x4 x5 x6 x7 fS, h7 c arg1 harg1 arg2 harg2 arg3 harg3 arg4 harg4 arg5 harg5 arg6 harg6 arg7 harg7 arg8 harg8 arg12 x0 x1 x2 x3 x4 x5 x6 x7 fS]
  rfl

theorem end_eq : (runA c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 fS).2.1 = endList arg12 fS (loads arg1 harg1 arg2 harg2 arg3 harg3 arg4 harg4 arg5 harg5 arg6 harg6 arg7 harg7 arg8 harg8 x0 x1 x2 x3 x4 x5 x6 x7) cleared := by
  unfold runA
  simp only [runA.sl.r, runA.sl.r_1, runA.sl.r_10, runA.sl.r_11, runA.sl.r_12, runA.sl.r_13, runA.sl.r_14, runA.sl.r_15, runA.sl.r_16, runA.sl.r_17, runA.sl.r_18, runA.sl.r_19, runA.sl.r_2, runA.sl.r_20, runA.sl.r_21, runA.sl.r_22, runA.sl.r_23, runA.sl.r_24, runA.sl.r_25, runA.sl.r_26, runA.sl.r_27, runA.sl.r_28, runA.sl.r_29, runA.sl.r_3, runA.sl.r_30, runA.sl.r_31, runA.sl.r_32, runA.sl.r_33, runA.sl.r_34, runA.sl.r_35, runA.sl.r_36, runA.sl.r_37, runA.sl.r_38, runA.sl.r_39, runA.sl.r_4, runA.sl.r_40, runA.sl.r_41, runA.sl.r_42, runA.sl.r_43, runA.sl.r_44, runA.sl.r_45, runA.sl.r_46, runA.sl.r_47, runA.sl.r_48, runA.sl.r_49, runA.sl.r_5, runA.sl.r_50, runA.sl.r_6, runA.sl.r_7, runA.sl.r_8, runA.sl.r_9, h0 c arg1 harg1 arg2 harg2 arg3 harg3 arg4 harg4 arg5 harg5 arg6 harg6 arg7 harg7 arg8 harg8 x0 x1 x2 x3 x4 x5 x6 x7, h1 c arg1 harg1 arg2 harg2 arg3 harg3 arg4 harg4 arg5 harg5 arg6 harg6 arg7 harg7 arg8 harg8 arg12 x0 x1 x2 x3 x4 x5 x6 x7 fS, h2 c arg1 harg1 arg2 harg2 arg3 harg3 arg4 harg4 arg5 harg5 arg6 harg6 arg7 harg7 arg8 harg8 arg12 x0 x1 x2 x3 x4 x5 x6 x7 fS, h3 c arg1 harg1 arg2 harg2 arg3 harg3 arg4 harg4 arg5 harg5 arg6 harg6 arg7 harg7 arg8 harg8 arg12 x0 x1 x2 x3 x4 x5 x6 x7 fS, h4 c arg1 harg1 arg2 harg2 arg3 harg3 arg4 harg4 arg5 harg5 arg6 harg6 arg7 harg7 arg8 harg8 arg12 x0 x1 x2 x3 x4 x5 x6 x7 fS, h5 c arg1 harg1 arg2 harg2 arg3 harg3 arg4 harg4 arg5 harg5 arg6 harg6 arg7 harg7 arg8 harg8 arg12 x0 x1 x2 x3 x4 x5 x6 x7 fS, h6 c arg1 harg1 arg2 harg2 arg3 harg3 arg4 harg4 arg5 harg5 arg6 harg6 arg7 harg7 arg8 harg8 arg12 x0 x1 x2 x3 x4 x5 x6 x7 fS, h7 c arg1 harg1 arg2 harg2 arg3 harg3 arg4 harg4 arg5 harg5 arg6 harg6 arg7 harg7 arg8 harg8 arg12 x0 x1 x2 x3 x4 x5 x6 x7 fS]
  rfl

end

end Cert.CtxPiecesA

end
-- ==== Proof.CtxPiecesB.lean ====
/- The stores of the run at the later points are the written-out lists of `CtxPieces`. -/
module

public import proofs.«01_k».proof.Proof.CtxPieces

@[expose] public section

set_option maxRecDepth 16384

noncomputable section

namespace Cert.CtxPiecesB

open Cert.CtxPieces Cert.CtxIdeal Cert.CtxIdeal.Gen Cert.CtxIdealRun Idealize.ShloMosaic

variable {F : FTy → Type} [FloatOps F]

section
variable (c : Dev nD) (i : grid0.Coords) (arg1 : Memref sig .tc .vmem S8x64x1024 .f32) (harg1 : arg1.IsWhole) (arg2 : Memref sig .tc .vmem S1x1x1024 .f32) (harg2 : arg2.IsWhole) (arg3 : Memref sig .tc .vmem S1x1x1024 .f32) (harg3 : arg3.IsWhole) (arg4 : Memref sig .tc .vmem S1x1024 .f32) (harg4 : arg4.IsWhole) (arg5 : Memref sig .tc .vmem S1024x7168 .bf16) (harg5 : arg5.IsWhole) (arg6 : Memref sig .tc .vmem S1x2048 .f32) (harg6 : arg6.IsWhole) (arg7 : Memref sig .tc .vmem S4x1024 .f32) (harg7 : arg7.IsWhole) (arg8 : Memref sig .tc .vmem S1x1024 .f32) (harg8 : arg8.IsWhole) (arg9 : Memref sig .tc .vmem S8x512x128 .f32) (harg9 : arg9.IsWhole) (arg10 : Memref sig .tc .vmem S8x8x128 .f32) (harg10 : arg10.IsWhole) (arg11 : Memref sig .tc .vmem S8x64x2048 .bf16) (harg11 : arg11.IsWhole) (arg12 : Memref sig .tc .vmem S8x536x128 .f32) (harg12 : arg12.IsWhole)
    (hc0 : ¬cond0 i) (x0 : Vec F S8x64x1024 .f32) (x1 : Vec F S1x1x1024 .f32) (x2 : Vec F S1x1x1024 .f32) (x3 : Vec F S1x1024 .f32) (x4 : Vec F S1024x7168 .bf16) (x5 : Vec F S1x2048 .f32) (x6 : Vec F S4x1024 .f32) (x7 : Vec F S1x1024 .f32) (fS : arg12.view.ty.Contents (Elt F))

set_option maxHeartbeats 2000000

theorem h0 : runB.sl.HS_64 c arg1 harg1 arg2 harg2 arg3 harg3 arg4 harg4 arg5 harg5 x0 x1 x2 x3 x4 = partList (loads arg1 harg1 arg2 harg2 arg3 harg3 arg4 harg4 arg5 harg5 arg6 harg6 arg7 harg7 arg8 harg8 x0 x1 x2 x3 x4 x5 x6 x7) [] 64 := by
  unfold runB.sl.HS_64
  rfl

theorem h1 : runB.sl.HS_65 c arg1 harg1 arg2 harg2 arg3 harg3 arg4 harg4 arg5 harg5 arg12 x0 x1 x2 x3 x4 fS = keptList arg12 fS (loads arg1 harg1 arg2 harg2 arg3 harg3 arg4 harg4 arg5 harg5 arg6 harg6 arg7 harg7 arg8 harg8 x0 x1 x2 x3 x4 x5 x6 x7) [] 1 := by
  simp only [runB.sl.HS_65, runB.sl.r, runB.sl.r_1, runB.sl.r_10, runB.sl.r_11, runB.sl.r_12, runB.sl.r_13, runB.sl.r_14, runB.sl.r_15, runB.sl.r_16, runB.sl.r_17, runB.sl.r_18, runB.sl.r_19, runB.sl.r_2, runB.sl.r_20, runB.sl.r_21, runB.sl.r_22, runB.sl.r_23, runB.sl.r_24, runB.sl.r_25, runB.sl.r_26, runB.sl.r_27, runB.sl.r_28, runB.sl.r_29, runB.sl.r_3, runB.sl.r_30, runB.sl.r_31, runB.sl.r_32, runB.sl.r_33, runB.sl.r_34, runB.sl.r_35, runB.sl.r_36, runB.sl.r_37, runB.sl.r_38, runB.sl.r_39, runB.sl.r_4, runB.sl.r_40, runB.sl.r_41, runB.sl.r_42, runB.sl.r_43, runB.sl.r_44, runB.sl.r_45, runB.sl.r_46, runB.sl.r_47, runB.sl.r_48, runB.sl.r_49, runB.sl.r_5, runB.sl.r_50, runB.sl.r_6, runB.sl.r_7, runB.sl.r_8, runB.sl.r_9]
  rw [h0 c arg1 harg1 arg2 harg2 arg3 harg3 arg4 harg4 arg5 harg5 arg6 harg6 arg7 harg7 arg8 harg8 x0 x1 x2 x3 x4 x5 x6 x7]
  rfl

theorem h2 : runB.sl.HS_66 c arg1 harg1 arg2 harg2 arg3 harg3 arg4 harg4 arg5 harg5 arg12 x0 x1 x2 x3 x4 fS = keptList arg12 fS (loads arg1 harg1 arg2 harg2 arg3 harg3 arg4 harg4 arg5 harg5 arg6 harg6 arg7 harg7 arg8 harg8 x0 x1 x2 x3 x4 x5 x6 x7) [] 2 := by
  simp only [runB.sl.HS_66, runB.sl.r, runB.sl.r_1, runB.sl.r_10, runB.sl.r_11, runB.sl.r_12, runB.sl.r_13, runB.sl.r_14, runB.sl.r_15, runB.sl.r_16, runB.sl.r_17, runB.sl.r_18, runB.sl.r_19, runB.sl.r_2, runB.sl.r_20, runB.sl.r_21, runB.sl.r_22, runB.sl.r_23, runB.sl.r_24, runB.sl.r_25, runB.sl.r_26, runB.sl.r_27, runB.sl.r_28, runB.sl.r_29, runB.sl.r_3, runB.sl.r_30, runB.sl.r_31, runB.sl.r_32, runB.sl.r_33, runB.sl.r_34, runB.sl.r_35, runB.sl.r_36, runB.sl.r_37, runB.sl.r_38, runB.sl.r_39, runB.sl.r_4, runB.sl.r_40, runB.sl.r_41, runB.sl.r_42, runB.sl.r_43, runB.sl.r_44, runB.sl.r_45, runB.sl.r_46, runB.sl.r_47, runB.sl.r_48, runB.sl.r_49, runB.sl.r_5, runB.sl.r_50, runB.sl.r_6, runB.sl.r_7, runB.sl.r_8, runB.sl.r_9]
  rw [h1 c arg1 harg1 arg2 harg2 arg3 harg3 arg4 harg4 arg5 harg5 arg6 harg6 arg7 harg7 arg8 harg8 arg12 x0 x1 x2 x3 x4 x5 x6 x7 fS]
  rfl

theorem h3 : runB.sl.HS_67 c arg1 harg1 arg2 harg2 arg3 harg3 arg4 harg4 arg5 harg5 arg12 x0 x1 x2 x3 x4 fS = keptList arg12 fS (loads arg1 harg1 arg2 harg2 arg3 harg3 arg4 harg4 arg5 harg5 arg6 harg6 arg7 harg7 arg8 harg8 x0 x1 x2 x3 x4 x5 x6 x7) [] 3 := by
  simp only [runB.sl.HS_67, runB.sl.r, runB.sl.r_1, runB.sl.r_10, runB.sl.r_11, runB.sl.r_12, runB.sl.r_13, runB.sl.r_14, runB.sl.r_15, runB.sl.r_16, runB.sl.r_17, runB.sl.r_18, runB.sl.r_19, runB.sl.r_2, runB.sl.r_20, runB.sl.r_21, runB.sl.r_22, runB.sl.r_23, runB.sl.r_24, runB.sl.r_25, runB.sl.r_26, runB.sl.r_27, runB.sl.r_28, runB.sl.r_29, runB.sl.r_3, runB.sl.r_30, runB.sl.r_31, runB.sl.r_32, runB.sl.r_33, runB.sl.r_34, runB.sl.r_35, runB.sl.r_36, runB.sl.r_37, runB.sl.r_38, runB.sl.r_39, runB.sl.r_4, runB.sl.r_40, runB.sl.r_41, runB.sl.r_42, runB.sl.r_43, runB.sl.r_44, runB.sl.r_45, runB.sl.r_46, runB.sl.r_47, runB.sl.r_48, runB.sl.r_49, runB.sl.r_5, runB.sl.r_50, runB.sl.r_6, runB.sl.r_7, runB.sl.r_8, runB.sl.r_9]
  rw [h2 c arg1 harg1 arg2 harg2 arg3 harg3 arg4 harg4 arg5 harg5 arg6 harg6 arg7 harg7 arg8 harg8 arg12 x0 x1 x2 x3 x4 x5 x6 x7 fS]
  rfl

theorem h4 : runB.sl.HS_68 c arg1 harg1 arg2 harg2 arg3 harg3 arg4 harg4 arg5 harg5 arg12 x0 x1 x2 x3 x4 fS = keptList arg12 fS (loads arg1 harg1 arg2 harg2 arg3 harg3 arg4 harg4 arg5 harg5 arg6 harg6 arg7 harg7 arg8 harg8 x0 x1 x2 x3 x4 x5 x6 x7) [] 4 := by
  simp only [runB.sl.HS_68, runB.sl.r, runB.sl.r_1, runB.sl.r_10, runB.sl.r_11, runB.sl.r_12, runB.sl.r_13, runB.sl.r_14, runB.sl.r_15, runB.sl.r_16, runB.sl.r_17, runB.sl.r_18, runB.sl.r_19, runB.sl.r_2, runB.sl.r_20, runB.sl.r_21, runB.sl.r_22, runB.sl.r_23, runB.sl.r_24, runB.sl.r_25, runB.sl.r_26, runB.sl.r_27, runB.sl.r_28, runB.sl.r_29, runB.sl.r_3, runB.sl.r_30, runB.sl.r_31, runB.sl.r_32, runB.sl.r_33, runB.sl.r_34, runB.sl.r_35, runB.sl.r_36, runB.sl.r_37, runB.sl.r_38, runB.sl.r_39, runB.sl.r_4, runB.sl.r_40, runB.sl.r_41, runB.sl.r_42, runB.sl.r_43, runB.sl.r_44, runB.sl.r_45, runB.sl.r_46, runB.sl.r_47, runB.sl.r_48, runB.sl.r_49, runB.sl.r_5, runB.sl.r_50, runB.sl.r_6, runB.sl.r_7, runB.sl.r_8, runB.sl.r_9]
  rw [h3 c arg1 harg1 arg2 harg2 arg3 harg3 arg4 harg4 arg5 harg5 arg6 harg6 arg7 harg7 arg8 harg8 arg12 x0 x1 x2 x3 x4 x5 x6 x7 fS]
  rfl

theorem h5 : runB.sl.HS_69 c arg1 harg1 arg2 harg2 arg3 harg3 arg4 harg4 arg5 harg5 arg12 x0 x1 x2 x3 x4 fS = keptList arg12 fS (loads arg1 harg1 arg2 harg2 arg3 harg3 arg4 harg4 arg5 harg5 arg6 harg6 arg7 harg7 arg8 harg8 x0 x1 x2 x3 x4 x5 x6 x7) [] 5 := by
  simp only [runB.sl.HS_69, runB.sl.r, runB.sl.r_1, runB.sl.r_10, runB.sl.r_11, runB.sl.r_12, runB.sl.r_13, runB.sl.r_14, runB.sl.r_15, runB.sl.r_16, runB.sl.r_17, runB.sl.r_18, runB.sl.r_19, runB.sl.r_2, runB.sl.r_20, runB.sl.r_21, runB.sl.r_22, runB.sl.r_23, runB.sl.r_24, runB.sl.r_25, runB.sl.r_26, runB.sl.r_27, runB.sl.r_28, runB.sl.r_29, runB.sl.r_3, runB.sl.r_30, runB.sl.r_31, runB.sl.r_32, runB.sl.r_33, runB.sl.r_34, runB.sl.r_35, runB.sl.r_36, runB.sl.r_37, runB.sl.r_38, runB.sl.r_39, runB.sl.r_4, runB.sl.r_40, runB.sl.r_41, runB.sl.r_42, runB.sl.r_43, runB.sl.r_44, runB.sl.r_45, runB.sl.r_46, runB.sl.r_47, runB.sl.r_48, runB.sl.r_49, runB.sl.r_5, runB.sl.r_50, runB.sl.r_6, runB.sl.r_7, runB.sl.r_8, runB.sl.r_9]
  rw [h4 c arg1 harg1 arg2 harg2 arg3 harg3 arg4 harg4 arg5 harg5 arg6 harg6 arg7 harg7 arg8 harg8 arg12 x0 x1 x2 x3 x4 x5 x6 x7 fS]
  rfl

theorem h6 : runB.sl.HS_70 c arg1 harg1 arg2 harg2 arg3 harg3 arg4 harg4 arg5 harg5 arg12 x0 x1 x2 x3 x4 fS = keptList arg12 fS (loads arg1 harg1 arg2 harg2 arg3 harg3 arg4 harg4 arg5 harg5 arg6 harg6 arg7 harg7 arg8 harg8 x0 x1 x2 x3 x4 x5 x6 x7) [] 6 := by
  simp only [runB.sl.HS_70, runB.sl.r, runB.sl.r_1, runB.sl.r_10, runB.sl.r_11, runB.sl.r_12, runB.sl.r_13, runB.sl.r_14, runB.sl.r_15, runB.sl.r_16, runB.sl.r_17, runB.sl.r_18, runB.sl.r_19, runB.sl.r_2, runB.sl.r_20, runB.sl.r_21, runB.sl.r_22, runB.sl.r_23, runB.sl.r_24, runB.sl.r_25, runB.sl.r_26, runB.sl.r_27, runB.sl.r_28, runB.sl.r_29, runB.sl.r_3, runB.sl.r_30, runB.sl.r_31, runB.sl.r_32, runB.sl.r_33, runB.sl.r_34, runB.sl.r_35, runB.sl.r_36, runB.sl.r_37, runB.sl.r_38, runB.sl.r_39, runB.sl.r_4, runB.sl.r_40, runB.sl.r_41, runB.sl.r_42, runB.sl.r_43, runB.sl.r_44, runB.sl.r_45, runB.sl.r_46, runB.sl.r_47, runB.sl.r_48, runB.sl.r_49, runB.sl.r_5, runB.sl.r_50, runB.sl.r_6, runB.sl.r_7, runB.sl.r_8, runB.sl.r_9]
  rw [h5 c arg1 harg1 arg2 harg2 arg3 harg3 arg4 harg4 arg5 harg5 arg6 harg6 arg7 harg7 arg8 harg8 arg12 x0 x1 x2 x3 x4 x5 x6 x7 fS]
  rfl

theorem h7 : runB.sl.HS_71 c arg1 harg1 arg2 harg2 arg3 harg3 arg4 harg4 arg5 harg5 arg12 x0 x1 x2 x3 x4 fS = keptList arg12 fS (loads arg1 harg1 arg2 harg2 arg3 harg3 arg4 harg4 arg5 harg5 arg6 harg6 arg7 harg7 arg8 harg8 x0 x1 x2 x3 x4 x5 x6 x7) [] 7 := by
  simp only [runB.sl.HS_71, runB.sl.r, runB.sl.r_1, runB.sl.r_10, runB.sl.r_11, runB.sl.r_12, runB.sl.r_13, runB.sl.r_14, runB.sl.r_15, runB.sl.r_16, runB.sl.r_17, runB.sl.r_18, runB.sl.r_19, runB.sl.r_2, runB.sl.r_20, runB.sl.r_21, runB.sl.r_22, runB.sl.r_23, runB.sl.r_24, runB.sl.r_25, runB.sl.r_26, runB.sl.r_27, runB.sl.r_28, runB.sl.r_29, runB.sl.r_3, runB.sl.r_30, runB.sl.r_31, runB.sl.r_32, runB.sl.r_33, runB.sl.r_34, runB.sl.r_35, runB.sl.r_36, runB.sl.r_37, runB.sl.r_38, runB.sl.r_39, runB.sl.r_4, runB.sl.r_40, runB.sl.r_41, runB.sl.r_42, runB.sl.r_43, runB.sl.r_44, runB.sl.r_45, runB.sl.r_46, runB.sl.r_47, runB.sl.r_48, runB.sl.r_49, runB.sl.r_5, runB.sl.r_50, runB.sl.r_6, runB.sl.r_7, runB.sl.r_8, runB.sl.r_9]
  rw [h6 c arg1 harg1 arg2 harg2 arg3 harg3 arg4 harg4 arg5 harg5 arg6 harg6 arg7 harg7 arg8 harg8 arg12 x0 x1 x2 x3 x4 x5 x6 x7 fS]
  rfl

theorem kept_eq : (runB c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 fS).2.2.2.1 = keptList arg12 fS (loads arg1 harg1 arg2 harg2 arg3 harg3 arg4 harg4 arg5 harg5 arg6 harg6 arg7 harg7 arg8 harg8 x0 x1 x2 x3 x4 x5 x6 x7) [] 8 := by
  unfold runB
  simp only [runB.sl.r, runB.sl.r_1, runB.sl.r_10, runB.sl.r_11, runB.sl.r_12, runB.sl.r_13, runB.sl.r_14, runB.sl.r_15, runB.sl.r_16, runB.sl.r_17, runB.sl.r_18, runB.sl.r_19, runB.sl.r_2, runB.sl.r_20, runB.sl.r_21, runB.sl.r_22, runB.sl.r_23, runB.sl.r_24, runB.sl.r_25, runB.sl.r_26, runB.sl.r_27, runB.sl.r_28, runB.sl.r_29, runB.sl.r_3, runB.sl.r_30, runB.sl.r_31, runB.sl.r_32, runB.sl.r_33, runB.sl.r_34, runB.sl.r_35, runB.sl.r_36, runB.sl.r_37, runB.sl.r_38, runB.sl.r_39, runB.sl.r_4, runB.sl.r_40, runB.sl.r_41, runB.sl.r_42, runB.sl.r_43, runB.sl.r_44, runB.sl.r_45, runB.sl.r_46, runB.sl.r_47, runB.sl.r_48, runB.sl.r_49, runB.sl.r_5, runB.sl.r_50, runB.sl.r_6, runB.sl.r_7, runB.sl.r_8, runB.sl.r_9]
  rw [h7 c arg1 harg1 arg2 harg2 arg3 harg3 arg4 harg4 arg5 harg5 arg6 harg6 arg7 harg7 arg8 harg8 arg12 x0 x1 x2 x3 x4 x5 x6 x7 fS]
  rfl

theorem pr_eq : (runB c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 fS).2.2.1 = prList (loads arg1 harg1 arg2 harg2 arg3 harg3 arg4 harg4 arg5 harg5 arg6 harg6 arg7 harg7 arg8 harg8 x0 x1 x2 x3 x4 x5 x6 x7) := by
  unfold runB
  simp only [runB.sl.r, runB.sl.r_1, runB.sl.r_10, runB.sl.r_11, runB.sl.r_12, runB.sl.r_13, runB.sl.r_14, runB.sl.r_15, runB.sl.r_16, runB.sl.r_17, runB.sl.r_18, runB.sl.r_19, runB.sl.r_2, runB.sl.r_20, runB.sl.r_21, runB.sl.r_22, runB.sl.r_23, runB.sl.r_24, runB.sl.r_25, runB.sl.r_26, runB.sl.r_27, runB.sl.r_28, runB.sl.r_29, runB.sl.r_3, runB.sl.r_30, runB.sl.r_31, runB.sl.r_32, runB.sl.r_33, runB.sl.r_34, runB.sl.r_35, runB.sl.r_36, runB.sl.r_37, runB.sl.r_38, runB.sl.r_39, runB.sl.r_4, runB.sl.r_40, runB.sl.r_41, runB.sl.r_42, runB.sl.r_43, runB.sl.r_44, runB.sl.r_45, runB.sl.r_46, runB.sl.r_47, runB.sl.r_48, runB.sl.r_49, runB.sl.r_5, runB.sl.r_50, runB.sl.r_6, runB.sl.r_7, runB.sl.r_8, runB.sl.r_9]
  rfl

theorem z_eq : (runB c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 fS).1 = zList arg12 fS (loads arg1 harg1 arg2 harg2 arg3 harg3 arg4 harg4 arg5 harg5 arg6 harg6 arg7 harg7 arg8 harg8 x0 x1 x2 x3 x4 x5 x6 x7) [] := by
  unfold runB
  simp only [runB.sl.r, runB.sl.r_1, runB.sl.r_10, runB.sl.r_11, runB.sl.r_12, runB.sl.r_13, runB.sl.r_14, runB.sl.r_15, runB.sl.r_16, runB.sl.r_17, runB.sl.r_18, runB.sl.r_19, runB.sl.r_2, runB.sl.r_20, runB.sl.r_21, runB.sl.r_22, runB.sl.r_23, runB.sl.r_24, runB.sl.r_25, runB.sl.r_26, runB.sl.r_27, runB.sl.r_28, runB.sl.r_29, runB.sl.r_3, runB.sl.r_30, runB.sl.r_31, runB.sl.r_32, runB.sl.r_33, runB.sl.r_34, runB.sl.r_35, runB.sl.r_36, runB.sl.r_37, runB.sl.r_38, runB.sl.r_39, runB.sl.r_4, runB.sl.r_40, runB.sl.r_41, runB.sl.r_42, runB.sl.r_43, runB.sl.r_44, runB.sl.r_45, runB.sl.r_46, runB.sl.r_47, runB.sl.r_48, runB.sl.r_49, runB.sl.r_5, runB.sl.r_50, runB.sl.r_6, runB.sl.r_7, runB.sl.r_8, runB.sl.r_9, h0 c arg1 harg1 arg2 harg2 arg3 harg3 arg4 harg4 arg5 harg5 arg6 harg6 arg7 harg7 arg8 harg8 x0 x1 x2 x3 x4 x5 x6 x7, h1 c arg1 harg1 arg2 harg2 arg3 harg3 arg4 harg4 arg5 harg5 arg6 harg6 arg7 harg7 arg8 harg8 arg12 x0 x1 x2 x3 x4 x5 x6 x7 fS, h2 c arg1 harg1 arg2 harg2 arg3 harg3 arg4 harg4 arg5 harg5 arg6 harg6 arg7 harg7 arg8 harg8 arg12 x0 x1 x2 x3 x4 x5 x6 x7 fS, h3 c arg1 harg1 arg2 harg2 arg3 harg3 arg4 harg4 arg5 harg5 arg6 harg6 arg7 harg7 arg8 harg8 arg12 x0 x1 x2 x3 x4 x5 x6 x7 fS, h4 c arg1 harg1 arg2 harg2 arg3 harg3 arg4 harg4 arg5 harg5 arg6 harg6 arg7 harg7 arg8 harg8 arg12 x0 x1 x2 x3 x4 x5 x6 x7 fS, h5 c arg1 harg1 arg2 harg2 arg3 harg3 arg4 harg4 arg5 harg5 arg6 harg6 arg7 harg7 arg8 harg8 arg12 x0 x1 x2 x3 x4 x5 x6 x7 fS, h6 c arg1 harg1 arg2 harg2 arg3 harg3 arg4 harg4 arg5 harg5 arg6 harg6 arg7 harg7 arg8 harg8 arg12 x0 x1 x2 x3 x4 x5 x6 x7 fS, h7 c arg1 harg1 arg2 harg2 arg3 harg3 arg4 harg4 arg5 harg5 arg6 harg6 arg7 harg7 arg8 harg8 arg12 x0 x1 x2 x3 x4 x5 x6 x7 fS]
  rfl

theorem end_eq : (runB c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 fS).2.1 = endList arg12 fS (loads arg1 harg1 arg2 harg2 arg3 harg3 arg4 harg4 arg5 harg5 arg6 harg6 arg7 harg7 arg8 harg8 x0 x1 x2 x3 x4 x5 x6 x7) [] := by
  unfold runB
  simp only [runB.sl.r, runB.sl.r_1, runB.sl.r_10, runB.sl.r_11, runB.sl.r_12, runB.sl.r_13, runB.sl.r_14, runB.sl.r_15, runB.sl.r_16, runB.sl.r_17, runB.sl.r_18, runB.sl.r_19, runB.sl.r_2, runB.sl.r_20, runB.sl.r_21, runB.sl.r_22, runB.sl.r_23, runB.sl.r_24, runB.sl.r_25, runB.sl.r_26, runB.sl.r_27, runB.sl.r_28, runB.sl.r_29, runB.sl.r_3, runB.sl.r_30, runB.sl.r_31, runB.sl.r_32, runB.sl.r_33, runB.sl.r_34, runB.sl.r_35, runB.sl.r_36, runB.sl.r_37, runB.sl.r_38, runB.sl.r_39, runB.sl.r_4, runB.sl.r_40, runB.sl.r_41, runB.sl.r_42, runB.sl.r_43, runB.sl.r_44, runB.sl.r_45, runB.sl.r_46, runB.sl.r_47, runB.sl.r_48, runB.sl.r_49, runB.sl.r_5, runB.sl.r_50, runB.sl.r_6, runB.sl.r_7, runB.sl.r_8, runB.sl.r_9, h0 c arg1 harg1 arg2 harg2 arg3 harg3 arg4 harg4 arg5 harg5 arg6 harg6 arg7 harg7 arg8 harg8 x0 x1 x2 x3 x4 x5 x6 x7, h1 c arg1 harg1 arg2 harg2 arg3 harg3 arg4 harg4 arg5 harg5 arg6 harg6 arg7 harg7 arg8 harg8 arg12 x0 x1 x2 x3 x4 x5 x6 x7 fS, h2 c arg1 harg1 arg2 harg2 arg3 harg3 arg4 harg4 arg5 harg5 arg6 harg6 arg7 harg7 arg8 harg8 arg12 x0 x1 x2 x3 x4 x5 x6 x7 fS, h3 c arg1 harg1 arg2 harg2 arg3 harg3 arg4 harg4 arg5 harg5 arg6 harg6 arg7 harg7 arg8 harg8 arg12 x0 x1 x2 x3 x4 x5 x6 x7 fS, h4 c arg1 harg1 arg2 harg2 arg3 harg3 arg4 harg4 arg5 harg5 arg6 harg6 arg7 harg7 arg8 harg8 arg12 x0 x1 x2 x3 x4 x5 x6 x7 fS, h5 c arg1 harg1 arg2 harg2 arg3 harg3 arg4 harg4 arg5 harg5 arg6 harg6 arg7 harg7 arg8 harg8 arg12 x0 x1 x2 x3 x4 x5 x6 x7 fS, h6 c arg1 harg1 arg2 harg2 arg3 harg3 arg4 harg4 arg5 harg5 arg6 harg6 arg7 harg7 arg8 harg8 arg12 x0 x1 x2 x3 x4 x5 x6 x7 fS, h7 c arg1 harg1 arg2 harg2 arg3 harg3 arg4 harg4 arg5 harg5 arg6 harg6 arg7 harg7 arg8 harg8 arg12 x0 x1 x2 x3 x4 x5 x6 x7 fS]
  rfl

end

end Cert.CtxPiecesB

end
-- ==== Proof.CtxFrame.lean ====
/- The context projection's frame with its values: each grid point finds the last three time steps of the point before in the kept
   rows (zeros at the first), leaves its own last three there, and leaves in the output blocks the convolved block, the extra
   step and the stored block of `CtxMath`. -/
module

public import proofs.«01_k».proof.Proof.CtxMath
public import proofs.«01_k».proof.Proof.CtxPiecesA
public import proofs.«01_k».proof.Proof.CtxPiecesB
public import Idealize.ShloMosaic.Lib.Pipeline.FrameBody
public import Idealize.ShloMosaic.Lib.Claim

@[expose] public section

set_option maxRecDepth 16384

noncomputable section

namespace Cert.CtxFrame

open Cert Cert.CtxMath Cert.CtxStores Cert.CtxPieces Cert.CtxIdealRun Cert.CtxIdeal Cert.CtxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The kept rows' buffer. -/
abbrev scM : Memref sig .tc .vmem S8x536x128 .f32 := Memref.whole cc0_scratch0

/-- What the kept rows hold when point `p` starts: its first three time steps, from the second point on. -/
def Good (c : Dev nD) (p : ℕ) (f : scM.view.ty.Contents (Elt Ideal)) : Prop :=
  1 ≤ p → ∀ (k : Fin 8) (r : Fin 536) (j : Fin 128), r.val < 24 → scM.view.read (Elt Ideal) f (ix3 k r j) = ptM m c p k r.val j

/-- What the point's body leaves in the three output blocks. -/
def outZ (c : Dev nD) (t : Fin cfg0.N) : Vec Ideal S8x512x128 .f32 := fun y => convE (L m c t) (ptM m c t.val) (y 0) (y 1).val (y 2)
def outE (c : Dev nD) (t : Fin cfg0.N) : Vec Ideal S8x8x128 .f32 := fun y => endE (L m c t) (ptM m c t.val) (y 0) (y 1).val (y 2)
def outP (c : Dev nD) (t : Fin cfg0.N) : Vec Ideal S8x64x2048 .bf16 := fun y => actE (L m c t) (y 0) (y 1) (y 2)

/-- The invariant between points: the kept rows are good, and the generator's register is at some state. -/
def inv (c : Dev nD) (p : ℕ) : sProp 𝕄 :=
  iprop((∃ f, ⌜Good m c p f⌝ ∗ (scM.view.loc (c : Thread nD τ) ↦[scM.view.set]{fullShare} f)) ∗ (∃ r, prngReg c r))

/-- The proof data: inputs stay at their blocks, outputs are left at the point's values, the invariant is `inv`. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outZ m c t
    | ⟨9, _⟩ => outE m c t
    | ⟨10, _⟩ => outP m c t
  Φ t := inv m c t.val
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = outZ m c t := by dsimp only [dats]
theorem after0_9 (c : Dev nD) (t : Fin cfg0.N) : (dats m 0 c).after 9 t = outE m c t := by dsimp only [dats]
theorem after0_10 (c : Dev nD) (t : Fin cfg0.N) : (dats m 0 c).after 10 t = outP m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-- The body's condition holds at the first point only. -/
theorem first_iff : ∀ t : Fin cfg0.N, cond0 (grid0.coords t) ↔ t.val = 0 :=
  (by decide +kernel : ∀ t : Fin grid0.N, cond0 (grid0.coords t) ↔ t.val = 0)

theorem before_first (c : Dev nD) (f : scM.view.ty.Contents (Elt Ideal)) : Before scM f cleared (ptM m c 0) :=
  fun k r j h => (cleared_read k r j h).trans (ptX_first _ _ _ _ k r.val j h).symm

theorem before_later (c : Dev nD) (p : ℕ) (hp : 1 ≤ p) (f : scM.view.ty.Contents (Elt Ideal)) (hg : Good m c p f) : Before scM f [] (ptM m c p) :=
  fun k r j h => hg hp k r j h

/-- The rows kept by point `p` are good for the next. -/
theorem good_next (c : Dev nD) (t : Fin cfg0.N) (f : scM.view.ty.Contents (Elt Ideal)) (base : List (View.Piece (Elt Ideal) S8x536x128 .f32))
    (hb : Before scM f base (ptM m c t.val)) : Good m c (t.val + 1) (scM.view.writes (Elt Ideal) f (keptList scM f (L m c t) base 8)) :=
  fun _ k r j h => (after_read (products m c t) hb k r j h).trans (ptX_next _ _ _ _ t.val k r.val j)

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t))

set_option maxHeartbeats 4000000 in
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl, after0_0, after0_1, after0_2, after0_3, after0_4, after0_5, after0_6, after0_7, after0_8, after0_9, after0_10]
  rw [show (dats m 0 c).Φ t.castSucc = inv m c t.val from rfl, show (dats m 0 c).Φ t.succ = inv m c (t.val + 1) from rfl]
  unfold inv
  by_cases h0 : t.val = 0
  · have hc : cond0 (grid0.coords t) := (first_iff t).mpr h0
    iintro ⟨⟨⟨%f, %hg, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    have hb : Before scM f cleared (ptM m c t.val) := by rw [h0]; exact before_first m c f
    iapply ((runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM (Memref.isWhole_whole _) hc (iblk m c 0 t) (iblk m c 1 t) (iblk m c 2 t) (iblk m c 3 t) (iblk m c 4 t) (iblk m c 5 t) (iblk m c 6 t) (iblk m c 7 t) f).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [HS]; · iexact HS
    iintro ⟨H0, H1, H2, H3, H4, H5, H6, H7, ⟨%e8, H8⟩, ⟨%e9, H9⟩, ⟨%e10, H10⟩, HS⟩
    isplitl [HS Hg]
    · isplitl [HS]
      · iexists _
        isplitr
        swap; · iexact HS
        ipureintro
        exact (congrArg (fun l => Good m c (t.val + 1) (scM.view.writes (Elt Ideal) f l)) (CtxPiecesA.kept_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM (Memref.isWhole_whole _) hc (iblk m c 0 t) (iblk m c 1 t) (iblk m c 2 t) (iblk m c 3 t) (iblk m c 4 t) (iblk m c 5 t) (iblk m c 6 t) (iblk m c 7 t) f)).mpr (good_next m c t f _ hb)
      · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro
      exact (congrArg (fun l => (ms0_8 t).view.read (Elt Ideal) ((ms0_8 t).view.writes (Elt Ideal) e8 l)) (CtxPiecesA.z_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM (Memref.isWhole_whole _) hc (iblk m c 0 t) (iblk m c 1 t) (iblk m c 2 t) (iblk m c 3 t) (iblk m c 4 t) (iblk m c 5 t) (iblk m c 6 t) (iblk m c 7 t) f)).trans (z_read _ e8 (products m c t) hb)
    isplitl [H9]
    · unfold owns; iexists _; isplitr
      swap; · iexact H9
      ipureintro
      exact (congrArg (fun l => (ms0_9 t).view.read (Elt Ideal) ((ms0_9 t).view.writes (Elt Ideal) e9 l)) (CtxPiecesA.end_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM (Memref.isWhole_whole _) hc (iblk m c 0 t) (iblk m c 1 t) (iblk m c 2 t) (iblk m c 3 t) (iblk m c 4 t) (iblk m c 5 t) (iblk m c 6 t) (iblk m c 7 t) f)).trans (end_read _ e9 (products m c t) hb)
    unfold owns; iexists _; isplitr
    swap; · iexact H10
    ipureintro
    exact (congrArg (fun l => (ms0_10 t).view.read (Elt Ideal) ((ms0_10 t).view.writes (Elt Ideal) e10 l)) (CtxPiecesA.pr_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM (Memref.isWhole_whole _) hc (iblk m c 0 t) (iblk m c 1 t) (iblk m c 2 t) (iblk m c 3 t) (iblk m c 4 t) (iblk m c 5 t) (iblk m c 6 t) (iblk m c 7 t) f)).trans (pr_read (L m c t) _ e10)
  · have hc : ¬cond0 (grid0.coords t) := fun hc => h0 ((first_iff t).mp hc)
    iintro ⟨⟨⟨%f, %hg, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    have hb : Before scM f [] (ptM m c t.val) := before_later m c t.val (by omega) f hg
    iapply ((runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM (Memref.isWhole_whole _) hc (iblk m c 0 t) (iblk m c 1 t) (iblk m c 2 t) (iblk m c 3 t) (iblk m c 4 t) (iblk m c 5 t) (iblk m c 6 t) (iblk m c 7 t) f).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [HS]; · iexact HS
    iintro ⟨H0, H1, H2, H3, H4, H5, H6, H7, ⟨%e8, H8⟩, ⟨%e9, H9⟩, ⟨%e10, H10⟩, HS⟩
    isplitl [HS Hg]
    · isplitl [HS]
      · iexists _
        isplitr
        swap; · iexact HS
        ipureintro
        exact (congrArg (fun l => Good m c (t.val + 1) (scM.view.writes (Elt Ideal) f l)) (CtxPiecesB.kept_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM (Memref.isWhole_whole _) hc (iblk m c 0 t) (iblk m c 1 t) (iblk m c 2 t) (iblk m c 3 t) (iblk m c 4 t) (iblk m c 5 t) (iblk m c 6 t) (iblk m c 7 t) f)).mpr (good_next m c t f _ hb)
      · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro
      exact (congrArg (fun l => (ms0_8 t).view.read (Elt Ideal) ((ms0_8 t).view.writes (Elt Ideal) e8 l)) (CtxPiecesB.z_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM (Memref.isWhole_whole _) hc (iblk m c 0 t) (iblk m c 1 t) (iblk m c 2 t) (iblk m c 3 t) (iblk m c 4 t) (iblk m c 5 t) (iblk m c 6 t) (iblk m c 7 t) f)).trans (z_read _ e8 (products m c t) hb)
    isplitl [H9]
    · unfold owns; iexists _; isplitr
      swap; · iexact H9
      ipureintro
      exact (congrArg (fun l => (ms0_9 t).view.read (Elt Ideal) ((ms0_9 t).view.writes (Elt Ideal) e9 l)) (CtxPiecesB.end_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM (Memref.isWhole_whole _) hc (iblk m c 0 t) (iblk m c 1 t) (iblk m c 2 t) (iblk m c 3 t) (iblk m c 4 t) (iblk m c 5 t) (iblk m c 6 t) (iblk m c 7 t) f)).trans (end_read _ e9 (products m c t) hb)
    unfold owns; iexists _; isplitr
    swap; · iexact H10
    ipureintro
    exact (congrArg (fun l => (ms0_10 t).view.read (Elt Ideal) ((ms0_10 t).view.writes (Elt Ideal) e10 l)) (CtxPiecesB.pr_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM (Memref.isWhole_whole _) hc (iblk m c 0 t) (iblk m c 1 t) (iblk m c 2 t) (iblk m c 3 t) (iblk m c 4 t) (iblk m c 5 t) (iblk m c 6 t) (iblk m c 7 t) f)).trans (pr_read (L m c t) _ e10)

theorem defs₀_row (t : Fin cfg0.N) :
    defs₀ (F := Ideal) .tc cfg0.body (cfg0.bodyArgs t (cfg0.slots t)) = bodyAt0 t := by
  unfold defs₀; rw [Defs.onTc_tc]

theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

/-! ## The run and the frame -/

theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

theorem inv_in (c : Dev nD) : (Pipeline.ΦA spec0 c : sProp 𝕄) ⊢ inv m c 0 := by
  rw [PhiA_eq]
  unfold inv owns
  iintro ⟨⟨%d, %f, -, HS⟩, Hg⟩
  isplitl [HS]
  · iexists f
    isplitr
    · ipureintro
      exact fun h => absurd h (by omega)
    · iexact HS
  · iexact Hg

theorem inv_out (c : Dev nD) (p : ℕ) : inv m c p ⊢ (Pipeline.ΦA spec0 c : sProp 𝕄) := by
  rw [PhiA_eq]
  unfold inv owns
  iintro ⟨⟨%f, -, HS⟩, Hg⟩
  isplitl [HS]
  · iexists _
    iexists f
    isplitr
    · ipureintro
      rfl
    · iexact HS
  · iexact Hg

set_option backward.isDefEq.respectTransparency.types false in
theorem run_main_quiescent : θ_run defs (onTc (τ := τ) (main (F := Ideal))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := fun c => inv_in m c) (hout := fun c => inv_out m c _)

theorem run_main : θ_run defs (onTc (τ := τ) (main (F := Ideal))) (s₀ m ρ) (Pipeline.FramePost cfgs (dats m) 0 (V m)) :=
  (θ_run defs _ _).mono (fun _ h => h.1) (run_main_quiescent m ρ)

theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run_main m ρ)) ((θ_run defs _ _).mono (fun _ h => h.2) (run_main_quiescent m ρ))

end Cert.CtxFrame

end
-- ==== Proof.CtxFinal.lean ====
/- What the context projection's run leaves in its three results: each block is read back from the point that wrote it, so that half the
   convolution, its extra step and the stored columns are those of `CtxMath` at every index. -/
module

public import proofs.«01_k».proof.Proof.CtxFrame
public import Idealize.ShloMosaic.Lib.Pipeline.Value

@[expose] public section

set_option maxRecDepth 16384

noncomputable section

namespace Cert.CtxFinal

open Cert.CtxIdeal Cert.CtxIdeal.Gen Cert.CtxMath Cert.CtxStores Cert.CtxBlock Cert.CtxFrame
open Idealize.ShloMosaic Idealize.ShloMosaic.TcCoe
open Idealize.ShloMosaic.Pipeline (Dat)

variable (m : (ℓ : Loc nD τ sig) → Buf (Elt Ideal) ℓ) (ρ : Dev nD → PrngReg)

theorem points : cfg0.N = 4 := by decide +kernel

theorem idx_inj8 : ∀ t t' : Fin cfg0.N, (cfg0.win 8).index t = (cfg0.win 8).index t' → t = t' :=
  (by decide +kernel : ∀ t t' : Fin grid0.N, win0_8.index t = win0_8.index t' → t = t')

theorem blocks8 (c : Dev nD) (t : Fin cfg0.N) (hf : (cfg0.win 8).flush t = true) :
    ((cfg0.win 8).blk t).view.read (Elt Ideal) ((dats m 0 c).arrAt 8 cfg0.N) = (dats m 0 c).flushed 8 t :=
  (dats m 0 c).read_blk_arrAt_eq_flushed 8 (fun t t' _ _ hne => (cfg0.win 8).disjoint_blk fun h => hne (idx_inj8 t t' h)) cfg0.N t t.isLt hf

theorem at8 : ∀ t : Fin cfg0.N, win0_8.index t (0 : Fin 3) = 0 ∧ win0_8.index t (1 : Fin 3) = t.val ∧ win0_8.index t (2 : Fin 3) = 0 :=
  (by decide +kernel : ∀ t : Fin grid0.N, _)

theorem flush_last9 : ∀ t : Fin cfg0.N, t.val = 3 → (cfg0.win 9).flush t = true :=
  (by decide +kernel : ∀ t : Fin grid0.N, t.val = 3 → win0_9.flush t = true)

theorem last_of_flush9 : ∀ t : Fin cfg0.N, (cfg0.win 9).flush t = true → t.val = 3 :=
  (by decide +kernel : ∀ t : Fin grid0.N, win0_9.flush t = true → t.val = 3)

theorem blocks9 (c : Dev nD) (t : Fin cfg0.N) (hf : (cfg0.win 9).flush t = true) :
    ((cfg0.win 9).blk t).view.read (Elt Ideal) ((dats m 0 c).arrAt 9 cfg0.N) = (dats m 0 c).flushed 9 t :=
  (dats m 0 c).read_blk_arrAt_eq_flushed 9 (fun t t' ht ht' hne => absurd (Fin.ext ((last_of_flush9 t ht).trans (last_of_flush9 t' ht').symm)) hne) cfg0.N t t.isLt hf

theorem at9 : ∀ t : Fin cfg0.N, win0_9.index t (0 : Fin 3) = 0 ∧ win0_9.index t (1 : Fin 3) = 0 ∧ win0_9.index t (2 : Fin 3) = 0 :=
  (by decide +kernel : ∀ t : Fin grid0.N, _)

theorem idx_inj10 : ∀ t t' : Fin cfg0.N, (cfg0.win 10).index t = (cfg0.win 10).index t' → t = t' :=
  (by decide +kernel : ∀ t t' : Fin grid0.N, win0_10.index t = win0_10.index t' → t = t')

theorem blocks10 (c : Dev nD) (t : Fin cfg0.N) (hf : (cfg0.win 10).flush t = true) :
    ((cfg0.win 10).blk t).view.read (Elt Ideal) ((dats m 0 c).arrAt 10 cfg0.N) = (dats m 0 c).flushed 10 t :=
  (dats m 0 c).read_blk_arrAt_eq_flushed 10 (fun t t' _ _ hne => (cfg0.win 10).disjoint_blk fun h => hne (idx_inj10 t t' h)) cfg0.N t t.isLt hf

theorem at10 : ∀ t : Fin cfg0.N, win0_10.index t (0 : Fin 3) = 0 ∧ win0_10.index t (1 : Fin 3) = t.val ∧ win0_10.index t (2 : Fin 3) = 0 :=
  (by decide +kernel : ∀ t : Fin grid0.N, _)

theorem place8 (p : Fin cfg0.N) (a : Fin 8) (r : Fin 512) (j : Fin 128) (R : Fin 2048) (hR : R.val = p.val * 512 + r.val) :
    ((cfg0.win 8).blk p).view.emb (ix3 a r j : S8x512x128.Idx) = (ix3 a R j : S8x2048x128.Idx) := by
  obtain ⟨e0, e1, e2⟩ := at8 p
  refine funext fun (d : Fin 3) => Fin.ext ?_
  match d with
  | ⟨0, _⟩ => show win0_8.index p (0 : Fin 3) * 8 + 1 * a.val = a.val; omega
  | ⟨1, _⟩ => show win0_8.index p (1 : Fin 3) * 512 + 1 * r.val = R.val; omega
  | ⟨2, _⟩ => show win0_8.index p (2 : Fin 3) * 128 + 1 * j.val = j.val; omega

theorem place9 (p : Fin cfg0.N) (a : Fin 8) (r : Fin 8) (j : Fin 128) (R : Fin 8) (hR : R.val = r.val) :
    ((cfg0.win 9).blk p).view.emb (ix3 a r j : S8x8x128.Idx) = (ix3 a R j : S8x8x128.Idx) := by
  obtain ⟨e0, e1, e2⟩ := at9 p
  refine funext fun (d : Fin 3) => Fin.ext ?_
  match d with
  | ⟨0, _⟩ => show win0_9.index p (0 : Fin 3) * 8 + 1 * a.val = a.val; omega
  | ⟨1, _⟩ => show win0_9.index p (1 : Fin 3) * 8 + 1 * r.val = R.val; omega
  | ⟨2, _⟩ => show win0_9.index p (2 : Fin 3) * 128 + 1 * j.val = j.val; omega

theorem place10 (p : Fin cfg0.N) (a : Fin 8) (r : Fin 64) (j : Fin 2048) (R : Fin 256) (hR : R.val = p.val * 64 + r.val) :
    ((cfg0.win 10).blk p).view.emb (ix3 a r j : S8x64x2048.Idx) = (ix3 a R j : S8x256x2048.Idx) := by
  obtain ⟨e0, e1, e2⟩ := at10 p
  refine funext fun (d : Fin 3) => Fin.ext ?_
  match d with
  | ⟨0, _⟩ => show win0_10.index p (0 : Fin 3) * 8 + 1 * a.val = a.val; omega
  | ⟨1, _⟩ => show win0_10.index p (1 : Fin 3) * 64 + 1 * r.val = R.val; omega
  | ⟨2, _⟩ => show win0_10.index p (2 : Fin 3) * 2048 + 1 * j.val = j.val; omega

theorem flushed8 (c : Dev nD) (t : Fin cfg0.N) : (dats m 0 c).flushed 8 t = outZ m c t := by
  show (cfg0.win 8).cut (grid0.coords t) ((dats m 0 c).after 8 t) = _
  rw [after0_8]
  rfl

theorem entry8 (c : Dev nD) (t : Fin cfg0.N) (hf : (cfg0.win 8).flush t = true) (y : S8x512x128.Idx) :
    (dats m 0 c).arrAt 8 cfg0.N (((cfg0.win 8).blk t).view.emb y) = outZ m c t y := by
  have h := blocks8 m c t hf
  rw [flushed8] at h
  revert h
  generalize (dats m 0 c).arrAt 8 cfg0.N = A
  intro h
  exact congrFun h y

theorem flushed9 (c : Dev nD) (t : Fin cfg0.N) : (dats m 0 c).flushed 9 t = outE m c t := by
  show (cfg0.win 9).cut (grid0.coords t) ((dats m 0 c).after 9 t) = _
  rw [after0_9]
  rfl

theorem entry9 (c : Dev nD) (t : Fin cfg0.N) (hf : (cfg0.win 9).flush t = true) (y : S8x8x128.Idx) :
    (dats m 0 c).arrAt 9 cfg0.N (((cfg0.win 9).blk t).view.emb y) = outE m c t y := by
  have h := blocks9 m c t hf
  rw [flushed9] at h
  revert h
  generalize (dats m 0 c).arrAt 9 cfg0.N = A
  intro h
  exact congrFun h y

theorem flushed10 (c : Dev nD) (t : Fin cfg0.N) : (dats m 0 c).flushed 10 t = outP m c t := by
  show (cfg0.win 10).cut (grid0.coords t) ((dats m 0 c).after 10 t) = _
  rw [after0_10]
  rfl

theorem entry10 (c : Dev nD) (t : Fin cfg0.N) (hf : (cfg0.win 10).flush t = true) (y : S8x64x2048.Idx) :
    (dats m 0 c).arrAt 10 cfg0.N (((cfg0.win 10).blk t).view.emb y) = outP m c t y := by
  have h := blocks10 m c t hf
  rw [flushed10] at h
  revert h
  generalize (dats m 0 c).arrAt 10 cfg0.N = A
  intro h
  exact congrFun h y

/-- Half the convolution after the run, at (lane group, 8 · time + batch, lane). -/
theorem conv_final (c : Dev nD) (k : Fin 8) (R : Fin 2048) (j : Fin 128) :
    (dats m 0 c).arrAt 8 cfg0.N (ix3 k R j : S8x2048x128.Idx)
      = convM m c (R.val / 8) ⟨R.val % 8, by omega⟩ ⟨128 * k.val + j.val, by omega⟩ := by
  have hN := points
  have hR : R.val < 2048 := R.isLt
  have hp : R.val / 512 < cfg0.N := by omega
  have hs' := entry8 m c ⟨R.val / 512, hp⟩ (flush0_8 _) (ix3 k (⟨R.val % 512, by omega⟩ : Fin 512) j : S8x512x128.Idx)
  rw [place8 ⟨R.val / 512, hp⟩ k ⟨R.val % 512, by omega⟩ j R (by show R.val = R.val / 512 * 512 + R.val % 512; omega)] at hs'
  exact hs'.trans (conv_at m c ⟨R.val / 512, hp⟩ k (R.val % 512) j (R.val / 8)
    (by show R.val / 8 = 64 * (R.val / 512) + R.val % 512 / 8; omega) ⟨R.val % 8, by omega⟩ (by show R.val % 8 = R.val % 512 % 8; omega) ⟨128 * k.val + j.val, by omega⟩ rfl)

/-- The convolution's extra step after the run, at (lane group, batch, lane). -/
theorem end_final (c : Dev nD) (k r : Fin 8) (j : Fin 128) :
    (dats m 0 c).arrAt 9 cfg0.N (ix3 k r j : S8x8x128.Idx) = convM m c 256 r ⟨128 * k.val + j.val, by omega⟩ := by
  have hN := points
  have hp : 3 < cfg0.N := by omega
  have hs' := entry9 m c ⟨3, hp⟩ (flush_last9 _ rfl) (ix3 k r j : S8x8x128.Idx)
  rw [place9 ⟨3, hp⟩ k r j r rfl] at hs'
  exact hs'.trans (end_at m c ⟨3, hp⟩ rfl k r j ⟨128 * k.val + j.val, by omega⟩ rfl)

/-- The stored columns after the run, at (batch, time, channel). -/
theorem act_final (c : Dev nD) (b : Fin 8) (T : Fin 256) (j : Fin 2048) :
    (dats m 0 c).arrAt 10 cfg0.N (ix3 b T j : S8x256x2048.Idx) = actM m c b T j := by
  have hN := points
  have hT : T.val < 256 := T.isLt
  have hp : T.val / 64 < cfg0.N := by omega
  have hs' := entry10 m c ⟨T.val / 64, hp⟩ (flush0_10 _) (ix3 b (⟨T.val % 64, by omega⟩ : Fin 64) j : S8x64x2048.Idx)
  rw [place10 ⟨T.val / 64, hp⟩ b ⟨T.val % 64, by omega⟩ j T (by show T.val = T.val / 64 * 64 + T.val % 64; omega)] at hs'
  exact hs'.trans (act_at m c ⟨T.val / 64, hp⟩ b ⟨T.val % 64, by omega⟩ j T (by show T.val = T.val / 64 * 64 + T.val % 64; omega))

/-- The run, with the three results named and the arguments unchanged. -/
theorem run_results : θ_run defs (onTc (τ := τ) (main (F := Ideal))) ⟨m, fun _ => 0, ρ⟩ (fun r => ∀ c : Dev nD,
      r.2.mem ((c.tc : Thread nD τ).loc main_v9_0) = (dats m 0 c).arrAt 8 cfg0.N
      ∧ r.2.mem ((c.tc : Thread nD τ).loc main_v9_1) = (dats m 0 c).arrAt 9 cfg0.N
      ∧ r.2.mem ((c.tc : Thread nD τ).loc main_v9_2) = (dats m 0 c).arrAt 10 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1 8, (h c).1 9, (h c).1 10,
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩) (run_main m ρ)

end Cert.CtxFinal

end
-- ==== Proof.CtxRef.lean ====
/- The context projection's reference, read at an index: the modulated rows times the weights, the input of the convolution with its
   zero time steps, half the convolution and the stored columns are the functions of `CtxMath`. -/
module

public import proofs.«01_k».proof.Proof.CtxMath
public import proofs.«01_k».proof.Proof.Gen.CtxReferenceIdeal.Run
public import proofs.«01_k».proof.Proof.Gen.CtxReferenceIdeal.Read
public import Idealize.ShloMosaic.Lib.Pointwise

@[expose] public section

set_option maxRecDepth 4096

noncomputable section

namespace Cert.CtxRef

open Cert.CtxReferenceIdeal Cert.CtxReferenceIdeal.Gen Cert.CtxReferenceIdeal.Read Cert.CtxBlock Cert.CtxMath
open Idealize.ShloMosaic

/-! ## A half over a sum -/

theorem half_eq : Ideal.ofBits .f32 0x3F000000#32 = (((1 : ℝ) / 2 : ℝ) : EReal) := by
  simp [Ideal.ofBits, Ideal.ieee, -EReal.coe_mul]
  norm_num

/-- A half is finite and not negative, so it distributes over any sum of extended reals. -/
theorem half_add (a b : EReal) :
    Ideal.ofBits .f32 0x3F000000#32 * (a + b) = Ideal.ofBits .f32 0x3F000000#32 * a + Ideal.ofBits .f32 0x3F000000#32 * b := by
  rw [half_eq]
  exact EReal.left_distrib_of_nonneg_of_ne_top (by exact_mod_cast (by norm_num : (0 : ℝ) ≤ 1 / 2)) (EReal.coe_ne_top _) a b

/-! ## The projection -/

theorem mod_apply (x0 : Vec Ideal S8x256x1024 .f32) (x1 : Vec Ideal S16x6144 .f32) (x2 : Vec Ideal S1024 .f32) (b : Fin 8) (T : Fin 256) (j : Fin 1024) :
    val_main_v24 (F := Ideal) x0 x1 x2 (ix3 b T j) = modRow (fun k => x0 (ix3 b T k)) (fun k => x2 (ix1 k))
      (fun k => x1 (ix2 8 ⟨1024 + k.val, by omega⟩)) (fun k => x1 (ix2 8 ⟨k.val, by omega⟩)) j := by
  pointwise [val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst_2, val_main_cst_1, val_main_cst_0, val_main_cst, modRow, rms]

theorem proj_apply (x0 : Vec Ideal S8x256x1024 .f32) (x1 : Vec Ideal S16x6144 .f32) (x2 : Vec Ideal S1024 .f32) (x3 : Vec Ideal S1024x7168 .f32) (b : Fin 8) (T : Fin 256) (j : Fin 7168) :
    val_main_v25 (F := Ideal) x0 x1 x2 x3 (ix3 b T j) = projE x0 x1 x2 x3 b T j := by
  unfold projE
  simp only [← mod_apply x0 x1 x2 b T]
  rw [val_main_v25]
  generalize val_main_v24 (F := Ideal) x0 x1 x2 = y
  pointwise []

/-! ## The convolution -/

theorem steps_apply (x0 : Vec Ideal S8x256x1024 .f32) (x1 : Vec Ideal S16x6144 .f32) (x2 : Vec Ideal S1024 .f32) (x3 : Vec Ideal S1024x7168 .f32) (b : Fin 8) (s : Fin 260) (j : Fin 1024) :
    val_main_v30 (F := Ideal) x0 x1 x2 x3 (ix3 b s j) = rowE x0 x1 x2 x3 s.val b j := by
  have hs : s.val < 260 := s.isLt
  unfold rowE val_main_v30
  by_cases h : 3 ≤ s.val ∧ s.val < 259
  · rw [dif_pos h, ← proj_apply]
    refine Eq.trans (concatenate_apply_piece (1 : Fin 3) _ _ (ix3 b s j) 1 (by simp) S8x256x1024 (val_main_v26 (F := Ideal) x0 x1 x2 x3) rfl rfl 3 (by rfl)
      (ix3 b ⟨s.val - 3, by omega⟩ j) ?_ ?_) ?_
    · intro d hd
      fin_cases d
      · rfl
      · exact absurd rfl hd
      · rfl
    · show 3 + (s.val - 3) = s.val
      omega
    · refine (val_main_v26_apply (F := Ideal) _ _ _ _ _).trans ?_
      exact congrArg _ (funext fun d => match d with
        | ⟨0, _⟩ => rfl
        | ⟨1, _⟩ => rfl
        | ⟨2, _⟩ => rfl)
  · rw [dif_neg h]
    by_cases h3 : s.val < 3
    · refine Eq.trans (concatenate_apply_piece (1 : Fin 3) _ _ (ix3 b s j) 0 (by simp) S8x3x1024 (val_main_v28 (F := Ideal)) rfl rfl 0 (by rfl)
        (ix3 b ⟨s.val, h3⟩ j) ?_ ?_) ?_
      · intro d hd
        fin_cases d
        · rfl
        · exact absurd rfl hd
        · rfl
      · show 0 + s.val = s.val
        omega
      · pointwise [val_main_v28, val_main_cst_3]
    · refine Eq.trans (concatenate_apply_piece (1 : Fin 3) _ _ (ix3 b s j) 2 (by simp) S8x1x1024 (val_main_v29 (F := Ideal)) rfl rfl 259 (by rfl)
        (ix3 b ⟨s.val - 259, by omega⟩ j) ?_ ?_) ?_
      · intro d hd
        fin_cases d
        · rfl
        · exact absurd rfl hd
        · rfl
      · show 259 + (s.val - 259) = s.val
        omega
      · pointwise [val_main_v29, val_main_cst_4]

/-- Half the convolution, as the reference writes it: half of the bias plus the four taps. -/
theorem taps_apply (x0 : Vec Ideal S8x256x1024 .f32) (x1 : Vec Ideal S16x6144 .f32) (x2 : Vec Ideal S1024 .f32) (x3 : Vec Ideal S1024x7168 .f32)
    (x5 : Vec Ideal S4x1024 .f32) (x6 : Vec Ideal S1024 .f32) (b : Fin 8) (s : Fin 257) (j : Fin 1024) :
    val_main_v62 (F := Ideal) x0 x1 x2 x3 x5 x6 (ix3 b s j) = Ideal.ofBits .f32 0x3F000000#32 *
      (x6 (ix1 j) + x5 (ix2 0 j) * rowE x0 x1 x2 x3 s.val b j + x5 (ix2 1 j) * rowE x0 x1 x2 x3 (s.val + 1) b j
        + x5 (ix2 2 j) * rowE x0 x1 x2 x3 (s.val + 2) b j + x5 (ix2 3 j) * rowE x0 x1 x2 x3 (s.val + 3) b j) := by
  have hs : s.val < 257 := s.isLt
  rw [show rowE x0 x1 x2 x3 s.val b j = _ from (steps_apply x0 x1 x2 x3 b ⟨s.val, by omega⟩ j).symm,
    show rowE x0 x1 x2 x3 (s.val + 1) b j = _ from (congrArg (fun n => rowE x0 x1 x2 x3 n b j) (Nat.add_comm _ _)).trans (steps_apply x0 x1 x2 x3 b ⟨1 + s.val, by omega⟩ j).symm,
    show rowE x0 x1 x2 x3 (s.val + 2) b j = _ from (congrArg (fun n => rowE x0 x1 x2 x3 n b j) (Nat.add_comm _ _)).trans (steps_apply x0 x1 x2 x3 b ⟨2 + s.val, by omega⟩ j).symm,
    show rowE x0 x1 x2 x3 (s.val + 3) b j = _ from (congrArg (fun n => rowE x0 x1 x2 x3 n b j) (Nat.add_comm _ _)).trans (steps_apply x0 x1 x2 x3 b ⟨3 + s.val, by omega⟩ j).symm]
  pointwise [val_main_v62, val_main_v61, val_main_v60, val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_cst_5]

theorem conv_apply (x0 : Vec Ideal S8x256x1024 .f32) (x1 : Vec Ideal S16x6144 .f32) (x2 : Vec Ideal S1024 .f32) (x3 : Vec Ideal S1024x7168 .f32)
    (x5 : Vec Ideal S4x1024 .f32) (x6 : Vec Ideal S1024 .f32) (b : Fin 8) (s : Fin 257) (j : Fin 1024) :
    val_main_v62 (F := Ideal) x0 x1 x2 x3 x5 x6 (ix3 b s j) = convG x0 x1 x2 x3 x5 x6 s.val b j := by
  rw [taps_apply, half_add, half_add, half_add, half_add]
  unfold convG
  simp only [mul_assoc]

/-! ## The three results -/

theorem z_split (k : Fin 8) (R : Fin 2048) (j : Fin 128) :
    idx_main_v66 (ix3 k R j) = ix4 k (⟨R.val / 8, by omega⟩ : Fin 256) (⟨R.val % 8, by omega⟩ : Fin 8) j := by
  have hk := k.isLt
  have hR := R.isLt
  have hj := j.isLt
  refine funext fun (d : Fin 4) => Fin.ext ?_
  match d with
  | ⟨0, _⟩ => show ((k.val * 2048 + R.val) * 128 + j.val) / 262144 = k.val; omega
  | ⟨1, _⟩ => show ((k.val * 2048 + R.val) * 128 + j.val) / 1024 % 256 = R.val / 8; omega
  | ⟨2, _⟩ => show ((k.val * 2048 + R.val) * 128 + j.val) / 128 % 8 = R.val % 8; omega
  | ⟨3, _⟩ => show ((k.val * 2048 + R.val) * 128 + j.val) % 128 = j.val; omega

theorem z_join (b : Fin 8) (T : Fin 256) (k : Fin 8) (j : Fin 128) :
    idx_main_v64 (ix4 b T k j) = ix3 b T (⟨128 * k.val + j.val, by omega⟩ : Fin 1024) := by
  have hb := b.isLt
  have hT := T.isLt
  have hk := k.isLt
  have hj := j.isLt
  refine funext fun (d : Fin 3) => Fin.ext ?_
  match d with
  | ⟨0, _⟩ => show (((b.val * 256 + T.val) * 8 + k.val) * 128 + j.val) / 262144 = b.val; omega
  | ⟨1, _⟩ => show (((b.val * 256 + T.val) * 8 + k.val) * 128 + j.val) / 1024 % 256 = T.val; omega
  | ⟨2, _⟩ => show (((b.val * 256 + T.val) * 8 + k.val) * 128 + j.val) % 1024 = 128 * k.val + j.val; omega

theorem z_swap (k : Fin 8) (T : Fin 256) (b : Fin 8) (j : Fin 128) : idx_main_v65 (ix4 k T b j) = ix4 b T k j :=
  funext fun (d : Fin 4) => match d with
  | ⟨0, _⟩ => rfl
  | ⟨1, _⟩ => rfl
  | ⟨2, _⟩ => rfl
  | ⟨3, _⟩ => rfl

theorem z_keep (b : Fin 8) (T : Fin 256) (j : Fin 1024) : idx_main_v63 (ix3 b T j) = ix3 b (⟨T.val, by omega⟩ : Fin 257) j :=
  funext fun (d : Fin 3) => match d with
  | ⟨0, _⟩ => rfl
  | ⟨1, _⟩ => rfl
  | ⟨2, _⟩ => rfl

theorem z_apply (x0 : Vec Ideal S8x256x1024 .f32) (x1 : Vec Ideal S16x6144 .f32) (x2 : Vec Ideal S1024 .f32) (x3 : Vec Ideal S1024x7168 .f32)
    (x5 : Vec Ideal S4x1024 .f32) (x6 : Vec Ideal S1024 .f32) (k : Fin 8) (R : Fin 2048) (j : Fin 128) :
    val_main_v66 (F := Ideal) x0 x1 x2 x3 x5 x6 (ix3 k R j)
      = convG x0 x1 x2 x3 x5 x6 (R.val / 8) ⟨R.val % 8, by omega⟩ ⟨128 * k.val + j.val, by omega⟩ := by
  rw [val_main_v66_apply, z_split, val_main_v65_apply, z_swap, val_main_v64_apply, z_join, val_main_v63_apply, z_keep, conv_apply]

theorem tail_first (b k : Fin 8) (j : Fin 128) :
    idx_main_v69 (ix3 b k j) = ix2 b (⟨128 * k.val + j.val, by omega⟩ : Fin 1024) := by
  have hb := b.isLt
  have hk := k.isLt
  have hj := j.isLt
  refine funext fun (d : Fin 2) => Fin.ext ?_
  match d with
  | ⟨0, _⟩ => show ((b.val * 8 + k.val) * 128 + j.val) / 1024 = b.val; omega
  | ⟨1, _⟩ => show ((b.val * 8 + k.val) * 128 + j.val) % 1024 = 128 * k.val + j.val; omega

theorem tail_second (b : Fin 8) (j : Fin 1024) : idx_main_v68 (ix2 b j) = ix3 b (0 : Fin 1) j := by
  have hb := b.isLt
  have hj := j.isLt
  refine funext fun (d : Fin 3) => Fin.ext ?_
  match d with
  | ⟨0, _⟩ => show (b.val * 1024 + j.val) / 1024 = b.val; omega
  | ⟨1, _⟩ => rfl
  | ⟨2, _⟩ => show (b.val * 1024 + j.val) % 1024 = j.val; omega

theorem tail_swap (k b : Fin 8) (j : Fin 128) : idx_main_v70 (ix3 k b j) = ix3 b k j :=
  funext fun (d : Fin 3) => match d with
  | ⟨0, _⟩ => rfl
  | ⟨1, _⟩ => rfl
  | ⟨2, _⟩ => rfl

theorem tail_last (b : Fin 8) (j : Fin 1024) : idx_main_v67 (ix3 b (0 : Fin 1) j) = ix3 b (⟨256, by omega⟩ : Fin 257) j :=
  funext fun (d : Fin 3) => match d with
  | ⟨0, _⟩ => rfl
  | ⟨1, _⟩ => rfl
  | ⟨2, _⟩ => rfl

theorem tail_apply (x0 : Vec Ideal S8x256x1024 .f32) (x1 : Vec Ideal S16x6144 .f32) (x2 : Vec Ideal S1024 .f32) (x3 : Vec Ideal S1024x7168 .f32)
    (x5 : Vec Ideal S4x1024 .f32) (x6 : Vec Ideal S1024 .f32) (k b : Fin 8) (j : Fin 128) :
    val_main_v70 (F := Ideal) x0 x1 x2 x3 x5 x6 (ix3 k b j) = convG x0 x1 x2 x3 x5 x6 256 b ⟨128 * k.val + j.val, by omega⟩ := by
  rw [val_main_v70_apply, tail_swap, val_main_v69_apply, tail_first, val_main_v68_apply, tail_second, val_main_v67_apply, tail_last, conv_apply]

theorem part27 (b : Fin 8) (T : Fin 256) (j : Fin 2048) : idx_main_v27 (ix3 b T j) = ix3 b T (⟨3072 + j.val, by omega⟩ : Fin 7168) :=
  funext fun (d : Fin 3) => match d with
  | ⟨0, _⟩ => rfl
  | ⟨1, _⟩ => rfl
  | ⟨2, _⟩ => rfl

theorem plain_apply (x0 : Vec Ideal S8x256x1024 .f32) (x1 : Vec Ideal S16x6144 .f32) (x2 : Vec Ideal S1024 .f32) (x3 : Vec Ideal S1024x7168 .f32) (b : Fin 8) (T : Fin 256) (j : Fin 2048) :
    val_main_v27 (F := Ideal) x0 x1 x2 x3 (ix3 b T j) = projE x0 x1 x2 x3 b T ⟨3072 + j.val, by omega⟩ :=
  (val_main_v27_apply (F := Ideal) x0 x1 x2 x3 (ix3 b T j)).trans ((congrArg (val_main_v25 (F := Ideal) x0 x1 x2 x3)
    (part27 b T j)).trans (proj_apply x0 x1 x2 x3 b T ⟨3072 + j.val, by omega⟩))

theorem act_apply (x0 : Vec Ideal S8x256x1024 .f32) (x1 : Vec Ideal S16x6144 .f32) (x2 : Vec Ideal S1024 .f32) (x3 : Vec Ideal S1024x7168 .f32)
    (b : Fin 8) (T : Fin 256) (j : Fin 2048) :
    val_main_v71 (F := Ideal) x0 x1 x2 x3 (ix3 b T j) = actG x0 x1 x2 x3 b T j :=
  plain_apply x0 x1 x2 x3 b T j

end Cert.CtxRef

end
-- ==== Proof.CtxClaims.lean ====
/- The context projection's five claims: the two programs and the reference run and leave their arguments unchanged, the ideal program
   is the program's, and its three results are the reference's. -/
module

public import proofs.«01_k».proof.Defs
public import proofs.«01_k».proof.Proof.CtxBits
public import proofs.«01_k».proof.Proof.CtxFinal
public import proofs.«01_k».proof.Proof.CtxRef
public import Idealize.ShloMosaic.Lib.Quiescent

@[expose] public section

noncomputable section

namespace Cert.CtxClaims

open Cert.CtxReferenceIdeal Cert.CtxReferenceIdeal.Gen
open Idealize.ShloMosaic Idealize.ShloMosaic.TcCoe Idealize.SL.Sem

theorem frame : Cert.quiescent_Ctx := fun m ρ _ => Cert.CtxBits.frame (F := Bits) m ρ

theorem frame_ideal : Cert.quiescent_CtxIdeal := fun m ρ _ => Cert.CtxFrame.frame m ρ

theorem frame_reference : Cert.quiescent_CtxReferenceIdeal := fun m ρ _ =>
  (θ_run Cert.CtxReferenceIdeal.defs _ _).mono (fun r h => ⟨fun c => (h c).2.2.2, Idealize.ShloMosaic.sem_eq_zero_of_no_sems (by decide) r.2⟩)
    (Cert.CtxReferenceIdeal.Value.run (F := Ideal) m ρ)

theorem preserves : Cert.preserves_Ctx_CtxIdeal := trivial

/-- The context projection's three results are the reference's, at every index, on the same arguments. -/
theorem algebraic : Cert.algebraic_CtxIdeal_CtxReferenceIdeal := by
  intro m ρ m' ρ' _ hag
  refine ⟨fun c => (Cert.CtxFrame.dats m 0 c).arrAt 8 Cert.CtxIdeal.cfg0.N, fun c => (Cert.CtxFrame.dats m 0 c).arrAt 9 Cert.CtxIdeal.cfg0.N,
    fun c => (Cert.CtxFrame.dats m 0 c).arrAt 10 Cert.CtxIdeal.cfg0.N, Cert.CtxFinal.run_results m ρ, ?_⟩
  refine (θ_run Cert.CtxReferenceIdeal.defs _ _).mono
    (fun _ h c => ⟨(h c).1.trans ?_, (h c).2.1.trans ?_, (h c).2.2.1.trans ?_, (h c).2.2.2⟩) (Cert.CtxReferenceIdeal.Value.run (F := Ideal) m' ρ')
  · obtain ⟨e0, e1, e2, e3, e4, e5, e6⟩ := hag c
    refine (Read.val_main_v66_eq (F := Ideal) m' c).trans ?_
    refine funext fun i => ?_
    rw [ValueIdx.eq_ix3 i]
    refine Eq.trans ?_ (Cert.CtxFinal.conv_final m c (i 0) (i 1) (i 2)).symm
    unfold Cert.CtxMath.convM
    rw [← e0, ← e1, ← e2, ← e3, ← e5, ← e6]
    exact Cert.CtxRef.z_apply _ _ _ _ _ _ (i 0) (i 1) (i 2)
  · obtain ⟨e0, e1, e2, e3, e4, e5, e6⟩ := hag c
    refine (Read.val_main_v70_eq (F := Ideal) m' c).trans ?_
    refine funext fun i => ?_
    rw [ValueIdx.eq_ix3 i]
    refine Eq.trans ?_ (Cert.CtxFinal.end_final m c (i 0) (i 1) (i 2)).symm
    unfold Cert.CtxMath.convM
    rw [← e0, ← e1, ← e2, ← e3, ← e5, ← e6]
    exact Cert.CtxRef.tail_apply _ _ _ _ _ _ (i 0) (i 1) (i 2)
  · obtain ⟨e0, e1, e2, e3, e4, e5, e6⟩ := hag c
    refine (Read.val_main_v71_eq (F := Ideal) _ _ _ _).trans ?_
    refine funext fun i => ?_
    rw [ValueIdx.eq_ix3 i]
    refine Eq.trans ?_ (Cert.CtxFinal.act_final m c (i 0) (i 1) (i 2)).symm
    unfold Cert.CtxMath.actM
    rw [← e0, ← e1, ← e2, ← e3]
    exact Cert.CtxRef.act_apply _ _ _ _ (i 0) (i 1) (i 2)

end Cert.CtxClaims

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.Out
public import proofs.«01_k».proof.Proof.Gen.OutIdeal
public import proofs.«01_k».proof.Proof.Gen.OutReferenceIdeal
public import proofs.«01_k».proof.Proof.OutClaims
public import proofs.«01_k».proof.Proof.Gen.Proj
public import proofs.«01_k».proof.Proof.Gen.ProjIdeal
public import proofs.«01_k».proof.Proof.Gen.ProjReferenceIdeal
public import proofs.«01_k».proof.Proof.ProjClaims
public import proofs.«01_k».proof.Proof.Gen.Mod
public import proofs.«01_k».proof.Proof.Gen.ModIdeal
public import proofs.«01_k».proof.Proof.Gen.ModReferenceIdeal
public import proofs.«01_k».proof.Proof.ModClaims
public import proofs.«01_k».proof.Proof.Gen.Ctx
public import proofs.«01_k».proof.Proof.Gen.CtxIdeal
public import proofs.«01_k».proof.Proof.Gen.CtxReferenceIdeal
public import proofs.«01_k».proof.Proof.CtxClaims
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.Out.Gen.facts, Cert.OutIdeal.Gen.facts,
  Cert.OutReferenceIdeal.Gen.facts, Cert.Proj.Gen.facts, Cert.ProjIdeal.Gen.facts, Cert.ProjReferenceIdeal.Gen.facts,
  Cert.Mod.Gen.facts, Cert.ModIdeal.Gen.facts, Cert.ModReferenceIdeal.Gen.facts,
  Cert.Ctx.Gen.facts, Cert.CtxIdeal.Gen.facts, Cert.CtxReferenceIdeal.Gen.facts,
  fun m ρ _ => Cert.Kernel.Gen.frame m ρ, fun m ρ _ => Cert.KernelIdeal.Gen.frame m ρ,
  Cert.OutClaims.frame_kernel, Cert.OutClaims.frame_ideal, Cert.OutClaims.frame_reference,
  Cert.ProjClaims.frame, Cert.ProjClaims.frame_ideal, Cert.ProjClaims.frame_reference,
  Cert.ModClaims.frame_kernel, Cert.ModClaims.frame_ideal, Cert.ModClaims.frame_reference,
  Cert.CtxClaims.frame, Cert.CtxClaims.frame_ideal, Cert.CtxClaims.frame_reference, trivial, Cert.OutClaims.preserves,
  Cert.OutClaims.algebraic, Cert.ProjClaims.preserves, Cert.ProjClaims.algebraic,
  Cert.ModClaims.preserves, Cert.ModClaims.algebraic, Cert.CtxClaims.preserves, Cert.CtxClaims.algebraic⟩

end Cert.Proof

end
